-- ==== Defs.lean ====
def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutMlp (m : (ℓ : Loc Cert.OutMlp.nD Cert.OutMlp.τ Cert.OutMlp.sig) → Buf (Elt Bits) ℓ) : Prop :=
  True

def Pre_OutMlpIdeal (m : (ℓ : Loc Cert.OutMlpIdeal.nD Cert.OutMlpIdeal.τ Cert.OutMlpIdeal.sig) → Buf (Elt Ideal) ℓ) : Prop :=
  True

def Pre_OutMlpRefIdeal (m : (ℓ : Loc Cert.OutMlpRefIdeal.nD Cert.OutMlpRefIdeal.τ Cert.OutMlpRefIdeal.sig) → Buf (Elt Ideal) ℓ) : Prop :=
  True

def Pre_InProjS (m : (ℓ : Loc Cert.InProjS.nD Cert.InProjS.τ Cert.InProjS.sig) → Buf (Elt Bits) ℓ) : Prop :=
  True

def Pre_InProjSIdeal (m : (ℓ : Loc Cert.InProjSIdeal.nD Cert.InProjSIdeal.τ Cert.InProjSIdeal.sig) → Buf (Elt Ideal) ℓ) : Prop :=
  True

def Pre_InProjSRefIdeal (m : (ℓ : Loc Cert.InProjSRefIdeal.nD Cert.InProjSRefIdeal.τ Cert.InProjSRefIdeal.sig) → Buf (Elt Ideal) ℓ) : Prop :=
  True

def Pre_MixS (m : (ℓ : Loc Cert.MixS.nD Cert.MixS.τ Cert.MixS.sig) → Buf (Elt Bits) ℓ) : Prop :=
  True

def Pre_MixSIdeal (m : (ℓ : Loc Cert.MixSIdeal.nD Cert.MixSIdeal.τ Cert.MixSIdeal.sig) → Buf (Elt Ideal) ℓ) : Prop :=
  True

def Pre_MixSRefIdeal (m : (ℓ : Loc Cert.MixSRefIdeal.nD Cert.MixSRefIdeal.τ Cert.MixSRefIdeal.sig) → Buf (Elt Ideal) ℓ) : Prop :=
  True

def Pre_OutMlpS (m : (ℓ : Loc Cert.OutMlpS.nD Cert.OutMlpS.τ Cert.OutMlpS.sig) → Buf (Elt Bits) ℓ) : Prop :=
  True

def Pre_OutMlpSIdeal (m : (ℓ : Loc Cert.OutMlpSIdeal.nD Cert.OutMlpSIdeal.τ Cert.OutMlpSIdeal.sig) → Buf (Elt Ideal) ℓ) : Prop :=
  True

def Pre_OutMlpSRefIdeal (m : (ℓ : Loc Cert.OutMlpSRefIdeal.nD Cert.OutMlpSRefIdeal.τ Cert.OutMlpSRefIdeal.sig) → Buf (Elt Ideal) ℓ) : Prop :=
  True

def Pre_MixW (m : (ℓ : Loc Cert.MixW.nD Cert.MixW.τ Cert.MixW.sig) → Buf (Elt Bits) ℓ) : Prop :=
  True

def Pre_MixWIdeal (m : (ℓ : Loc Cert.MixWIdeal.nD Cert.MixWIdeal.τ Cert.MixWIdeal.sig) → Buf (Elt Ideal) ℓ) : Prop :=
  True

def Pre_MixWRefIdeal (m : (ℓ : Loc Cert.MixWRefIdeal.nD Cert.MixWRefIdeal.τ Cert.MixWRefIdeal.sig) → Buf (Elt Ideal) ℓ) : Prop :=
  True

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_OutMlp [hOutMlp : Cert.OutMlp.Facts] : Prop :=
  ∀ (m : (ℓ : Loc Cert.OutMlp.nD Cert.OutMlp.τ Cert.OutMlp.sig) → Buf (Elt Bits) ℓ) (g : Dev Cert.OutMlp.nD → PrngReg), Pre_OutMlp m →
    θ_run (Cert.OutMlp.defs (F := Bits)) (onTc (τ := Cert.OutMlp.τ) (Cert.OutMlp.main (F := Bits))) ⟨m, fun _ => 0, g⟩ (fun r => (∀ c : Dev Cert.OutMlp.nD,
      r.2.mem ((c.tc : Thread Cert.OutMlp.nD Cert.OutMlp.τ).loc Cert.OutMlp.main_arg0) = m ((c.tc : Thread Cert.OutMlp.nD Cert.OutMlp.τ).loc Cert.OutMlp.main_arg0)
      ∧ r.2.mem ((c.tc : Thread Cert.OutMlp.nD Cert.OutMlp.τ).loc Cert.OutMlp.main_arg1) = m ((c.tc : Thread Cert.OutMlp.nD Cert.OutMlp.τ).loc Cert.OutMlp.main_arg1)
      ∧ r.2.mem ((c.tc : Thread Cert.OutMlp.nD Cert.OutMlp.τ).loc Cert.OutMlp.main_arg2) = m ((c.tc : Thread Cert.OutMlp.nD Cert.OutMlp.τ).loc Cert.OutMlp.main_arg2)
      ∧ r.2.mem ((c.tc : Thread Cert.OutMlp.nD Cert.OutMlp.τ).loc Cert.OutMlp.main_arg3) = m ((c.tc : Thread Cert.OutMlp.nD Cert.OutMlp.τ).loc Cert.OutMlp.main_arg3)
      ∧ r.2.mem ((c.tc : Thread Cert.OutMlp.nD Cert.OutMlp.τ).loc Cert.OutMlp.main_arg4) = m ((c.tc : Thread Cert.OutMlp.nD Cert.OutMlp.τ).loc Cert.OutMlp.main_arg4)
      ∧ r.2.mem ((c.tc : Thread Cert.OutMlp.nD Cert.OutMlp.τ).loc Cert.OutMlp.main_arg5) = m ((c.tc : Thread Cert.OutMlp.nD Cert.OutMlp.τ).loc Cert.OutMlp.main_arg5)
      ∧ r.2.mem ((c.tc : Thread Cert.OutMlp.nD Cert.OutMlp.τ).loc Cert.OutMlp.main_arg6) = m ((c.tc : Thread Cert.OutMlp.nD Cert.OutMlp.τ).loc Cert.OutMlp.main_arg6)
      ∧ r.2.mem ((c.tc : Thread Cert.OutMlp.nD Cert.OutMlp.τ).loc Cert.OutMlp.main_arg7) = m ((c.tc : Thread Cert.OutMlp.nD Cert.OutMlp.τ).loc Cert.OutMlp.main_arg7)
      ∧ r.2.mem ((c.tc : Thread Cert.OutMlp.nD Cert.OutMlp.τ).loc Cert.OutMlp.main_arg8) = m ((c.tc : Thread Cert.OutMlp.nD Cert.OutMlp.τ).loc Cert.OutMlp.main_arg8))
      ∧ r.2.sem = fun _ => 0)

def quiescent_OutMlpIdeal [hOutMlpIdeal : Cert.OutMlpIdeal.Facts] : Prop :=
  ∀ (m : (ℓ : Loc Cert.OutMlpIdeal.nD Cert.OutMlpIdeal.τ Cert.OutMlpIdeal.sig) → Buf (Elt Ideal) ℓ) (g : Dev Cert.OutMlpIdeal.nD → PrngReg), Pre_OutMlpIdeal m →
    θ_run (Cert.OutMlpIdeal.defs (F := Ideal)) (onTc (τ := Cert.OutMlpIdeal.τ) (Cert.OutMlpIdeal.main (F := Ideal))) ⟨m, fun _ => 0, g⟩ (fun r => (∀ c : Dev Cert.OutMlpIdeal.nD,
      r.2.mem ((c.tc : Thread Cert.OutMlpIdeal.nD Cert.OutMlpIdeal.τ).loc Cert.OutMlpIdeal.main_arg0) = m ((c.tc : Thread Cert.OutMlpIdeal.nD Cert.OutMlpIdeal.τ).loc Cert.OutMlpIdeal.main_arg0)
      ∧ r.2.mem ((c.tc : Thread Cert.OutMlpIdeal.nD Cert.OutMlpIdeal.τ).loc Cert.OutMlpIdeal.main_arg1) = m ((c.tc : Thread Cert.OutMlpIdeal.nD Cert.OutMlpIdeal.τ).loc Cert.OutMlpIdeal.main_arg1)
      ∧ r.2.mem ((c.tc : Thread Cert.OutMlpIdeal.nD Cert.OutMlpIdeal.τ).loc Cert.OutMlpIdeal.main_arg2) = m ((c.tc : Thread Cert.OutMlpIdeal.nD Cert.OutMlpIdeal.τ).loc Cert.OutMlpIdeal.main_arg2)
      ∧ r.2.mem ((c.tc : Thread Cert.OutMlpIdeal.nD Cert.OutMlpIdeal.τ).loc Cert.OutMlpIdeal.main_arg3) = m ((c.tc : Thread Cert.OutMlpIdeal.nD Cert.OutMlpIdeal.τ).loc Cert.OutMlpIdeal.main_arg3)
      ∧ r.2.mem ((c.tc : Thread Cert.OutMlpIdeal.nD Cert.OutMlpIdeal.τ).loc Cert.OutMlpIdeal.main_arg4) = m ((c.tc : Thread Cert.OutMlpIdeal.nD Cert.OutMlpIdeal.τ).loc Cert.OutMlpIdeal.main_arg4)
      ∧ r.2.mem ((c.tc : Thread Cert.OutMlpIdeal.nD Cert.OutMlpIdeal.τ).loc Cert.OutMlpIdeal.main_arg5) = m ((c.tc : Thread Cert.OutMlpIdeal.nD Cert.OutMlpIdeal.τ).loc Cert.OutMlpIdeal.main_arg5)
      ∧ r.2.mem ((c.tc : Thread Cert.OutMlpIdeal.nD Cert.OutMlpIdeal.τ).loc Cert.OutMlpIdeal.main_arg6) = m ((c.tc : Thread Cert.OutMlpIdeal.nD Cert.OutMlpIdeal.τ).loc Cert.OutMlpIdeal.main_arg6)
      ∧ r.2.mem ((c.tc : Thread Cert.OutMlpIdeal.nD Cert.OutMlpIdeal.τ).loc Cert.OutMlpIdeal.main_arg7) = m ((c.tc : Thread Cert.OutMlpIdeal.nD Cert.OutMlpIdeal.τ).loc Cert.OutMlpIdeal.main_arg7)
      ∧ r.2.mem ((c.tc : Thread Cert.OutMlpIdeal.nD Cert.OutMlpIdeal.τ).loc Cert.OutMlpIdeal.main_arg8) = m ((c.tc : Thread Cert.OutMlpIdeal.nD Cert.OutMlpIdeal.τ).loc Cert.OutMlpIdeal.main_arg8))
      ∧ r.2.sem = fun _ => 0)

def quiescent_OutMlpRefIdeal [hOutMlpRefIdeal : Cert.OutMlpRefIdeal.Facts] : Prop :=
  ∀ (m : (ℓ : Loc Cert.OutMlpRefIdeal.nD Cert.OutMlpRefIdeal.τ Cert.OutMlpRefIdeal.sig) → Buf (Elt Ideal) ℓ) (g : Dev Cert.OutMlpRefIdeal.nD → PrngReg), Pre_OutMlpRefIdeal m →
    θ_run (Cert.OutMlpRefIdeal.defs (F := Ideal)) (onTc (τ := Cert.OutMlpRefIdeal.τ) (Cert.OutMlpRefIdeal.main (F := Ideal))) ⟨m, fun _ => 0, g⟩ (fun r => (∀ c : Dev Cert.OutMlpRefIdeal.nD,
      r.2.mem ((c.tc : Thread Cert.OutMlpRefIdeal.nD Cert.OutMlpRefIdeal.τ).loc Cert.OutMlpRefIdeal.main_arg0) = m ((c.tc : Thread Cert.OutMlpRefIdeal.nD Cert.OutMlpRefIdeal.τ).loc Cert.OutMlpRefIdeal.main_arg0)
      ∧ r.2.mem ((c.tc : Thread Cert.OutMlpRefIdeal.nD Cert.OutMlpRefIdeal.τ).loc Cert.OutMlpRefIdeal.main_arg1) = m ((c.tc : Thread Cert.OutMlpRefIdeal.nD Cert.OutMlpRefIdeal.τ).loc Cert.OutMlpRefIdeal.main_arg1)
      ∧ r.2.mem ((c.tc : Thread Cert.OutMlpRefIdeal.nD Cert.OutMlpRefIdeal.τ).loc Cert.OutMlpRefIdeal.main_arg2) = m ((c.tc : Thread Cert.OutMlpRefIdeal.nD Cert.OutMlpRefIdeal.τ).loc Cert.OutMlpRefIdeal.main_arg2)
      ∧ r.2.mem ((c.tc : Thread Cert.OutMlpRefIdeal.nD Cert.OutMlpRefIdeal.τ).loc Cert.OutMlpRefIdeal.main_arg3) = m ((c.tc : Thread Cert.OutMlpRefIdeal.nD Cert.OutMlpRefIdeal.τ).loc Cert.OutMlpRefIdeal.main_arg3)
      ∧ r.2.mem ((c.tc : Thread Cert.OutMlpRefIdeal.nD Cert.OutMlpRefIdeal.τ).loc Cert.OutMlpRefIdeal.main_arg4) = m ((c.tc : Thread Cert.OutMlpRefIdeal.nD Cert.OutMlpRefIdeal.τ).loc Cert.OutMlpRefIdeal.main_arg4)
      ∧ r.2.mem ((c.tc : Thread Cert.OutMlpRefIdeal.nD Cert.OutMlpRefIdeal.τ).loc Cert.OutMlpRefIdeal.main_arg5) = m ((c.tc : Thread Cert.OutMlpRefIdeal.nD Cert.OutMlpRefIdeal.τ).loc Cert.OutMlpRefIdeal.main_arg5)
      ∧ r.2.mem ((c.tc : Thread Cert.OutMlpRefIdeal.nD Cert.OutMlpRefIdeal.τ).loc Cert.OutMlpRefIdeal.main_arg6) = m ((c.tc : Thread Cert.OutMlpRefIdeal.nD Cert.OutMlpRefIdeal.τ).loc Cert.OutMlpRefIdeal.main_arg6)
      ∧ r.2.mem ((c.tc : Thread Cert.OutMlpRefIdeal.nD Cert.OutMlpRefIdeal.τ).loc Cert.OutMlpRefIdeal.main_arg7) = m ((c.tc : Thread Cert.OutMlpRefIdeal.nD Cert.OutMlpRefIdeal.τ).loc Cert.OutMlpRefIdeal.main_arg7)
      ∧ r.2.mem ((c.tc : Thread Cert.OutMlpRefIdeal.nD Cert.OutMlpRefIdeal.τ).loc Cert.OutMlpRefIdeal.main_arg8) = m ((c.tc : Thread Cert.OutMlpRefIdeal.nD Cert.OutMlpRefIdeal.τ).loc Cert.OutMlpRefIdeal.main_arg8))
      ∧ r.2.sem = fun _ => 0)

def quiescent_InProjS [hInProjS : Cert.InProjS.Facts] : Prop :=
  ∀ (m : (ℓ : Loc Cert.InProjS.nD Cert.InProjS.τ Cert.InProjS.sig) → Buf (Elt Bits) ℓ) (g : Dev Cert.InProjS.nD → PrngReg), Pre_InProjS m →
    θ_run (Cert.InProjS.defs (F := Bits)) (onTc (τ := Cert.InProjS.τ) (Cert.InProjS.main (F := Bits))) ⟨m, fun _ => 0, g⟩ (fun r => (∀ c : Dev Cert.InProjS.nD,
      r.2.mem ((c.tc : Thread Cert.InProjS.nD Cert.InProjS.τ).loc Cert.InProjS.main_arg0) = m ((c.tc : Thread Cert.InProjS.nD Cert.InProjS.τ).loc Cert.InProjS.main_arg0)
      ∧ r.2.mem ((c.tc : Thread Cert.InProjS.nD Cert.InProjS.τ).loc Cert.InProjS.main_arg1) = m ((c.tc : Thread Cert.InProjS.nD Cert.InProjS.τ).loc Cert.InProjS.main_arg1)
      ∧ r.2.mem ((c.tc : Thread Cert.InProjS.nD Cert.InProjS.τ).loc Cert.InProjS.main_arg2) = m ((c.tc : Thread Cert.InProjS.nD Cert.InProjS.τ).loc Cert.InProjS.main_arg2)
      ∧ r.2.mem ((c.tc : Thread Cert.InProjS.nD Cert.InProjS.τ).loc Cert.InProjS.main_arg3) = m ((c.tc : Thread Cert.InProjS.nD Cert.InProjS.τ).loc Cert.InProjS.main_arg3))
      ∧ r.2.sem = fun _ => 0)

def quiescent_InProjSIdeal [hInProjSIdeal : Cert.InProjSIdeal.Facts] : Prop :=
  ∀ (m : (ℓ : Loc Cert.InProjSIdeal.nD Cert.InProjSIdeal.τ Cert.InProjSIdeal.sig) → Buf (Elt Ideal) ℓ) (g : Dev Cert.InProjSIdeal.nD → PrngReg), Pre_InProjSIdeal m →
    θ_run (Cert.InProjSIdeal.defs (F := Ideal)) (onTc (τ := Cert.InProjSIdeal.τ) (Cert.InProjSIdeal.main (F := Ideal))) ⟨m, fun _ => 0, g⟩ (fun r => (∀ c : Dev Cert.InProjSIdeal.nD,
      r.2.mem ((c.tc : Thread Cert.InProjSIdeal.nD Cert.InProjSIdeal.τ).loc Cert.InProjSIdeal.main_arg0) = m ((c.tc : Thread Cert.InProjSIdeal.nD Cert.InProjSIdeal.τ).loc Cert.InProjSIdeal.main_arg0)
      ∧ r.2.mem ((c.tc : Thread Cert.InProjSIdeal.nD Cert.InProjSIdeal.τ).loc Cert.InProjSIdeal.main_arg1) = m ((c.tc : Thread Cert.InProjSIdeal.nD Cert.InProjSIdeal.τ).loc Cert.InProjSIdeal.main_arg1)
      ∧ r.2.mem ((c.tc : Thread Cert.InProjSIdeal.nD Cert.InProjSIdeal.τ).loc Cert.InProjSIdeal.main_arg2) = m ((c.tc : Thread Cert.InProjSIdeal.nD Cert.InProjSIdeal.τ).loc Cert.InProjSIdeal.main_arg2)
      ∧ r.2.mem ((c.tc : Thread Cert.InProjSIdeal.nD Cert.InProjSIdeal.τ).loc Cert.InProjSIdeal.main_arg3) = m ((c.tc : Thread Cert.InProjSIdeal.nD Cert.InProjSIdeal.τ).loc Cert.InProjSIdeal.main_arg3))
      ∧ r.2.sem = fun _ => 0)

def quiescent_InProjSRefIdeal [hInProjSRefIdeal : Cert.InProjSRefIdeal.Facts] : Prop :=
  ∀ (m : (ℓ : Loc Cert.InProjSRefIdeal.nD Cert.InProjSRefIdeal.τ Cert.InProjSRefIdeal.sig) → Buf (Elt Ideal) ℓ) (g : Dev Cert.InProjSRefIdeal.nD → PrngReg), Pre_InProjSRefIdeal m →
    θ_run (Cert.InProjSRefIdeal.defs (F := Ideal)) (onTc (τ := Cert.InProjSRefIdeal.τ) (Cert.InProjSRefIdeal.main (F := Ideal))) ⟨m, fun _ => 0, g⟩ (fun r => (∀ c : Dev Cert.InProjSRefIdeal.nD,
      r.2.mem ((c.tc : Thread Cert.InProjSRefIdeal.nD Cert.InProjSRefIdeal.τ).loc Cert.InProjSRefIdeal.main_arg0) = m ((c.tc : Thread Cert.InProjSRefIdeal.nD Cert.InProjSRefIdeal.τ).loc Cert.InProjSRefIdeal.main_arg0)
      ∧ r.2.mem ((c.tc : Thread Cert.InProjSRefIdeal.nD Cert.InProjSRefIdeal.τ).loc Cert.InProjSRefIdeal.main_arg1) = m ((c.tc : Thread Cert.InProjSRefIdeal.nD Cert.InProjSRefIdeal.τ).loc Cert.InProjSRefIdeal.main_arg1)
      ∧ r.2.mem ((c.tc : Thread Cert.InProjSRefIdeal.nD Cert.InProjSRefIdeal.τ).loc Cert.InProjSRefIdeal.main_arg2) = m ((c.tc : Thread Cert.InProjSRefIdeal.nD Cert.InProjSRefIdeal.τ).loc Cert.InProjSRefIdeal.main_arg2)
      ∧ r.2.mem ((c.tc : Thread Cert.InProjSRefIdeal.nD Cert.InProjSRefIdeal.τ).loc Cert.InProjSRefIdeal.main_arg3) = m ((c.tc : Thread Cert.InProjSRefIdeal.nD Cert.InProjSRefIdeal.τ).loc Cert.InProjSRefIdeal.main_arg3))
      ∧ r.2.sem = fun _ => 0)

def quiescent_MixS [hMixS : Cert.MixS.Facts] : Prop :=
  ∀ (m : (ℓ : Loc Cert.MixS.nD Cert.MixS.τ Cert.MixS.sig) → Buf (Elt Bits) ℓ) (g : Dev Cert.MixS.nD → PrngReg), Pre_MixS m →
    θ_run (Cert.MixS.defs (F := Bits)) (onTc (τ := Cert.MixS.τ) (Cert.MixS.main (F := Bits))) ⟨m, fun _ => 0, g⟩ (fun r => (∀ c : Dev Cert.MixS.nD,
      r.2.mem ((c.tc : Thread Cert.MixS.nD Cert.MixS.τ).loc Cert.MixS.main_arg0) = m ((c.tc : Thread Cert.MixS.nD Cert.MixS.τ).loc Cert.MixS.main_arg0)
      ∧ r.2.mem ((c.tc : Thread Cert.MixS.nD Cert.MixS.τ).loc Cert.MixS.main_arg1) = m ((c.tc : Thread Cert.MixS.nD Cert.MixS.τ).loc Cert.MixS.main_arg1)
      ∧ r.2.mem ((c.tc : Thread Cert.MixS.nD Cert.MixS.τ).loc Cert.MixS.main_arg2) = m ((c.tc : Thread Cert.MixS.nD Cert.MixS.τ).loc Cert.MixS.main_arg2)
      ∧ r.2.mem ((c.tc : Thread Cert.MixS.nD Cert.MixS.τ).loc Cert.MixS.main_arg3) = m ((c.tc : Thread Cert.MixS.nD Cert.MixS.τ).loc Cert.MixS.main_arg3)
      ∧ r.2.mem ((c.tc : Thread Cert.MixS.nD Cert.MixS.τ).loc Cert.MixS.main_arg4) = m ((c.tc : Thread Cert.MixS.nD Cert.MixS.τ).loc Cert.MixS.main_arg4)
      ∧ r.2.mem ((c.tc : Thread Cert.MixS.nD Cert.MixS.τ).loc Cert.MixS.main_arg5) = m ((c.tc : Thread Cert.MixS.nD Cert.MixS.τ).loc Cert.MixS.main_arg5)
      ∧ r.2.mem ((c.tc : Thread Cert.MixS.nD Cert.MixS.τ).loc Cert.MixS.main_arg6) = m ((c.tc : Thread Cert.MixS.nD Cert.MixS.τ).loc Cert.MixS.main_arg6)
      ∧ r.2.mem ((c.tc : Thread Cert.MixS.nD Cert.MixS.τ).loc Cert.MixS.main_arg7) = m ((c.tc : Thread Cert.MixS.nD Cert.MixS.τ).loc Cert.MixS.main_arg7)
      ∧ r.2.mem ((c.tc : Thread Cert.MixS.nD Cert.MixS.τ).loc Cert.MixS.main_arg8) = m ((c.tc : Thread Cert.MixS.nD Cert.MixS.τ).loc Cert.MixS.main_arg8)
      ∧ r.2.mem ((c.tc : Thread Cert.MixS.nD Cert.MixS.τ).loc Cert.MixS.main_arg9) = m ((c.tc : Thread Cert.MixS.nD Cert.MixS.τ).loc Cert.MixS.main_arg9)
      ∧ r.2.mem ((c.tc : Thread Cert.MixS.nD Cert.MixS.τ).loc Cert.MixS.main_arg10) = m ((c.tc : Thread Cert.MixS.nD Cert.MixS.τ).loc Cert.MixS.main_arg10)
      ∧ r.2.mem ((c.tc : Thread Cert.MixS.nD Cert.MixS.τ).loc Cert.MixS.main_arg11) = m ((c.tc : Thread Cert.MixS.nD Cert.MixS.τ).loc Cert.MixS.main_arg11))
      ∧ r.2.sem = fun _ => 0)

def quiescent_MixSIdeal [hMixSIdeal : Cert.MixSIdeal.Facts] : Prop :=
  ∀ (m : (ℓ : Loc Cert.MixSIdeal.nD Cert.MixSIdeal.τ Cert.MixSIdeal.sig) → Buf (Elt Ideal) ℓ) (g : Dev Cert.MixSIdeal.nD → PrngReg), Pre_MixSIdeal m →
    θ_run (Cert.MixSIdeal.defs (F := Ideal)) (onTc (τ := Cert.MixSIdeal.τ) (Cert.MixSIdeal.main (F := Ideal))) ⟨m, fun _ => 0, g⟩ (fun r => (∀ c : Dev Cert.MixSIdeal.nD,
      r.2.mem ((c.tc : Thread Cert.MixSIdeal.nD Cert.MixSIdeal.τ).loc Cert.MixSIdeal.main_arg0) = m ((c.tc : Thread Cert.MixSIdeal.nD Cert.MixSIdeal.τ).loc Cert.MixSIdeal.main_arg0)
      ∧ r.2.mem ((c.tc : Thread Cert.MixSIdeal.nD Cert.MixSIdeal.τ).loc Cert.MixSIdeal.main_arg1) = m ((c.tc : Thread Cert.MixSIdeal.nD Cert.MixSIdeal.τ).loc Cert.MixSIdeal.main_arg1)
      ∧ r.2.mem ((c.tc : Thread Cert.MixSIdeal.nD Cert.MixSIdeal.τ).loc Cert.MixSIdeal.main_arg2) = m ((c.tc : Thread Cert.MixSIdeal.nD Cert.MixSIdeal.τ).loc Cert.MixSIdeal.main_arg2)
      ∧ r.2.mem ((c.tc : Thread Cert.MixSIdeal.nD Cert.MixSIdeal.τ).loc Cert.MixSIdeal.main_arg3) = m ((c.tc : Thread Cert.MixSIdeal.nD Cert.MixSIdeal.τ).loc Cert.MixSIdeal.main_arg3)
      ∧ r.2.mem ((c.tc : Thread Cert.MixSIdeal.nD Cert.MixSIdeal.τ).loc Cert.MixSIdeal.main_arg4) = m ((c.tc : Thread Cert.MixSIdeal.nD Cert.MixSIdeal.τ).loc Cert.MixSIdeal.main_arg4)
      ∧ r.2.mem ((c.tc : Thread Cert.MixSIdeal.nD Cert.MixSIdeal.τ).loc Cert.MixSIdeal.main_arg5) = m ((c.tc : Thread Cert.MixSIdeal.nD Cert.MixSIdeal.τ).loc Cert.MixSIdeal.main_arg5)
      ∧ r.2.mem ((c.tc : Thread Cert.MixSIdeal.nD Cert.MixSIdeal.τ).loc Cert.MixSIdeal.main_arg6) = m ((c.tc : Thread Cert.MixSIdeal.nD Cert.MixSIdeal.τ).loc Cert.MixSIdeal.main_arg6)
      ∧ r.2.mem ((c.tc : Thread Cert.MixSIdeal.nD Cert.MixSIdeal.τ).loc Cert.MixSIdeal.main_arg7) = m ((c.tc : Thread Cert.MixSIdeal.nD Cert.MixSIdeal.τ).loc Cert.MixSIdeal.main_arg7)
      ∧ r.2.mem ((c.tc : Thread Cert.MixSIdeal.nD Cert.MixSIdeal.τ).loc Cert.MixSIdeal.main_arg8) = m ((c.tc : Thread Cert.MixSIdeal.nD Cert.MixSIdeal.τ).loc Cert.MixSIdeal.main_arg8)
      ∧ r.2.mem ((c.tc : Thread Cert.MixSIdeal.nD Cert.MixSIdeal.τ).loc Cert.MixSIdeal.main_arg9) = m ((c.tc : Thread Cert.MixSIdeal.nD Cert.MixSIdeal.τ).loc Cert.MixSIdeal.main_arg9)
      ∧ r.2.mem ((c.tc : Thread Cert.MixSIdeal.nD Cert.MixSIdeal.τ).loc Cert.MixSIdeal.main_arg10) = m ((c.tc : Thread Cert.MixSIdeal.nD Cert.MixSIdeal.τ).loc Cert.MixSIdeal.main_arg10)
      ∧ r.2.mem ((c.tc : Thread Cert.MixSIdeal.nD Cert.MixSIdeal.τ).loc Cert.MixSIdeal.main_arg11) = m ((c.tc : Thread Cert.MixSIdeal.nD Cert.MixSIdeal.τ).loc Cert.MixSIdeal.main_arg11))
      ∧ r.2.sem = fun _ => 0)

def quiescent_MixSRefIdeal [hMixSRefIdeal : Cert.MixSRefIdeal.Facts] : Prop :=
  ∀ (m : (ℓ : Loc Cert.MixSRefIdeal.nD Cert.MixSRefIdeal.τ Cert.MixSRefIdeal.sig) → Buf (Elt Ideal) ℓ) (g : Dev Cert.MixSRefIdeal.nD → PrngReg), Pre_MixSRefIdeal m →
    θ_run (Cert.MixSRefIdeal.defs (F := Ideal)) (onTc (τ := Cert.MixSRefIdeal.τ) (Cert.MixSRefIdeal.main (F := Ideal))) ⟨m, fun _ => 0, g⟩ (fun r => (∀ c : Dev Cert.MixSRefIdeal.nD,
      r.2.mem ((c.tc : Thread Cert.MixSRefIdeal.nD Cert.MixSRefIdeal.τ).loc Cert.MixSRefIdeal.main_arg0) = m ((c.tc : Thread Cert.MixSRefIdeal.nD Cert.MixSRefIdeal.τ).loc Cert.MixSRefIdeal.main_arg0)
      ∧ r.2.mem ((c.tc : Thread Cert.MixSRefIdeal.nD Cert.MixSRefIdeal.τ).loc Cert.MixSRefIdeal.main_arg1) = m ((c.tc : Thread Cert.MixSRefIdeal.nD Cert.MixSRefIdeal.τ).loc Cert.MixSRefIdeal.main_arg1)
      ∧ r.2.mem ((c.tc : Thread Cert.MixSRefIdeal.nD Cert.MixSRefIdeal.τ).loc Cert.MixSRefIdeal.main_arg2) = m ((c.tc : Thread Cert.MixSRefIdeal.nD Cert.MixSRefIdeal.τ).loc Cert.MixSRefIdeal.main_arg2)
      ∧ r.2.mem ((c.tc : Thread Cert.MixSRefIdeal.nD Cert.MixSRefIdeal.τ).loc Cert.MixSRefIdeal.main_arg3) = m ((c.tc : Thread Cert.MixSRefIdeal.nD Cert.MixSRefIdeal.τ).loc Cert.MixSRefIdeal.main_arg3)
      ∧ r.2.mem ((c.tc : Thread Cert.MixSRefIdeal.nD Cert.MixSRefIdeal.τ).loc Cert.MixSRefIdeal.main_arg4) = m ((c.tc : Thread Cert.MixSRefIdeal.nD Cert.MixSRefIdeal.τ).loc Cert.MixSRefIdeal.main_arg4)
      ∧ r.2.mem ((c.tc : Thread Cert.MixSRefIdeal.nD Cert.MixSRefIdeal.τ).loc Cert.MixSRefIdeal.main_arg5) = m ((c.tc : Thread Cert.MixSRefIdeal.nD Cert.MixSRefIdeal.τ).loc Cert.MixSRefIdeal.main_arg5)
      ∧ r.2.mem ((c.tc : Thread Cert.MixSRefIdeal.nD Cert.MixSRefIdeal.τ).loc Cert.MixSRefIdeal.main_arg6) = m ((c.tc : Thread Cert.MixSRefIdeal.nD Cert.MixSRefIdeal.τ).loc Cert.MixSRefIdeal.main_arg6)
      ∧ r.2.mem ((c.tc : Thread Cert.MixSRefIdeal.nD Cert.MixSRefIdeal.τ).loc Cert.MixSRefIdeal.main_arg7) = m ((c.tc : Thread Cert.MixSRefIdeal.nD Cert.MixSRefIdeal.τ).loc Cert.MixSRefIdeal.main_arg7)
      ∧ r.2.mem ((c.tc : Thread Cert.MixSRefIdeal.nD Cert.MixSRefIdeal.τ).loc Cert.MixSRefIdeal.main_arg8) = m ((c.tc : Thread Cert.MixSRefIdeal.nD Cert.MixSRefIdeal.τ).loc Cert.MixSRefIdeal.main_arg8)
      ∧ r.2.mem ((c.tc : Thread Cert.MixSRefIdeal.nD Cert.MixSRefIdeal.τ).loc Cert.MixSRefIdeal.main_arg9) = m ((c.tc : Thread Cert.MixSRefIdeal.nD Cert.MixSRefIdeal.τ).loc Cert.MixSRefIdeal.main_arg9)
      ∧ r.2.mem ((c.tc : Thread Cert.MixSRefIdeal.nD Cert.MixSRefIdeal.τ).loc Cert.MixSRefIdeal.main_arg10) = m ((c.tc : Thread Cert.MixSRefIdeal.nD Cert.MixSRefIdeal.τ).loc Cert.MixSRefIdeal.main_arg10)
      ∧ r.2.mem ((c.tc : Thread Cert.MixSRefIdeal.nD Cert.MixSRefIdeal.τ).loc Cert.MixSRefIdeal.main_arg11) = m ((c.tc : Thread Cert.MixSRefIdeal.nD Cert.MixSRefIdeal.τ).loc Cert.MixSRefIdeal.main_arg11))
      ∧ r.2.sem = fun _ => 0)

def quiescent_OutMlpS [hOutMlpS : Cert.OutMlpS.Facts] : Prop :=
  ∀ (m : (ℓ : Loc Cert.OutMlpS.nD Cert.OutMlpS.τ Cert.OutMlpS.sig) → Buf (Elt Bits) ℓ) (g : Dev Cert.OutMlpS.nD → PrngReg), Pre_OutMlpS m →
    θ_run (Cert.OutMlpS.defs (F := Bits)) (onTc (τ := Cert.OutMlpS.τ) (Cert.OutMlpS.main (F := Bits))) ⟨m, fun _ => 0, g⟩ (fun r => (∀ c : Dev Cert.OutMlpS.nD,
      r.2.mem ((c.tc : Thread Cert.OutMlpS.nD Cert.OutMlpS.τ).loc Cert.OutMlpS.main_arg0) = m ((c.tc : Thread Cert.OutMlpS.nD Cert.OutMlpS.τ).loc Cert.OutMlpS.main_arg0)
      ∧ r.2.mem ((c.tc : Thread Cert.OutMlpS.nD Cert.OutMlpS.τ).loc Cert.OutMlpS.main_arg1) = m ((c.tc : Thread Cert.OutMlpS.nD Cert.OutMlpS.τ).loc Cert.OutMlpS.main_arg1)
      ∧ r.2.mem ((c.tc : Thread Cert.OutMlpS.nD Cert.OutMlpS.τ).loc Cert.OutMlpS.main_arg2) = m ((c.tc : Thread Cert.OutMlpS.nD Cert.OutMlpS.τ).loc Cert.OutMlpS.main_arg2)
      ∧ r.2.mem ((c.tc : Thread Cert.OutMlpS.nD Cert.OutMlpS.τ).loc Cert.OutMlpS.main_arg3) = m ((c.tc : Thread Cert.OutMlpS.nD Cert.OutMlpS.τ).loc Cert.OutMlpS.main_arg3)
      ∧ r.2.mem ((c.tc : Thread Cert.OutMlpS.nD Cert.OutMlpS.τ).loc Cert.OutMlpS.main_arg4) = m ((c.tc : Thread Cert.OutMlpS.nD Cert.OutMlpS.τ).loc Cert.OutMlpS.main_arg4)
      ∧ r.2.mem ((c.tc : Thread Cert.OutMlpS.nD Cert.OutMlpS.τ).loc Cert.OutMlpS.main_arg5) = m ((c.tc : Thread Cert.OutMlpS.nD Cert.OutMlpS.τ).loc Cert.OutMlpS.main_arg5)
      ∧ r.2.mem ((c.tc : Thread Cert.OutMlpS.nD Cert.OutMlpS.τ).loc Cert.OutMlpS.main_arg6) = m ((c.tc : Thread Cert.OutMlpS.nD Cert.OutMlpS.τ).loc Cert.OutMlpS.main_arg6)
      ∧ r.2.mem ((c.tc : Thread Cert.OutMlpS.nD Cert.OutMlpS.τ).loc Cert.OutMlpS.main_arg7) = m ((c.tc : Thread Cert.OutMlpS.nD Cert.OutMlpS.τ).loc Cert.OutMlpS.main_arg7)
      ∧ r.2.mem ((c.tc : Thread Cert.OutMlpS.nD Cert.OutMlpS.τ).loc Cert.OutMlpS.main_arg8) = m ((c.tc : Thread Cert.OutMlpS.nD Cert.OutMlpS.τ).loc Cert.OutMlpS.main_arg8))
      ∧ r.2.sem = fun _ => 0)

def quiescent_OutMlpSIdeal [hOutMlpSIdeal : Cert.OutMlpSIdeal.Facts] : Prop :=
  ∀ (m : (ℓ : Loc Cert.OutMlpSIdeal.nD Cert.OutMlpSIdeal.τ Cert.OutMlpSIdeal.sig) → Buf (Elt Ideal) ℓ) (g : Dev Cert.OutMlpSIdeal.nD → PrngReg), Pre_OutMlpSIdeal m →
    θ_run (Cert.OutMlpSIdeal.defs (F := Ideal)) (onTc (τ := Cert.OutMlpSIdeal.τ) (Cert.OutMlpSIdeal.main (F := Ideal))) ⟨m, fun _ => 0, g⟩ (fun r => (∀ c : Dev Cert.OutMlpSIdeal.nD,
      r.2.mem ((c.tc : Thread Cert.OutMlpSIdeal.nD Cert.OutMlpSIdeal.τ).loc Cert.OutMlpSIdeal.main_arg0) = m ((c.tc : Thread Cert.OutMlpSIdeal.nD Cert.OutMlpSIdeal.τ).loc Cert.OutMlpSIdeal.main_arg0)
      ∧ r.2.mem ((c.tc : Thread Cert.OutMlpSIdeal.nD Cert.OutMlpSIdeal.τ).loc Cert.OutMlpSIdeal.main_arg1) = m ((c.tc : Thread Cert.OutMlpSIdeal.nD Cert.OutMlpSIdeal.τ).loc Cert.OutMlpSIdeal.main_arg1)
      ∧ r.2.mem ((c.tc : Thread Cert.OutMlpSIdeal.nD Cert.OutMlpSIdeal.τ).loc Cert.OutMlpSIdeal.main_arg2) = m ((c.tc : Thread Cert.OutMlpSIdeal.nD Cert.OutMlpSIdeal.τ).loc Cert.OutMlpSIdeal.main_arg2)
      ∧ r.2.mem ((c.tc : Thread Cert.OutMlpSIdeal.nD Cert.OutMlpSIdeal.τ).loc Cert.OutMlpSIdeal.main_arg3) = m ((c.tc : Thread Cert.OutMlpSIdeal.nD Cert.OutMlpSIdeal.τ).loc Cert.OutMlpSIdeal.main_arg3)
      ∧ r.2.mem ((c.tc : Thread Cert.OutMlpSIdeal.nD Cert.OutMlpSIdeal.τ).loc Cert.OutMlpSIdeal.main_arg4) = m ((c.tc : Thread Cert.OutMlpSIdeal.nD Cert.OutMlpSIdeal.τ).loc Cert.OutMlpSIdeal.main_arg4)
      ∧ r.2.mem ((c.tc : Thread Cert.OutMlpSIdeal.nD Cert.OutMlpSIdeal.τ).loc Cert.OutMlpSIdeal.main_arg5) = m ((c.tc : Thread Cert.OutMlpSIdeal.nD Cert.OutMlpSIdeal.τ).loc Cert.OutMlpSIdeal.main_arg5)
      ∧ r.2.mem ((c.tc : Thread Cert.OutMlpSIdeal.nD Cert.OutMlpSIdeal.τ).loc Cert.OutMlpSIdeal.main_arg6) = m ((c.tc : Thread Cert.OutMlpSIdeal.nD Cert.OutMlpSIdeal.τ).loc Cert.OutMlpSIdeal.main_arg6)
      ∧ r.2.mem ((c.tc : Thread Cert.OutMlpSIdeal.nD Cert.OutMlpSIdeal.τ).loc Cert.OutMlpSIdeal.main_arg7) = m ((c.tc : Thread Cert.OutMlpSIdeal.nD Cert.OutMlpSIdeal.τ).loc Cert.OutMlpSIdeal.main_arg7)
      ∧ r.2.mem ((c.tc : Thread Cert.OutMlpSIdeal.nD Cert.OutMlpSIdeal.τ).loc Cert.OutMlpSIdeal.main_arg8) = m ((c.tc : Thread Cert.OutMlpSIdeal.nD Cert.OutMlpSIdeal.τ).loc Cert.OutMlpSIdeal.main_arg8))
      ∧ r.2.sem = fun _ => 0)

def quiescent_OutMlpSRefIdeal [hOutMlpSRefIdeal : Cert.OutMlpSRefIdeal.Facts] : Prop :=
  ∀ (m : (ℓ : Loc Cert.OutMlpSRefIdeal.nD Cert.OutMlpSRefIdeal.τ Cert.OutMlpSRefIdeal.sig) → Buf (Elt Ideal) ℓ) (g : Dev Cert.OutMlpSRefIdeal.nD → PrngReg), Pre_OutMlpSRefIdeal m →
    θ_run (Cert.OutMlpSRefIdeal.defs (F := Ideal)) (onTc (τ := Cert.OutMlpSRefIdeal.τ) (Cert.OutMlpSRefIdeal.main (F := Ideal))) ⟨m, fun _ => 0, g⟩ (fun r => (∀ c : Dev Cert.OutMlpSRefIdeal.nD,
      r.2.mem ((c.tc : Thread Cert.OutMlpSRefIdeal.nD Cert.OutMlpSRefIdeal.τ).loc Cert.OutMlpSRefIdeal.main_arg0) = m ((c.tc : Thread Cert.OutMlpSRefIdeal.nD Cert.OutMlpSRefIdeal.τ).loc Cert.OutMlpSRefIdeal.main_arg0)
      ∧ r.2.mem ((c.tc : Thread Cert.OutMlpSRefIdeal.nD Cert.OutMlpSRefIdeal.τ).loc Cert.OutMlpSRefIdeal.main_arg1) = m ((c.tc : Thread Cert.OutMlpSRefIdeal.nD Cert.OutMlpSRefIdeal.τ).loc Cert.OutMlpSRefIdeal.main_arg1)
      ∧ r.2.mem ((c.tc : Thread Cert.OutMlpSRefIdeal.nD Cert.OutMlpSRefIdeal.τ).loc Cert.OutMlpSRefIdeal.main_arg2) = m ((c.tc : Thread Cert.OutMlpSRefIdeal.nD Cert.OutMlpSRefIdeal.τ).loc Cert.OutMlpSRefIdeal.main_arg2)
      ∧ r.2.mem ((c.tc : Thread Cert.OutMlpSRefIdeal.nD Cert.OutMlpSRefIdeal.τ).loc Cert.OutMlpSRefIdeal.main_arg3) = m ((c.tc : Thread Cert.OutMlpSRefIdeal.nD Cert.OutMlpSRefIdeal.τ).loc Cert.OutMlpSRefIdeal.main_arg3)
      ∧ r.2.mem ((c.tc : Thread Cert.OutMlpSRefIdeal.nD Cert.OutMlpSRefIdeal.τ).loc Cert.OutMlpSRefIdeal.main_arg4) = m ((c.tc : Thread Cert.OutMlpSRefIdeal.nD Cert.OutMlpSRefIdeal.τ).loc Cert.OutMlpSRefIdeal.main_arg4)
      ∧ r.2.mem ((c.tc : Thread Cert.OutMlpSRefIdeal.nD Cert.OutMlpSRefIdeal.τ).loc Cert.OutMlpSRefIdeal.main_arg5) = m ((c.tc : Thread Cert.OutMlpSRefIdeal.nD Cert.OutMlpSRefIdeal.τ).loc Cert.OutMlpSRefIdeal.main_arg5)
      ∧ r.2.mem ((c.tc : Thread Cert.OutMlpSRefIdeal.nD Cert.OutMlpSRefIdeal.τ).loc Cert.OutMlpSRefIdeal.main_arg6) = m ((c.tc : Thread Cert.OutMlpSRefIdeal.nD Cert.OutMlpSRefIdeal.τ).loc Cert.OutMlpSRefIdeal.main_arg6)
      ∧ r.2.mem ((c.tc : Thread Cert.OutMlpSRefIdeal.nD Cert.OutMlpSRefIdeal.τ).loc Cert.OutMlpSRefIdeal.main_arg7) = m ((c.tc : Thread Cert.OutMlpSRefIdeal.nD Cert.OutMlpSRefIdeal.τ).loc Cert.OutMlpSRefIdeal.main_arg7)
      ∧ r.2.mem ((c.tc : Thread Cert.OutMlpSRefIdeal.nD Cert.OutMlpSRefIdeal.τ).loc Cert.OutMlpSRefIdeal.main_arg8) = m ((c.tc : Thread Cert.OutMlpSRefIdeal.nD Cert.OutMlpSRefIdeal.τ).loc Cert.OutMlpSRefIdeal.main_arg8))
      ∧ r.2.sem = fun _ => 0)

def quiescent_MixW [hMixW : Cert.MixW.Facts] : Prop :=
  ∀ (m : (ℓ : Loc Cert.MixW.nD Cert.MixW.τ Cert.MixW.sig) → Buf (Elt Bits) ℓ) (g : Dev Cert.MixW.nD → PrngReg), Pre_MixW m →
    θ_run (Cert.MixW.defs (F := Bits)) (onTc (τ := Cert.MixW.τ) (Cert.MixW.main (F := Bits))) ⟨m, fun _ => 0, g⟩ (fun r => (∀ c : Dev Cert.MixW.nD,
      r.2.mem ((c.tc : Thread Cert.MixW.nD Cert.MixW.τ).loc Cert.MixW.main_arg0) = m ((c.tc : Thread Cert.MixW.nD Cert.MixW.τ).loc Cert.MixW.main_arg0)
      ∧ r.2.mem ((c.tc : Thread Cert.MixW.nD Cert.MixW.τ).loc Cert.MixW.main_arg1) = m ((c.tc : Thread Cert.MixW.nD Cert.MixW.τ).loc Cert.MixW.main_arg1)
      ∧ r.2.mem ((c.tc : Thread Cert.MixW.nD Cert.MixW.τ).loc Cert.MixW.main_arg2) = m ((c.tc : Thread Cert.MixW.nD Cert.MixW.τ).loc Cert.MixW.main_arg2)
      ∧ r.2.mem ((c.tc : Thread Cert.MixW.nD Cert.MixW.τ).loc Cert.MixW.main_arg3) = m ((c.tc : Thread Cert.MixW.nD Cert.MixW.τ).loc Cert.MixW.main_arg3)
      ∧ r.2.mem ((c.tc : Thread Cert.MixW.nD Cert.MixW.τ).loc Cert.MixW.main_arg4) = m ((c.tc : Thread Cert.MixW.nD Cert.MixW.τ).loc Cert.MixW.main_arg4)
      ∧ r.2.mem ((c.tc : Thread Cert.MixW.nD Cert.MixW.τ).loc Cert.MixW.main_arg5) = m ((c.tc : Thread Cert.MixW.nD Cert.MixW.τ).loc Cert.MixW.main_arg5)
      ∧ r.2.mem ((c.tc : Thread Cert.MixW.nD Cert.MixW.τ).loc Cert.MixW.main_arg6) = m ((c.tc : Thread Cert.MixW.nD Cert.MixW.τ).loc Cert.MixW.main_arg6)
      ∧ r.2.mem ((c.tc : Thread Cert.MixW.nD Cert.MixW.τ).loc Cert.MixW.main_arg7) = m ((c.tc : Thread Cert.MixW.nD Cert.MixW.τ).loc Cert.MixW.main_arg7)
      ∧ r.2.mem ((c.tc : Thread Cert.MixW.nD Cert.MixW.τ).loc Cert.MixW.main_arg8) = m ((c.tc : Thread Cert.MixW.nD Cert.MixW.τ).loc Cert.MixW.main_arg8)
      ∧ r.2.mem ((c.tc : Thread Cert.MixW.nD Cert.MixW.τ).loc Cert.MixW.main_arg9) = m ((c.tc : Thread Cert.MixW.nD Cert.MixW.τ).loc Cert.MixW.main_arg9)
      ∧ r.2.mem ((c.tc : Thread Cert.MixW.nD Cert.MixW.τ).loc Cert.MixW.main_arg10) = m ((c.tc : Thread Cert.MixW.nD Cert.MixW.τ).loc Cert.MixW.main_arg10)
      ∧ r.2.mem ((c.tc : Thread Cert.MixW.nD Cert.MixW.τ).loc Cert.MixW.main_arg11) = m ((c.tc : Thread Cert.MixW.nD Cert.MixW.τ).loc Cert.MixW.main_arg11))
      ∧ r.2.sem = fun _ => 0)

def quiescent_MixWIdeal [hMixWIdeal : Cert.MixWIdeal.Facts] : Prop :=
  ∀ (m : (ℓ : Loc Cert.MixWIdeal.nD Cert.MixWIdeal.τ Cert.MixWIdeal.sig) → Buf (Elt Ideal) ℓ) (g : Dev Cert.MixWIdeal.nD → PrngReg), Pre_MixWIdeal m →
    θ_run (Cert.MixWIdeal.defs (F := Ideal)) (onTc (τ := Cert.MixWIdeal.τ) (Cert.MixWIdeal.main (F := Ideal))) ⟨m, fun _ => 0, g⟩ (fun r => (∀ c : Dev Cert.MixWIdeal.nD,
      r.2.mem ((c.tc : Thread Cert.MixWIdeal.nD Cert.MixWIdeal.τ).loc Cert.MixWIdeal.main_arg0) = m ((c.tc : Thread Cert.MixWIdeal.nD Cert.MixWIdeal.τ).loc Cert.MixWIdeal.main_arg0)
      ∧ r.2.mem ((c.tc : Thread Cert.MixWIdeal.nD Cert.MixWIdeal.τ).loc Cert.MixWIdeal.main_arg1) = m ((c.tc : Thread Cert.MixWIdeal.nD Cert.MixWIdeal.τ).loc Cert.MixWIdeal.main_arg1)
      ∧ r.2.mem ((c.tc : Thread Cert.MixWIdeal.nD Cert.MixWIdeal.τ).loc Cert.MixWIdeal.main_arg2) = m ((c.tc : Thread Cert.MixWIdeal.nD Cert.MixWIdeal.τ).loc Cert.MixWIdeal.main_arg2)
      ∧ r.2.mem ((c.tc : Thread Cert.MixWIdeal.nD Cert.MixWIdeal.τ).loc Cert.MixWIdeal.main_arg3) = m ((c.tc : Thread Cert.MixWIdeal.nD Cert.MixWIdeal.τ).loc Cert.MixWIdeal.main_arg3)
      ∧ r.2.mem ((c.tc : Thread Cert.MixWIdeal.nD Cert.MixWIdeal.τ).loc Cert.MixWIdeal.main_arg4) = m ((c.tc : Thread Cert.MixWIdeal.nD Cert.MixWIdeal.τ).loc Cert.MixWIdeal.main_arg4)
      ∧ r.2.mem ((c.tc : Thread Cert.MixWIdeal.nD Cert.MixWIdeal.τ).loc Cert.MixWIdeal.main_arg5) = m ((c.tc : Thread Cert.MixWIdeal.nD Cert.MixWIdeal.τ).loc Cert.MixWIdeal.main_arg5)
      ∧ r.2.mem ((c.tc : Thread Cert.MixWIdeal.nD Cert.MixWIdeal.τ).loc Cert.MixWIdeal.main_arg6) = m ((c.tc : Thread Cert.MixWIdeal.nD Cert.MixWIdeal.τ).loc Cert.MixWIdeal.main_arg6)
      ∧ r.2.mem ((c.tc : Thread Cert.MixWIdeal.nD Cert.MixWIdeal.τ).loc Cert.MixWIdeal.main_arg7) = m ((c.tc : Thread Cert.MixWIdeal.nD Cert.MixWIdeal.τ).loc Cert.MixWIdeal.main_arg7)
      ∧ r.2.mem ((c.tc : Thread Cert.MixWIdeal.nD Cert.MixWIdeal.τ).loc Cert.MixWIdeal.main_arg8) = m ((c.tc : Thread Cert.MixWIdeal.nD Cert.MixWIdeal.τ).loc Cert.MixWIdeal.main_arg8)
      ∧ r.2.mem ((c.tc : Thread Cert.MixWIdeal.nD Cert.MixWIdeal.τ).loc Cert.MixWIdeal.main_arg9) = m ((c.tc : Thread Cert.MixWIdeal.nD Cert.MixWIdeal.τ).loc Cert.MixWIdeal.main_arg9)
      ∧ r.2.mem ((c.tc : Thread Cert.MixWIdeal.nD Cert.MixWIdeal.τ).loc Cert.MixWIdeal.main_arg10) = m ((c.tc : Thread Cert.MixWIdeal.nD Cert.MixWIdeal.τ).loc Cert.MixWIdeal.main_arg10)
      ∧ r.2.mem ((c.tc : Thread Cert.MixWIdeal.nD Cert.MixWIdeal.τ).loc Cert.MixWIdeal.main_arg11) = m ((c.tc : Thread Cert.MixWIdeal.nD Cert.MixWIdeal.τ).loc Cert.MixWIdeal.main_arg11))
      ∧ r.2.sem = fun _ => 0)

def quiescent_MixWRefIdeal [hMixWRefIdeal : Cert.MixWRefIdeal.Facts] : Prop :=
  ∀ (m : (ℓ : Loc Cert.MixWRefIdeal.nD Cert.MixWRefIdeal.τ Cert.MixWRefIdeal.sig) → Buf (Elt Ideal) ℓ) (g : Dev Cert.MixWRefIdeal.nD → PrngReg), Pre_MixWRefIdeal m →
    θ_run (Cert.MixWRefIdeal.defs (F := Ideal)) (onTc (τ := Cert.MixWRefIdeal.τ) (Cert.MixWRefIdeal.main (F := Ideal))) ⟨m, fun _ => 0, g⟩ (fun r => (∀ c : Dev Cert.MixWRefIdeal.nD,
      r.2.mem ((c.tc : Thread Cert.MixWRefIdeal.nD Cert.MixWRefIdeal.τ).loc Cert.MixWRefIdeal.main_arg0) = m ((c.tc : Thread Cert.MixWRefIdeal.nD Cert.MixWRefIdeal.τ).loc Cert.MixWRefIdeal.main_arg0)
      ∧ r.2.mem ((c.tc : Thread Cert.MixWRefIdeal.nD Cert.MixWRefIdeal.τ).loc Cert.MixWRefIdeal.main_arg1) = m ((c.tc : Thread Cert.MixWRefIdeal.nD Cert.MixWRefIdeal.τ).loc Cert.MixWRefIdeal.main_arg1)
      ∧ r.2.mem ((c.tc : Thread Cert.MixWRefIdeal.nD Cert.MixWRefIdeal.τ).loc Cert.MixWRefIdeal.main_arg2) = m ((c.tc : Thread Cert.MixWRefIdeal.nD Cert.MixWRefIdeal.τ).loc Cert.MixWRefIdeal.main_arg2)
      ∧ r.2.mem ((c.tc : Thread Cert.MixWRefIdeal.nD Cert.MixWRefIdeal.τ).loc Cert.MixWRefIdeal.main_arg3) = m ((c.tc : Thread Cert.MixWRefIdeal.nD Cert.MixWRefIdeal.τ).loc Cert.MixWRefIdeal.main_arg3)
      ∧ r.2.mem ((c.tc : Thread Cert.MixWRefIdeal.nD Cert.MixWRefIdeal.τ).loc Cert.MixWRefIdeal.main_arg4) = m ((c.tc : Thread Cert.MixWRefIdeal.nD Cert.MixWRefIdeal.τ).loc Cert.MixWRefIdeal.main_arg4)
      ∧ r.2.mem ((c.tc : Thread Cert.MixWRefIdeal.nD Cert.MixWRefIdeal.τ).loc Cert.MixWRefIdeal.main_arg5) = m ((c.tc : Thread Cert.MixWRefIdeal.nD Cert.MixWRefIdeal.τ).loc Cert.MixWRefIdeal.main_arg5)
      ∧ r.2.mem ((c.tc : Thread Cert.MixWRefIdeal.nD Cert.MixWRefIdeal.τ).loc Cert.MixWRefIdeal.main_arg6) = m ((c.tc : Thread Cert.MixWRefIdeal.nD Cert.MixWRefIdeal.τ).loc Cert.MixWRefIdeal.main_arg6)
      ∧ r.2.mem ((c.tc : Thread Cert.MixWRefIdeal.nD Cert.MixWRefIdeal.τ).loc Cert.MixWRefIdeal.main_arg7) = m ((c.tc : Thread Cert.MixWRefIdeal.nD Cert.MixWRefIdeal.τ).loc Cert.MixWRefIdeal.main_arg7)
      ∧ r.2.mem ((c.tc : Thread Cert.MixWRefIdeal.nD Cert.MixWRefIdeal.τ).loc Cert.MixWRefIdeal.main_arg8) = m ((c.tc : Thread Cert.MixWRefIdeal.nD Cert.MixWRefIdeal.τ).loc Cert.MixWRefIdeal.main_arg8)
      ∧ r.2.mem ((c.tc : Thread Cert.MixWRefIdeal.nD Cert.MixWRefIdeal.τ).loc Cert.MixWRefIdeal.main_arg9) = m ((c.tc : Thread Cert.MixWRefIdeal.nD Cert.MixWRefIdeal.τ).loc Cert.MixWRefIdeal.main_arg9)
      ∧ r.2.mem ((c.tc : Thread Cert.MixWRefIdeal.nD Cert.MixWRefIdeal.τ).loc Cert.MixWRefIdeal.main_arg10) = m ((c.tc : Thread Cert.MixWRefIdeal.nD Cert.MixWRefIdeal.τ).loc Cert.MixWRefIdeal.main_arg10)
      ∧ r.2.mem ((c.tc : Thread Cert.MixWRefIdeal.nD Cert.MixWRefIdeal.τ).loc Cert.MixWRefIdeal.main_arg11) = m ((c.tc : Thread Cert.MixWRefIdeal.nD Cert.MixWRefIdeal.τ).loc Cert.MixWRefIdeal.main_arg11))
      ∧ r.2.sem = fun _ => 0)

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)) →
    ∃ (v0 : (c : Dev Cert.MixIdeal.nD) → Buf (Elt Ideal) ((c.tc : Thread Cert.MixIdeal.nD Cert.MixIdeal.τ).loc Cert.MixIdeal.main_v0_0)) (v1 : (c : Dev Cert.MixIdeal.nD) → Buf (Elt Ideal) ((c.tc : Thread Cert.MixIdeal.nD Cert.MixIdeal.τ).loc Cert.MixIdeal.main_v0_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0_0) = v0 c
          ∧ r.2.mem ((c.tc : Thread Cert.MixIdeal.nD Cert.MixIdeal.τ).loc Cert.MixIdeal.main_v0_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v318) = v0 c
          ∧ r.2.mem ((c.tc : Thread Cert.MixRefIdeal.nD Cert.MixRefIdeal.τ).loc Cert.MixRefIdeal.main_v319) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v55_0)) (v1 : (c : Dev Cert.InProjIdeal.nD) → Buf (Elt Ideal) ((c.tc : Thread Cert.InProjIdeal.nD Cert.InProjIdeal.τ).loc Cert.InProjIdeal.main_v55_1)) (v2 : (c : Dev Cert.InProjIdeal.nD) → Buf (Elt Ideal) ((c.tc : Thread Cert.InProjIdeal.nD Cert.InProjIdeal.τ).loc Cert.InProjIdeal.main_v55_2)) (v3 : (c : Dev Cert.InProjIdeal.nD) → Buf (Elt Ideal) ((c.tc : Thread Cert.InProjIdeal.nD Cert.InProjIdeal.τ).loc Cert.InProjIdeal.main_v55_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v55_0) = v0 c
          ∧ r.2.mem ((c.tc : Thread Cert.InProjIdeal.nD Cert.InProjIdeal.τ).loc Cert.InProjIdeal.main_v55_1) = v1 c
          ∧ r.2.mem ((c.tc : Thread Cert.InProjIdeal.nD Cert.InProjIdeal.τ).loc Cert.InProjIdeal.main_v55_2) = v2 c
          ∧ r.2.mem ((c.tc : Thread Cert.InProjIdeal.nD Cert.InProjIdeal.τ).loc Cert.InProjIdeal.main_v55_3) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v112) = v0 c
          ∧ r.2.mem ((c.tc : Thread Cert.InProjRefIdeal.nD Cert.InProjRefIdeal.τ).loc Cert.InProjRefIdeal.main_v109) = v1 c
          ∧ r.2.mem ((c.tc : Thread Cert.InProjRefIdeal.nD Cert.InProjRefIdeal.τ).loc Cert.InProjRefIdeal.main_v110) = v2 c
          ∧ r.2.mem ((c.tc : Thread Cert.InProjRefIdeal.nD Cert.InProjRefIdeal.τ).loc Cert.InProjRefIdeal.main_v111) = v3 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_OutMlp_OutMlpIdeal : Prop :=
  True

def algebraic_OutMlpIdeal_OutMlpRefIdeal [hOutMlpIdeal : Cert.OutMlpIdeal.Facts] [hOutMlpRefIdeal : Cert.OutMlpRefIdeal.Facts] : Prop :=
  ∀ (m : (ℓ : Loc Cert.OutMlpIdeal.nD Cert.OutMlpIdeal.τ Cert.OutMlpIdeal.sig) → Buf (Elt Ideal) ℓ) (g : Dev Cert.OutMlpIdeal.nD → PrngReg)
    (m' : (ℓ : Loc Cert.OutMlpRefIdeal.nD Cert.OutMlpRefIdeal.τ Cert.OutMlpRefIdeal.sig) → Buf (Elt Ideal) ℓ) (g' : Dev Cert.OutMlpRefIdeal.nD → PrngReg), Pre_OutMlpIdeal m →
    (∀ c : Dev Cert.OutMlpIdeal.nD,
      m' ((c.tc : Thread Cert.OutMlpRefIdeal.nD Cert.OutMlpRefIdeal.τ).loc Cert.OutMlpRefIdeal.main_arg0) = m ((c.tc : Thread Cert.OutMlpIdeal.nD Cert.OutMlpIdeal.τ).loc Cert.OutMlpIdeal.main_arg0)
      ∧ m' ((c.tc : Thread Cert.OutMlpRefIdeal.nD Cert.OutMlpRefIdeal.τ).loc Cert.OutMlpRefIdeal.main_arg1) = m ((c.tc : Thread Cert.OutMlpIdeal.nD Cert.OutMlpIdeal.τ).loc Cert.OutMlpIdeal.main_arg1)
      ∧ m' ((c.tc : Thread Cert.OutMlpRefIdeal.nD Cert.OutMlpRefIdeal.τ).loc Cert.OutMlpRefIdeal.main_arg2) = m ((c.tc : Thread Cert.OutMlpIdeal.nD Cert.OutMlpIdeal.τ).loc Cert.OutMlpIdeal.main_arg2)
      ∧ m' ((c.tc : Thread Cert.OutMlpRefIdeal.nD Cert.OutMlpRefIdeal.τ).loc Cert.OutMlpRefIdeal.main_arg3) = m ((c.tc : Thread Cert.OutMlpIdeal.nD Cert.OutMlpIdeal.τ).loc Cert.OutMlpIdeal.main_arg3)
      ∧ m' ((c.tc : Thread Cert.OutMlpRefIdeal.nD Cert.OutMlpRefIdeal.τ).loc Cert.OutMlpRefIdeal.main_arg4) = m ((c.tc : Thread Cert.OutMlpIdeal.nD Cert.OutMlpIdeal.τ).loc Cert.OutMlpIdeal.main_arg4)
      ∧ m' ((c.tc : Thread Cert.OutMlpRefIdeal.nD Cert.OutMlpRefIdeal.τ).loc Cert.OutMlpRefIdeal.main_arg5) = m ((c.tc : Thread Cert.OutMlpIdeal.nD Cert.OutMlpIdeal.τ).loc Cert.OutMlpIdeal.main_arg5)
      ∧ m' ((c.tc : Thread Cert.OutMlpRefIdeal.nD Cert.OutMlpRefIdeal.τ).loc Cert.OutMlpRefIdeal.main_arg6) = m ((c.tc : Thread Cert.OutMlpIdeal.nD Cert.OutMlpIdeal.τ).loc Cert.OutMlpIdeal.main_arg6)
      ∧ m' ((c.tc : Thread Cert.OutMlpRefIdeal.nD Cert.OutMlpRefIdeal.τ).loc Cert.OutMlpRefIdeal.main_arg7) = m ((c.tc : Thread Cert.OutMlpIdeal.nD Cert.OutMlpIdeal.τ).loc Cert.OutMlpIdeal.main_arg7)
      ∧ m' ((c.tc : Thread Cert.OutMlpRefIdeal.nD Cert.OutMlpRefIdeal.τ).loc Cert.OutMlpRefIdeal.main_arg8) = m ((c.tc : Thread Cert.OutMlpIdeal.nD Cert.OutMlpIdeal.τ).loc Cert.OutMlpIdeal.main_arg8)) →
    ∃ (v0 : (c : Dev Cert.OutMlpIdeal.nD) → Buf (Elt Ideal) ((c.tc : Thread Cert.OutMlpIdeal.nD Cert.OutMlpIdeal.τ).loc Cert.OutMlpIdeal.main_v16)),
      θ_run (Cert.OutMlpIdeal.defs (F := Ideal)) (onTc (τ := Cert.OutMlpIdeal.τ) (Cert.OutMlpIdeal.main (F := Ideal))) ⟨m, fun _ => 0, g⟩ (fun r => ∀ c : Dev Cert.OutMlpIdeal.nD,
          r.2.mem ((c.tc : Thread Cert.OutMlpIdeal.nD Cert.OutMlpIdeal.τ).loc Cert.OutMlpIdeal.main_v16) = v0 c
          ∧ r.2.mem ((c.tc : Thread Cert.OutMlpIdeal.nD Cert.OutMlpIdeal.τ).loc Cert.OutMlpIdeal.main_arg0) = m ((c.tc : Thread Cert.OutMlpIdeal.nD Cert.OutMlpIdeal.τ).loc Cert.OutMlpIdeal.main_arg0)
          ∧ r.2.mem ((c.tc : Thread Cert.OutMlpIdeal.nD Cert.OutMlpIdeal.τ).loc Cert.OutMlpIdeal.main_arg1) = m ((c.tc : Thread Cert.OutMlpIdeal.nD Cert.OutMlpIdeal.τ).loc Cert.OutMlpIdeal.main_arg1)
          ∧ r.2.mem ((c.tc : Thread Cert.OutMlpIdeal.nD Cert.OutMlpIdeal.τ).loc Cert.OutMlpIdeal.main_arg2) = m ((c.tc : Thread Cert.OutMlpIdeal.nD Cert.OutMlpIdeal.τ).loc Cert.OutMlpIdeal.main_arg2)
          ∧ r.2.mem ((c.tc : Thread Cert.OutMlpIdeal.nD Cert.OutMlpIdeal.τ).loc Cert.OutMlpIdeal.main_arg3) = m ((c.tc : Thread Cert.OutMlpIdeal.nD Cert.OutMlpIdeal.τ).loc Cert.OutMlpIdeal.main_arg3)
          ∧ r.2.mem ((c.tc : Thread Cert.OutMlpIdeal.nD Cert.OutMlpIdeal.τ).loc Cert.OutMlpIdeal.main_arg4) = m ((c.tc : Thread Cert.OutMlpIdeal.nD Cert.OutMlpIdeal.τ).loc Cert.OutMlpIdeal.main_arg4)
          ∧ r.2.mem ((c.tc : Thread Cert.OutMlpIdeal.nD Cert.OutMlpIdeal.τ).loc Cert.OutMlpIdeal.main_arg5) = m ((c.tc : Thread Cert.OutMlpIdeal.nD Cert.OutMlpIdeal.τ).loc Cert.OutMlpIdeal.main_arg5)
          ∧ r.2.mem ((c.tc : Thread Cert.OutMlpIdeal.nD Cert.OutMlpIdeal.τ).loc Cert.OutMlpIdeal.main_arg6) = m ((c.tc : Thread Cert.OutMlpIdeal.nD Cert.OutMlpIdeal.τ).loc Cert.OutMlpIdeal.main_arg6)
          ∧ r.2.mem ((c.tc : Thread Cert.OutMlpIdeal.nD Cert.OutMlpIdeal.τ).loc Cert.OutMlpIdeal.main_arg7) = m ((c.tc : Thread Cert.OutMlpIdeal.nD Cert.OutMlpIdeal.τ).loc Cert.OutMlpIdeal.main_arg7)
          ∧ r.2.mem ((c.tc : Thread Cert.OutMlpIdeal.nD Cert.OutMlpIdeal.τ).loc Cert.OutMlpIdeal.main_arg8) = m ((c.tc : Thread Cert.OutMlpIdeal.nD Cert.OutMlpIdeal.τ).loc Cert.OutMlpIdeal.main_arg8))
      ∧ θ_run (Cert.OutMlpRefIdeal.defs (F := Ideal)) (onTc (τ := Cert.OutMlpRefIdeal.τ) (Cert.OutMlpRefIdeal.main (F := Ideal))) ⟨m', fun _ => 0, g'⟩ (fun r => ∀ c : Dev Cert.OutMlpRefIdeal.nD,
          r.2.mem ((c.tc : Thread Cert.OutMlpRefIdeal.nD Cert.OutMlpRefIdeal.τ).loc Cert.OutMlpRefIdeal.main_v46) = v0 c
          ∧ r.2.mem ((c.tc : Thread Cert.OutMlpRefIdeal.nD Cert.OutMlpRefIdeal.τ).loc Cert.OutMlpRefIdeal.main_arg0) = m' ((c.tc : Thread Cert.OutMlpRefIdeal.nD Cert.OutMlpRefIdeal.τ).loc Cert.OutMlpRefIdeal.main_arg0)
          ∧ r.2.mem ((c.tc : Thread Cert.OutMlpRefIdeal.nD Cert.OutMlpRefIdeal.τ).loc Cert.OutMlpRefIdeal.main_arg1) = m' ((c.tc : Thread Cert.OutMlpRefIdeal.nD Cert.OutMlpRefIdeal.τ).loc Cert.OutMlpRefIdeal.main_arg1)
          ∧ r.2.mem ((c.tc : Thread Cert.OutMlpRefIdeal.nD Cert.OutMlpRefIdeal.τ).loc Cert.OutMlpRefIdeal.main_arg2) = m' ((c.tc : Thread Cert.OutMlpRefIdeal.nD Cert.OutMlpRefIdeal.τ).loc Cert.OutMlpRefIdeal.main_arg2)
          ∧ r.2.mem ((c.tc : Thread Cert.OutMlpRefIdeal.nD Cert.OutMlpRefIdeal.τ).loc Cert.OutMlpRefIdeal.main_arg3) = m' ((c.tc : Thread Cert.OutMlpRefIdeal.nD Cert.OutMlpRefIdeal.τ).loc Cert.OutMlpRefIdeal.main_arg3)
          ∧ r.2.mem ((c.tc : Thread Cert.OutMlpRefIdeal.nD Cert.OutMlpRefIdeal.τ).loc Cert.OutMlpRefIdeal.main_arg4) = m' ((c.tc : Thread Cert.OutMlpRefIdeal.nD Cert.OutMlpRefIdeal.τ).loc Cert.OutMlpRefIdeal.main_arg4)
          ∧ r.2.mem ((c.tc : Thread Cert.OutMlpRefIdeal.nD Cert.OutMlpRefIdeal.τ).loc Cert.OutMlpRefIdeal.main_arg5) = m' ((c.tc : Thread Cert.OutMlpRefIdeal.nD Cert.OutMlpRefIdeal.τ).loc Cert.OutMlpRefIdeal.main_arg5)
          ∧ r.2.mem ((c.tc : Thread Cert.OutMlpRefIdeal.nD Cert.OutMlpRefIdeal.τ).loc Cert.OutMlpRefIdeal.main_arg6) = m' ((c.tc : Thread Cert.OutMlpRefIdeal.nD Cert.OutMlpRefIdeal.τ).loc Cert.OutMlpRefIdeal.main_arg6)
          ∧ r.2.mem ((c.tc : Thread Cert.OutMlpRefIdeal.nD Cert.OutMlpRefIdeal.τ).loc Cert.OutMlpRefIdeal.main_arg7) = m' ((c.tc : Thread Cert.OutMlpRefIdeal.nD Cert.OutMlpRefIdeal.τ).loc Cert.OutMlpRefIdeal.main_arg7)
          ∧ r.2.mem ((c.tc : Thread Cert.OutMlpRefIdeal.nD Cert.OutMlpRefIdeal.τ).loc Cert.OutMlpRefIdeal.main_arg8) = m' ((c.tc : Thread Cert.OutMlpRefIdeal.nD Cert.OutMlpRefIdeal.τ).loc Cert.OutMlpRefIdeal.main_arg8))

def preserves_InProjS_InProjSIdeal : Prop :=
  True

def preserves_MixS_MixSIdeal : Prop :=
  True

def preserves_OutMlpS_OutMlpSIdeal : Prop :=
  True

def algebraic_OutMlpSIdeal_OutMlpSRefIdeal [hOutMlpSIdeal : Cert.OutMlpSIdeal.Facts] [hOutMlpSRefIdeal : Cert.OutMlpSRefIdeal.Facts] : Prop :=
  ∀ (m : (ℓ : Loc Cert.OutMlpSIdeal.nD Cert.OutMlpSIdeal.τ Cert.OutMlpSIdeal.sig) → Buf (Elt Ideal) ℓ) (g : Dev Cert.OutMlpSIdeal.nD → PrngReg)
    (m' : (ℓ : Loc Cert.OutMlpSRefIdeal.nD Cert.OutMlpSRefIdeal.τ Cert.OutMlpSRefIdeal.sig) → Buf (Elt Ideal) ℓ) (g' : Dev Cert.OutMlpSRefIdeal.nD → PrngReg), Pre_OutMlpSIdeal m →
    (∀ c : Dev Cert.OutMlpSIdeal.nD,
      m' ((c.tc : Thread Cert.OutMlpSRefIdeal.nD Cert.OutMlpSRefIdeal.τ).loc Cert.OutMlpSRefIdeal.main_arg0) = m ((c.tc : Thread Cert.OutMlpSIdeal.nD Cert.OutMlpSIdeal.τ).loc Cert.OutMlpSIdeal.main_arg0)
      ∧ m' ((c.tc : Thread Cert.OutMlpSRefIdeal.nD Cert.OutMlpSRefIdeal.τ).loc Cert.OutMlpSRefIdeal.main_arg1) = m ((c.tc : Thread Cert.OutMlpSIdeal.nD Cert.OutMlpSIdeal.τ).loc Cert.OutMlpSIdeal.main_arg1)
      ∧ m' ((c.tc : Thread Cert.OutMlpSRefIdeal.nD Cert.OutMlpSRefIdeal.τ).loc Cert.OutMlpSRefIdeal.main_arg2) = m ((c.tc : Thread Cert.OutMlpSIdeal.nD Cert.OutMlpSIdeal.τ).loc Cert.OutMlpSIdeal.main_arg2)
      ∧ m' ((c.tc : Thread Cert.OutMlpSRefIdeal.nD Cert.OutMlpSRefIdeal.τ).loc Cert.OutMlpSRefIdeal.main_arg3) = m ((c.tc : Thread Cert.OutMlpSIdeal.nD Cert.OutMlpSIdeal.τ).loc Cert.OutMlpSIdeal.main_arg3)
      ∧ m' ((c.tc : Thread Cert.OutMlpSRefIdeal.nD Cert.OutMlpSRefIdeal.τ).loc Cert.OutMlpSRefIdeal.main_arg4) = m ((c.tc : Thread Cert.OutMlpSIdeal.nD Cert.OutMlpSIdeal.τ).loc Cert.OutMlpSIdeal.main_arg4)
      ∧ m' ((c.tc : Thread Cert.OutMlpSRefIdeal.nD Cert.OutMlpSRefIdeal.τ).loc Cert.OutMlpSRefIdeal.main_arg5) = m ((c.tc : Thread Cert.OutMlpSIdeal.nD Cert.OutMlpSIdeal.τ).loc Cert.OutMlpSIdeal.main_arg5)
      ∧ m' ((c.tc : Thread Cert.OutMlpSRefIdeal.nD Cert.OutMlpSRefIdeal.τ).loc Cert.OutMlpSRefIdeal.main_arg6) = m ((c.tc : Thread Cert.OutMlpSIdeal.nD Cert.OutMlpSIdeal.τ).loc Cert.OutMlpSIdeal.main_arg6)
      ∧ m' ((c.tc : Thread Cert.OutMlpSRefIdeal.nD Cert.OutMlpSRefIdeal.τ).loc Cert.OutMlpSRefIdeal.main_arg7) = m ((c.tc : Thread Cert.OutMlpSIdeal.nD Cert.OutMlpSIdeal.τ).loc Cert.OutMlpSIdeal.main_arg7)
      ∧ m' ((c.tc : Thread Cert.OutMlpSRefIdeal.nD Cert.OutMlpSRefIdeal.τ).loc Cert.OutMlpSRefIdeal.main_arg8) = m ((c.tc : Thread Cert.OutMlpSIdeal.nD Cert.OutMlpSIdeal.τ).loc Cert.OutMlpSIdeal.main_arg8)) →
    ∃ (v0 : (c : Dev Cert.OutMlpSIdeal.nD) → Buf (Elt Ideal) ((c.tc : Thread Cert.OutMlpSIdeal.nD Cert.OutMlpSIdeal.τ).loc Cert.OutMlpSIdeal.main_v16)),
      θ_run (Cert.OutMlpSIdeal.defs (F := Ideal)) (onTc (τ := Cert.OutMlpSIdeal.τ) (Cert.OutMlpSIdeal.main (F := Ideal))) ⟨m, fun _ => 0, g⟩ (fun r => ∀ c : Dev Cert.OutMlpSIdeal.nD,
          r.2.mem ((c.tc : Thread Cert.OutMlpSIdeal.nD Cert.OutMlpSIdeal.τ).loc Cert.OutMlpSIdeal.main_v16) = v0 c
          ∧ r.2.mem ((c.tc : Thread Cert.OutMlpSIdeal.nD Cert.OutMlpSIdeal.τ).loc Cert.OutMlpSIdeal.main_arg0) = m ((c.tc : Thread Cert.OutMlpSIdeal.nD Cert.OutMlpSIdeal.τ).loc Cert.OutMlpSIdeal.main_arg0)
          ∧ r.2.mem ((c.tc : Thread Cert.OutMlpSIdeal.nD Cert.OutMlpSIdeal.τ).loc Cert.OutMlpSIdeal.main_arg1) = m ((c.tc : Thread Cert.OutMlpSIdeal.nD Cert.OutMlpSIdeal.τ).loc Cert.OutMlpSIdeal.main_arg1)
          ∧ r.2.mem ((c.tc : Thread Cert.OutMlpSIdeal.nD Cert.OutMlpSIdeal.τ).loc Cert.OutMlpSIdeal.main_arg2) = m ((c.tc : Thread Cert.OutMlpSIdeal.nD Cert.OutMlpSIdeal.τ).loc Cert.OutMlpSIdeal.main_arg2)
          ∧ r.2.mem ((c.tc : Thread Cert.OutMlpSIdeal.nD Cert.OutMlpSIdeal.τ).loc Cert.OutMlpSIdeal.main_arg3) = m ((c.tc : Thread Cert.OutMlpSIdeal.nD Cert.OutMlpSIdeal.τ).loc Cert.OutMlpSIdeal.main_arg3)
          ∧ r.2.mem ((c.tc : Thread Cert.OutMlpSIdeal.nD Cert.OutMlpSIdeal.τ).loc Cert.OutMlpSIdeal.main_arg4) = m ((c.tc : Thread Cert.OutMlpSIdeal.nD Cert.OutMlpSIdeal.τ).loc Cert.OutMlpSIdeal.main_arg4)
          ∧ r.2.mem ((c.tc : Thread Cert.OutMlpSIdeal.nD Cert.OutMlpSIdeal.τ).loc Cert.OutMlpSIdeal.main_arg5) = m ((c.tc : Thread Cert.OutMlpSIdeal.nD Cert.OutMlpSIdeal.τ).loc Cert.OutMlpSIdeal.main_arg5)
          ∧ r.2.mem ((c.tc : Thread Cert.OutMlpSIdeal.nD Cert.OutMlpSIdeal.τ).loc Cert.OutMlpSIdeal.main_arg6) = m ((c.tc : Thread Cert.OutMlpSIdeal.nD Cert.OutMlpSIdeal.τ).loc Cert.OutMlpSIdeal.main_arg6)
          ∧ r.2.mem ((c.tc : Thread Cert.OutMlpSIdeal.nD Cert.OutMlpSIdeal.τ).loc Cert.OutMlpSIdeal.main_arg7) = m ((c.tc : Thread Cert.OutMlpSIdeal.nD Cert.OutMlpSIdeal.τ).loc Cert.OutMlpSIdeal.main_arg7)
          ∧ r.2.mem ((c.tc : Thread Cert.OutMlpSIdeal.nD Cert.OutMlpSIdeal.τ).loc Cert.OutMlpSIdeal.main_arg8) = m ((c.tc : Thread Cert.OutMlpSIdeal.nD Cert.OutMlpSIdeal.τ).loc Cert.OutMlpSIdeal.main_arg8))
      ∧ θ_run (Cert.OutMlpSRefIdeal.defs (F := Ideal)) (onTc (τ := Cert.OutMlpSRefIdeal.τ) (Cert.OutMlpSRefIdeal.main (F := Ideal))) ⟨m', fun _ => 0, g'⟩ (fun r => ∀ c : Dev Cert.OutMlpSRefIdeal.nD,
          r.2.mem ((c.tc : Thread Cert.OutMlpSRefIdeal.nD Cert.OutMlpSRefIdeal.τ).loc Cert.OutMlpSRefIdeal.main_v46) = v0 c
          ∧ r.2.mem ((c.tc : Thread Cert.OutMlpSRefIdeal.nD Cert.OutMlpSRefIdeal.τ).loc Cert.OutMlpSRefIdeal.main_arg0) = m' ((c.tc : Thread Cert.OutMlpSRefIdeal.nD Cert.OutMlpSRefIdeal.τ).loc Cert.OutMlpSRefIdeal.main_arg0)
          ∧ r.2.mem ((c.tc : Thread Cert.OutMlpSRefIdeal.nD Cert.OutMlpSRefIdeal.τ).loc Cert.OutMlpSRefIdeal.main_arg1) = m' ((c.tc : Thread Cert.OutMlpSRefIdeal.nD Cert.OutMlpSRefIdeal.τ).loc Cert.OutMlpSRefIdeal.main_arg1)
          ∧ r.2.mem ((c.tc : Thread Cert.OutMlpSRefIdeal.nD Cert.OutMlpSRefIdeal.τ).loc Cert.OutMlpSRefIdeal.main_arg2) = m' ((c.tc : Thread Cert.OutMlpSRefIdeal.nD Cert.OutMlpSRefIdeal.τ).loc Cert.OutMlpSRefIdeal.main_arg2)
          ∧ r.2.mem ((c.tc : Thread Cert.OutMlpSRefIdeal.nD Cert.OutMlpSRefIdeal.τ).loc Cert.OutMlpSRefIdeal.main_arg3) = m' ((c.tc : Thread Cert.OutMlpSRefIdeal.nD Cert.OutMlpSRefIdeal.τ).loc Cert.OutMlpSRefIdeal.main_arg3)
          ∧ r.2.mem ((c.tc : Thread Cert.OutMlpSRefIdeal.nD Cert.OutMlpSRefIdeal.τ).loc Cert.OutMlpSRefIdeal.main_arg4) = m' ((c.tc : Thread Cert.OutMlpSRefIdeal.nD Cert.OutMlpSRefIdeal.τ).loc Cert.OutMlpSRefIdeal.main_arg4)
          ∧ r.2.mem ((c.tc : Thread Cert.OutMlpSRefIdeal.nD Cert.OutMlpSRefIdeal.τ).loc Cert.OutMlpSRefIdeal.main_arg5) = m' ((c.tc : Thread Cert.OutMlpSRefIdeal.nD Cert.OutMlpSRefIdeal.τ).loc Cert.OutMlpSRefIdeal.main_arg5)
          ∧ r.2.mem ((c.tc : Thread Cert.OutMlpSRefIdeal.nD Cert.OutMlpSRefIdeal.τ).loc Cert.OutMlpSRefIdeal.main_arg6) = m' ((c.tc : Thread Cert.OutMlpSRefIdeal.nD Cert.OutMlpSRefIdeal.τ).loc Cert.OutMlpSRefIdeal.main_arg6)
          ∧ r.2.mem ((c.tc : Thread Cert.OutMlpSRefIdeal.nD Cert.OutMlpSRefIdeal.τ).loc Cert.OutMlpSRefIdeal.main_arg7) = m' ((c.tc : Thread Cert.OutMlpSRefIdeal.nD Cert.OutMlpSRefIdeal.τ).loc Cert.OutMlpSRefIdeal.main_arg7)
          ∧ r.2.mem ((c.tc : Thread Cert.OutMlpSRefIdeal.nD Cert.OutMlpSRefIdeal.τ).loc Cert.OutMlpSRefIdeal.main_arg8) = m' ((c.tc : Thread Cert.OutMlpSRefIdeal.nD Cert.OutMlpSRefIdeal.τ).loc Cert.OutMlpSRefIdeal.main_arg8))

def preserves_MixW_MixWIdeal : Prop :=
  True

def algebraic_MixWIdeal_MixWRefIdeal [hMixWIdeal : Cert.MixWIdeal.Facts] [hMixWRefIdeal : Cert.MixWRefIdeal.Facts] : Prop :=
  ∀ (m : (ℓ : Loc Cert.MixWIdeal.nD Cert.MixWIdeal.τ Cert.MixWIdeal.sig) → Buf (Elt Ideal) ℓ) (g : Dev Cert.MixWIdeal.nD → PrngReg)
    (m' : (ℓ : Loc Cert.MixWRefIdeal.nD Cert.MixWRefIdeal.τ Cert.MixWRefIdeal.sig) → Buf (Elt Ideal) ℓ) (g' : Dev Cert.MixWRefIdeal.nD → PrngReg), Pre_MixWIdeal m →
    (∀ c : Dev Cert.MixWIdeal.nD,
      m' ((c.tc : Thread Cert.MixWRefIdeal.nD Cert.MixWRefIdeal.τ).loc Cert.MixWRefIdeal.main_arg0) = m ((c.tc : Thread Cert.MixWIdeal.nD Cert.MixWIdeal.τ).loc Cert.MixWIdeal.main_arg0)
      ∧ m' ((c.tc : Thread Cert.MixWRefIdeal.nD Cert.MixWRefIdeal.τ).loc Cert.MixWRefIdeal.main_arg1) = m ((c.tc : Thread Cert.MixWIdeal.nD Cert.MixWIdeal.τ).loc Cert.MixWIdeal.main_arg1)
      ∧ m' ((c.tc : Thread Cert.MixWRefIdeal.nD Cert.MixWRefIdeal.τ).loc Cert.MixWRefIdeal.main_arg2) = m ((c.tc : Thread Cert.MixWIdeal.nD Cert.MixWIdeal.τ).loc Cert.MixWIdeal.main_arg2)
      ∧ m' ((c.tc : Thread Cert.MixWRefIdeal.nD Cert.MixWRefIdeal.τ).loc Cert.MixWRefIdeal.main_arg3) = m ((c.tc : Thread Cert.MixWIdeal.nD Cert.MixWIdeal.τ).loc Cert.MixWIdeal.main_arg3)
      ∧ m' ((c.tc : Thread Cert.MixWRefIdeal.nD Cert.MixWRefIdeal.τ).loc Cert.MixWRefIdeal.main_arg4) = m ((c.tc : Thread Cert.MixWIdeal.nD Cert.MixWIdeal.τ).loc Cert.MixWIdeal.main_arg4)
      ∧ m' ((c.tc : Thread Cert.MixWRefIdeal.nD Cert.MixWRefIdeal.τ).loc Cert.MixWRefIdeal.main_arg5) = m ((c.tc : Thread Cert.MixWIdeal.nD Cert.MixWIdeal.τ).loc Cert.MixWIdeal.main_arg5)
      ∧ m' ((c.tc : Thread Cert.MixWRefIdeal.nD Cert.MixWRefIdeal.τ).loc Cert.MixWRefIdeal.main_arg6) = m ((c.tc : Thread Cert.MixWIdeal.nD Cert.MixWIdeal.τ).loc Cert.MixWIdeal.main_arg6)
      ∧ m' ((c.tc : Thread Cert.MixWRefIdeal.nD Cert.MixWRefIdeal.τ).loc Cert.MixWRefIdeal.main_arg7) = m ((c.tc : Thread Cert.MixWIdeal.nD Cert.MixWIdeal.τ).loc Cert.MixWIdeal.main_arg7)
      ∧ m' ((c.tc : Thread Cert.MixWRefIdeal.nD Cert.MixWRefIdeal.τ).loc Cert.MixWRefIdeal.main_arg8) = m ((c.tc : Thread Cert.MixWIdeal.nD Cert.MixWIdeal.τ).loc Cert.MixWIdeal.main_arg8)
      ∧ m' ((c.tc : Thread Cert.MixWRefIdeal.nD Cert.MixWRefIdeal.τ).loc Cert.MixWRefIdeal.main_arg9) = m ((c.tc : Thread Cert.MixWIdeal.nD Cert.MixWIdeal.τ).loc Cert.MixWIdeal.main_arg9)
      ∧ m' ((c.tc : Thread Cert.MixWRefIdeal.nD Cert.MixWRefIdeal.τ).loc Cert.MixWRefIdeal.main_arg10) = m ((c.tc : Thread Cert.MixWIdeal.nD Cert.MixWIdeal.τ).loc Cert.MixWIdeal.main_arg10)
      ∧ m' ((c.tc : Thread Cert.MixWRefIdeal.nD Cert.MixWRefIdeal.τ).loc Cert.MixWRefIdeal.main_arg11) = m ((c.tc : Thread Cert.MixWIdeal.nD Cert.MixWIdeal.τ).loc Cert.MixWIdeal.main_arg11)) →
    ∃ (v0 : (c : Dev Cert.MixWIdeal.nD) → Buf (Elt Ideal) ((c.tc : Thread Cert.MixWIdeal.nD Cert.MixWIdeal.τ).loc Cert.MixWIdeal.main_v19_2)) (v1 : (c : Dev Cert.MixWIdeal.nD) → Buf (Elt Ideal) ((c.tc : Thread Cert.MixWIdeal.nD Cert.MixWIdeal.τ).loc Cert.MixWIdeal.main_v19_3)) (v2 : (c : Dev Cert.MixWIdeal.nD) → Buf (Elt Ideal) ((c.tc : Thread Cert.MixWIdeal.nD Cert.MixWIdeal.τ).loc Cert.MixWIdeal.main_v19_4)),
      θ_run (Cert.MixWIdeal.defs (F := Ideal)) (onTc (τ := Cert.MixWIdeal.τ) (Cert.MixWIdeal.main (F := Ideal))) ⟨m, fun _ => 0, g⟩ (fun r => ∀ c : Dev Cert.MixWIdeal.nD,
          r.2.mem ((c.tc : Thread Cert.MixWIdeal.nD Cert.MixWIdeal.τ).loc Cert.MixWIdeal.main_v19_2) = v0 c
          ∧ r.2.mem ((c.tc : Thread Cert.MixWIdeal.nD Cert.MixWIdeal.τ).loc Cert.MixWIdeal.main_v19_3) = v1 c
          ∧ r.2.mem ((c.tc : Thread Cert.MixWIdeal.nD Cert.MixWIdeal.τ).loc Cert.MixWIdeal.main_v19_4) = v2 c
          ∧ r.2.mem ((c.tc : Thread Cert.MixWIdeal.nD Cert.MixWIdeal.τ).loc Cert.MixWIdeal.main_arg0) = m ((c.tc : Thread Cert.MixWIdeal.nD Cert.MixWIdeal.τ).loc Cert.MixWIdeal.main_arg0)
          ∧ r.2.mem ((c.tc : Thread Cert.MixWIdeal.nD Cert.MixWIdeal.τ).loc Cert.MixWIdeal.main_arg1) = m ((c.tc : Thread Cert.MixWIdeal.nD Cert.MixWIdeal.τ).loc Cert.MixWIdeal.main_arg1)
          ∧ r.2.mem ((c.tc : Thread Cert.MixWIdeal.nD Cert.MixWIdeal.τ).loc Cert.MixWIdeal.main_arg2) = m ((c.tc : Thread Cert.MixWIdeal.nD Cert.MixWIdeal.τ).loc Cert.MixWIdeal.main_arg2)
          ∧ r.2.mem ((c.tc : Thread Cert.MixWIdeal.nD Cert.MixWIdeal.τ).loc Cert.MixWIdeal.main_arg3) = m ((c.tc : Thread Cert.MixWIdeal.nD Cert.MixWIdeal.τ).loc Cert.MixWIdeal.main_arg3)
          ∧ r.2.mem ((c.tc : Thread Cert.MixWIdeal.nD Cert.MixWIdeal.τ).loc Cert.MixWIdeal.main_arg4) = m ((c.tc : Thread Cert.MixWIdeal.nD Cert.MixWIdeal.τ).loc Cert.MixWIdeal.main_arg4)
          ∧ r.2.mem ((c.tc : Thread Cert.MixWIdeal.nD Cert.MixWIdeal.τ).loc Cert.MixWIdeal.main_arg5) = m ((c.tc : Thread Cert.MixWIdeal.nD Cert.MixWIdeal.τ).loc Cert.MixWIdeal.main_arg5)
          ∧ r.2.mem ((c.tc : Thread Cert.MixWIdeal.nD Cert.MixWIdeal.τ).loc Cert.MixWIdeal.main_arg6) = m ((c.tc : Thread Cert.MixWIdeal.nD Cert.MixWIdeal.τ).loc Cert.MixWIdeal.main_arg6)
          ∧ r.2.mem ((c.tc : Thread Cert.MixWIdeal.nD Cert.MixWIdeal.τ).loc Cert.MixWIdeal.main_arg7) = m ((c.tc : Thread Cert.MixWIdeal.nD Cert.MixWIdeal.τ).loc Cert.MixWIdeal.main_arg7)
          ∧ r.2.mem ((c.tc : Thread Cert.MixWIdeal.nD Cert.MixWIdeal.τ).loc Cert.MixWIdeal.main_arg8) = m ((c.tc : Thread Cert.MixWIdeal.nD Cert.MixWIdeal.τ).loc Cert.MixWIdeal.main_arg8)
          ∧ r.2.mem ((c.tc : Thread Cert.MixWIdeal.nD Cert.MixWIdeal.τ).loc Cert.MixWIdeal.main_arg9) = m ((c.tc : Thread Cert.MixWIdeal.nD Cert.MixWIdeal.τ).loc Cert.MixWIdeal.main_arg9)
          ∧ r.2.mem ((c.tc : Thread Cert.MixWIdeal.nD Cert.MixWIdeal.τ).loc Cert.MixWIdeal.main_arg10) = m ((c.tc : Thread Cert.MixWIdeal.nD Cert.MixWIdeal.τ).loc Cert.MixWIdeal.main_arg10)
          ∧ r.2.mem ((c.tc : Thread Cert.MixWIdeal.nD Cert.MixWIdeal.τ).loc Cert.MixWIdeal.main_arg11) = m ((c.tc : Thread Cert.MixWIdeal.nD Cert.MixWIdeal.τ).loc Cert.MixWIdeal.main_arg11))
      ∧ θ_run (Cert.MixWRefIdeal.defs (F := Ideal)) (onTc (τ := Cert.MixWRefIdeal.τ) (Cert.MixWRefIdeal.main (F := Ideal))) ⟨m', fun _ => 0, g'⟩ (fun r => ∀ c : Dev Cert.MixWRefIdeal.nD,
          r.2.mem ((c.tc : Thread Cert.MixWRefIdeal.nD Cert.MixWRefIdeal.τ).loc Cert.MixWRefIdeal.main_v10) = v0 c
          ∧ r.2.mem ((c.tc : Thread Cert.MixWRefIdeal.nD Cert.MixWRefIdeal.τ).loc Cert.MixWRefIdeal.main_v12) = v1 c
          ∧ r.2.mem ((c.tc : Thread Cert.MixWRefIdeal.nD Cert.MixWRefIdeal.τ).loc Cert.MixWRefIdeal.main_v13) = v2 c
          ∧ r.2.mem ((c.tc : Thread Cert.MixWRefIdeal.nD Cert.MixWRefIdeal.τ).loc Cert.MixWRefIdeal.main_arg0) = m' ((c.tc : Thread Cert.MixWRefIdeal.nD Cert.MixWRefIdeal.τ).loc Cert.MixWRefIdeal.main_arg0)
          ∧ r.2.mem ((c.tc : Thread Cert.MixWRefIdeal.nD Cert.MixWRefIdeal.τ).loc Cert.MixWRefIdeal.main_arg1) = m' ((c.tc : Thread Cert.MixWRefIdeal.nD Cert.MixWRefIdeal.τ).loc Cert.MixWRefIdeal.main_arg1)
          ∧ r.2.mem ((c.tc : Thread Cert.MixWRefIdeal.nD Cert.MixWRefIdeal.τ).loc Cert.MixWRefIdeal.main_arg2) = m' ((c.tc : Thread Cert.MixWRefIdeal.nD Cert.MixWRefIdeal.τ).loc Cert.MixWRefIdeal.main_arg2)
          ∧ r.2.mem ((c.tc : Thread Cert.MixWRefIdeal.nD Cert.MixWRefIdeal.τ).loc Cert.MixWRefIdeal.main_arg3) = m' ((c.tc : Thread Cert.MixWRefIdeal.nD Cert.MixWRefIdeal.τ).loc Cert.MixWRefIdeal.main_arg3)
          ∧ r.2.mem ((c.tc : Thread Cert.MixWRefIdeal.nD Cert.MixWRefIdeal.τ).loc Cert.MixWRefIdeal.main_arg4) = m' ((c.tc : Thread Cert.MixWRefIdeal.nD Cert.MixWRefIdeal.τ).loc Cert.MixWRefIdeal.main_arg4)
          ∧ r.2.mem ((c.tc : Thread Cert.MixWRefIdeal.nD Cert.MixWRefIdeal.τ).loc Cert.MixWRefIdeal.main_arg5) = m' ((c.tc : Thread Cert.MixWRefIdeal.nD Cert.MixWRefIdeal.τ).loc Cert.MixWRefIdeal.main_arg5)
          ∧ r.2.mem ((c.tc : Thread Cert.MixWRefIdeal.nD Cert.MixWRefIdeal.τ).loc Cert.MixWRefIdeal.main_arg6) = m' ((c.tc : Thread Cert.MixWRefIdeal.nD Cert.MixWRefIdeal.τ).loc Cert.MixWRefIdeal.main_arg6)
          ∧ r.2.mem ((c.tc : Thread Cert.MixWRefIdeal.nD Cert.MixWRefIdeal.τ).loc Cert.MixWRefIdeal.main_arg7) = m' ((c.tc : Thread Cert.MixWRefIdeal.nD Cert.MixWRefIdeal.τ).loc Cert.MixWRefIdeal.main_arg7)
          ∧ r.2.mem ((c.tc : Thread Cert.MixWRefIdeal.nD Cert.MixWRefIdeal.τ).loc Cert.MixWRefIdeal.main_arg8) = m' ((c.tc : Thread Cert.MixWRefIdeal.nD Cert.MixWRefIdeal.τ).loc Cert.MixWRefIdeal.main_arg8)
          ∧ r.2.mem ((c.tc : Thread Cert.MixWRefIdeal.nD Cert.MixWRefIdeal.τ).loc Cert.MixWRefIdeal.main_arg9) = m' ((c.tc : Thread Cert.MixWRefIdeal.nD Cert.MixWRefIdeal.τ).loc Cert.MixWRefIdeal.main_arg9)
          ∧ r.2.mem ((c.tc : Thread Cert.MixWRefIdeal.nD Cert.MixWRefIdeal.τ).loc Cert.MixWRefIdeal.main_arg10) = m' ((c.tc : Thread Cert.MixWRefIdeal.nD Cert.MixWRefIdeal.τ).loc Cert.MixWRefIdeal.main_arg10)
          ∧ r.2.mem ((c.tc : Thread Cert.MixWRefIdeal.nD Cert.MixWRefIdeal.τ).loc Cert.MixWRefIdeal.main_arg11) = m' ((c.tc : Thread Cert.MixWRefIdeal.nD Cert.MixWRefIdeal.τ).loc Cert.MixWRefIdeal.main_arg11))

def Claim : Prop :=
  ∃ (hMix : Cert.Mix.Facts) (hMixIdeal : Cert.MixIdeal.Facts) (hMixRefIdeal : Cert.MixRefIdeal.Facts) (hInProj : Cert.InProj.Facts) (hInProjIdeal : Cert.InProjIdeal.Facts) (hInProjRefIdeal : Cert.InProjRefIdeal.Facts) (hOutMlp : Cert.OutMlp.Facts) (hOutMlpIdeal : Cert.OutMlpIdeal.Facts) (hOutMlpRefIdeal : Cert.OutMlpRefIdeal.Facts) (hInProjS : Cert.InProjS.Facts) (hInProjSIdeal : Cert.InProjSIdeal.Facts) (hInProjSRefIdeal : Cert.InProjSRefIdeal.Facts) (hMixS : Cert.MixS.Facts) (hMixSIdeal : Cert.MixSIdeal.Facts) (hMixSRefIdeal : Cert.MixSRefIdeal.Facts) (hOutMlpS : Cert.OutMlpS.Facts) (hOutMlpSIdeal : Cert.OutMlpSIdeal.Facts) (hOutMlpSRefIdeal : Cert.OutMlpSRefIdeal.Facts) (hMixW : Cert.MixW.Facts) (hMixWIdeal : Cert.MixWIdeal.Facts) (hMixWRefIdeal : Cert.MixWRefIdeal.Facts),
    quiescent_Mix (hMix := hMix)
    ∧ quiescent_MixIdeal (hMixIdeal := hMixIdeal)
    ∧ quiescent_MixRefIdeal (hMixRefIdeal := hMixRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutMlp (hOutMlp := hOutMlp)
    ∧ quiescent_OutMlpIdeal (hOutMlpIdeal := hOutMlpIdeal)
    ∧ quiescent_OutMlpRefIdeal (hOutMlpRefIdeal := hOutMlpRefIdeal)
    ∧ quiescent_InProjS (hInProjS := hInProjS)
    ∧ quiescent_InProjSIdeal (hInProjSIdeal := hInProjSIdeal)
    ∧ quiescent_InProjSRefIdeal (hInProjSRefIdeal := hInProjSRefIdeal)
    ∧ quiescent_MixS (hMixS := hMixS)
    ∧ quiescent_MixSIdeal (hMixSIdeal := hMixSIdeal)
    ∧ quiescent_MixSRefIdeal (hMixSRefIdeal := hMixSRefIdeal)
    ∧ quiescent_OutMlpS (hOutMlpS := hOutMlpS)
    ∧ quiescent_OutMlpSIdeal (hOutMlpSIdeal := hOutMlpSIdeal)
    ∧ quiescent_OutMlpSRefIdeal (hOutMlpSRefIdeal := hOutMlpSRefIdeal)
    ∧ quiescent_MixW (hMixW := hMixW)
    ∧ quiescent_MixWIdeal (hMixWIdeal := hMixWIdeal)
    ∧ quiescent_MixWRefIdeal (hMixWRefIdeal := hMixWRefIdeal)
    ∧ preserves_Mix_MixIdeal
    ∧ algebraic_MixIdeal_MixRefIdeal (hMixIdeal := hMixIdeal) (hMixRefIdeal := hMixRefIdeal)
    ∧ preserves_InProj_InProjIdeal
    ∧ algebraic_InProjIdeal_InProjRefIdeal (hInProjIdeal := hInProjIdeal) (hInProjRefIdeal := hInProjRefIdeal)
    ∧ preserves_OutMlp_OutMlpIdeal
    ∧ algebraic_OutMlpIdeal_OutMlpRefIdeal (hOutMlpIdeal := hOutMlpIdeal) (hOutMlpRefIdeal := hOutMlpRefIdeal)
    ∧ preserves_InProjS_InProjSIdeal
    ∧ preserves_MixS_MixSIdeal
    ∧ preserves_OutMlpS_OutMlpSIdeal
    ∧ algebraic_OutMlpSIdeal_OutMlpSRefIdeal (hOutMlpSIdeal := hOutMlpSIdeal) (hOutMlpSRefIdeal := hOutMlpSRefIdeal)
    ∧ preserves_MixW_MixWIdeal
    ∧ algebraic_MixWIdeal_MixWRefIdeal (hMixWIdeal := hMixWIdeal) (hMixWRefIdeal := hMixWRefIdeal)
-- ==== Mix.lean ====
abbrev S32768x1024 : Shape := ⟨2, ![32768, 1024]⟩
abbrev S32768x256 : Shape := ⟨2, ![32768, 256]⟩
abbrev S16 : Shape := ⟨1, ![16]⟩
abbrev S31x1024 : Shape := ⟨2, ![31, 1024]⟩
abbrev S1x1024 : Shape := ⟨2, ![1, 1024]⟩
abbrev S128x1024 : Shape := ⟨2, ![128, 1024]⟩
abbrev S128x256 : Shape := ⟨2, ![128, 256]⟩
abbrev S32x1024 : Shape := ⟨2, ![32, 1024]⟩
abbrev S160x1024 : Shape := ⟨2, ![160, 1024]⟩
abbrev S256x256 : Shape := ⟨2, ![256, 256]⟩
abbrev S1024x256 : Shape := ⟨2, ![1024, 256]⟩
abbrev S1 : Shape := ⟨1, ![1]⟩
abbrev S128 : Shape := ⟨1, ![128]⟩
abbrev S128x1 : Shape := ⟨2, ![128, 1]⟩
abbrev S128x128 : Shape := ⟨2, ![128, 128]⟩
abbrev S1x128 : Shape := ⟨2, ![1, 128]⟩

abbrev nBuf : Space → Nat
  | .hbm => 11
  | .vmem => 23
  | .smem => 1
  | _ => 0

abbrev bufTy : (tb : Table) → Fin (tcTables nBuf tb) → BufTy
  | .hbm, ⟨0, _⟩ => ⟨S32768x1024, .bf16⟩
  | .hbm, ⟨1, _⟩ => ⟨S32768x256, .f32⟩
  | .hbm, ⟨2, _⟩ => ⟨S32768x256, .f32⟩
  | .hbm, ⟨3, _⟩ => ⟨S32768x1024, .f32⟩
  | .hbm, ⟨4, _⟩ => ⟨S16, .f32⟩
  | .hbm, ⟨5, _⟩ => ⟨S31x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S32768x1024, .bf16⟩
  | .hbm, ⟨10, _⟩ => ⟨S32768x1024, .bf16⟩
  | .local _ .vmem, ⟨0, _⟩ => ⟨S128x1024, .bf16⟩
  | .local _ .vmem, ⟨1, _⟩ => ⟨S128x1024, .bf16⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x1024, .f32⟩
  | .local _ .vmem, ⟨11, _⟩ => ⟨S128x1024, .f32⟩
  | .local _ .vmem, ⟨12, _⟩ => ⟨S32x1024, .f32⟩
  | .local _ .vmem, ⟨13, _⟩ => ⟨S32x1024, .f32⟩
  | .local _ .vmem, ⟨14, _⟩ => ⟨S31x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S128x1024, .bf16⟩
  | .local _ .vmem, ⟨19, _⟩ => ⟨S128x1024, .bf16⟩
  | .local _ .vmem, ⟨20, _⟩ => ⟨S128x1024, .bf16⟩
  | .local _ .vmem, ⟨21, _⟩ => ⟨S128x1024, .bf16⟩
  | .local _ .vmem, ⟨22, _⟩ => ⟨S160x1024, .f32⟩
  | .local _ .smem, ⟨0, _⟩ => ⟨S16, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let v2 : BitVec 32 := Scalar.muli v1 c4_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .smem S16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S31x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MixRefIdeal.lean ====
abbrev S32768x1024 : Shape := ⟨2, ![32768, 1024]⟩
abbrev S32768x256 : Shape := ⟨2, ![32768, 256]⟩
abbrev S16 : Shape := ⟨1, ![16]⟩
abbrev S31x1024 : Shape := ⟨2, ![31, 1024]⟩
abbrev S1x1024 : Shape := ⟨2, ![1, 1024]⟩
abbrev S16x16x128x4x4x64 : Shape := ⟨6, ![16, 16, 128, 4, 4, 64]⟩
abbrev S16x16x128x4x64 : Shape := ⟨5, ![16, 16, 128, 4, 64]⟩
abbrev S16x1x128x4x64 : Shape := ⟨5, ![16, 1, 128, 4, 64]⟩
abbrev S_ : Shape := ⟨0, ![]⟩
abbrev S16x15x128x4x64 : Shape := ⟨5, ![16, 15, 128, 4, 64]⟩
abbrev S16x16x256x4x64 : Shape := ⟨5, ![16, 16, 256, 4, 64]⟩
abbrev S16x16x4x256x128x4 : Shape := ⟨6, ![16, 16, 4, 256, 128, 4]⟩
abbrev S16x16x4x4x128x256 : Shape := ⟨6, ![16, 16, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S1x16x1x1x128x256 : Shape := ⟨6, ![1, 16, 1, 1, 128, 256]⟩
abbrev S1x1x4x4x1x1 : Shape := ⟨6, ![1, 1, 4, 4, 1, 1]⟩
abbrev S16x16x4x4x128 : Shape := ⟨5, ![16, 16, 4, 4, 128]⟩
abbrev S16x16x4x4x128x1 : Shape := ⟨6, ![16, 16, 4, 4, 128, 1]⟩
abbrev S16x16x4x64x4x128 : Shape := ⟨6, ![16, 16, 4, 64, 4, 128]⟩
abbrev S16x2048x1024 : Shape := ⟨3, ![16, 2048, 1024]⟩
abbrev S16x2078x1024 : Shape := ⟨3, ![16, 2078, 1024]⟩
abbrev S1024 : Shape := ⟨1, ![1024]⟩
abbrev S1x1x1024 : Shape := ⟨3, ![1, 1, 1024]⟩
abbrev S16x2048 : Shape := ⟨2, ![16, 2048]⟩
abbrev S16x2048x1 : Shape := ⟨3, ![16, 2048, 1]⟩

abbrev nBuf : Space → Nat
  | .hbm => 352
  | .vmem => 0
  | .smem => 0
  | _ => 0

abbrev hbmTy0_0 (i : Nat) : BufTy := match i % 128 with
  | 0 => ⟨S32768x1024, .bf16⟩
  | 1 => ⟨S32768x256, .f32⟩
  | 2 => ⟨S32768x256, .f32⟩
  | 3 => ⟨S32768x1024, .f32⟩
  | 4 => ⟨S16, .f32⟩
  | 5 => ⟨S31x1024, .f32⟩
  | 6 => ⟨S1x1024, .f32⟩
  | 7 => ⟨S1x1024, .f32⟩
  | 8 => ⟨S1x1024, .f32⟩
  | 9 => ⟨S32768x1024, .f32⟩
  | 10 => ⟨S16x16x128x4x4x64, .f32⟩
  | 11 => ⟨S16x16x128x4x64, .f32⟩
  | 12 => ⟨S16x16x128x4x64, .f32⟩
  | 13 => ⟨S16x1x128x4x64, .f32⟩
  | 14 => ⟨S_, .f32⟩
  | 15 => ⟨S16x1x128x4x64, .f32⟩
  | 16 => ⟨S16x15x128x4x64, .f32⟩
  | 17 => ⟨S16x16x128x4x64, .f32⟩
  | 18 => ⟨S16x16x256x4x64, .f32⟩
  | 19 => ⟨S16x1x128x4x64, .f32⟩
  | 20 => ⟨S_, .f32⟩
  | 21 => ⟨S16x1x128x4x64, .f32⟩
  | 22 => ⟨S16x15x128x4x64, .f32⟩
  | 23 => ⟨S16x16x128x4x64, .f32⟩
  | 24 => ⟨S16x16x256x4x64, .f32⟩
  | 25 => ⟨S16x16x4x256x128x4, .f32⟩
  | 26 => ⟨S16x16x4x4x128x256, .f32⟩
  | 27 => ⟨S128, .i32⟩
  | 28 => ⟨S128x1, .i32⟩
  | 29 => ⟨S256, .i32⟩
  | 30 => ⟨S1x256, .i32⟩
  | 31 => ⟨S_, .i32⟩
  | 32 => ⟨S128x1, .i32⟩
  | 33 => ⟨S128x1, .i32⟩
  | 34 => ⟨S128x256, .i32⟩
  | 35 => ⟨S128x256, .i32⟩
  | 36 => ⟨S128x256, .i32⟩
  | 37 => ⟨S_, .i32⟩
  | 38 => ⟨S128x256, .i32⟩
  | 39 => ⟨S128x256, .i1⟩
  | 40 => ⟨S_, .i32⟩
  | 41 => ⟨S128x256, .i32⟩
  | 42 => ⟨S128x256, .i1⟩
  | 43 => ⟨S128x256, .i1⟩
  | 44 => ⟨S16, .i32⟩
  | 45 => ⟨S_, .i32⟩
  | 46 => ⟨S16, .i32⟩
  | 47 => ⟨S16, .i1⟩
  | 48 => ⟨S16x1x1, .i1⟩
  | 49 => ⟨S_, .i32⟩
  | 50 => ⟨S1x256, .i32⟩
  | 51 => ⟨S1x256, .i1⟩
  | 52 => ⟨S1x1x256, .i1⟩
  | 53 => ⟨S16x1x256, .i1⟩
  | 54 => ⟨S16x1x256, .i1⟩
  | 55 => ⟨S16x1x256, .i1⟩
  | 56 => ⟨S1x128x256, .i1⟩
  | 57 => ⟨S16x128x256, .i1⟩
  | 58 => ⟨S16x128x256, .i1⟩
  | 59 => ⟨S16x128x256, .i1⟩
  | 60 => ⟨S1x16x1x1x128x256, .i1⟩
  | 61 => ⟨S1x1x4x4x1x1, .f32⟩
  | 62 => ⟨S_, .f32⟩
  | 63 => ⟨S_, .f32⟩
  | 64 => ⟨S16x16x4x4x128x256, .i1⟩
  | 65 => ⟨S16x16x4x4x128x256, .f32⟩
  | 66 => ⟨S16x16x4x4x128x256, .f32⟩
  | 67 => ⟨S_, .f32⟩
  | 68 => ⟨S16x16x4x4x128, .f32⟩
  | 69 => ⟨S16x16x4x4x128x1, .f32⟩
  | 70 => ⟨S16x16x4x4x128x1, .f32⟩
  | 71 => ⟨S16x16x4x4x128x1, .f32⟩
  | 72 => ⟨S16x16x4x4x128x256, .f32⟩
  | 73 => ⟨S16x16x4x4x128x256, .f32⟩
  | 74 => ⟨S16x16x4x4x128x256, .f32⟩
  | 75 => ⟨S_, .f32⟩
  | 76 => ⟨S16x16x4x4x128, .f32⟩
  | 77 => ⟨S16x16x4x4x128x1, .f32⟩
  | 78 => ⟨S16x16x4x4x128x1, .f32⟩
  | 79 => ⟨S16x16x4x4x128x1, .f32⟩
  | 80 => ⟨S16x16x4x4x128x1, .f32⟩
  | 81 => ⟨S16x16x4x4x128x1, .f32⟩
  | 82 => ⟨S16x16x4x4x128x256, .f32⟩
  | 83 => ⟨S16x16x4x4x128x256, .f32⟩
  | 84 => ⟨S16x16x4x64x4x128, .f32⟩
  | 85 => ⟨S16x16x128x4x4x64, .f32⟩
  | 86 => ⟨S32768x1024, .f32⟩
  | 87 => ⟨S16x2048x1024, .f32⟩
  | 88 => ⟨S_, .i32⟩
  | 89 => ⟨S_, .f32⟩
  | 90 => ⟨S16x2078x1024, .f32⟩
  | 91 => ⟨S16x2048x1024, .f32⟩
  | 92 => ⟨S1x1024, .f32⟩
  | 93 => ⟨S1024, .f32⟩
  | 94 => ⟨S1x1x1024, .f32⟩
  | 95 => ⟨S16x2048x1024, .f32⟩
  | 96 => ⟨S16x2048x1024, .f32⟩
  | 97 => ⟨S_, .f32⟩
  | 98 => ⟨S16x2048x1024, .f32⟩
  | 99 => ⟨S16x2048x1024, .f32⟩
  | 100 => ⟨S16x2048x1024, .f32⟩
  | 101 => ⟨S1x1024, .f32⟩
  | 102 => ⟨S1024, .f32⟩
  | 103 => ⟨S1x1x1024, .f32⟩
  | 104 => ⟨S16x2048x1024, .f32⟩
  | 105 => ⟨S16x2048x1024, .f32⟩
  | 106 => ⟨S16x2048x1024, .f32⟩
  | 107 => ⟨S16x2048x1024, .f32⟩
  | 108 => ⟨S1x1024, .f32⟩
  | 109 => ⟨S1024, .f32⟩
  | 110 => ⟨S1x1x1024, .f32⟩
  | 111 => ⟨S16x2048x1024, .f32⟩
  | 112 => ⟨S16x2048x1024, .f32⟩
  | 113 => ⟨S16x2048x1024, .f32⟩
  | 114 => ⟨S16x2048x1024, .f32⟩
  | 115 => ⟨S1x1024, .f32⟩
  | 116 => ⟨S1024, .f32⟩
  | 117 => ⟨S1x1x1024, .f32⟩
  | 118 => ⟨S16x2048x1024, .f32⟩
  | 119 => ⟨S16x2048x1024, .f32⟩
  | 120 => ⟨S16x2048x1024, .f32⟩
  | 121 => ⟨S16x2048x1024, .f32⟩
  | 122 => ⟨S1x1024, .f32⟩
  | 123 => ⟨S1024, .f32⟩
  | 124 => ⟨S1x1x1024, .f32⟩
  | 125 => ⟨S16x2048x1024, .f32⟩
  | 126 => ⟨S16x2048x1024, .f32⟩
  | 127 => ⟨S16x2048x1024, .f32⟩
  | _ => ⟨S32768x1024, .bf16⟩

abbrev hbmTy0_1 (i : Nat) : BufTy := match i % 128 with
  | 0 => ⟨S16x2048x1024, .f32⟩
  | 1 => ⟨S1x1024, .f32⟩
  | 2 => ⟨S1024, .f32⟩
  | 3 => ⟨S1x1x1024, .f32⟩
  | 4 => ⟨S16x2048x1024, .f32⟩
  | 5 => ⟨S16x2048x1024, .f32⟩
  | 6 => ⟨S16x2048x1024, .f32⟩
  | 7 => ⟨S16x2048x1024, .f32⟩
  | 8 => ⟨S1x1024, .f32⟩
  | 9 => ⟨S1024, .f32⟩
  | 10 => ⟨S1x1x1024, .f32⟩
  | 11 => ⟨S16x2048x1024, .f32⟩
  | 12 => ⟨S16x2048x1024, .f32⟩
  | 13 => ⟨S16x2048x1024, .f32⟩
  | 14 => ⟨S16x2048x1024, .f32⟩
  | 15 => ⟨S1x1024, .f32⟩
  | 16 => ⟨S1024, .f32⟩
  | 17 => ⟨S1x1x1024, .f32⟩
  | 18 => ⟨S16x2048x1024, .f32⟩
  | 19 => ⟨S16x2048x1024, .f32⟩
  | 20 => ⟨S16x2048x1024, .f32⟩
  | 21 => ⟨S16x2048x1024, .f32⟩
  | 22 => ⟨S1x1024, .f32⟩
  | 23 => ⟨S1024, .f32⟩
  | 24 => ⟨S1x1x1024, .f32⟩
  | 25 => ⟨S16x2048x1024, .f32⟩
  | 26 => ⟨S16x2048x1024, .f32⟩
  | 27 => ⟨S16x2048x1024, .f32⟩
  | 28 => ⟨S16x2048x1024, .f32⟩
  | 29 => ⟨S1x1024, .f32⟩
  | 30 => ⟨S1024, .f32⟩
  | 31 => ⟨S1x1x1024, .f32⟩
  | 32 => ⟨S16x2048x1024, .f32⟩
  | 33 => ⟨S16x2048x1024, .f32⟩
  | 34 => ⟨S16x2048x1024, .f32⟩
  | 35 => ⟨S16x2048x1024, .f32⟩
  | 36 => ⟨S1x1024, .f32⟩
  | 37 => ⟨S1024, .f32⟩
  | 38 => ⟨S1x1x1024, .f32⟩
  | 39 => ⟨S16x2048x1024, .f32⟩
  | 40 => ⟨S16x2048x1024, .f32⟩
  | 41 => ⟨S16x2048x1024, .f32⟩
  | 42 => ⟨S16x2048x1024, .f32⟩
  | 43 => ⟨S1x1024, .f32⟩
  | 44 => ⟨S1024, .f32⟩
  | 45 => ⟨S1x1x1024, .f32⟩
  | 46 => ⟨S16x2048x1024, .f32⟩
  | 47 => ⟨S16x2048x1024, .f32⟩
  | 48 => ⟨S16x2048x1024, .f32⟩
  | 49 => ⟨S16x2048x1024, .f32⟩
  | 50 => ⟨S1x1024, .f32⟩
  | 51 => ⟨S1024, .f32⟩
  | 52 => ⟨S1x1x1024, .f32⟩
  | 53 => ⟨S16x2048x1024, .f32⟩
  | 54 => ⟨S16x2048x1024, .f32⟩
  | 55 => ⟨S16x2048x1024, .f32⟩
  | 56 => ⟨S16x2048x1024, .f32⟩
  | 57 => ⟨S1x1024, .f32⟩
  | 58 => ⟨S1024, .f32⟩
  | 59 => ⟨S1x1x1024, .f32⟩
  | 60 => ⟨S16x2048x1024, .f32⟩
  | 61 => ⟨S16x2048x1024, .f32⟩
  | 62 => ⟨S16x2048x1024, .f32⟩
  | 63 => ⟨S16x2048x1024, .f32⟩
  | 64 => ⟨S1x1024, .f32⟩
  | 65 => ⟨S1024, .f32⟩
  | 66 => ⟨S1x1x1024, .f32⟩
  | 67 => ⟨S16x2048x1024, .f32⟩
  | 68 => ⟨S16x2048x1024, .f32⟩
  | 69 => ⟨S16x2048x1024, .f32⟩
  | 70 => ⟨S16x2048x1024, .f32⟩
  | 71 => ⟨S1x1024, .f32⟩
  | 72 => ⟨S1024, .f32⟩
  | 73 => ⟨S1x1x1024, .f32⟩
  | 74 => ⟨S16x2048x1024, .f32⟩
  | 75 => ⟨S16x2048x1024, .f32⟩
  | 76 => ⟨S16x2048x1024, .f32⟩
  | 77 => ⟨S16x2048x1024, .f32⟩
  | 78 => ⟨S1x1024, .f32⟩
  | 79 => ⟨S1024, .f32⟩
  | 80 => ⟨S1x1x1024, .f32⟩
  | 81 => ⟨S16x2048x1024, .f32⟩
  | 82 => ⟨S16x2048x1024, .f32⟩
  | 83 => ⟨S16x2048x1024, .f32⟩
  | 84 => ⟨S16x2048x1024, .f32⟩
  | 85 => ⟨S1x1024, .f32⟩
  | 86 => ⟨S1024, .f32⟩
  | 87 => ⟨S1x1x1024, .f32⟩
  | 88 => ⟨S16x2048x1024, .f32⟩
  | 89 => ⟨S16x2048x1024, .f32⟩
  | 90 => ⟨S16x2048x1024, .f32⟩
  | 91 => ⟨S16x2048x1024, .f32⟩
  | 92 => ⟨S1x1024, .f32⟩
  | 93 => ⟨S1024, .f32⟩
  | 94 => ⟨S1x1x1024, .f32⟩
  | 95 => ⟨S16x2048x1024, .f32⟩
  | 96 => ⟨S16x2048x1024, .f32⟩
  | 97 => ⟨S16x2048x1024, .f32⟩
  | 98 => ⟨S16x2048x1024, .f32⟩
  | 99 => ⟨S1x1024, .f32⟩
  | 100 => ⟨S1024, .f32⟩
  | 101 => ⟨S1x1x1024, .f32⟩
  | 102 => ⟨S16x2048x1024, .f32⟩
  | 103 => ⟨S16x2048x1024, .f32⟩
  | 104 => ⟨S16x2048x1024, .f32⟩
  | 105 => ⟨S16x2048x1024, .f32⟩
  | 106 => ⟨S1x1024, .f32⟩
  | 107 => ⟨S1024, .f32⟩
  | 108 => ⟨S1x1x1024, .f32⟩
  | 109 => ⟨S16x2048x1024, .f32⟩
  | 110 => ⟨S16x2048x1024, .f32⟩
  | 111 => ⟨S16x2048x1024, .f32⟩
  | 112 => ⟨S16x2048x1024, .f32⟩
  | 113 => ⟨S1x1024, .f32⟩
  | 114 => ⟨S1024, .f32⟩
  | 115 => ⟨S1x1x1024, .f32⟩
  | 116 => ⟨S16x2048x1024, .f32⟩
  | 117 => ⟨S16x2048x1024, .f32⟩
  | 118 => ⟨S16x2048x1024, .f32⟩
  | 119 => ⟨S16x2048x1024, .f32⟩
  | 120 => ⟨S1x1024, .f32⟩
  | 121 => ⟨S1024, .f32⟩
  | 122 => ⟨S1x1x1024, .f32⟩
  | 123 => ⟨S16x2048x1024, .f32⟩
  | 124 => ⟨S16x2048x1024, .f32⟩
  | 125 => ⟨S16x2048x1024, .f32⟩
  | 126 => ⟨S16x2048x1024, .f32⟩
  | 127 => ⟨S1x1024, .f32⟩
  | _ => ⟨S32768x1024, .bf16⟩

abbrev hbmTy0_2 (i : Nat) : BufTy := match i % 128 with
  | 0 => ⟨S1024, .f32⟩
  | 1 => ⟨S1x1x1024, .f32⟩
  | 2 => ⟨S16x2048x1024, .f32⟩
  | 3 => ⟨S16x2048x1024, .f32⟩
  | 4 => ⟨S16x2048x1024, .f32⟩
  | 5 => ⟨S16x2048x1024, .f32⟩
  | 6 => ⟨S1x1024, .f32⟩
  | 7 => ⟨S1024, .f32⟩
  | 8 => ⟨S1x1x1024, .f32⟩
  | 9 => ⟨S16x2048x1024, .f32⟩
  | 10 => ⟨S16x2048x1024, .f32⟩
  | 11 => ⟨S16x2048x1024, .f32⟩
  | 12 => ⟨S16x2048x1024, .f32⟩
  | 13 => ⟨S1x1024, .f32⟩
  | 14 => ⟨S1024, .f32⟩
  | 15 => ⟨S1x1x1024, .f32⟩
  | 16 => ⟨S16x2048x1024, .f32⟩
  | 17 => ⟨S16x2048x1024, .f32⟩
  | 18 => ⟨S16x2048x1024, .f32⟩
  | 19 => ⟨S16x2048x1024, .f32⟩
  | 20 => ⟨S1x1024, .f32⟩
  | 21 => ⟨S1024, .f32⟩
  | 22 => ⟨S1x1x1024, .f32⟩
  | 23 => ⟨S16x2048x1024, .f32⟩
  | 24 => ⟨S16x2048x1024, .f32⟩
  | 25 => ⟨S16x2048x1024, .f32⟩
  | 26 => ⟨S16x2048x1024, .f32⟩
  | 27 => ⟨S1x1024, .f32⟩
  | 28 => ⟨S1024, .f32⟩
  | 29 => ⟨S1x1x1024, .f32⟩
  | 30 => ⟨S16x2048x1024, .f32⟩
  | 31 => ⟨S16x2048x1024, .f32⟩
  | 32 => ⟨S16x2048x1024, .f32⟩
  | 33 => ⟨S16x2048x1024, .f32⟩
  | 34 => ⟨S1x1024, .f32⟩
  | 35 => ⟨S1024, .f32⟩
  | 36 => ⟨S1x1x1024, .f32⟩
  | 37 => ⟨S16x2048x1024, .f32⟩
  | 38 => ⟨S16x2048x1024, .f32⟩
  | 39 => ⟨S16x2048x1024, .f32⟩
  | 40 => ⟨S16x2048x1024, .f32⟩
  | 41 => ⟨S1x1024, .f32⟩
  | 42 => ⟨S1024, .f32⟩
  | 43 => ⟨S1x1x1024, .f32⟩
  | 44 => ⟨S16x2048x1024, .f32⟩
  | 45 => ⟨S16x2048x1024, .f32⟩
  | 46 => ⟨S16x2048x1024, .f32⟩
  | 47 => ⟨S16x2048x1024, .f32⟩
  | 48 => ⟨S1x1024, .f32⟩
  | 49 => ⟨S1024, .f32⟩
  | 50 => ⟨S1x1x1024, .f32⟩
  | 51 => ⟨S16x2048x1024, .f32⟩
  | 52 => ⟨S16x2048x1024, .f32⟩
  | 53 => ⟨S16x2048x1024, .f32⟩
  | 54 => ⟨S1x1x1024, .f32⟩
  | 55 => ⟨S16x2048x1024, .f32⟩
  | 56 => ⟨S16x2048x1024, .f32⟩
  | 57 => ⟨S_, .f32⟩
  | 58 => ⟨S16x2048, .f32⟩
  | 59 => ⟨S16x2048x1, .f32⟩
  | 60 => ⟨S_, .f32⟩
  | 61 => ⟨S16x2048x1, .f32⟩
  | 62 => ⟨S16x2048x1, .f32⟩
  | 63 => ⟨S16x2048x1024, .f32⟩
  | 64 => ⟨S16x2048x1024, .f32⟩
  | 65 => ⟨S16x2048x1024, .f32⟩
  | 66 => ⟨S_, .f32⟩
  | 67 => ⟨S16x2048, .f32⟩
  | 68 => ⟨S16x2048x1, .f32⟩
  | 69 => ⟨S_, .f32⟩
  | 70 => ⟨S16x2048x1, .f32⟩
  | 71 => ⟨S16x2048x1, .f32⟩
  | 72 => ⟨S_, .f32⟩
  | 73 => ⟨S16x2048x1, .f32⟩
  | 74 => ⟨S16x2048x1, .f32⟩
  | 75 => ⟨S16x2048x1, .f32⟩
  | 76 => ⟨S16x2048x1024, .f32⟩
  | 77 => ⟨S16x2048x1024, .f32⟩
  | 78 => ⟨S1x1x1024, .f32⟩
  | 79 => ⟨S16x2048x1024, .f32⟩
  | 80 => ⟨S16x2048x1024, .f32⟩
  | 81 => ⟨S1x1x1024, .f32⟩
  | 82 => ⟨S16x2048x1024, .f32⟩
  | 83 => ⟨S16x2048x1024, .f32⟩
  | 84 => ⟨S16x2048x1024, .f32⟩
  | 85 => ⟨S16x2048x1024, .f32⟩
  | 86 => ⟨S_, .f32⟩
  | 87 => ⟨S16x2048x1024, .f32⟩
  | 88 => ⟨S16x2048x1024, .f32⟩
  | 89 => ⟨S_, .f32⟩
  | 90 => ⟨S16x2048x1024, .f32⟩
  | 91 => ⟨S16x2048x1024, .f32⟩
  | 92 => ⟨S16x2048x1024, .f32⟩
  | 93 => ⟨S32768x1024, .f32⟩
  | 94 => ⟨S32768x1024, .bf16⟩
  | 95 => ⟨S32768x1024, .bf16⟩
  | _ => ⟨S32768x1024, .bf16⟩

abbrev hbmTy (i : Nat) : BufTy := match i / 128 with
  | 0 => hbmTy0_0 i
  | 1 => hbmTy0_1 i
  | 2 => hbmTy0_2 i
  | _ => ⟨S32768x1024, .bf16⟩

abbrev bufTy : (tb : Table) → Fin (tcTables nBuf tb) → BufTy
  | .hbm, ⟨i, _⟩ => hbmTy i
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_1 : Ref sig .tc := ⟨.hbm, 37, rfl⟩
abbrev main_v25 : Ref sig .tc := ⟨.hbm, 38, rfl⟩
abbrev main_v26 : Ref sig .tc := ⟨.hbm, 39, rfl⟩
abbrev main_c_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_3 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_5 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_v46 : Ref sig .tc := ⟨.hbm, 66, rfl⟩
abbrev main_cst_6 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_7 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c_8 : Ref sig .tc := ⟨.hbm, 88, rfl⟩
abbrev main_call1_v0 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_9 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_v197 : Ref sig .tc := ⟨.hbm, 222, rfl⟩
abbrev main_v198 : Ref sig .tc := ⟨.hbm, 223, rfl⟩
abbrev main_v199 : Ref sig .tc := ⟨.hbm, 224, rfl⟩
abbrev main_v200 : Ref sig .tc := ⟨.hbm, 225, rfl⟩
abbrev main_v201 : Ref sig .tc := ⟨.hbm, 226, rfl⟩
abbrev main_v202 : Ref sig .tc := ⟨.hbm, 227, rfl⟩
abbrev main_v203 : Ref sig .tc := ⟨.hbm, 228, rfl⟩
abbrev main_v204 : Ref sig .tc := ⟨.hbm, 229, rfl⟩
abbrev main_v205 : Ref sig .tc := ⟨.hbm, 230, rfl⟩
abbrev main_v206 : Ref sig .tc := ⟨.hbm, 231, rfl⟩
abbrev main_v207 : Ref sig .tc := ⟨.hbm, 232, rfl⟩
abbrev main_v208 : Ref sig .tc := ⟨.hbm, 233, rfl⟩
abbrev main_v209 : Ref sig .tc := ⟨.hbm, 234, rfl⟩
abbrev main_v210 : Ref sig .tc := ⟨.hbm, 235, rfl⟩
abbrev main_v211 : Ref sig .tc := ⟨.hbm, 236, rfl⟩
abbrev main_v212 : Ref sig .tc := ⟨.hbm, 237, rfl⟩
abbrev main_v213 : Ref sig .tc := ⟨.hbm, 238, rfl⟩
abbrev main_v214 : Ref sig .tc := ⟨.hbm, 239, rfl⟩
abbrev main_v215 : Ref sig .tc := ⟨.hbm, 240, rfl⟩
abbrev main_v216 : Ref sig .tc := ⟨.hbm, 241, rfl⟩
abbrev main_v217 : Ref sig .tc := ⟨.hbm, 242, rfl⟩
abbrev main_v218 : Ref sig .tc := ⟨.hbm, 243, rfl⟩
abbrev main_v219 : Ref sig .tc := ⟨.hbm, 244, rfl⟩
abbrev main_v220 : Ref sig .tc := ⟨.hbm, 245, rfl⟩
abbrev main_v221 : Ref sig .tc := ⟨.hbm, 246, rfl⟩
abbrev main_v222 : Ref sig .tc := ⟨.hbm, 247, rfl⟩
abbrev main_v223 : Ref sig .tc := ⟨.hbm, 248, rfl⟩
abbrev main_v224 : Ref sig .tc := ⟨.hbm, 249, rfl⟩
abbrev main_v225 : Ref sig .tc := ⟨.hbm, 250, rfl⟩
abbrev main_v226 : Ref sig .tc := ⟨.hbm, 251, rfl⟩
abbrev main_v227 : Ref sig .tc := ⟨.hbm, 252, rfl⟩
abbrev main_v228 : Ref sig .tc := ⟨.hbm, 253, rfl⟩
abbrev main_v229 : Ref sig .tc := ⟨.hbm, 254, rfl⟩
abbrev main_v230 : Ref sig .tc := ⟨.hbm, 255, rfl⟩
abbrev main_v231 : Ref sig .tc := ⟨.hbm, 256, rfl⟩
abbrev main_v232 : Ref sig .tc := ⟨.hbm, 257, rfl⟩
abbrev main_v233 : Ref sig .tc := ⟨.hbm, 258, rfl⟩
abbrev main_v234 : Ref sig .tc := ⟨.hbm, 259, rfl⟩
abbrev main_v235 : Ref sig .tc := ⟨.hbm, 260, rfl⟩
abbrev main_v236 : Ref sig .tc := ⟨.hbm, 261, rfl⟩
abbrev main_v237 : Ref sig .tc := ⟨.hbm, 262, rfl⟩
abbrev main_v238 : Ref sig .tc := ⟨.hbm, 263, rfl⟩
abbrev main_v239 : Ref sig .tc := ⟨.hbm, 264, rfl⟩
abbrev main_v240 : Ref sig .tc := ⟨.hbm, 265, rfl⟩
abbrev main_v241 : Ref sig .tc := ⟨.hbm, 266, rfl⟩
abbrev main_v242 : Ref sig .tc := ⟨.hbm, 267, rfl⟩
abbrev main_v243 : Ref sig .tc := ⟨.hbm, 268, rfl⟩
abbrev main_v244 : Ref sig .tc := ⟨.hbm, 269, rfl⟩
abbrev main_v245 : Ref sig .tc := ⟨.hbm, 270, rfl⟩
abbrev main_v246 : Ref sig .tc := ⟨.hbm, 271, rfl⟩
abbrev main_v247 : Ref sig .tc := ⟨.hbm, 272, rfl⟩
abbrev main_v248 : Ref sig .tc := ⟨.hbm, 273, rfl⟩
abbrev main_v249 : Ref sig .tc := ⟨.hbm, 274, rfl⟩
abbrev main_v250 : Ref sig .tc := ⟨.hbm, 275, rfl⟩
abbrev main_v251 : Ref sig .tc := ⟨.hbm, 276, rfl⟩
abbrev main_v252 : Ref sig .tc := ⟨.hbm, 277, rfl⟩
abbrev main_v253 : Ref sig .tc := ⟨.hbm, 278, rfl⟩
abbrev main_v254 : Ref sig .tc := ⟨.hbm, 279, rfl⟩
abbrev main_v255 : Ref sig .tc := ⟨.hbm, 280, rfl⟩
abbrev main_v256 : Ref sig .tc := ⟨.hbm, 281, rfl⟩
abbrev main_v257 : Ref sig .tc := ⟨.hbm, 282, rfl⟩
abbrev main_v258 : Ref sig .tc := ⟨.hbm, 283, rfl⟩
abbrev main_v259 : Ref sig .tc := ⟨.hbm, 284, rfl⟩
abbrev main_v260 : Ref sig .tc := ⟨.hbm, 285, rfl⟩
abbrev main_v261 : Ref sig .tc := ⟨.hbm, 286, rfl⟩
abbrev main_v262 : Ref sig .tc := ⟨.hbm, 287, rfl⟩
abbrev main_v263 : Ref sig .tc := ⟨.hbm, 288, rfl⟩
abbrev main_v264 : Ref sig .tc := ⟨.hbm, 289, rfl⟩
abbrev main_v265 : Ref sig .tc := ⟨.hbm, 290, rfl⟩
abbrev main_v266 : Ref sig .tc := ⟨.hbm, 291, rfl⟩
abbrev main_v267 : Ref sig .tc := ⟨.hbm, 292, rfl⟩
abbrev main_v268 : Ref sig .tc := ⟨.hbm, 293, rfl⟩
abbrev main_v269 : Ref sig .tc := ⟨.hbm, 294, rfl⟩
abbrev main_v270 : Ref sig .tc := ⟨.hbm, 295, rfl⟩
abbrev main_v271 : Ref sig .tc := ⟨.hbm, 296, rfl⟩
abbrev main_v272 : Ref sig .tc := ⟨.hbm, 297, rfl⟩
abbrev main_v273 : Ref sig .tc := ⟨.hbm, 298, rfl⟩
abbrev main_v274 : Ref sig .tc := ⟨.hbm, 299, rfl⟩
abbrev main_v275 : Ref sig .tc := ⟨.hbm, 300, rfl⟩
abbrev main_v276 : Ref sig .tc := ⟨.hbm, 301, rfl⟩
abbrev main_v277 : Ref sig .tc := ⟨.hbm, 302, rfl⟩
abbrev main_v278 : Ref sig .tc := ⟨.hbm, 303, rfl⟩
abbrev main_v279 : Ref sig .tc := ⟨.hbm, 304, rfl⟩
abbrev main_v280 : Ref sig .tc := ⟨.hbm, 305, rfl⟩
abbrev main_v281 : Ref sig .tc := ⟨.hbm, 306, rfl⟩
abbrev main_v282 : Ref sig .tc := ⟨.hbm, 307, rfl⟩
abbrev main_v283 : Ref sig .tc := ⟨.hbm, 308, rfl⟩
abbrev main_v284 : Ref sig .tc := ⟨.hbm, 309, rfl⟩
abbrev main_v285 : Ref sig .tc := ⟨.hbm, 310, rfl⟩
abbrev main_v286 : Ref sig .tc := ⟨.hbm, 311, rfl⟩
abbrev main_v287 : Ref sig .tc := ⟨.hbm, 312, rfl⟩
abbrev main_cst_10 : Ref sig .tc := ⟨.hbm, 313, rfl⟩
abbrev main_v288 : Ref sig .tc := ⟨.hbm, 314, rfl⟩
abbrev main_v289 : Ref sig .tc := ⟨.hbm, 315, rfl⟩
abbrev main_cst_11 : Ref sig .tc := ⟨.hbm, 316, rfl⟩
abbrev main_v290 : Ref sig .tc := ⟨.hbm, 317, rfl⟩
abbrev main_v291 : Ref sig .tc := ⟨.hbm, 318, rfl⟩
abbrev main_v292 : Ref sig .tc := ⟨.hbm, 319, rfl⟩
abbrev main_v293 : Ref sig .tc := ⟨.hbm, 320, rfl⟩
abbrev main_v294 : Ref sig .tc := ⟨.hbm, 321, rfl⟩
abbrev main_cst_12 : Ref sig .tc := ⟨.hbm, 322, rfl⟩
abbrev main_v295 : Ref sig .tc := ⟨.hbm, 323, rfl⟩
abbrev main_v296 : Ref sig .tc := ⟨.hbm, 324, rfl⟩
abbrev main_cst_13 : Ref sig .tc := ⟨.hbm, 325, rfl⟩
abbrev main_v297 : Ref sig .tc := ⟨.hbm, 326, rfl⟩
abbrev main_v298 : Ref sig .tc := ⟨.hbm, 327, rfl⟩
abbrev main_cst_14 : Ref sig .tc := ⟨.hbm, 328, rfl⟩
abbrev main_v299 : Ref sig .tc := ⟨.hbm, 329, rfl⟩
abbrev main_v300 : Ref sig .tc := ⟨.hbm, 330, rfl⟩
abbrev main_v301 : Ref sig .tc := ⟨.hbm, 331, rfl⟩
abbrev main_v302 : Ref sig .tc := ⟨.hbm, 332, rfl⟩
abbrev main_v303 : Ref sig .tc := ⟨.hbm, 333, rfl⟩
abbrev main_v304 : Ref sig .tc := ⟨.hbm, 334, rfl⟩
abbrev main_v305 : Ref sig .tc := ⟨.hbm, 335, rfl⟩
abbrev main_v306 : Ref sig .tc := ⟨.hbm, 336, rfl⟩
abbrev main_v307 : Ref sig .tc := ⟨.hbm, 337, rfl⟩
abbrev main_v308 : Ref sig .tc := ⟨.hbm, 338, rfl⟩
abbrev main_v309 : Ref sig .tc := ⟨.hbm, 339, rfl⟩
abbrev main_v310 : Ref sig .tc := ⟨.hbm, 340, rfl⟩
abbrev main_v311 : Ref sig .tc := ⟨.hbm, 341, rfl⟩
abbrev main_cst_15 : Ref sig .tc := ⟨.hbm, 342, rfl⟩
abbrev main_v312 : Ref sig .tc := ⟨.hbm, 343, rfl⟩
abbrev main_v313 : Ref sig .tc := ⟨.hbm, 344, rfl⟩
abbrev main_cst_16 : Ref sig .tc := ⟨.hbm, 345, rfl⟩
abbrev main_v314 : Ref sig .tc := ⟨.hbm, 346, rfl⟩
abbrev main_v315 : Ref sig .tc := ⟨.hbm, 347, rfl⟩
abbrev main_v316 : Ref sig .tc := ⟨.hbm, 348, rfl⟩
abbrev main_v317 : Ref sig .tc := ⟨.hbm, 349, rfl⟩
abbrev main_v318 : Ref sig .tc := ⟨.hbm, 350, rfl⟩
abbrev main_v319 : Ref sig .tc := ⟨.hbm, 351, rfl⟩

abbrev nD : Nat := 1
abbrev τ : Topo := Topo.v7x

variable {F : FTy → Type} [FloatOps F]
-- ==== InProj.lean ====
abbrev S16x2048x2048 : Shape := ⟨3, ![16, 2048, 2048]⟩
abbrev S1x2048 : Shape := ⟨2, ![1, 2048]⟩
abbrev S1x2048x3584 : Shape := ⟨3, ![1, 2048, 3584]⟩
abbrev S1x3584 : Shape := ⟨2, ![1, 3584]⟩
abbrev S3584 : Shape := ⟨1, ![3584]⟩
abbrev S2048 : Shape := ⟨1, ![2048]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S32768x2048 : Shape := ⟨2, ![32768, 2048]⟩
abbrev S2048x3584 : Shape := ⟨2, ![2048, 3584]⟩
abbrev S3584x1 : Shape := ⟨2, ![3584, 1]⟩
abbrev S32768x1024 : Shape := ⟨2, ![32768, 1024]⟩
abbrev S32768x256 : Shape := ⟨2, ![32768, 256]⟩
abbrev S512x2048 : Shape := ⟨2, ![512, 2048]⟩
abbrev S512x128 : Shape := ⟨2, ![512, 128]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S2048x1024 : Shape := ⟨2, ![2048, 1024]⟩
abbrev S1x1024 : Shape := ⟨2, ![1, 1024]⟩
abbrev S2048x256 : Shape := ⟨2, ![2048, 256]⟩
abbrev S1x256 : Shape := ⟨2, ![1, 256]⟩

abbrev nBuf : Space → Nat
  | .hbm => 76
  | .vmem => 19
  | .smem => 0
  | _ => 0

abbrev bufTy : (tb : Table) → Fin (tcTables nBuf tb) → BufTy
  | .hbm, ⟨0, _⟩ => ⟨S16x2048x2048, .f32⟩
  | .hbm, ⟨1, _⟩ => ⟨S1x2048, .f32⟩
  | .hbm, ⟨2, _⟩ => ⟨S1x2048x3584, .f32⟩
  | .hbm, ⟨3, _⟩ => ⟨S1x3584, .f32⟩
  | .hbm, ⟨4, _⟩ => ⟨S3584, .i32⟩
  | .hbm, ⟨5, _⟩ => ⟨S3584, .i1⟩
  | .hbm, ⟨6, _⟩ => ⟨S3584, .i1⟩
  | .hbm, ⟨7, _⟩ => ⟨S2048, .i32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S2048, .f32⟩
  | .hbm, ⟨20, _⟩ => ⟨S2048x1, .f32⟩
  | .hbm, ⟨21, _⟩ => ⟨S1x8, .f32⟩
  | .hbm, ⟨22, _⟩ => ⟨S2048x8, .f32⟩
  | .hbm, ⟨23, _⟩ => ⟨S2048x8, .f32⟩
  | .hbm, ⟨24, _⟩ => ⟨S2048x8, .f32⟩
  | .hbm, ⟨25, _⟩ => ⟨S2048x8, .f32⟩
  | .hbm, ⟨26, _⟩ => ⟨S2048x8, .f32⟩
  | .hbm, ⟨27, _⟩ => ⟨S_, .f32⟩
  | .hbm, ⟨28, _⟩ => ⟨S2048x48, .f32⟩
  | .hbm, ⟨29, _⟩ => ⟨S_, .f32⟩
  | .hbm, ⟨30, _⟩ => ⟨S2048x8, .f32⟩
  | .hbm, ⟨31, _⟩ => ⟨S_, .f32⟩
  | .hbm, ⟨32, _⟩ => ⟨S2048x48, .f32⟩
  | .hbm, ⟨33, _⟩ => ⟨S2048x48, .f32⟩
  | .hbm, ⟨34, _⟩ => ⟨S2048x64, .f32⟩
  | .hbm, ⟨35, _⟩ => ⟨S1x2048x1x64, .f32⟩
  | .hbm, ⟨36, _⟩ => ⟨S1x2048x2x64, .f32⟩
  | .hbm, ⟨37, _⟩ => ⟨S2048x128, .f32⟩
  | .hbm, ⟨38, _⟩ => ⟨S_, .f32⟩
  | .hbm, ⟨39, _⟩ => ⟨S2048x48, .f32⟩
  | .hbm, ⟨40, _⟩ => ⟨S2048x48, .f32⟩
  | .hbm, ⟨41, _⟩ => ⟨S2048x64, .f32⟩
  | .hbm, ⟨42, _⟩ => ⟨S1x2048x1x64, .f32⟩
  | .hbm, ⟨43, _⟩ => ⟨S1x2048x2x64, .f32⟩
  | .hbm, ⟨44, _⟩ => ⟨S2048x128, .f32⟩
  | .hbm, ⟨45, _⟩ => ⟨S2048x8, .f32⟩
  | .hbm, ⟨46, _⟩ => ⟨S_, .f32⟩
  | .hbm, ⟨47, _⟩ => ⟨S2048x48, .f32⟩
  | .hbm, ⟨48, _⟩ => ⟨S2048x48, .f32⟩
  | .hbm, ⟨49, _⟩ => ⟨S2048x64, .f32⟩
  | .hbm, ⟨50, _⟩ => ⟨S1x2048x1x64, .f32⟩
  | .hbm, ⟨51, _⟩ => ⟨S1x2048x2x64, .f32⟩
  | .hbm, ⟨52, _⟩ => ⟨S2048x128, .f32⟩
  | .hbm, ⟨53, _⟩ => ⟨S32768x2048, .f32⟩
  | .hbm, ⟨54, _⟩ => ⟨S2048x3584, .f32⟩
  | .hbm, ⟨55, _⟩ => ⟨S_, .i32⟩
  | .hbm, ⟨56, _⟩ => ⟨S3584, .i32⟩
  | .hbm, ⟨57, _⟩ => ⟨S3584, .i32⟩
  | .hbm, ⟨58, _⟩ => ⟨S3584, .i32⟩
  | .hbm, ⟨59, _⟩ => ⟨S3584x1, .i32⟩
  | .hbm, ⟨60, _⟩ => ⟨S2048x3584, .f32⟩
  | .hbm, ⟨61, _⟩ => ⟨S2048x3584, .bf16⟩
  | .hbm, ⟨62, _⟩ => ⟨S3584, .f32⟩
  | .hbm, ⟨63, _⟩ => ⟨S_, .i32⟩
  | .hbm, ⟨64, _⟩ => ⟨S3584, .i32⟩
  | .hbm, ⟨65, _⟩ => ⟨S3584, .i32⟩
  | .hbm, ⟨66, _⟩ => ⟨S3584, .i32⟩
  | .hbm, ⟨67, _⟩ => ⟨S3584x1, .i32⟩
  | .hbm, ⟨68, _⟩ => ⟨S3584, .f32⟩
  | .hbm, ⟨69, _⟩ => ⟨S1x3584, .f32⟩
  | .hbm, ⟨70, _⟩ => ⟨S2048, .f32⟩
  | .hbm, ⟨71, _⟩ => ⟨S1x2048, .f32⟩
  | .hbm, ⟨72, _⟩ => ⟨S32768x1024, .bf16⟩
  | .hbm, ⟨73, _⟩ => ⟨S32768x256, .f32⟩
  | .hbm, ⟨74, _⟩ => ⟨S32768x256, .f32⟩
  | .hbm, ⟨75, _⟩ => ⟨S32768x1024, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x3584, .bf16⟩
  | .local _ .vmem, ⟨4, _⟩ => ⟨S1x3584, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x1024, .bf16⟩
  | .local _ .vmem, ⟨12, _⟩ => ⟨S512x1024, .bf16⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x1024, .f32⟩
  | .local _ .vmem, ⟨18, _⟩ => ⟨S512x1024, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_cst_3 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_9 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_10 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55_0 : Ref sig .tc := ⟨.hbm, 72, rfl⟩
abbrev main_v55_1 : Ref sig .tc := ⟨.hbm, 73, rfl⟩
abbrev main_v55_2 : Ref sig .tc := ⟨.hbm, 74, rfl⟩
abbrev main_v55_3 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InProjRefIdeal.lean ====
abbrev S16x2048x2048 : Shape := ⟨3, ![16, 2048, 2048]⟩
abbrev S1x2048 : Shape := ⟨2, ![1, 2048]⟩
abbrev S1x2048x3584 : Shape := ⟨3, ![1, 2048, 3584]⟩
abbrev S1x3584 : Shape := ⟨2, ![1, 3584]⟩
abbrev S2048 : Shape := ⟨1, ![2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S2048x3584 : Shape := ⟨2, ![2048, 3584]⟩
abbrev S16x2048x3584 : Shape := ⟨3, ![16, 2048, 3584]⟩
abbrev S3584 : Shape := ⟨1, ![3584]⟩
abbrev S1x1x3584 : Shape := ⟨3, ![1, 1, 3584]⟩
abbrev S16x2048x1024 : Shape := ⟨3, ![16, 2048, 1024]⟩
abbrev S16x2048x16x64 : Shape := ⟨4, ![16, 2048, 16, 64]⟩
abbrev S16x2048x256 : Shape := ⟨3, ![16, 2048, 256]⟩
abbrev S16x2048x4x64 : Shape := ⟨4, ![16, 2048, 4, 64]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S1x2048x1x8 : Shape := ⟨4, ![1, 2048, 1, 8]⟩
abbrev S16x2048x16x16 : Shape := ⟨4, ![16, 2048, 16, 16]⟩
abbrev S16x2048x16x8 : Shape := ⟨4, ![16, 2048, 16, 8]⟩
abbrev S16x2048x16x48 : Shape := ⟨4, ![16, 2048, 16, 48]⟩
abbrev S16x2048x4x16 : Shape := ⟨4, ![16, 2048, 4, 16]⟩
abbrev S16x2048x4x8 : Shape := ⟨4, ![16, 2048, 4, 8]⟩
abbrev S16x2048x4x48 : Shape := ⟨4, ![16, 2048, 4, 48]⟩
abbrev S16x2048x4x4x64 : Shape := ⟨5, ![16, 2048, 4, 4, 64]⟩
abbrev S32768x1024 : Shape := ⟨2, ![32768, 1024]⟩
abbrev S32768x256 : Shape := ⟨2, ![32768, 256]⟩

abbrev nBuf : Space → Nat
  | .hbm => 129
  | .vmem => 0
  | .smem => 0
  | _ => 0

abbrev hbmTy0_0 (i : Nat) : BufTy := match i % 128 with
  | 0 => ⟨S16x2048x2048, .f32⟩
  | 1 => ⟨S1x2048, .f32⟩
  | 2 => ⟨S1x2048x3584, .f32⟩
  | 3 => ⟨S1x3584, .f32⟩
  | 4 => ⟨S2048, .i32⟩
  | 5 => ⟨S2048, .f32⟩
  | 6 => ⟨S16x2048x2048, .f32⟩
  | 7 => ⟨S_, .f32⟩
  | 8 => ⟨S16x2048, .f32⟩
  | 9 => ⟨S16x2048x1, .f32⟩
  | 10 => ⟨S_, .f32⟩
  | 11 => ⟨S16x2048x1, .f32⟩
  | 12 => ⟨S16x2048x1, .f32⟩
  | 13 => ⟨S_, .f32⟩
  | 14 => ⟨S16x2048x1, .f32⟩
  | 15 => ⟨S16x2048x1, .f32⟩
  | 16 => ⟨S16x2048x1, .f32⟩
  | 17 => ⟨S16x2048x2048, .f32⟩
  | 18 => ⟨S16x2048x2048, .f32⟩
  | 19 => ⟨S1x1x2048, .f32⟩
  | 20 => ⟨S16x2048x2048, .f32⟩
  | 21 => ⟨S16x2048x2048, .f32⟩
  | 22 => ⟨S2048x3584, .f32⟩
  | 23 => ⟨S16x2048x3584, .f32⟩
  | 24 => ⟨S3584, .f32⟩
  | 25 => ⟨S1x1x3584, .f32⟩
  | 26 => ⟨S16x2048x3584, .f32⟩
  | 27 => ⟨S16x2048x3584, .f32⟩
  | 28 => ⟨S16x2048x1024, .f32⟩
  | 29 => ⟨S16x2048x16x64, .f32⟩
  | 30 => ⟨S16x2048x256, .f32⟩
  | 31 => ⟨S16x2048x4x64, .f32⟩
  | 32 => ⟨S16x2048x256, .f32⟩
  | 33 => ⟨S16x2048x4x64, .f32⟩
  | 34 => ⟨S16x2048x1024, .f32⟩
  | 35 => ⟨S16x2048x1024, .f32⟩
  | 36 => ⟨S16x2048x1024, .f32⟩
  | 37 => ⟨S16x2048x1024, .f32⟩
  | 38 => ⟨S_, .f32⟩
  | 39 => ⟨S16x2048x1024, .f32⟩
  | 40 => ⟨S16x2048x1024, .f32⟩
  | 41 => ⟨S_, .f32⟩
  | 42 => ⟨S16x2048x1024, .f32⟩
  | 43 => ⟨S16x2048x1024, .f32⟩
  | 44 => ⟨S16x2048x1024, .f32⟩
  | 45 => ⟨S8, .f32⟩
  | 46 => ⟨S8, .f32⟩
  | 47 => ⟨S_, .f32⟩
  | 48 => ⟨S8, .f32⟩
  | 49 => ⟨S8, .f32⟩
  | 50 => ⟨S_, .f32⟩
  | 51 => ⟨S8, .f32⟩
  | 52 => ⟨S8, .f32⟩
  | 53 => ⟨S_, .f32⟩
  | 54 => ⟨S8, .f32⟩
  | 55 => ⟨S8, .f32⟩
  | 56 => ⟨S2048, .f32⟩
  | 57 => ⟨S2048x1, .f32⟩
  | 58 => ⟨S1x8, .f32⟩
  | 59 => ⟨S2048x8, .f32⟩
  | 60 => ⟨S2048x8, .f32⟩
  | 61 => ⟨S2048x8, .f32⟩
  | 62 => ⟨S2048x8, .f32⟩
  | 63 => ⟨S1x2048x1x8, .f32⟩
  | 64 => ⟨S2048x8, .f32⟩
  | 65 => ⟨S1x2048x1x8, .f32⟩
  | 66 => ⟨S16x2048x16x16, .f32⟩
  | 67 => ⟨S16x2048x16x8, .f32⟩
  | 68 => ⟨S16x2048x16x8, .f32⟩
  | 69 => ⟨S16x2048x16x8, .f32⟩
  | 70 => ⟨S16x2048x16x8, .f32⟩
  | 71 => ⟨S16x2048x16x8, .f32⟩
  | 72 => ⟨S16x2048x16x8, .f32⟩
  | 73 => ⟨S16x2048x16x8, .f32⟩
  | 74 => ⟨S16x2048x16x8, .f32⟩
  | 75 => ⟨S16x2048x16x8, .f32⟩
  | 76 => ⟨S16x2048x16x8, .f32⟩
  | 77 => ⟨S16x2048x16x8, .f32⟩
  | 78 => ⟨S16x2048x16x8, .f32⟩
  | 79 => ⟨S16x2048x16x16, .f32⟩
  | 80 => ⟨S16x2048x16x48, .f32⟩
  | 81 => ⟨S16x2048x16x64, .f32⟩
  | 82 => ⟨S8, .f32⟩
  | 83 => ⟨S8, .f32⟩
  | 84 => ⟨S_, .f32⟩
  | 85 => ⟨S8, .f32⟩
  | 86 => ⟨S8, .f32⟩
  | 87 => ⟨S_, .f32⟩
  | 88 => ⟨S8, .f32⟩
  | 89 => ⟨S8, .f32⟩
  | 90 => ⟨S_, .f32⟩
  | 91 => ⟨S8, .f32⟩
  | 92 => ⟨S8, .f32⟩
  | 93 => ⟨S2048, .f32⟩
  | 94 => ⟨S2048x1, .f32⟩
  | 95 => ⟨S1x8, .f32⟩
  | 96 => ⟨S2048x8, .f32⟩
  | 97 => ⟨S2048x8, .f32⟩
  | 98 => ⟨S2048x8, .f32⟩
  | 99 => ⟨S2048x8, .f32⟩
  | 100 => ⟨S1x2048x1x8, .f32⟩
  | 101 => ⟨S2048x8, .f32⟩
  | 102 => ⟨S1x2048x1x8, .f32⟩
  | 103 => ⟨S16x2048x4x16, .f32⟩
  | 104 => ⟨S16x2048x4x8, .f32⟩
  | 105 => ⟨S16x2048x4x8, .f32⟩
  | 106 => ⟨S16x2048x4x8, .f32⟩
  | 107 => ⟨S16x2048x4x8, .f32⟩
  | 108 => ⟨S16x2048x4x8, .f32⟩
  | 109 => ⟨S16x2048x4x8, .f32⟩
  | 110 => ⟨S16x2048x4x8, .f32⟩
  | 111 => ⟨S16x2048x4x8, .f32⟩
  | 112 => ⟨S16x2048x4x8, .f32⟩
  | 113 => ⟨S16x2048x4x8, .f32⟩
  | 114 => ⟨S16x2048x4x8, .f32⟩
  | 115 => ⟨S16x2048x4x8, .f32⟩
  | 116 => ⟨S16x2048x4x16, .f32⟩
  | 117 => ⟨S16x2048x4x48, .f32⟩
  | 118 => ⟨S16x2048x4x64, .f32⟩
  | 119 => ⟨S_, .f32⟩
  | 120 => ⟨S16x2048x16x64, .f32⟩
  | 121 => ⟨S16x2048x16x64, .f32⟩
  | 122 => ⟨S16x2048x4x4x64, .f32⟩
  | 123 => ⟨S16x2048x4x4x64, .f32⟩
  | 124 => ⟨S32768x1024, .f32⟩
  | 125 => ⟨S32768x256, .f32⟩
  | 126 => ⟨S32768x256, .f32⟩
  | 127 => ⟨S32768x1024, .f32⟩
  | _ => ⟨S16x2048x2048, .f32⟩

abbrev hbmTy0_1 (i : Nat) : BufTy := match i % 128 with
  | 0 => ⟨S32768x1024, .bf16⟩
  | _ => ⟨S16x2048x2048, .f32⟩

abbrev hbmTy (i : Nat) : BufTy := match i / 128 with
  | 0 => hbmTy0_0 i
  | 1 => hbmTy0_1 i
  | _ => ⟨S16x2048x2048, .f32⟩

abbrev bufTy : (tb : Table) → Fin (tcTables nBuf tb) → BufTy
  | .hbm, ⟨i, _⟩ => hbmTy i
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_2 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_4 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩
abbrev main_cst_6 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_cst_7 : Ref sig .tc := ⟨.hbm, 84, rfl⟩
abbrev main_v72 : Ref sig .tc := ⟨.hbm, 85, rfl⟩
abbrev main_v73 : Ref sig .tc := ⟨.hbm, 86, rfl⟩
abbrev main_cst_8 : Ref sig .tc := ⟨.hbm, 87, rfl⟩
abbrev main_v74 : Ref sig .tc := ⟨.hbm, 88, rfl⟩
abbrev main_v75 : Ref sig .tc := ⟨.hbm, 89, rfl⟩
abbrev main_cst_9 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_cst_10 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩

abbrev nD : Nat := 1
abbrev τ : Topo := Topo.v7x

variable {F : FTy → Type} [FloatOps F]
-- ==== OutMlp.lean ====
abbrev S32768x2048 : Shape := ⟨2, ![32768, 2048]⟩
abbrev S32768x1024 : Shape := ⟨2, ![32768, 1024]⟩
abbrev S1x2048x2048 : Shape := ⟨3, ![1, 2048, 2048]⟩
abbrev S1x2048 : Shape := ⟨2, ![1, 2048]⟩
abbrev S1x2048x8192 : Shape := ⟨3, ![1, 2048, 8192]⟩
abbrev S1x8192x2048 : Shape := ⟨3, ![1, 8192, 2048]⟩
abbrev S2048 : Shape := ⟨1, ![2048]⟩
abbrev S2048x2048 : Shape := ⟨2, ![2048, 2048]⟩
abbrev S_ : Shape := ⟨0, ![]⟩
abbrev S2048x1 : Shape := ⟨2, ![2048, 1]⟩
abbrev S2048x8192 : Shape := ⟨2, ![2048, 8192]⟩
abbrev S8192x2048 : Shape := ⟨2, ![8192, 2048]⟩
abbrev S512x2048 : Shape := ⟨2, ![512, 2048]⟩
abbrev S512x1024 : Shape := ⟨2, ![512, 1024]⟩
abbrev S2048x512 : Shape := ⟨2, ![2048, 512]⟩
abbrev S1024x2048 : Shape := ⟨2, ![1024, 2048]⟩
abbrev S512 : Shape := ⟨1, ![512]⟩
abbrev S512x1 : Shape := ⟨2, ![512, 1]⟩
abbrev S512x512 : Shape := ⟨2, ![512, 512]⟩

abbrev nBuf : Space → Nat
  | .hbm => 29
  | .vmem => 17
  | .smem => 0
  | _ => 0

abbrev bufTy : (tb : Table) → Fin (tcTables nBuf tb) → BufTy
  | .hbm, ⟨0, _⟩ => ⟨S32768x2048, .f32⟩
  | .hbm, ⟨1, _⟩ => ⟨S32768x1024, .bf16⟩
  | .hbm, ⟨2, _⟩ => ⟨S32768x1024, .bf16⟩
  | .hbm, ⟨3, _⟩ => ⟨S1x2048x2048, .f32⟩
  | .hbm, ⟨4, _⟩ => ⟨S1x2048, .f32⟩
  | .hbm, ⟨5, _⟩ => ⟨S1x2048, .f32⟩
  | .hbm, ⟨6, _⟩ => ⟨S1x2048x8192, .f32⟩
  | .hbm, ⟨7, _⟩ => ⟨S1x8192x2048, .f32⟩
  | .hbm, ⟨8, _⟩ => ⟨S2048, .f32⟩
  | .hbm, ⟨9, _⟩ => ⟨S2048, .i32⟩
  | .hbm, ⟨10, _⟩ => ⟨S2048, .i1⟩
  | .hbm, ⟨11, _⟩ => ⟨S2048x2048, .f32⟩
  | .hbm, ⟨12, _⟩ => ⟨S_, .i32⟩
  | .hbm, ⟨13, _⟩ => ⟨S2048, .i32⟩
  | .hbm, ⟨14, _⟩ => ⟨S2048, .i32⟩
  | .hbm, ⟨15, _⟩ => ⟨S2048, .i32⟩
  | .hbm, ⟨16, _⟩ => ⟨S2048x1, .i32⟩
  | .hbm, ⟨17, _⟩ => ⟨S2048x2048, .f32⟩
  | .hbm, ⟨18, _⟩ => ⟨S2048x2048, .bf16⟩
  | .hbm, ⟨19, _⟩ => ⟨S2048x8192, .f32⟩
  | .hbm, ⟨20, _⟩ => ⟨S2048x8192, .bf16⟩
  | .hbm, ⟨21, _⟩ => ⟨S8192x2048, .f32⟩
  | .hbm, ⟨22, _⟩ => ⟨S8192x2048, .bf16⟩
  | .hbm, ⟨23, _⟩ => ⟨S2048, .f32⟩
  | .hbm, ⟨24, _⟩ => ⟨S1x2048, .f32⟩
  | .hbm, ⟨25, _⟩ => ⟨S1x2048, .f32⟩
  | .hbm, ⟨26, _⟩ => ⟨S2048, .f32⟩
  | .hbm, ⟨27, _⟩ => ⟨S1x2048, .f32⟩
  | .hbm, ⟨28, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S2048x2048, .bf16⟩
  | .local _ .vmem, ⟨7, _⟩ => ⟨S1x2048, .f32⟩
  | .local _ .vmem, ⟨8, _⟩ => ⟨S1x2048, .f32⟩
  | .local _ .vmem, ⟨9, _⟩ => ⟨S2048x512, .bf16⟩
  | .local _ .vmem, ⟨10, _⟩ => ⟨S2048x512, .bf16⟩
  | .local _ .vmem, ⟨11, _⟩ => ⟨S512x2048, .bf16⟩
  | .local _ .vmem, ⟨12, _⟩ => ⟨S512x2048, .bf16⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_v0 : Ref sig .tc := ⟨.hbm, 11, rfl⟩
abbrev main_c_1 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![64, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== OutMlpIdeal.lean ====
abbrev S32768x2048 : Shape := ⟨2, ![32768, 2048]⟩
abbrev S32768x1024 : Shape := ⟨2, ![32768, 1024]⟩
abbrev S1x2048x2048 : Shape := ⟨3, ![1, 2048, 2048]⟩
abbrev S1x2048 : Shape := ⟨2, ![1, 2048]⟩
abbrev S1x2048x8192 : Shape := ⟨3, ![1, 2048, 8192]⟩
abbrev S1x8192x2048 : Shape := ⟨3, ![1, 8192, 2048]⟩
abbrev S2048 : Shape := ⟨1, ![2048]⟩
abbrev S2048x2048 : Shape := ⟨2, ![2048, 2048]⟩
abbrev S_ : Shape := ⟨0, ![]⟩
abbrev S2048x1 : Shape := ⟨2, ![2048, 1]⟩
abbrev S2048x8192 : Shape := ⟨2, ![2048, 8192]⟩
abbrev S8192x2048 : Shape := ⟨2, ![8192, 2048]⟩
abbrev S512x2048 : Shape := ⟨2, ![512, 2048]⟩
abbrev S512x1024 : Shape := ⟨2, ![512, 1024]⟩
abbrev S2048x512 : Shape := ⟨2, ![2048, 512]⟩
abbrev S1024x2048 : Shape := ⟨2, ![1024, 2048]⟩
abbrev S512 : Shape := ⟨1, ![512]⟩
abbrev S512x1 : Shape := ⟨2, ![512, 1]⟩
abbrev S512x512 : Shape := ⟨2, ![512, 512]⟩

abbrev nBuf : Space → Nat
  | .hbm => 29
  | .vmem => 17
  | .smem => 0
  | _ => 0

abbrev bufTy : (tb : Table) → Fin (tcTables nBuf tb) → BufTy
  | .hbm, ⟨0, _⟩ => ⟨S32768x2048, .f32⟩
  | .hbm, ⟨1, _⟩ => ⟨S32768x1024, .bf16⟩
  | .hbm, ⟨2, _⟩ => ⟨S32768x1024, .bf16⟩
  | .hbm, ⟨3, _⟩ => ⟨S1x2048x2048, .f32⟩
  | .hbm, ⟨4, _⟩ => ⟨S1x2048, .f32⟩
  | .hbm, ⟨5, _⟩ => ⟨S1x2048, .f32⟩
  | .hbm, ⟨6, _⟩ => ⟨S1x2048x8192, .f32⟩
  | .hbm, ⟨7, _⟩ => ⟨S1x8192x2048, .f32⟩
  | .hbm, ⟨8, _⟩ => ⟨S2048, .f32⟩
  | .hbm, ⟨9, _⟩ => ⟨S2048, .i32⟩
  | .hbm, ⟨10, _⟩ => ⟨S2048, .i1⟩
  | .hbm, ⟨11, _⟩ => ⟨S2048x2048, .f32⟩
  | .hbm, ⟨12, _⟩ => ⟨S_, .i32⟩
  | .hbm, ⟨13, _⟩ => ⟨S2048, .i32⟩
  | .hbm, ⟨14, _⟩ => ⟨S2048, .i32⟩
  | .hbm, ⟨15, _⟩ => ⟨S2048, .i32⟩
  | .hbm, ⟨16, _⟩ => ⟨S2048x1, .i32⟩
  | .hbm, ⟨17, _⟩ => ⟨S2048x2048, .f32⟩
  | .hbm, ⟨18, _⟩ => ⟨S2048x2048, .bf16⟩
  | .hbm, ⟨19, _⟩ => ⟨S2048x8192, .f32⟩
  | .hbm, ⟨20, _⟩ => ⟨S2048x8192, .bf16⟩
  | .hbm, ⟨21, _⟩ => ⟨S8192x2048, .f32⟩
  | .hbm, ⟨22, _⟩ => ⟨S8192x2048, .bf16⟩
  | .hbm, ⟨23, _⟩ => ⟨S2048, .f32⟩
  | .hbm, ⟨24, _⟩ => ⟨S1x2048, .f32⟩
  | .hbm, ⟨25, _⟩ => ⟨S1x2048, .f32⟩
  | .hbm, ⟨26, _⟩ => ⟨S2048, .f32⟩
  | .hbm, ⟨27, _⟩ => ⟨S1x2048, .f32⟩
  | .hbm, ⟨28, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S2048x2048, .bf16⟩
  | .local _ .vmem, ⟨7, _⟩ => ⟨S1x2048, .f32⟩
  | .local _ .vmem, ⟨8, _⟩ => ⟨S1x2048, .f32⟩
  | .local _ .vmem, ⟨9, _⟩ => ⟨S2048x512, .bf16⟩
  | .local _ .vmem, ⟨10, _⟩ => ⟨S2048x512, .bf16⟩
  | .local _ .vmem, ⟨11, _⟩ => ⟨S512x2048, .bf16⟩
  | .local _ .vmem, ⟨12, _⟩ => ⟨S512x2048, .bf16⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_v0 : Ref sig .tc := ⟨.hbm, 11, rfl⟩
abbrev main_c_1 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![64, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== OutMlpRefIdeal.lean ====
abbrev S32768x2048 : Shape := ⟨2, ![32768, 2048]⟩
abbrev S32768x1024 : Shape := ⟨2, ![32768, 1024]⟩
abbrev S1x2048x2048 : Shape := ⟨3, ![1, 2048, 2048]⟩
abbrev S1x2048 : Shape := ⟨2, ![1, 2048]⟩
abbrev S1x2048x8192 : Shape := ⟨3, ![1, 2048, 8192]⟩
abbrev S1x8192x2048 : Shape := ⟨3, ![1, 8192, 2048]⟩
abbrev S2048 : Shape := ⟨1, ![2048]⟩
abbrev S32768x4x4x64 : Shape := ⟨4, ![32768, 4, 4, 64]⟩
abbrev S2048x2048 : Shape := ⟨2, ![2048, 2048]⟩
abbrev S_ : Shape := ⟨0, ![]⟩
abbrev S32768 : Shape := ⟨1, ![32768]⟩
abbrev S32768x1 : Shape := ⟨2, ![32768, 1]⟩
abbrev S2048x8192 : Shape := ⟨2, ![2048, 8192]⟩
abbrev S32768x8192 : Shape := ⟨2, ![32768, 8192]⟩
abbrev S8192x2048 : Shape := ⟨2, ![8192, 2048]⟩

abbrev nBuf : Space → Nat
  | .hbm => 64
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x1024, .bf16⟩
  | .hbm, ⟨2, _⟩ => ⟨S32768x1024, .bf16⟩
  | .hbm, ⟨3, _⟩ => ⟨S1x2048x2048, .f32⟩
  | .hbm, ⟨4, _⟩ => ⟨S1x2048, .f32⟩
  | .hbm, ⟨5, _⟩ => ⟨S1x2048, .f32⟩
  | .hbm, ⟨6, _⟩ => ⟨S1x2048x8192, .f32⟩
  | .hbm, ⟨7, _⟩ => ⟨S1x8192x2048, .f32⟩
  | .hbm, ⟨8, _⟩ => ⟨S2048, .f32⟩
  | .hbm, ⟨9, _⟩ => ⟨S32768x1024, .f32⟩
  | .hbm, ⟨10, _⟩ => ⟨S32768x4x4x64, .f32⟩
  | .hbm, ⟨11, _⟩ => ⟨S32768x4x4x64, .f32⟩
  | .hbm, ⟨12, _⟩ => ⟨S32768x1024, .f32⟩
  | .hbm, ⟨13, _⟩ => ⟨S32768x1024, .f32⟩
  | .hbm, ⟨14, _⟩ => ⟨S32768x2048, .f32⟩
  | .hbm, ⟨15, _⟩ => ⟨S2048x2048, .f32⟩
  | .hbm, ⟨16, _⟩ => ⟨S32768x2048, .f32⟩
  | .hbm, ⟨17, _⟩ => ⟨S32768x2048, .f32⟩
  | .hbm, ⟨18, _⟩ => ⟨S2048, .f32⟩
  | .hbm, ⟨19, _⟩ => ⟨S1x2048, .f32⟩
  | .hbm, ⟨20, _⟩ => ⟨S32768x2048, .f32⟩
  | .hbm, ⟨21, _⟩ => ⟨S32768x2048, .f32⟩
  | .hbm, ⟨22, _⟩ => ⟨S2048, .f32⟩
  | .hbm, ⟨23, _⟩ => ⟨S32768x2048, .f32⟩
  | .hbm, ⟨24, _⟩ => ⟨S_, .f32⟩
  | .hbm, ⟨25, _⟩ => ⟨S32768, .f32⟩
  | .hbm, ⟨26, _⟩ => ⟨S32768x1, .f32⟩
  | .hbm, ⟨27, _⟩ => ⟨S_, .f32⟩
  | .hbm, ⟨28, _⟩ => ⟨S32768x1, .f32⟩
  | .hbm, ⟨29, _⟩ => ⟨S32768x1, .f32⟩
  | .hbm, ⟨30, _⟩ => ⟨S_, .f32⟩
  | .hbm, ⟨31, _⟩ => ⟨S32768x1, .f32⟩
  | .hbm, ⟨32, _⟩ => ⟨S32768x1, .f32⟩
  | .hbm, ⟨33, _⟩ => ⟨S32768x1, .f32⟩
  | .hbm, ⟨34, _⟩ => ⟨S32768x2048, .f32⟩
  | .hbm, ⟨35, _⟩ => ⟨S32768x2048, .f32⟩
  | .hbm, ⟨36, _⟩ => ⟨S1x2048, .f32⟩
  | .hbm, ⟨37, _⟩ => ⟨S32768x2048, .f32⟩
  | .hbm, ⟨38, _⟩ => ⟨S32768x2048, .f32⟩
  | .hbm, ⟨39, _⟩ => ⟨S2048x8192, .f32⟩
  | .hbm, ⟨40, _⟩ => ⟨S32768x8192, .f32⟩
  | .hbm, ⟨41, _⟩ => ⟨S_, .f32⟩
  | .hbm, ⟨42, _⟩ => ⟨S32768x8192, .f32⟩
  | .hbm, ⟨43, _⟩ => ⟨S32768x8192, .f32⟩
  | .hbm, ⟨44, _⟩ => ⟨S32768x8192, .f32⟩
  | .hbm, ⟨45, _⟩ => ⟨S8192x2048, .f32⟩
  | .hbm, ⟨46, _⟩ => ⟨S32768x2048, .f32⟩
  | .hbm, ⟨47, _⟩ => ⟨S32768x2048, .f32⟩
  | .hbm, ⟨48, _⟩ => ⟨S32768x2048, .f32⟩
  | .hbm, ⟨49, _⟩ => ⟨S_, .f32⟩
  | .hbm, ⟨50, _⟩ => ⟨S32768, .f32⟩
  | .hbm, ⟨51, _⟩ => ⟨S32768x1, .f32⟩
  | .hbm, ⟨52, _⟩ => ⟨S_, .f32⟩
  | .hbm, ⟨53, _⟩ => ⟨S32768x1, .f32⟩
  | .hbm, ⟨54, _⟩ => ⟨S32768x1, .f32⟩
  | .hbm, ⟨55, _⟩ => ⟨S_, .f32⟩
  | .hbm, ⟨56, _⟩ => ⟨S32768x1, .f32⟩
  | .hbm, ⟨57, _⟩ => ⟨S32768x1, .f32⟩
  | .hbm, ⟨58, _⟩ => ⟨S32768x1, .f32⟩
  | .hbm, ⟨59, _⟩ => ⟨S32768x2048, .f32⟩
  | .hbm, ⟨60, _⟩ => ⟨S32768x2048, .f32⟩
  | .hbm, ⟨61, _⟩ => ⟨S1x2048, .f32⟩
  | .hbm, ⟨62, _⟩ => ⟨S32768x2048, .f32⟩
  | .hbm, ⟨63, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_cst : Ref sig .tc := ⟨.hbm, 41, rfl⟩
abbrev main_call0_v0 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_2 : Ref sig .tc := ⟨.hbm, 49, rfl⟩
abbrev main_v35 : Ref sig .tc := ⟨.hbm, 50, rfl⟩
abbrev main_v36 : Ref sig .tc := ⟨.hbm, 51, rfl⟩
abbrev main_cst_3 : Ref sig .tc := ⟨.hbm, 52, rfl⟩
abbrev main_v37 : Ref sig .tc := ⟨.hbm, 53, rfl⟩
abbrev main_v38 : Ref sig .tc := ⟨.hbm, 54, rfl⟩
abbrev main_cst_4 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== InProjS.lean ====
abbrev S128x1x2048 : Shape := ⟨3, ![128, 1, 2048]⟩
abbrev S1x2048 : Shape := ⟨2, ![1, 2048]⟩
abbrev S1x2048x3584 : Shape := ⟨3, ![1, 2048, 3584]⟩
abbrev S1x3584 : Shape := ⟨2, ![1, 3584]⟩
abbrev S3584 : Shape := ⟨1, ![3584]⟩
abbrev S1 : Shape := ⟨1, ![1]⟩
abbrev S_ : Shape := ⟨0, ![]⟩
abbrev S8 : Shape := ⟨1, ![8]⟩
abbrev S1x1 : Shape := ⟨2, ![1, 1]⟩
abbrev S1x8 : Shape := ⟨2, ![1, 8]⟩
abbrev S1x48 : Shape := ⟨2, ![1, 48]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S128x128 : Shape := ⟨2, ![128, 128]⟩
abbrev S128x2048 : Shape := ⟨2, ![128, 2048]⟩
abbrev S2048x3584 : Shape := ⟨2, ![2048, 3584]⟩
abbrev S3584x1 : Shape := ⟨2, ![3584, 1]⟩
abbrev S2048 : Shape := ⟨1, ![2048]⟩
abbrev S128x1024 : Shape := ⟨2, ![128, 1024]⟩
abbrev S128x256 : Shape := ⟨2, ![128, 256]⟩
abbrev S128 : Shape := ⟨1, ![128]⟩
abbrev S128x1 : Shape := ⟨2, ![128, 1]⟩
abbrev S2048x1024 : Shape := ⟨2, ![2048, 1024]⟩
abbrev S1x1024 : Shape := ⟨2, ![1, 1024]⟩
abbrev S2048x256 : Shape := ⟨2, ![2048, 256]⟩
abbrev S1x256 : Shape := ⟨2, ![1, 256]⟩

abbrev nBuf : Space → Nat
  | .hbm => 81
  | .vmem => 11
  | .smem => 0
  | _ => 0

abbrev bufTy : (tb : Table) → Fin (tcTables nBuf tb) → BufTy
  | .hbm, ⟨0, _⟩ => ⟨S128x1x2048, .f32⟩
  | .hbm, ⟨1, _⟩ => ⟨S1x2048, .f32⟩
  | .hbm, ⟨2, _⟩ => ⟨S1x2048x3584, .f32⟩
  | .hbm, ⟨3, _⟩ => ⟨S1x3584, .f32⟩
  | .hbm, ⟨4, _⟩ => ⟨S3584, .i32⟩
  | .hbm, ⟨5, _⟩ => ⟨S3584, .i1⟩
  | .hbm, ⟨6, _⟩ => ⟨S3584, .i1⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S1, .i32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S1, .f32⟩
  | .hbm, ⟨23, _⟩ => ⟨S1x1, .f32⟩
  | .hbm, ⟨24, _⟩ => ⟨S1x8, .f32⟩
  | .hbm, ⟨25, _⟩ => ⟨S1x8, .f32⟩
  | .hbm, ⟨26, _⟩ => ⟨S1x8, .f32⟩
  | .hbm, ⟨27, _⟩ => ⟨S1x8, .f32⟩
  | .hbm, ⟨28, _⟩ => ⟨S1x8, .f32⟩
  | .hbm, ⟨29, _⟩ => ⟨S_, .f32⟩
  | .hbm, ⟨30, _⟩ => ⟨S1x48, .f32⟩
  | .hbm, ⟨31, _⟩ => ⟨S_, .f32⟩
  | .hbm, ⟨32, _⟩ => ⟨S1x8, .f32⟩
  | .hbm, ⟨33, _⟩ => ⟨S_, .f32⟩
  | .hbm, ⟨34, _⟩ => ⟨S1x48, .f32⟩
  | .hbm, ⟨35, _⟩ => ⟨S1x48, .f32⟩
  | .hbm, ⟨36, _⟩ => ⟨S1x64, .f32⟩
  | .hbm, ⟨37, _⟩ => ⟨S1x1x1x64, .f32⟩
  | .hbm, ⟨38, _⟩ => ⟨S1x1x2x64, .f32⟩
  | .hbm, ⟨39, _⟩ => ⟨S1x128, .f32⟩
  | .hbm, ⟨40, _⟩ => ⟨S_, .f32⟩
  | .hbm, ⟨41, _⟩ => ⟨S1x48, .f32⟩
  | .hbm, ⟨42, _⟩ => ⟨S1x48, .f32⟩
  | .hbm, ⟨43, _⟩ => ⟨S1x64, .f32⟩
  | .hbm, ⟨44, _⟩ => ⟨S1x1x1x64, .f32⟩
  | .hbm, ⟨45, _⟩ => ⟨S1x1x2x64, .f32⟩
  | .hbm, ⟨46, _⟩ => ⟨S1x128, .f32⟩
  | .hbm, ⟨47, _⟩ => ⟨S1x8, .f32⟩
  | .hbm, ⟨48, _⟩ => ⟨S_, .f32⟩
  | .hbm, ⟨49, _⟩ => ⟨S1x48, .f32⟩
  | .hbm, ⟨50, _⟩ => ⟨S1x48, .f32⟩
  | .hbm, ⟨51, _⟩ => ⟨S1x64, .f32⟩
  | .hbm, ⟨52, _⟩ => ⟨S1x1x1x64, .f32⟩
  | .hbm, ⟨53, _⟩ => ⟨S1x1x2x64, .f32⟩
  | .hbm, ⟨54, _⟩ => ⟨S1x128, .f32⟩
  | .hbm, ⟨55, _⟩ => ⟨S128x128, .f32⟩
  | .hbm, ⟨56, _⟩ => ⟨S128x128, .f32⟩
  | .hbm, ⟨57, _⟩ => ⟨S128x128, .f32⟩
  | .hbm, ⟨58, _⟩ => ⟨S128x2048, .f32⟩
  | .hbm, ⟨59, _⟩ => ⟨S2048x3584, .f32⟩
  | .hbm, ⟨60, _⟩ => ⟨S_, .i32⟩
  | .hbm, ⟨61, _⟩ => ⟨S3584, .i32⟩
  | .hbm, ⟨62, _⟩ => ⟨S3584, .i32⟩
  | .hbm, ⟨63, _⟩ => ⟨S3584, .i32⟩
  | .hbm, ⟨64, _⟩ => ⟨S3584x1, .i32⟩
  | .hbm, ⟨65, _⟩ => ⟨S2048x3584, .f32⟩
  | .hbm, ⟨66, _⟩ => ⟨S2048x3584, .bf16⟩
  | .hbm, ⟨67, _⟩ => ⟨S3584, .f32⟩
  | .hbm, ⟨68, _⟩ => ⟨S_, .i32⟩
  | .hbm, ⟨69, _⟩ => ⟨S3584, .i32⟩
  | .hbm, ⟨70, _⟩ => ⟨S3584, .i32⟩
  | .hbm, ⟨71, _⟩ => ⟨S3584, .i32⟩
  | .hbm, ⟨72, _⟩ => ⟨S3584x1, .i32⟩
  | .hbm, ⟨73, _⟩ => ⟨S3584, .f32⟩
  | .hbm, ⟨74, _⟩ => ⟨S1x3584, .f32⟩
  | .hbm, ⟨75, _⟩ => ⟨S2048, .f32⟩
  | .hbm, ⟨76, _⟩ => ⟨S1x2048, .f32⟩
  | .hbm, ⟨77, _⟩ => ⟨S128x1024, .f32⟩
  | .hbm, ⟨78, _⟩ => ⟨S128x256, .f32⟩
  | .hbm, ⟨79, _⟩ => ⟨S128x256, .f32⟩
  | .hbm, ⟨80, _⟩ => ⟨S128x1024, .f32⟩
  | .local _ .vmem, ⟨0, _⟩ => ⟨S128x2048, .f32⟩
  | .local _ .vmem, ⟨1, _⟩ => ⟨S1x2048, .f32⟩
  | .local _ .vmem, ⟨2, _⟩ => ⟨S2048x3584, .bf16⟩
  | .local _ .vmem, ⟨3, _⟩ => ⟨S1x3584, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x1024, .f32⟩
  | .local _ .vmem, ⟨8, _⟩ => ⟨S128x256, .f32⟩
  | .local _ .vmem, ⟨9, _⟩ => ⟨S128x256, .f32⟩
  | .local _ .vmem, ⟨10, _⟩ => ⟨S128x1024, .f32⟩
  | _, _ => ⟨S128x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v0 : Ref sig .tc := ⟨.hbm, 7, rfl⟩
abbrev main_c_2 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_3 : Ref sig .tc := ⟨.hbm, 16, rfl⟩
abbrev main_v7 : Ref sig .tc := ⟨.hbm, 17, rfl⟩
abbrev main_v8 : Ref sig .tc := ⟨.hbm, 18, rfl⟩
abbrev main_cst_4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_cst_7 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_9 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c_11 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59_0 : Ref sig .tc := ⟨.hbm, 77, rfl⟩
abbrev main_v59_1 : Ref sig .tc := ⟨.hbm, 78, rfl⟩
abbrev main_v59_2 : Ref sig .tc := ⟨.hbm, 79, rfl⟩
abbrev main_v59_3 : Ref sig .tc := ⟨.hbm, 80, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== InProjSRefIdeal.lean ====
abbrev S128x1x2048 : Shape := ⟨3, ![128, 1, 2048]⟩
abbrev S1x2048 : Shape := ⟨2, ![1, 2048]⟩
abbrev S1x2048x3584 : Shape := ⟨3, ![1, 2048, 3584]⟩
abbrev S1x3584 : Shape := ⟨2, ![1, 3584]⟩
abbrev S1 : Shape := ⟨1, ![1]⟩
abbrev S_ : Shape := ⟨0, ![]⟩
abbrev S2048 : Shape := ⟨1, ![2048]⟩
abbrev S128x1 : Shape := ⟨2, ![128, 1]⟩
abbrev S128x1x1 : Shape := ⟨3, ![128, 1, 1]⟩
abbrev S1x1x2048 : Shape := ⟨3, ![1, 1, 2048]⟩
abbrev S2048x3584 : Shape := ⟨2, ![2048, 3584]⟩
abbrev S128x1x3584 : Shape := ⟨3, ![128, 1, 3584]⟩
abbrev S3584 : Shape := ⟨1, ![3584]⟩
abbrev S1x1x3584 : Shape := ⟨3, ![1, 1, 3584]⟩
abbrev S128x1x1024 : Shape := ⟨3, ![128, 1, 1024]⟩
abbrev S128x1x16x64 : Shape := ⟨4, ![128, 1, 16, 64]⟩
abbrev S128x1x256 : Shape := ⟨3, ![128, 1, 256]⟩
abbrev S128x1x4x64 : Shape := ⟨4, ![128, 1, 4, 64]⟩
abbrev S8 : Shape := ⟨1, ![8]⟩
abbrev S1x1 : Shape := ⟨2, ![1, 1]⟩
abbrev S1x8 : Shape := ⟨2, ![1, 8]⟩
abbrev S1x1x1x8 : Shape := ⟨4, ![1, 1, 1, 8]⟩
abbrev S128x1x16x16 : Shape := ⟨4, ![128, 1, 16, 16]⟩
abbrev S128x1x16x8 : Shape := ⟨4, ![128, 1, 16, 8]⟩
abbrev S128x1x16x48 : Shape := ⟨4, ![128, 1, 16, 48]⟩
abbrev S128x1x4x16 : Shape := ⟨4, ![128, 1, 4, 16]⟩
abbrev S128x1x4x8 : Shape := ⟨4, ![128, 1, 4, 8]⟩
abbrev S128x1x4x48 : Shape := ⟨4, ![128, 1, 4, 48]⟩
abbrev S128x1x4x4x64 : Shape := ⟨5, ![128, 1, 4, 4, 64]⟩
abbrev S128x1024 : Shape := ⟨2, ![128, 1024]⟩
abbrev S128x256 : Shape := ⟨2, ![128, 256]⟩

abbrev nBuf : Space → Nat
  | .hbm => 129
  | .vmem => 0
  | .smem => 0
  | _ => 0

abbrev hbmTy0_0 (i : Nat) : BufTy := match i % 128 with
  | 0 => ⟨S128x1x2048, .f32⟩
  | 1 => ⟨S1x2048, .f32⟩
  | 2 => ⟨S1x2048x3584, .f32⟩
  | 3 => ⟨S1x3584, .f32⟩
  | 4 => ⟨S1, .i32⟩
  | 5 => ⟨S_, .i32⟩
  | 6 => ⟨S1, .i32⟩
  | 7 => ⟨S1, .i32⟩
  | 8 => ⟨S2048, .f32⟩
  | 9 => ⟨S128x1x2048, .f32⟩
  | 10 => ⟨S_, .f32⟩
  | 11 => ⟨S128x1, .f32⟩
  | 12 => ⟨S128x1x1, .f32⟩
  | 13 => ⟨S_, .f32⟩
  | 14 => ⟨S128x1x1, .f32⟩
  | 15 => ⟨S128x1x1, .f32⟩
  | 16 => ⟨S_, .f32⟩
  | 17 => ⟨S128x1x1, .f32⟩
  | 18 => ⟨S128x1x1, .f32⟩
  | 19 => ⟨S128x1x1, .f32⟩
  | 20 => ⟨S128x1x2048, .f32⟩
  | 21 => ⟨S128x1x2048, .f32⟩
  | 22 => ⟨S1x1x2048, .f32⟩
  | 23 => ⟨S128x1x2048, .f32⟩
  | 24 => ⟨S128x1x2048, .f32⟩
  | 25 => ⟨S2048x3584, .f32⟩
  | 26 => ⟨S128x1x3584, .f32⟩
  | 27 => ⟨S3584, .f32⟩
  | 28 => ⟨S1x1x3584, .f32⟩
  | 29 => ⟨S128x1x3584, .f32⟩
  | 30 => ⟨S128x1x3584, .f32⟩
  | 31 => ⟨S128x1x1024, .f32⟩
  | 32 => ⟨S128x1x16x64, .f32⟩
  | 33 => ⟨S128x1x256, .f32⟩
  | 34 => ⟨S128x1x4x64, .f32⟩
  | 35 => ⟨S128x1x256, .f32⟩
  | 36 => ⟨S128x1x4x64, .f32⟩
  | 37 => ⟨S128x1x1024, .f32⟩
  | 38 => ⟨S128x1x1024, .f32⟩
  | 39 => ⟨S128x1x1024, .f32⟩
  | 40 => ⟨S128x1x1024, .f32⟩
  | 41 => ⟨S_, .f32⟩
  | 42 => ⟨S128x1x1024, .f32⟩
  | 43 => ⟨S128x1x1024, .f32⟩
  | 44 => ⟨S_, .f32⟩
  | 45 => ⟨S128x1x1024, .f32⟩
  | 46 => ⟨S128x1x1024, .f32⟩
  | 47 => ⟨S128x1x1024, .f32⟩
  | 48 => ⟨S8, .f32⟩
  | 49 => ⟨S8, .f32⟩
  | 50 => ⟨S_, .f32⟩
  | 51 => ⟨S8, .f32⟩
  | 52 => ⟨S8, .f32⟩
  | 53 => ⟨S_, .f32⟩
  | 54 => ⟨S8, .f32⟩
  | 55 => ⟨S8, .f32⟩
  | 56 => ⟨S_, .f32⟩
  | 57 => ⟨S8, .f32⟩
  | 58 => ⟨S8, .f32⟩
  | 59 => ⟨S1, .f32⟩
  | 60 => ⟨S1x1, .f32⟩
  | 61 => ⟨S1x8, .f32⟩
  | 62 => ⟨S1x8, .f32⟩
  | 63 => ⟨S1x8, .f32⟩
  | 64 => ⟨S1x8, .f32⟩
  | 65 => ⟨S1x1x1x8, .f32⟩
  | 66 => ⟨S1x8, .f32⟩
  | 67 => ⟨S1x1x1x8, .f32⟩
  | 68 => ⟨S128x1x16x16, .f32⟩
  | 69 => ⟨S128x1x16x8, .f32⟩
  | 70 => ⟨S128x1x16x8, .f32⟩
  | 71 => ⟨S128x1x16x8, .f32⟩
  | 72 => ⟨S128x1x16x8, .f32⟩
  | 73 => ⟨S128x1x16x8, .f32⟩
  | 74 => ⟨S128x1x16x8, .f32⟩
  | 75 => ⟨S128x1x16x8, .f32⟩
  | 76 => ⟨S128x1x16x8, .f32⟩
  | 77 => ⟨S128x1x16x8, .f32⟩
  | 78 => ⟨S128x1x16x8, .f32⟩
  | 79 => ⟨S128x1x16x8, .f32⟩
  | 80 => ⟨S128x1x16x8, .f32⟩
  | 81 => ⟨S128x1x16x16, .f32⟩
  | 82 => ⟨S128x1x16x48, .f32⟩
  | 83 => ⟨S128x1x16x64, .f32⟩
  | 84 => ⟨S8, .f32⟩
  | 85 => ⟨S8, .f32⟩
  | 86 => ⟨S_, .f32⟩
  | 87 => ⟨S8, .f32⟩
  | 88 => ⟨S8, .f32⟩
  | 89 => ⟨S_, .f32⟩
  | 90 => ⟨S8, .f32⟩
  | 91 => ⟨S8, .f32⟩
  | 92 => ⟨S_, .f32⟩
  | 93 => ⟨S8, .f32⟩
  | 94 => ⟨S8, .f32⟩
  | 95 => ⟨S1, .f32⟩
  | 96 => ⟨S1x1, .f32⟩
  | 97 => ⟨S1x8, .f32⟩
  | 98 => ⟨S1x8, .f32⟩
  | 99 => ⟨S1x8, .f32⟩
  | 100 => ⟨S1x8, .f32⟩
  | 101 => ⟨S1x1x1x8, .f32⟩
  | 102 => ⟨S1x8, .f32⟩
  | 103 => ⟨S1x1x1x8, .f32⟩
  | 104 => ⟨S128x1x4x16, .f32⟩
  | 105 => ⟨S128x1x4x8, .f32⟩
  | 106 => ⟨S128x1x4x8, .f32⟩
  | 107 => ⟨S128x1x4x8, .f32⟩
  | 108 => ⟨S128x1x4x8, .f32⟩
  | 109 => ⟨S128x1x4x8, .f32⟩
  | 110 => ⟨S128x1x4x8, .f32⟩
  | 111 => ⟨S128x1x4x8, .f32⟩
  | 112 => ⟨S128x1x4x8, .f32⟩
  | 113 => ⟨S128x1x4x8, .f32⟩
  | 114 => ⟨S128x1x4x8, .f32⟩
  | 115 => ⟨S128x1x4x8, .f32⟩
  | 116 => ⟨S128x1x4x8, .f32⟩
  | 117 => ⟨S128x1x4x16, .f32⟩
  | 118 => ⟨S128x1x4x48, .f32⟩
  | 119 => ⟨S128x1x4x64, .f32⟩
  | 120 => ⟨S_, .f32⟩
  | 121 => ⟨S128x1x16x64, .f32⟩
  | 122 => ⟨S128x1x16x64, .f32⟩
  | 123 => ⟨S128x1x4x4x64, .f32⟩
  | 124 => ⟨S128x1x4x4x64, .f32⟩
  | 125 => ⟨S128x1024, .f32⟩
  | 126 => ⟨S128x256, .f32⟩
  | 127 => ⟨S128x256, .f32⟩
  | _ => ⟨S128x1x2048, .f32⟩

abbrev hbmTy0_1 (i : Nat) : BufTy := match i % 128 with
  | 0 => ⟨S128x1024, .f32⟩
  | _ => ⟨S128x1x2048, .f32⟩

abbrev hbmTy (i : Nat) : BufTy := match i / 128 with
  | 0 => hbmTy0_0 i
  | 1 => hbmTy0_1 i
  | _ => ⟨S128x1x2048, .f32⟩

abbrev bufTy : (tb : Table) → Fin (tcTables nBuf tb) → BufTy
  | .hbm, ⟨i, _⟩ => hbmTy i
  | _, _ => ⟨S128x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_2 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_4 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_cst_7 : Ref sig .tc := ⟨.hbm, 86, rfl⟩
abbrev main_v73 : Ref sig .tc := ⟨.hbm, 87, rfl⟩
abbrev main_v74 : Ref sig .tc := ⟨.hbm, 88, rfl⟩
abbrev main_cst_8 : Ref sig .tc := ⟨.hbm, 89, rfl⟩
abbrev main_v75 : Ref sig .tc := ⟨.hbm, 90, rfl⟩
abbrev main_v76 : Ref sig .tc := ⟨.hbm, 91, rfl⟩
abbrev main_cst_9 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_cst_10 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩

abbrev nD : Nat := 1
abbrev τ : Topo := Topo.v7x

variable {F : FTy → Type} [FloatOps F]
-- ==== MixS.lean ====
abbrev S128x1024 : Shape := ⟨2, ![128, 1024]⟩
abbrev S128x256 : Shape := ⟨2, ![128, 256]⟩
abbrev S1x128x128x4x64 : Shape := ⟨5, ![1, 128, 128, 4, 64]⟩
abbrev S1x128x30x1024 : Shape := ⟨4, ![1, 128, 30, 1024]⟩
abbrev S1x16 : Shape := ⟨2, ![1, 16]⟩
abbrev S1x31x1024 : Shape := ⟨3, ![1, 31, 1024]⟩
abbrev S1x1024 : Shape := ⟨2, ![1, 1024]⟩
abbrev S16 : Shape := ⟨1, ![16]⟩
abbrev S4x4 : Shape := ⟨2, ![4, 4]⟩
abbrev S16x1 : Shape := ⟨2, ![16, 1]⟩
abbrev S1024 : Shape := ⟨1, ![1024]⟩
abbrev S128x4x256 : Shape := ⟨3, ![128, 4, 256]⟩
abbrev S128x4x4x256 : Shape := ⟨4, ![128, 4, 4, 256]⟩
abbrev S128x16x256 : Shape := ⟨3, ![128, 16, 256]⟩
abbrev S128x128x4x64 : Shape := ⟨4, ![128, 128, 4, 64]⟩
abbrev S128x128x256 : Shape := ⟨3, ![128, 128, 256]⟩
abbrev S128x30x1024 : Shape := ⟨3, ![128, 30, 1024]⟩
abbrev S31x1024 : Shape := ⟨2, ![31, 1024]⟩
abbrev S128x8x256 : Shape := ⟨3, ![128, 8, 256]⟩
abbrev S8x16x256 : Shape := ⟨3, ![8, 16, 256]⟩
abbrev S8x256 : Shape := ⟨2, ![8, 256]⟩
abbrev S8x1024 : Shape := ⟨2, ![8, 1024]⟩
abbrev S8x128x256 : Shape := ⟨3, ![8, 128, 256]⟩
abbrev S8x30x1024 : Shape := ⟨3, ![8, 30, 1024]⟩
abbrev S8x8x256 : Shape := ⟨3, ![8, 8, 256]⟩
abbrev S16x256 : Shape := ⟨2, ![16, 256]⟩
abbrev S8x16 : Shape := ⟨2, ![8, 16]⟩
abbrev S1x256 : Shape := ⟨2, ![1, 256]⟩
abbrev S1x128x256 : Shape := ⟨3, ![1, 128, 256]⟩
abbrev S1x16x256 : Shape := ⟨3, ![1, 16, 256]⟩
abbrev S16x128 : Shape := ⟨2, ![16, 128]⟩
abbrev S1x8x256 : Shape := ⟨3, ![1, 8, 256]⟩
abbrev S1x30x1024 : Shape := ⟨3, ![1, 30, 1024]⟩
abbrev S30x1024 : Shape := ⟨2, ![30, 1024]⟩
abbrev S1 : Shape := ⟨1, ![1]⟩
abbrev S1x1 : Shape := ⟨2, ![1, 1]⟩
abbrev S1x29x1024 : Shape := ⟨3, ![1, 29, 1024]⟩
abbrev S29x1024 : Shape := ⟨2, ![29, 1024]⟩
abbrev S1x1x1024 : Shape := ⟨3, ![1, 1, 1024]⟩

abbrev nBuf : Space → Nat
  | .hbm => 36
  | .vmem => 29
  | .smem => 0
  | _ => 0

abbrev bufTy : (tb : Table) → Fin (tcTables nBuf tb) → BufTy
  | .hbm, ⟨0, _⟩ => ⟨S128x1024, .f32⟩
  | .hbm, ⟨1, _⟩ => ⟨S128x256, .f32⟩
  | .hbm, ⟨2, _⟩ => ⟨S128x256, .f32⟩
  | .hbm, ⟨3, _⟩ => ⟨S128x1024, .f32⟩
  | .hbm, ⟨4, _⟩ => ⟨S1x128x128x4x64, .f32⟩
  | .hbm, ⟨5, _⟩ => ⟨S1x128x128x4x64, .f32⟩
  | .hbm, ⟨6, _⟩ => ⟨S1x128x30x1024, .f32⟩
  | .hbm, ⟨7, _⟩ => ⟨S1x16, .f32⟩
  | .hbm, ⟨8, _⟩ => ⟨S1x31x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S16, .f32⟩
  | .hbm, ⟨13, _⟩ => ⟨S4x4, .f32⟩
  | .hbm, ⟨14, _⟩ => ⟨S4x4, .f32⟩
  | .hbm, ⟨15, _⟩ => ⟨S16x1, .f32⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S128x4x256, .f32⟩
  | .hbm, ⟨23, _⟩ => ⟨S128x4x4x256, .f32⟩
  | .hbm, ⟨24, _⟩ => ⟨S128x16x256, .f32⟩
  | .hbm, ⟨25, _⟩ => ⟨S128x128x4x64, .f32⟩
  | .hbm, ⟨26, _⟩ => ⟨S128x128x256, .f32⟩
  | .hbm, ⟨27, _⟩ => ⟨S128x128x4x64, .f32⟩
  | .hbm, ⟨28, _⟩ => ⟨S128x128x256, .f32⟩
  | .hbm, ⟨29, _⟩ => ⟨S128x30x1024, .f32⟩
  | .hbm, ⟨30, _⟩ => ⟨S31x1024, .f32⟩
  | .hbm, ⟨31, _⟩ => ⟨S128x8x256, .f32⟩
  | .hbm, ⟨32, _⟩ => ⟨S128x1024, .f32⟩
  | .hbm, ⟨33, _⟩ => ⟨S128x128x256, .f32⟩
  | .hbm, ⟨34, _⟩ => ⟨S128x128x256, .f32⟩
  | .hbm, ⟨35, _⟩ => ⟨S128x30x1024, .f32⟩
  | .local _ .vmem, ⟨0, _⟩ => ⟨S8x16x256, .f32⟩
  | .local _ .vmem, ⟨1, _⟩ => ⟨S8x16x256, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256, .f32⟩
  | .local _ .vmem, ⟨6, _⟩ => ⟨S8x1024, .f32⟩
  | .local _ .vmem, ⟨7, _⟩ => ⟨S8x1024, .f32⟩
  | .local _ .vmem, ⟨8, _⟩ => ⟨S8x128x256, .f32⟩
  | .local _ .vmem, ⟨9, _⟩ => ⟨S8x128x256, .f32⟩
  | .local _ .vmem, ⟨10, _⟩ => ⟨S8x128x256, .f32⟩
  | .local _ .vmem, ⟨11, _⟩ => ⟨S8x128x256, .f32⟩
  | .local _ .vmem, ⟨12, _⟩ => ⟨S8x30x1024, .f32⟩
  | .local _ .vmem, ⟨13, _⟩ => ⟨S8x30x1024, .f32⟩
  | .local _ .vmem, ⟨14, _⟩ => ⟨S16x1, .f32⟩
  | .local _ .vmem, ⟨15, _⟩ => ⟨S31x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S8x8x256, .f32⟩
  | .local _ .vmem, ⟨20, _⟩ => ⟨S8x8x256, .f32⟩
  | .local _ .vmem, ⟨21, _⟩ => ⟨S8x1024, .f32⟩
  | .local _ .vmem, ⟨22, _⟩ => ⟨S8x1024, .f32⟩
  | .local _ .vmem, ⟨23, _⟩ => ⟨S8x128x256, .f32⟩
  | .local _ .vmem, ⟨24, _⟩ => ⟨S8x128x256, .f32⟩
  | .local _ .vmem, ⟨25, _⟩ => ⟨S8x128x256, .f32⟩
  | .local _ .vmem, ⟨26, _⟩ => ⟨S8x128x256, .f32⟩
  | .local _ .vmem, ⟨27, _⟩ => ⟨S8x30x1024, .f32⟩
  | .local _ .vmem, ⟨28, _⟩ => ⟨S8x30x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19_0 : Ref sig .tc := ⟨.hbm, 31, rfl⟩
abbrev main_v19_1 : Ref sig .tc := ⟨.hbm, 32, rfl⟩
abbrev main_v19_2 : Ref sig .tc := ⟨.hbm, 33, rfl⟩
abbrev main_v19_3 : Ref sig .tc := ⟨.hbm, 34, rfl⟩
abbrev main_v19_4 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x30x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S31x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S8x8x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x128x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x128x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x30x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MixSRefIdeal.lean ====
abbrev S128x1024 : Shape := ⟨2, ![128, 1024]⟩
abbrev S128x256 : Shape := ⟨2, ![128, 256]⟩
abbrev S1x128x128x4x64 : Shape := ⟨5, ![1, 128, 128, 4, 64]⟩
abbrev S1x128x30x1024 : Shape := ⟨4, ![1, 128, 30, 1024]⟩
abbrev S1x16 : Shape := ⟨2, ![1, 16]⟩
abbrev S1x31x1024 : Shape := ⟨3, ![1, 31, 1024]⟩
abbrev S1x1024 : Shape := ⟨2, ![1, 1024]⟩
abbrev S128x128x4x64 : Shape := ⟨4, ![128, 128, 4, 64]⟩
abbrev S128x1x4x64 : Shape := ⟨4, ![128, 1, 4, 64]⟩
abbrev S128x129x4x64 : Shape := ⟨4, ![128, 129, 4, 64]⟩
abbrev S128x4x4x64 : Shape := ⟨4, ![128, 4, 4, 64]⟩
abbrev S128x4x4x129 : Shape := ⟨4, ![128, 4, 4, 129]⟩
abbrev S129 : Shape := ⟨1, ![129]⟩
abbrev S_ : Shape := ⟨0, ![]⟩
abbrev S1x1x1x129 : Shape := ⟨4, ![1, 1, 1, 129]⟩
abbrev S16 : Shape := ⟨1, ![16]⟩
abbrev S1x4x4x1 : Shape := ⟨4, ![1, 4, 4, 1]⟩
abbrev S128x4x4 : Shape := ⟨3, ![128, 4, 4]⟩
abbrev S128x4x4x1 : Shape := ⟨4, ![128, 4, 4, 1]⟩
abbrev S128x4x64x4 : Shape := ⟨4, ![128, 4, 64, 4]⟩
abbrev S128x4x256 : Shape := ⟨3, ![128, 4, 256]⟩
abbrev S128x8x256 : Shape := ⟨3, ![128, 8, 256]⟩
abbrev S128x30x1024 : Shape := ⟨3, ![128, 30, 1024]⟩
abbrev S128x1x1024 : Shape := ⟨3, ![128, 1, 1024]⟩
abbrev S128x31x1024 : Shape := ⟨3, ![128, 31, 1024]⟩
abbrev S31x1024 : Shape := ⟨2, ![31, 1024]⟩
abbrev S1024 : Shape := ⟨1, ![1024]⟩
abbrev S128 : Shape := ⟨1, ![128]⟩
abbrev S128x1 : Shape := ⟨2, ![128, 1]⟩
abbrev S128x128x256 : Shape := ⟨3, ![128, 128, 256]⟩

abbrev nBuf : Space → Nat
  | .hbm => 121
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x256, .f32⟩
  | .hbm, ⟨2, _⟩ => ⟨S128x256, .f32⟩
  | .hbm, ⟨3, _⟩ => ⟨S128x1024, .f32⟩
  | .hbm, ⟨4, _⟩ => ⟨S1x128x128x4x64, .f32⟩
  | .hbm, ⟨5, _⟩ => ⟨S1x128x128x4x64, .f32⟩
  | .hbm, ⟨6, _⟩ => ⟨S1x128x30x1024, .f32⟩
  | .hbm, ⟨7, _⟩ => ⟨S1x16, .f32⟩
  | .hbm, ⟨8, _⟩ => ⟨S1x31x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S128x128x4x64, .f32⟩
  | .hbm, ⟨13, _⟩ => ⟨S128x1x4x64, .f32⟩
  | .hbm, ⟨14, _⟩ => ⟨S128x129x4x64, .f32⟩
  | .hbm, ⟨15, _⟩ => ⟨S128x128x4x64, .f32⟩
  | .hbm, ⟨16, _⟩ => ⟨S128x1x4x64, .f32⟩
  | .hbm, ⟨17, _⟩ => ⟨S128x129x4x64, .f32⟩
  | .hbm, ⟨18, _⟩ => ⟨S128x4x4x64, .f32⟩
  | .hbm, ⟨19, _⟩ => ⟨S128x4x4x129, .f32⟩
  | .hbm, ⟨20, _⟩ => ⟨S129, .i32⟩
  | .hbm, ⟨21, _⟩ => ⟨S_, .i32⟩
  | .hbm, ⟨22, _⟩ => ⟨S129, .i32⟩
  | .hbm, ⟨23, _⟩ => ⟨S129, .i32⟩
  | .hbm, ⟨24, _⟩ => ⟨S_, .i32⟩
  | .hbm, ⟨25, _⟩ => ⟨S129, .i32⟩
  | .hbm, ⟨26, _⟩ => ⟨S129, .i32⟩
  | .hbm, ⟨27, _⟩ => ⟨S_, .i32⟩
  | .hbm, ⟨28, _⟩ => ⟨S129, .i32⟩
  | .hbm, ⟨29, _⟩ => ⟨S129, .i1⟩
  | .hbm, ⟨30, _⟩ => ⟨S_, .i32⟩
  | .hbm, ⟨31, _⟩ => ⟨S129, .i32⟩
  | .hbm, ⟨32, _⟩ => ⟨S129, .i1⟩
  | .hbm, ⟨33, _⟩ => ⟨S129, .i1⟩
  | .hbm, ⟨34, _⟩ => ⟨S1x1x1x129, .i1⟩
  | .hbm, ⟨35, _⟩ => ⟨S16, .f32⟩
  | .hbm, ⟨36, _⟩ => ⟨S1x4x4x1, .f32⟩
  | .hbm, ⟨37, _⟩ => ⟨S_, .f32⟩
  | .hbm, ⟨38, _⟩ => ⟨S_, .f32⟩
  | .hbm, ⟨39, _⟩ => ⟨S128x4x4x129, .i1⟩
  | .hbm, ⟨40, _⟩ => ⟨S128x4x4x129, .f32⟩
  | .hbm, ⟨41, _⟩ => ⟨S128x4x4x129, .f32⟩
  | .hbm, ⟨42, _⟩ => ⟨S_, .f32⟩
  | .hbm, ⟨43, _⟩ => ⟨S128x4x4, .f32⟩
  | .hbm, ⟨44, _⟩ => ⟨S128x4x4x1, .f32⟩
  | .hbm, ⟨45, _⟩ => ⟨S128x4x4x1, .f32⟩
  | .hbm, ⟨46, _⟩ => ⟨S128x4x4x1, .f32⟩
  | .hbm, ⟨47, _⟩ => ⟨S128x4x4x129, .f32⟩
  | .hbm, ⟨48, _⟩ => ⟨S128x4x4x129, .f32⟩
  | .hbm, ⟨49, _⟩ => ⟨S128x4x4x129, .f32⟩
  | .hbm, ⟨50, _⟩ => ⟨S_, .f32⟩
  | .hbm, ⟨51, _⟩ => ⟨S128x4x4, .f32⟩
  | .hbm, ⟨52, _⟩ => ⟨S128x4x4x1, .f32⟩
  | .hbm, ⟨53, _⟩ => ⟨S128x4x4x1, .f32⟩
  | .hbm, ⟨54, _⟩ => ⟨S128x4x4x1, .f32⟩
  | .hbm, ⟨55, _⟩ => ⟨S128x4x4x1, .f32⟩
  | .hbm, ⟨56, _⟩ => ⟨S128x4x4x1, .f32⟩
  | .hbm, ⟨57, _⟩ => ⟨S128x4x4x129, .f32⟩
  | .hbm, ⟨58, _⟩ => ⟨S128x4x4x129, .f32⟩
  | .hbm, ⟨59, _⟩ => ⟨S128x4x64x4, .f32⟩
  | .hbm, ⟨60, _⟩ => ⟨S128x4x4x64, .f32⟩
  | .hbm, ⟨61, _⟩ => ⟨S128x4x256, .f32⟩
  | .hbm, ⟨62, _⟩ => ⟨S_, .i32⟩
  | .hbm, ⟨63, _⟩ => ⟨S_, .f32⟩
  | .hbm, ⟨64, _⟩ => ⟨S128x8x256, .f32⟩
  | .hbm, ⟨65, _⟩ => ⟨S128x30x1024, .f32⟩
  | .hbm, ⟨66, _⟩ => ⟨S128x1x1024, .f32⟩
  | .hbm, ⟨67, _⟩ => ⟨S128x31x1024, .f32⟩
  | .hbm, ⟨68, _⟩ => ⟨S31x1024, .f32⟩
  | .hbm, ⟨69, _⟩ => ⟨S1x31x1024, .f32⟩
  | .hbm, ⟨70, _⟩ => ⟨S128x31x1024, .f32⟩
  | .hbm, ⟨71, _⟩ => ⟨S128x31x1024, .f32⟩
  | .hbm, ⟨72, _⟩ => ⟨S_, .f32⟩
  | .hbm, ⟨73, _⟩ => ⟨S128x1024, .f32⟩
  | .hbm, ⟨74, _⟩ => ⟨S1024, .f32⟩
  | .hbm, ⟨75, _⟩ => ⟨S1x1024, .f32⟩
  | .hbm, ⟨76, _⟩ => ⟨S128x1024, .f32⟩
  | .hbm, ⟨77, _⟩ => ⟨S128x1024, .f32⟩
  | .hbm, ⟨78, _⟩ => ⟨S_, .f32⟩
  | .hbm, ⟨79, _⟩ => ⟨S128, .f32⟩
  | .hbm, ⟨80, _⟩ => ⟨S128x1, .f32⟩
  | .hbm, ⟨81, _⟩ => ⟨S_, .f32⟩
  | .hbm, ⟨82, _⟩ => ⟨S128x1, .f32⟩
  | .hbm, ⟨83, _⟩ => ⟨S128x1, .f32⟩
  | .hbm, ⟨84, _⟩ => ⟨S128x1024, .f32⟩
  | .hbm, ⟨85, _⟩ => ⟨S128x1024, .f32⟩
  | .hbm, ⟨86, _⟩ => ⟨S128x1024, .f32⟩
  | .hbm, ⟨87, _⟩ => ⟨S_, .f32⟩
  | .hbm, ⟨88, _⟩ => ⟨S128, .f32⟩
  | .hbm, ⟨89, _⟩ => ⟨S128x1, .f32⟩
  | .hbm, ⟨90, _⟩ => ⟨S_, .f32⟩
  | .hbm, ⟨91, _⟩ => ⟨S128x1, .f32⟩
  | .hbm, ⟨92, _⟩ => ⟨S128x1, .f32⟩
  | .hbm, ⟨93, _⟩ => ⟨S_, .f32⟩
  | .hbm, ⟨94, _⟩ => ⟨S128x1, .f32⟩
  | .hbm, ⟨95, _⟩ => ⟨S128x1, .f32⟩
  | .hbm, ⟨96, _⟩ => ⟨S128x1, .f32⟩
  | .hbm, ⟨97, _⟩ => ⟨S128x1024, .f32⟩
  | .hbm, ⟨98, _⟩ => ⟨S128x1024, .f32⟩
  | .hbm, ⟨99, _⟩ => ⟨S1024, .f32⟩
  | .hbm, ⟨100, _⟩ => ⟨S1x1024, .f32⟩
  | .hbm, ⟨101, _⟩ => ⟨S128x1024, .f32⟩
  | .hbm, ⟨102, _⟩ => ⟨S128x1024, .f32⟩
  | .hbm, ⟨103, _⟩ => ⟨S1024, .f32⟩
  | .hbm, ⟨104, _⟩ => ⟨S1x1024, .f32⟩
  | .hbm, ⟨105, _⟩ => ⟨S128x1024, .f32⟩
  | .hbm, ⟨106, _⟩ => ⟨S128x1024, .f32⟩
  | .hbm, ⟨107, _⟩ => ⟨S128x1024, .f32⟩
  | .hbm, ⟨108, _⟩ => ⟨S128x1024, .f32⟩
  | .hbm, ⟨109, _⟩ => ⟨S_, .f32⟩
  | .hbm, ⟨110, _⟩ => ⟨S128x1024, .f32⟩
  | .hbm, ⟨111, _⟩ => ⟨S128x1024, .f32⟩
  | .hbm, ⟨112, _⟩ => ⟨S_, .f32⟩
  | .hbm, ⟨113, _⟩ => ⟨S128x1024, .f32⟩
  | .hbm, ⟨114, _⟩ => ⟨S128x1024, .f32⟩
  | .hbm, ⟨115, _⟩ => ⟨S128x1024, .f32⟩
  | .hbm, ⟨116, _⟩ => ⟨S128x128x4x64, .f32⟩
  | .hbm, ⟨117, _⟩ => ⟨S128x128x256, .f32⟩
  | .hbm, ⟨118, _⟩ => ⟨S128x128x4x64, .f32⟩
  | .hbm, ⟨119, _⟩ => ⟨S128x128x256, .f32⟩
  | .hbm, ⟨120, _⟩ => ⟨S128x30x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_c_0 : Ref sig .tc := ⟨.hbm, 24, rfl⟩
abbrev main_v11 : Ref sig .tc := ⟨.hbm, 25, rfl⟩
abbrev main_v12 : Ref sig .tc := ⟨.hbm, 26, rfl⟩
abbrev main_c_1 : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_4 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_5 : Ref sig .tc := ⟨.hbm, 62, rfl⟩
abbrev main_call1_v0 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_6 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_7 : Ref sig .tc := ⟨.hbm, 78, rfl⟩
abbrev main_v53 : Ref sig .tc := ⟨.hbm, 79, rfl⟩
abbrev main_v54 : Ref sig .tc := ⟨.hbm, 80, rfl⟩
abbrev main_cst_8 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_9 : Ref sig .tc := ⟨.hbm, 87, rfl⟩
abbrev main_v60 : Ref sig .tc := ⟨.hbm, 88, rfl⟩
abbrev main_v61 : Ref sig .tc := ⟨.hbm, 89, rfl⟩
abbrev main_cst_10 : Ref sig .tc := ⟨.hbm, 90, rfl⟩
abbrev main_v62 : Ref sig .tc := ⟨.hbm, 91, rfl⟩
abbrev main_v63 : Ref sig .tc := ⟨.hbm, 92, rfl⟩
abbrev main_cst_11 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_12 : Ref sig .tc := ⟨.hbm, 109, rfl⟩
abbrev main_v79 : Ref sig .tc := ⟨.hbm, 110, rfl⟩
abbrev main_v80 : Ref sig .tc := ⟨.hbm, 111, rfl⟩
abbrev main_cst_13 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩

abbrev nD : Nat := 1
abbrev τ : Topo := Topo.v7x

variable {F : FTy → Type} [FloatOps F]
-- ==== OutMlpS.lean ====
abbrev S128x2048 : Shape := ⟨2, ![128, 2048]⟩
abbrev S128x1024 : Shape := ⟨2, ![128, 1024]⟩
abbrev S1x2048x2048 : Shape := ⟨3, ![1, 2048, 2048]⟩
abbrev S1x2048 : Shape := ⟨2, ![1, 2048]⟩
abbrev S1x2048x8192 : Shape := ⟨3, ![1, 2048, 8192]⟩
abbrev S1x8192x2048 : Shape := ⟨3, ![1, 8192, 2048]⟩
abbrev S2048 : Shape := ⟨1, ![2048]⟩
abbrev S2048x2048 : Shape := ⟨2, ![2048, 2048]⟩
abbrev S_ : Shape := ⟨0, ![]⟩
abbrev S2048x1 : Shape := ⟨2, ![2048, 1]⟩
abbrev S2048x8192 : Shape := ⟨2, ![2048, 8192]⟩
abbrev S8192x2048 : Shape := ⟨2, ![8192, 2048]⟩
abbrev S2048x512 : Shape := ⟨2, ![2048, 512]⟩
abbrev S512x2048 : Shape := ⟨2, ![512, 2048]⟩
abbrev S1024x2048 : Shape := ⟨2, ![1024, 2048]⟩
abbrev S128 : Shape := ⟨1, ![128]⟩
abbrev S128x1 : Shape := ⟨2, ![128, 1]⟩
abbrev S128x512 : Shape := ⟨2, ![128, 512]⟩

abbrev nBuf : Space → Nat
  | .hbm => 29
  | .vmem => 13
  | .smem => 0
  | _ => 0

abbrev bufTy : (tb : Table) → Fin (tcTables nBuf tb) → BufTy
  | .hbm, ⟨0, _⟩ => ⟨S128x2048, .f32⟩
  | .hbm, ⟨1, _⟩ => ⟨S128x1024, .bf16⟩
  | .hbm, ⟨2, _⟩ => ⟨S128x1024, .bf16⟩
  | .hbm, ⟨3, _⟩ => ⟨S1x2048x2048, .f32⟩
  | .hbm, ⟨4, _⟩ => ⟨S1x2048, .f32⟩
  | .hbm, ⟨5, _⟩ => ⟨S1x2048, .f32⟩
  | .hbm, ⟨6, _⟩ => ⟨S1x2048x8192, .f32⟩
  | .hbm, ⟨7, _⟩ => ⟨S1x8192x2048, .f32⟩
  | .hbm, ⟨8, _⟩ => ⟨S2048, .f32⟩
  | .hbm, ⟨9, _⟩ => ⟨S2048, .i32⟩
  | .hbm, ⟨10, _⟩ => ⟨S2048, .i1⟩
  | .hbm, ⟨11, _⟩ => ⟨S2048x2048, .f32⟩
  | .hbm, ⟨12, _⟩ => ⟨S_, .i32⟩
  | .hbm, ⟨13, _⟩ => ⟨S2048, .i32⟩
  | .hbm, ⟨14, _⟩ => ⟨S2048, .i32⟩
  | .hbm, ⟨15, _⟩ => ⟨S2048, .i32⟩
  | .hbm, ⟨16, _⟩ => ⟨S2048x1, .i32⟩
  | .hbm, ⟨17, _⟩ => ⟨S2048x2048, .f32⟩
  | .hbm, ⟨18, _⟩ => ⟨S2048x2048, .bf16⟩
  | .hbm, ⟨19, _⟩ => ⟨S2048x8192, .f32⟩
  | .hbm, ⟨20, _⟩ => ⟨S2048x8192, .bf16⟩
  | .hbm, ⟨21, _⟩ => ⟨S8192x2048, .f32⟩
  | .hbm, ⟨22, _⟩ => ⟨S8192x2048, .bf16⟩
  | .hbm, ⟨23, _⟩ => ⟨S2048, .f32⟩
  | .hbm, ⟨24, _⟩ => ⟨S1x2048, .f32⟩
  | .hbm, ⟨25, _⟩ => ⟨S1x2048, .f32⟩
  | .hbm, ⟨26, _⟩ => ⟨S2048, .f32⟩
  | .hbm, ⟨27, _⟩ => ⟨S1x2048, .f32⟩
  | .hbm, ⟨28, _⟩ => ⟨S128x2048, .f32⟩
  | .local _ .vmem, ⟨0, _⟩ => ⟨S128x2048, .f32⟩
  | .local _ .vmem, ⟨1, _⟩ => ⟨S128x1024, .bf16⟩
  | .local _ .vmem, ⟨2, _⟩ => ⟨S128x1024, .bf16⟩
  | .local _ .vmem, ⟨3, _⟩ => ⟨S2048x2048, .bf16⟩
  | .local _ .vmem, ⟨4, _⟩ => ⟨S1x2048, .f32⟩
  | .local _ .vmem, ⟨5, _⟩ => ⟨S1x2048, .f32⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | .local _ .vmem, ⟨10, _⟩ => ⟨S1x2048, .f32⟩
  | .local _ .vmem, ⟨11, _⟩ => ⟨S128x2048, .f32⟩
  | .local _ .vmem, ⟨12, _⟩ => ⟨S128x2048, .bf16⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_v0 : Ref sig .tc := ⟨.hbm, 11, rfl⟩
abbrev main_c_1 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem9_0 : DmaSem sig := 11

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== OutMlpSRefIdeal.lean ====
abbrev S128x2048 : Shape := ⟨2, ![128, 2048]⟩
abbrev S128x1024 : Shape := ⟨2, ![128, 1024]⟩
abbrev S1x2048x2048 : Shape := ⟨3, ![1, 2048, 2048]⟩
abbrev S1x2048 : Shape := ⟨2, ![1, 2048]⟩
abbrev S1x2048x8192 : Shape := ⟨3, ![1, 2048, 8192]⟩
abbrev S1x8192x2048 : Shape := ⟨3, ![1, 8192, 2048]⟩
abbrev S2048 : Shape := ⟨1, ![2048]⟩
abbrev S128x4x4x64 : Shape := ⟨4, ![128, 4, 4, 64]⟩
abbrev S2048x2048 : Shape := ⟨2, ![2048, 2048]⟩
abbrev S_ : Shape := ⟨0, ![]⟩
abbrev S128 : Shape := ⟨1, ![128]⟩
abbrev S128x1 : Shape := ⟨2, ![128, 1]⟩
abbrev S2048x8192 : Shape := ⟨2, ![2048, 8192]⟩
abbrev S128x8192 : Shape := ⟨2, ![128, 8192]⟩
abbrev S8192x2048 : Shape := ⟨2, ![8192, 2048]⟩

abbrev nBuf : Space → Nat
  | .hbm => 64
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S128x1024, .bf16⟩
  | .hbm, ⟨2, _⟩ => ⟨S128x1024, .bf16⟩
  | .hbm, ⟨3, _⟩ => ⟨S1x2048x2048, .f32⟩
  | .hbm, ⟨4, _⟩ => ⟨S1x2048, .f32⟩
  | .hbm, ⟨5, _⟩ => ⟨S1x2048, .f32⟩
  | .hbm, ⟨6, _⟩ => ⟨S1x2048x8192, .f32⟩
  | .hbm, ⟨7, _⟩ => ⟨S1x8192x2048, .f32⟩
  | .hbm, ⟨8, _⟩ => ⟨S2048, .f32⟩
  | .hbm, ⟨9, _⟩ => ⟨S128x1024, .f32⟩
  | .hbm, ⟨10, _⟩ => ⟨S128x4x4x64, .f32⟩
  | .hbm, ⟨11, _⟩ => ⟨S128x4x4x64, .f32⟩
  | .hbm, ⟨12, _⟩ => ⟨S128x1024, .f32⟩
  | .hbm, ⟨13, _⟩ => ⟨S128x1024, .f32⟩
  | .hbm, ⟨14, _⟩ => ⟨S128x2048, .f32⟩
  | .hbm, ⟨15, _⟩ => ⟨S2048x2048, .f32⟩
  | .hbm, ⟨16, _⟩ => ⟨S128x2048, .f32⟩
  | .hbm, ⟨17, _⟩ => ⟨S128x2048, .f32⟩
  | .hbm, ⟨18, _⟩ => ⟨S2048, .f32⟩
  | .hbm, ⟨19, _⟩ => ⟨S1x2048, .f32⟩
  | .hbm, ⟨20, _⟩ => ⟨S128x2048, .f32⟩
  | .hbm, ⟨21, _⟩ => ⟨S128x2048, .f32⟩
  | .hbm, ⟨22, _⟩ => ⟨S2048, .f32⟩
  | .hbm, ⟨23, _⟩ => ⟨S128x2048, .f32⟩
  | .hbm, ⟨24, _⟩ => ⟨S_, .f32⟩
  | .hbm, ⟨25, _⟩ => ⟨S128, .f32⟩
  | .hbm, ⟨26, _⟩ => ⟨S128x1, .f32⟩
  | .hbm, ⟨27, _⟩ => ⟨S_, .f32⟩
  | .hbm, ⟨28, _⟩ => ⟨S128x1, .f32⟩
  | .hbm, ⟨29, _⟩ => ⟨S128x1, .f32⟩
  | .hbm, ⟨30, _⟩ => ⟨S_, .f32⟩
  | .hbm, ⟨31, _⟩ => ⟨S128x1, .f32⟩
  | .hbm, ⟨32, _⟩ => ⟨S128x1, .f32⟩
  | .hbm, ⟨33, _⟩ => ⟨S128x1, .f32⟩
  | .hbm, ⟨34, _⟩ => ⟨S128x2048, .f32⟩
  | .hbm, ⟨35, _⟩ => ⟨S128x2048, .f32⟩
  | .hbm, ⟨36, _⟩ => ⟨S1x2048, .f32⟩
  | .hbm, ⟨37, _⟩ => ⟨S128x2048, .f32⟩
  | .hbm, ⟨38, _⟩ => ⟨S128x2048, .f32⟩
  | .hbm, ⟨39, _⟩ => ⟨S2048x8192, .f32⟩
  | .hbm, ⟨40, _⟩ => ⟨S128x8192, .f32⟩
  | .hbm, ⟨41, _⟩ => ⟨S_, .f32⟩
  | .hbm, ⟨42, _⟩ => ⟨S128x8192, .f32⟩
  | .hbm, ⟨43, _⟩ => ⟨S128x8192, .f32⟩
  | .hbm, ⟨44, _⟩ => ⟨S128x8192, .f32⟩
  | .hbm, ⟨45, _⟩ => ⟨S8192x2048, .f32⟩
  | .hbm, ⟨46, _⟩ => ⟨S128x2048, .f32⟩
  | .hbm, ⟨47, _⟩ => ⟨S128x2048, .f32⟩
  | .hbm, ⟨48, _⟩ => ⟨S128x2048, .f32⟩
  | .hbm, ⟨49, _⟩ => ⟨S_, .f32⟩
  | .hbm, ⟨50, _⟩ => ⟨S128, .f32⟩
  | .hbm, ⟨51, _⟩ => ⟨S128x1, .f32⟩
  | .hbm, ⟨52, _⟩ => ⟨S_, .f32⟩
  | .hbm, ⟨53, _⟩ => ⟨S128x1, .f32⟩
  | .hbm, ⟨54, _⟩ => ⟨S128x1, .f32⟩
  | .hbm, ⟨55, _⟩ => ⟨S_, .f32⟩
  | .hbm, ⟨56, _⟩ => ⟨S128x1, .f32⟩
  | .hbm, ⟨57, _⟩ => ⟨S128x1, .f32⟩
  | .hbm, ⟨58, _⟩ => ⟨S128x1, .f32⟩
  | .hbm, ⟨59, _⟩ => ⟨S128x2048, .f32⟩
  | .hbm, ⟨60, _⟩ => ⟨S128x2048, .f32⟩
  | .hbm, ⟨61, _⟩ => ⟨S1x2048, .f32⟩
  | .hbm, ⟨62, _⟩ => ⟨S128x2048, .f32⟩
  | .hbm, ⟨63, _⟩ => ⟨S128x2048, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_cst : Ref sig .tc := ⟨.hbm, 41, rfl⟩
abbrev main_call0_v0 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_2 : Ref sig .tc := ⟨.hbm, 49, rfl⟩
abbrev main_v35 : Ref sig .tc := ⟨.hbm, 50, rfl⟩
abbrev main_v36 : Ref sig .tc := ⟨.hbm, 51, rfl⟩
abbrev main_cst_3 : Ref sig .tc := ⟨.hbm, 52, rfl⟩
abbrev main_v37 : Ref sig .tc := ⟨.hbm, 53, rfl⟩
abbrev main_v38 : Ref sig .tc := ⟨.hbm, 54, rfl⟩
abbrev main_cst_4 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== MixW.lean ====
abbrev S128x1024 : Shape := ⟨2, ![128, 1024]⟩
abbrev S128x256 : Shape := ⟨2, ![128, 256]⟩
abbrev S1x128x128x4x64 : Shape := ⟨5, ![1, 128, 128, 4, 64]⟩
abbrev S1x128x30x1024 : Shape := ⟨4, ![1, 128, 30, 1024]⟩
abbrev S1x16 : Shape := ⟨2, ![1, 16]⟩
abbrev S1x31x1024 : Shape := ⟨3, ![1, 31, 1024]⟩
abbrev S1x1024 : Shape := ⟨2, ![1, 1024]⟩
abbrev S16 : Shape := ⟨1, ![16]⟩
abbrev S4x4 : Shape := ⟨2, ![4, 4]⟩
abbrev S16x1 : Shape := ⟨2, ![16, 1]⟩
abbrev S1024 : Shape := ⟨1, ![1024]⟩
abbrev S128x4x256 : Shape := ⟨3, ![128, 4, 256]⟩
abbrev S128x4x4x256 : Shape := ⟨4, ![128, 4, 4, 256]⟩
abbrev S128x16x256 : Shape := ⟨3, ![128, 16, 256]⟩
abbrev S128x128x4x64 : Shape := ⟨4, ![128, 128, 4, 64]⟩
abbrev S128x128x256 : Shape := ⟨3, ![128, 128, 256]⟩
abbrev S128x30x1024 : Shape := ⟨3, ![128, 30, 1024]⟩
abbrev S31x1024 : Shape := ⟨2, ![31, 1024]⟩
abbrev S128x8x256 : Shape := ⟨3, ![128, 8, 256]⟩
abbrev S8x16x256 : Shape := ⟨3, ![8, 16, 256]⟩
abbrev S8x256 : Shape := ⟨2, ![8, 256]⟩
abbrev S8x1024 : Shape := ⟨2, ![8, 1024]⟩
abbrev S8x128x256 : Shape := ⟨3, ![8, 128, 256]⟩
abbrev S8x30x1024 : Shape := ⟨3, ![8, 30, 1024]⟩
abbrev S8x8x256 : Shape := ⟨3, ![8, 8, 256]⟩
abbrev S16x256 : Shape := ⟨2, ![16, 256]⟩
abbrev S8x16 : Shape := ⟨2, ![8, 16]⟩
abbrev S1x256 : Shape := ⟨2, ![1, 256]⟩
abbrev S1x128x256 : Shape := ⟨3, ![1, 128, 256]⟩
abbrev S1x16x256 : Shape := ⟨3, ![1, 16, 256]⟩
abbrev S16x128 : Shape := ⟨2, ![16, 128]⟩
abbrev S1x8x256 : Shape := ⟨3, ![1, 8, 256]⟩
abbrev S1x30x1024 : Shape := ⟨3, ![1, 30, 1024]⟩
abbrev S30x1024 : Shape := ⟨2, ![30, 1024]⟩
abbrev S1 : Shape := ⟨1, ![1]⟩
abbrev S1x1 : Shape := ⟨2, ![1, 1]⟩
abbrev S1x29x1024 : Shape := ⟨3, ![1, 29, 1024]⟩
abbrev S29x1024 : Shape := ⟨2, ![29, 1024]⟩
abbrev S1x1x1024 : Shape := ⟨3, ![1, 1, 1024]⟩

abbrev nBuf : Space → Nat
  | .hbm => 36
  | .vmem => 29
  | .smem => 0
  | _ => 0

abbrev bufTy : (tb : Table) → Fin (tcTables nBuf tb) → BufTy
  | .hbm, ⟨0, _⟩ => ⟨S128x1024, .f32⟩
  | .hbm, ⟨1, _⟩ => ⟨S128x256, .f32⟩
  | .hbm, ⟨2, _⟩ => ⟨S128x256, .f32⟩
  | .hbm, ⟨3, _⟩ => ⟨S128x1024, .f32⟩
  | .hbm, ⟨4, _⟩ => ⟨S1x128x128x4x64, .f32⟩
  | .hbm, ⟨5, _⟩ => ⟨S1x128x128x4x64, .f32⟩
  | .hbm, ⟨6, _⟩ => ⟨S1x128x30x1024, .f32⟩
  | .hbm, ⟨7, _⟩ => ⟨S1x16, .f32⟩
  | .hbm, ⟨8, _⟩ => ⟨S1x31x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S16, .f32⟩
  | .hbm, ⟨13, _⟩ => ⟨S4x4, .f32⟩
  | .hbm, ⟨14, _⟩ => ⟨S4x4, .f32⟩
  | .hbm, ⟨15, _⟩ => ⟨S16x1, .f32⟩
  | .hbm, ⟨16, _⟩ => ⟨S1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S128x4x256, .f32⟩
  | .hbm, ⟨23, _⟩ => ⟨S128x4x4x256, .f32⟩
  | .hbm, ⟨24, _⟩ => ⟨S128x16x256, .f32⟩
  | .hbm, ⟨25, _⟩ => ⟨S128x128x4x64, .f32⟩
  | .hbm, ⟨26, _⟩ => ⟨S128x128x256, .f32⟩
  | .hbm, ⟨27, _⟩ => ⟨S128x128x4x64, .f32⟩
  | .hbm, ⟨28, _⟩ => ⟨S128x128x256, .f32⟩
  | .hbm, ⟨29, _⟩ => ⟨S128x30x1024, .f32⟩
  | .hbm, ⟨30, _⟩ => ⟨S31x1024, .f32⟩
  | .hbm, ⟨31, _⟩ => ⟨S128x8x256, .f32⟩
  | .hbm, ⟨32, _⟩ => ⟨S128x1024, .f32⟩
  | .hbm, ⟨33, _⟩ => ⟨S128x128x256, .f32⟩
  | .hbm, ⟨34, _⟩ => ⟨S128x128x256, .f32⟩
  | .hbm, ⟨35, _⟩ => ⟨S128x30x1024, .f32⟩
  | .local _ .vmem, ⟨0, _⟩ => ⟨S8x16x256, .f32⟩
  | .local _ .vmem, ⟨1, _⟩ => ⟨S8x16x256, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256, .f32⟩
  | .local _ .vmem, ⟨6, _⟩ => ⟨S8x1024, .f32⟩
  | .local _ .vmem, ⟨7, _⟩ => ⟨S8x1024, .f32⟩
  | .local _ .vmem, ⟨8, _⟩ => ⟨S8x128x256, .f32⟩
  | .local _ .vmem, ⟨9, _⟩ => ⟨S8x128x256, .f32⟩
  | .local _ .vmem, ⟨10, _⟩ => ⟨S8x128x256, .f32⟩
  | .local _ .vmem, ⟨11, _⟩ => ⟨S8x128x256, .f32⟩
  | .local _ .vmem, ⟨12, _⟩ => ⟨S8x30x1024, .f32⟩
  | .local _ .vmem, ⟨13, _⟩ => ⟨S8x30x1024, .f32⟩
  | .local _ .vmem, ⟨14, _⟩ => ⟨S16x1, .f32⟩
  | .local _ .vmem, ⟨15, _⟩ => ⟨S31x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S8x8x256, .f32⟩
  | .local _ .vmem, ⟨20, _⟩ => ⟨S8x8x256, .f32⟩
  | .local _ .vmem, ⟨21, _⟩ => ⟨S8x1024, .f32⟩
  | .local _ .vmem, ⟨22, _⟩ => ⟨S8x1024, .f32⟩
  | .local _ .vmem, ⟨23, _⟩ => ⟨S8x128x256, .f32⟩
  | .local _ .vmem, ⟨24, _⟩ => ⟨S8x128x256, .f32⟩
  | .local _ .vmem, ⟨25, _⟩ => ⟨S8x128x256, .f32⟩
  | .local _ .vmem, ⟨26, _⟩ => ⟨S8x128x256, .f32⟩
  | .local _ .vmem, ⟨27, _⟩ => ⟨S8x30x1024, .f32⟩
  | .local _ .vmem, ⟨28, _⟩ => ⟨S8x30x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19_0 : Ref sig .tc := ⟨.hbm, 31, rfl⟩
abbrev main_v19_1 : Ref sig .tc := ⟨.hbm, 32, rfl⟩
abbrev main_v19_2 : Ref sig .tc := ⟨.hbm, 33, rfl⟩
abbrev main_v19_3 : Ref sig .tc := ⟨.hbm, 34, rfl⟩
abbrev main_v19_4 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x30x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S31x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S8x8x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x128x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x128x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x30x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MixWRefIdeal.lean ====
abbrev S128x1024 : Shape := ⟨2, ![128, 1024]⟩
abbrev S128x256 : Shape := ⟨2, ![128, 256]⟩
abbrev S1x128x128x4x64 : Shape := ⟨5, ![1, 128, 128, 4, 64]⟩
abbrev S1x128x30x1024 : Shape := ⟨4, ![1, 128, 30, 1024]⟩
abbrev S1x16 : Shape := ⟨2, ![1, 16]⟩
abbrev S1x31x1024 : Shape := ⟨3, ![1, 31, 1024]⟩
abbrev S1x1024 : Shape := ⟨2, ![1, 1024]⟩
abbrev S128x128x4x64 : Shape := ⟨4, ![128, 128, 4, 64]⟩
abbrev S128x1x4x64 : Shape := ⟨4, ![128, 1, 4, 64]⟩
abbrev S128x129x4x64 : Shape := ⟨4, ![128, 129, 4, 64]⟩
abbrev S128x30x1024 : Shape := ⟨3, ![128, 30, 1024]⟩
abbrev S128x1x1024 : Shape := ⟨3, ![128, 1, 1024]⟩
abbrev S128x31x1024 : Shape := ⟨3, ![128, 31, 1024]⟩
abbrev S128x128x256 : Shape := ⟨3, ![128, 128, 256]⟩

abbrev nBuf : Space → Nat
  | .hbm => 26
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x256, .f32⟩
  | .hbm, ⟨2, _⟩ => ⟨S128x256, .f32⟩
  | .hbm, ⟨3, _⟩ => ⟨S128x1024, .f32⟩
  | .hbm, ⟨4, _⟩ => ⟨S1x128x128x4x64, .f32⟩
  | .hbm, ⟨5, _⟩ => ⟨S1x128x128x4x64, .f32⟩
  | .hbm, ⟨6, _⟩ => ⟨S1x128x30x1024, .f32⟩
  | .hbm, ⟨7, _⟩ => ⟨S1x16, .f32⟩
  | .hbm, ⟨8, _⟩ => ⟨S1x31x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S128x128x4x64, .f32⟩
  | .hbm, ⟨13, _⟩ => ⟨S128x1x4x64, .f32⟩
  | .hbm, ⟨14, _⟩ => ⟨S128x129x4x64, .f32⟩
  | .hbm, ⟨15, _⟩ => ⟨S128x128x4x64, .f32⟩
  | .hbm, ⟨16, _⟩ => ⟨S128x1x4x64, .f32⟩
  | .hbm, ⟨17, _⟩ => ⟨S128x129x4x64, .f32⟩
  | .hbm, ⟨18, _⟩ => ⟨S128x30x1024, .f32⟩
  | .hbm, ⟨19, _⟩ => ⟨S128x1x1024, .f32⟩
  | .hbm, ⟨20, _⟩ => ⟨S128x31x1024, .f32⟩
  | .hbm, ⟨21, _⟩ => ⟨S128x128x4x64, .f32⟩
  | .hbm, ⟨22, _⟩ => ⟨S128x128x256, .f32⟩
  | .hbm, ⟨23, _⟩ => ⟨S128x128x4x64, .f32⟩
  | .hbm, ⟨24, _⟩ => ⟨S128x128x256, .f32⟩
  | .hbm, ⟨25, _⟩ => ⟨S128x30x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩

abbrev nD : Nat := 1
abbrev τ : Topo := Topo.v7x

variable {F : FTy → Type} [FloatOps F]
-- ==== Proof.Rows.lean ====
/-
  The mathematics of the layer's row-wise parts, on plain functions of extended reals: what one row of the output
  projection, of the two RMS norms and of the squared-ReLU MLP is. Nothing here mentions a program.
-/
module

public import Idealize.ShloMosaic.Lib.Pointwise

@[expose] public section

noncomputable section

namespace Cert.Rows

open Idealize.ShloMosaic

/-- The RMS norm of a row `x` of 2048 entries, scaled by `g`: entry `j` of `x · rsqrt(mean(x²) + ε) · g`. -/
def rms (x g : Fin 2048 → EReal) (j : Fin 2048) : EReal :=
  x j * Ideal.rsqrt (Ideal.div (∑ k, x k * x k) (Ideal.ofBits FTy.f32 0x45000000#32) + Ideal.ofBits FTy.f32 0x3727C5AC#32) * g j

/-- Where entry `k` of an attention row in the kernel's order (query of the group, key head, lane) stands in the
    layer's order (key head, query of the group, lane). -/
def rowOf (k : Fin 1024) : Fin 2048 :=
  ⟨k.val / 64 % 4 * 256 + k.val / 256 * 64 + k.val % 64, by omega⟩

/-- Row `1024 + k` of the output projection's weight: the one that meets entry `k` of the convolution's row. -/
def rowUp (k : Fin 1024) : Fin 2048 := ⟨1024 + k.val, by omega⟩

/-- The residual row after the output projection: `x + (a, c) · w + b`, the attention row `a` in the kernel's order. -/
def hid (x : Fin 2048 → EReal) (a c : Fin 1024 → EReal) (w : Fin 2048 → Fin 2048 → EReal) (b : Fin 2048 → EReal) (j : Fin 2048) : EReal :=
  x j + (∑ k, a k * w (rowOf k) j + ∑ k, c k * w (rowUp k) j) + b j

/-- Entry `f` of the MLP's hidden row: the squared ReLU of `hn · wu`. -/
def act (hn : Fin 2048 → EReal) (wu : Fin 2048 → Fin 8192 → EReal) (f : Fin 8192) : EReal :=
  max (∑ k, hn k * wu k f) 0 * max (∑ k, hn k * wu k f) 0

/-- The row the layer returns: the final RMS norm of the residual row plus the MLP of its RMS norm. -/
def out (x : Fin 2048 → EReal) (a c : Fin 1024 → EReal) (w : Fin 2048 → Fin 2048 → EReal) (b g2 : Fin 2048 → EReal)
    (wu : Fin 2048 → Fin 8192 → EReal) (wd : Fin 8192 → Fin 2048 → EReal) (gf : Fin 2048 → EReal) : Fin 2048 → EReal :=
  rms (fun j => hid x a c w b j + ∑ f, act (rms (hid x a c w b) g2) wu f * wd f j) gf

/-- Position `l` of block `s` of 512 among the 8192 hidden entries. -/
def col (s : ℕ) (l : Fin 512) : Fin 8192 := ⟨(512 * s + l.val) % 8192, Nat.mod_lt _ (by decide)⟩

/-- A sum over the 8192 hidden entries is the sum over the 16 blocks of 512. -/
theorem sum_col (g : Fin 8192 → EReal) : ∑ s ∈ Finset.range 16, ∑ l : Fin 512, g (col s l) = ∑ f, g f := by
  rw [Finset.sum_range, ← Fintype.sum_prod_type', ← (finProdFinEquiv (m := 16) (n := 512)).sum_comp g]
  refine Finset.sum_congr rfl fun p _ => congrArg g (Fin.ext ?_)
  have h1 := p.1.isLt
  have h2 := p.2.isLt
  simp only [col, finProdFinEquiv_apply_val]
  omega

/-- `rowOf` as a permutation of 1024 positions. -/
def rowPerm (k : Fin 1024) : Fin 1024 := ⟨k.val / 64 % 4 * 256 + k.val / 256 * 64 + k.val % 64, by omega⟩

/-- `rowPerm` is its own inverse: it swaps two digits in base 4. -/
theorem rowPerm_rowPerm : ∀ k : Fin 1024, rowPerm (rowPerm k) = k := by
  decide +kernel

/-- A contraction over the 2048 rows of the output projection, its left factor an attention row in the layer's order
    beside a convolution row, is the contraction over the kernel's order. -/
theorem sum_rows (a c : Fin 1024 → EReal) (v w : Fin 2048 → EReal)
    (ha : ∀ k : Fin 1024, v ⟨k.val, by omega⟩ = a (rowPerm k)) (hc : ∀ k, v (rowUp k) = c k) :
    ∑ k, v k * w k = ∑ k, a k * w (rowOf k) + ∑ k, c k * w (rowUp k) := by
  rw [show (∑ k : Fin 2048, v k * w k) = ∑ k : Fin (1024 + 1024), v k * w k from rfl, Fin.sum_univ_add]
  congr 1
  · rw [← Equiv.sum_comp (Function.Involutive.toPerm rowPerm rowPerm_rowPerm)]
    refine Finset.sum_congr rfl fun k _ => ?_
    rw [show (Fin.castAdd 1024 ((Function.Involutive.toPerm rowPerm rowPerm_rowPerm) k) : Fin (1024 + 1024)) = ⟨(rowPerm k).val, by omega⟩ from rfl]
    rw [ha, rowPerm_rowPerm]
    rfl
  · refine Finset.sum_congr rfl fun k _ => ?_
    rw [← hc]
    rfl

end Cert.Rows

end
-- ==== Proof.Attn.lean ====
/-
  The attention of one query row over a window of 256 keys with a sink, the causal convolution of 31 taps and the layer
  norm with a swish, as plain functions of extended reals, and the facts about them that the mix launch's proof uses.
-/
module

public import Idealize.ShloMosaic.Lib.Pointwise
public import proofs.«01_k».proof.Proof.Rows

@[expose] public section

set_option maxRecDepth 16384

noncomputable section

namespace Cert.Attn

open Idealize.ShloMosaic

/-- The greatest of a row's scores and its sink. -/
def top (S : Fin 256 → EReal) (k : EReal) : EReal := max (Finset.fold max (Ideal.ofBits FTy.f32 0xFF800000#32) S Finset.univ) k
/-- A row's probability at key `s`: the softmax of its scores and its sink. -/
def prob (S : Fin 256 → EReal) (k : EReal) (s : Fin 256) : EReal :=
  Ideal.div (Ideal.exp (S s - top S k)) (∑ x, Ideal.exp (S x - top S k) + Ideal.exp (k - top S k))
/-- The row's attention over one lane of the values. -/
def att (S : Fin 256 → EReal) (k : EReal) (v : Fin 256 → EReal) : EReal := ∑ s, prob S k s * v s
/-- Whether the query at row `r` of block `b` sees key `s` of the previous block and its own. -/
def vis (b r s : ℕ) : BitVec 1 :=
  IntOp.andi
    (IntOp.andi
      (IntOp.cmpi CmpIPredicate.sge (IntOp.subi (IntOp.addi (BitVec.ofNat 32 r) 128#32) (BitVec.ofNat 32 s)) 0#32)
      (IntOp.cmpi CmpIPredicate.slt (IntOp.subi (IntOp.addi (BitVec.ofNat 32 r) 128#32) (BitVec.ofNat 32 s)) 128#32))
    (IntOp.ori (IntOp.cmpi CmpIPredicate.sgt (BitVec.ofNat 32 b) 0#32) (IntOp.cmpi CmpIPredicate.sge (BitVec.ofNat 32 s) 128#32))
/-- The masked score: the query's product with key `s`, minus infinity where the key is not seen. -/
def score (b r : ℕ) (q : Fin 64 → EReal) (K : Fin 256 → Fin 64 → EReal) (s : Fin 256) : EReal :=
  Scalar.select (vis b r s.val) (∑ x, q x * K s x) (Ideal.ofBits FTy.f32 0xFF800000#32)

/-- The bits of minus infinity. -/
theorem ninf : Ideal.ofBits FTy.f32 0xFF800000#32 = ⊥ := by simp [Ideal.ofBits, Ideal.ieee]

theorem exp_nonneg (x : EReal) : 0 ≤ Ideal.exp x := by
  induction x with
  | bot => simp
  | top => simp
  | coe r => simp only [Ideal.exp_coe]; exact_mod_cast (Real.exp_pos r).le

/-- In a sequence's first block no query sees a key of the previous block. -/
theorem vis_first (r s : ℕ) (hs : s < 128) : vis 0 r s = 0#1 := by
  have h1 : ∀ s : Fin 128, IntOp.ori (IntOp.cmpi CmpIPredicate.sgt (BitVec.ofNat 32 0) 0#32) (IntOp.cmpi CmpIPredicate.sge (BitVec.ofNat 32 s.val) 128#32) = 0#1 := by
    decide +kernel
  have h2 : ∀ x : BitVec 1, IntOp.andi x 0#1 = 0#1 := by decide
  unfold vis
  rw [h1 ⟨s, hs⟩, h2]

/-- A score is fixed by its query and by the keys that the query sees. -/
theorem score_first (r : ℕ) (q : Fin 64 → EReal) (K : Fin 256 → Fin 64 → EReal) (s : Fin 256) (hs : s.val < 128) : score 0 r q K s = ⊥ := by
  unfold score
  rw [vis_first r s.val hs, ninf]
  rfl

/-- Whether a value is zero or infinite. -/
def Tri (x : EReal) : Prop := x = 0 ∨ x = ⊥ ∨ x = ⊤
theorem tri_add {x y : EReal} (hx : Tri x) (hy : Tri y) : Tri (x + y) := by
  rcases hx with rfl | rfl | rfl <;> rcases hy with rfl | rfl | rfl <;> simp [Tri]
theorem tri_sum {n : ℕ} (f : Fin n → EReal) (h : ∀ i, Tri (f i)) : Tri (∑ i, f i) :=
  Finset.sum_induction f Tri (fun _ _ => tri_add) (Or.inl rfl) fun i _ => h i
theorem tri_bot (x : EReal) : Tri (⊥ * x) := by
  rcases lt_trichotomy x 0 with h | rfl | h
  · exact Or.inr (Or.inr (EReal.bot_mul_of_neg h))
  · exact Or.inl (mul_zero _)
  · exact Or.inr (Or.inl (EReal.bot_mul_of_pos h))
theorem tri_self {x : EReal} (hx : Tri x) : x + x = x := by
  rcases hx with rfl | rfl | rfl <;> simp

/-- Where no key of the first half is seen, the values there do not matter: values that repeat the second half and
    values that are zero give the same attention. If the softmax's denominator is not zero, the first half's
    probabilities are zero. If it is zero, every probability is minus infinity, and the sum is zero or infinite, so that
    counting it twice changes nothing. -/
theorem att_first (S : Fin 256 → EReal) (k : EReal) (v w : Fin 256 → EReal) (hS : ∀ s, s.val < 128 → S s = ⊥)
    (hv : ∀ i : Fin 128, v ⟨i.val, by omega⟩ = v ⟨128 + i.val, by omega⟩) (hw : ∀ i : Fin 128, w ⟨i.val, by omega⟩ = 0)
    (e : ∀ i : Fin 128, v ⟨128 + i.val, by omega⟩ = w ⟨128 + i.val, by omega⟩) : att S k v = att S k w := by
  have h0 : ∀ s, s.val < 128 → Ideal.exp (S s - top S k) = 0 := fun s hs => by
    rw [hS s hs, EReal.bot_sub, Ideal.exp_bot]
  by_cases hD : ∑ x, Ideal.exp (S x - top S k) + Ideal.exp (k - top S k) = 0
  · have hn : ∀ x, 0 ≤ Ideal.exp (S x - top S k) := fun x => exp_nonneg _
    have hs : ∑ x, Ideal.exp (S x - top S k) = 0 :=
      le_antisymm ((le_add_of_nonneg_right (exp_nonneg _)).trans hD.le) (Finset.sum_nonneg fun x _ => hn x)
    have hz : ∀ x, Ideal.exp (S x - top S k) = 0 := fun x =>
      (Finset.sum_eq_zero_iff_of_nonneg fun x _ => hn x).1 hs x (Finset.mem_univ _)
    have hp : ∀ s, prob S k s = ⊥ := fun s => by unfold prob; rw [hD, hz]; simp [Ideal.div]
    unfold att
    simp only [hp]
    have sp : ∀ f : Fin 256 → EReal, ∑ s, f s = ∑ i : Fin 128, f ⟨i.val, by omega⟩ + ∑ i : Fin 128, f ⟨128 + i.val, by omega⟩ :=
      fun f => Fin.sum_univ_add (a := 128) (b := 128) f
    rw [sp, sp]
    simp only [hw, hv, mul_zero, Finset.sum_const_zero, zero_add, e]
    exact tri_self (tri_sum _ fun i => tri_bot _)
  · have hp : ∀ s, s.val < 128 → prob S k s = 0 := fun s hs => by
      unfold prob; rw [h0 s hs]; simp [Ideal.div, hD]
    unfold att
    refine Finset.sum_congr rfl fun s _ => ?_
    by_cases hs : s.val < 128
    · rw [hp s hs, zero_mul, zero_mul]
    · have := e ⟨s.val - 128, by omega⟩
      have hs' : (⟨128 + (s.val - 128), by omega⟩ : Fin 256) = s := Fin.ext (by show 128 + (s.val - 128) = s.val; omega)
      rw [hs'] at this
      rw [this]

/-- A sum whose terms vanish outside the `M` places from `o` is the sum over those places. -/
theorem sum_part {N M : ℕ} (o : ℕ) (ho : o + M ≤ N) (f : Fin N → EReal) (v : Fin M → EReal)
    (h1 : ∀ s : Fin M, f ⟨o + s.val, by omega⟩ = v s) (h0 : ∀ k : Fin N, (k.val < o ∨ o + M ≤ k.val) → f k = 0) : ∑ k, f k = ∑ s, v s := by
  refine (Finset.sum_of_injOn (fun s : Fin M => (⟨o + s.val, by omega⟩ : Fin N)) ?_ ?_ ?_ ?_).symm
  · intro a _ b _ h
    have := congrArg Fin.val h
    exact Fin.ext (by simpa using this)
  · intro a _; exact Finset.mem_coe.2 (Finset.mem_univ _)
  · intro k _ hk
    refine h0 k ?_
    by_contra hc
    refine hk ⟨⟨k.val - o, by omega⟩, Finset.mem_coe.2 (Finset.mem_univ _), Fin.ext ?_⟩
    show o + (k.val - o) = k.val
    omega
  · intro s _; exact (h1 s).symm

/-- The convolution: 31 taps. -/
def conv (e : ℕ → EReal) (w : Fin 31 → EReal) : EReal :=
  e 0 * w 0 + e 1 * w 1 + e 2 * w 2 + e 3 * w 3 + e 4 * w 4 + e 5 * w 5 + e 6 * w 6 + e 7 * w 7 + e 8 * w 8 + e 9 * w 9 + e 10 * w 10 + e 11 * w 11 + e 12 * w 12 + e 13 * w 13 + e 14 * w 14 + e 15 * w 15 + e 16 * w 16 + e 17 * w 17 + e 18 * w 18 + e 19 * w 19 + e 20 * w 20 + e 21 * w 21 + e 22 * w 22 + e 23 * w 23 + e 24 * w 24 + e 25 * w 25 + e 26 * w 26 + e 27 * w 27 + e 28 * w 28 + e 29 * w 29 + e 30 * w 30

/-- The layer norm of a row, scaled and shifted. -/
def ln (y g b : Fin 1024 → EReal) (l : Fin 1024) : EReal :=
  (y l - Ideal.div (∑ x, y x) (Ideal.ofBits FTy.f32 0x44800000#32)) *
      Ideal.rsqrt
        (Ideal.div
            (∑ x, (y x - Ideal.div (∑ x, y x) (Ideal.ofBits FTy.f32 0x44800000#32)) *
                (y x - Ideal.div (∑ x, y x) (Ideal.ofBits FTy.f32 0x44800000#32)))
            (Ideal.ofBits FTy.f32 0x44800000#32) +
          Ideal.ofBits FTy.f32 925353388#32) *
    g l + b l
/-- The swish of the normalized row. -/
def lns (y g b : Fin 1024 → EReal) (l : Fin 1024) : EReal := ln y g b l * Ideal.div 1 (1 + Ideal.exp (-ln y g b l))

variable (q : Fin 32768 → Fin 1024 → EReal) (k v : Fin 32768 → Fin 256 → EReal) (sink : Fin 16 → EReal)

/-- Key or value `s` that array row `R` may see: the previous block's rows (zero before the sequence's first block), then
    its own block's. -/
def withPrev (R : Fin 32768) (s : Fin 256) (c : Fin 256) : EReal :=
  if s.val < 128 then if R.val / 128 % 16 < 1 then 0 else k ⟨R.val / 2048 * 2048 + (R.val / 128 % 16 - 1) * 128 + s.val, by omega⟩ c
  else k ⟨R.val / 2048 * 2048 + R.val / 128 % 16 * 128 + (s.val - 128), by omega⟩ c
/-- The same with a first block's own rows in the place of the zeros. -/
def ownPrev (R : Fin 32768) (s : Fin 256) (c : Fin 256) : EReal :=
  if s.val < 128 then k ⟨R.val / 2048 * 2048 + (R.val / 128 % 16 - 1) * 128 + s.val, by omega⟩ c
  else k ⟨R.val / 2048 * 2048 + R.val / 128 % 16 * 128 + (s.val - 128), by omega⟩ c

/-- The attention's result, array row `R`, lane `l`. -/
def attRow (R : Fin 32768) (l : Fin 1024) : EReal :=
  att (score (R.val / 128 % 16) (R.val % 128) (fun x => q R ⟨l.val / 256 * 256 + l.val / 64 % 4 * 64 + x.val, by omega⟩)
      (fun s x => withPrev k R s ⟨l.val / 64 % 4 * 64 + x.val, by omega⟩))
    (sink ⟨l.val / 64 % 4 * 4 + l.val / 256, by omega⟩) (fun s => withPrev v R s ⟨l.val / 64 % 4 * 64 + l.val % 64, by omega⟩)

/-- The first block's own rows, in the place of the previous block's, give the same attention. -/
theorem attRow_own (R : Fin 32768) (l : Fin 1024) :
    att (score (R.val / 128 % 16) (R.val % 128) (fun x => q R ⟨l.val / 256 * 256 + l.val / 64 % 4 * 64 + x.val, by omega⟩)
      (fun s x => ownPrev k R s ⟨l.val / 64 % 4 * 64 + x.val, by omega⟩))
    (sink ⟨l.val / 64 % 4 * 4 + l.val / 256, by omega⟩) (fun s => ownPrev v R s ⟨l.val / 64 % 4 * 64 + l.val % 64, by omega⟩)
    = attRow q k v sink R l := by
  unfold attRow
  by_cases hb : R.val / 128 % 16 < 1
  · have hb0 : R.val / 128 % 16 = 0 := by omega
    have hs : score (R.val / 128 % 16) (R.val % 128) (fun x => q R ⟨l.val / 256 * 256 + l.val / 64 % 4 * 64 + x.val, by omega⟩)
          (fun s x => ownPrev k R s ⟨l.val / 64 % 4 * 64 + x.val, by omega⟩)
        = score (R.val / 128 % 16) (R.val % 128) (fun x => q R ⟨l.val / 256 * 256 + l.val / 64 % 4 * 64 + x.val, by omega⟩)
          (fun s x => withPrev k R s ⟨l.val / 64 % 4 * 64 + x.val, by omega⟩) := by
      funext s
      by_cases h : s.val < 128
      · rw [hb0, score_first _ _ _ s h, score_first _ _ _ s h]
      · unfold score ownPrev withPrev
        simp only [if_neg h]
    rw [hs]
    refine att_first _ _ _ _ (fun s h => by rw [hb0]; exact score_first _ _ _ s h) (fun i => ?_) (fun i => ?_) (fun i => ?_)
    · unfold ownPrev
      rw [if_pos (show i.val < 128 from i.isLt), if_neg (show ¬ 128 + i.val < 128 by omega)]
      exact congrArg (fun a => v a _) (Fin.ext (by show _ + _ + i.val = _ + _ + (128 + i.val - 128); omega))
    · unfold withPrev
      rw [if_pos (show i.val < 128 from i.isLt), if_pos hb]
    · unfold ownPrev withPrev
      rw [if_neg (show ¬ 128 + i.val < 128 by omega), if_neg (show ¬ 128 + i.val < 128 by omega)]
  · have e : ∀ x : Fin 32768 → Fin 256 → EReal, ownPrev x R = withPrev x R := fun x => by
      funext s c; unfold ownPrev withPrev; rw [if_neg hb]
    rw [e, e]

variable (u : Fin 32768 → Fin 1024 → EReal) (w : Fin 31 → Fin 1024 → EReal) (cb g b : Fin 1024 → EReal)
/-- Sequence `n`'s channel `l` at padded position `P`: zero at the thirty positions before the first. -/
def uExt (n : Fin 16) (l : Fin 1024) (P : ℕ) : EReal :=
  if h : 30 ≤ P ∧ P - 30 < 2048 then u ⟨n.val * 2048 + (P - 30), by omega⟩ l else 0
/-- The convolution at array row `R`. -/
def convRow (R : Fin 32768) (l : Fin 1024) : EReal :=
  conv (fun t => uExt u ⟨R.val / 2048, by omega⟩ l (t + R.val % 2048)) (fun t => w t l) + cb l
/-- The convolution's branch: normalized, with its swish. -/
def mixRow (R : Fin 32768) (l : Fin 1024) : EReal := lns (convRow u w cb R) g b l

end Cert.Attn
end
-- ==== Proof.Mix.Pay.lean ====
/-
  The attention launch, its stored values read at an entry: the masked scores of each key head, their probabilities, and the
  product with the stacked values.
-/
module

public import proofs.«01_k».proof.Proof.Gen.MixIdeal.Frame
public import proofs.«01_k».proof.Proof.Attn
public import Idealize.ShloMosaic.Lib.Pointwise
public import Idealize.ShloMosaic.Lib.StableHlo.RunRead
public import Idealize.ShloMosaic.Lib.Pipeline.ValueKit
public import Idealize.ShloMosaic.Lib.Claim

@[expose] public section

set_option maxRecDepth 16384

noncomputable section

namespace Cert.MixIdeal.Row

open Cert.MixIdeal Cert.MixIdeal.Gen Cert.Attn Idealize.ShloMosaic Idealize.ShloMosaic.TcCoe Idealize.SL.Sem

variable (m : (ℓ : Loc nD τ sig) → Buf (Elt Ideal) ℓ)

/-- A row of masked scores: the keys of one key head, from lane `o` of the products. -/
def msk (mk : IVec S128x256 1) (sc : FVec Ideal S128x1024 .f32) (r : Fin 128) (o : ℕ) (ho : o + 256 ≤ 1024) (s : Fin 256) : EReal :=
  Scalar.select (mk (ix2 r s)) (sc (ix2 r ⟨o + s.val, by omega⟩)) (Ideal.ofBits FTy.f32 0xFF800000#32)

/-- Four rows of 256, side by side. -/
def lad (p0 p1 p2 p3 : Fin 256 → EReal) (x : Fin 1024) : EReal :=
  if h : x.val < 256 then p0 ⟨x.val, h⟩ else if h1 : x.val - 256 < 256 then p1 ⟨x.val - 256, h1⟩
  else if h2 : x.val - 256 - 256 < 256 then p2 ⟨x.val - 256 - 256, h2⟩ else p3 ⟨x.val - 256 - 256 - 256, by omega⟩

variable (vs : FVec Ideal S1024x256 .bf16) (ks : FVec Ideal S1024x256 .bf16) (v0 : BitVec 1) (v4 : FVec Ideal S256x256 .bf16) (mk : IVec S128x256 1) (sc : FVec Ideal S128x1024 .f32) (q : FVec Ideal S128x256 .bf16) (p0 p1 p2 : FVec Ideal S128x256 .bf16) (σ σ' : EReal) (r : Fin 128) (l : Fin 256)

/-- Query group 0, key head 1: the probabilities. -/
theorem pay21_at : k0_pay21 (F := Ideal) mk sc σ (ix2 r l) = prob (msk mk sc r 256 (by decide)) σ l := by
  unfold prob top msk
  pointwise [k0_pay21]
/-- Query group 0, key head 2. -/
theorem pay22_at : k0_pay22 (F := Ideal) mk sc σ (ix2 r l) = prob (msk mk sc r 512 (by decide)) σ l := by
  unfold prob top msk
  pointwise [k0_pay22]
/-- Query group 1, key head 2. -/
theorem pay30_at : k0_pay30 (F := Ideal) mk sc σ (ix2 r l) = prob (msk mk sc r 512 (by decide)) σ l := by
  unfold prob top msk
  pointwise [k0_pay30]

/-- Query group 1, key head 0. -/
theorem pay27_at : k0_pay27 (F := Ideal) ks mk q σ (ix2 r l) = prob (msk mk (k0_pay26 (F := Ideal) ks q) r 0 (by decide)) σ l := by
  have e : ∀ s : Fin 256, (⟨0 + s.val, by omega⟩ : Fin 1024) = ⟨s.val, by omega⟩ := fun s => Fin.ext (by simp)
  unfold prob top msk
  simp only [e]
  unfold k0_pay27
  generalize k0_pay26 (F := Ideal) ks q = y
  pointwise []

/-- Query group 2, key head 0. -/
theorem pay38_at : k0_pay38 (F := Ideal) ks mk q σ (ix2 r l) = prob (msk mk (k0_pay37 (F := Ideal) ks q) r 0 (by decide)) σ l := by
  have e : ∀ s : Fin 256, (⟨0 + s.val, by omega⟩ : Fin 1024) = ⟨s.val, by omega⟩ := fun s => Fin.ext (by simp)
  unfold prob top msk
  simp only [e]
  unfold k0_pay38
  generalize k0_pay37 (F := Ideal) ks q = y
  pointwise []

/-- Query group 3, key head 0. -/
theorem pay46_at : k0_pay46 (F := Ideal) ks mk q σ (ix2 r l) = prob (msk mk (k0_pay45 (F := Ideal) ks q) r 0 (by decide)) σ l := by
  have e : ∀ s : Fin 256, (⟨0 + s.val, by omega⟩ : Fin 1024) = ⟨s.val, by omega⟩ := fun s => Fin.ext (by simp)
  unfold prob top msk
  simp only [e]
  unfold k0_pay46
  generalize k0_pay45 (F := Ideal) ks q = y
  pointwise []

/-- Query group 3, key head 1. -/
theorem pay47_at : k0_pay47 (F := Ideal) ks mk q σ (ix2 r l) = prob (msk mk (k0_pay45 (F := Ideal) ks q) r 256 (by decide)) σ l := by
  unfold prob top msk
  unfold k0_pay47
  generalize k0_pay45 (F := Ideal) ks q = y
  pointwise []

/-- Query group 1, key head 1. -/
theorem pay29_at : k0_pay29 (F := Ideal) σ (k0_pay28 (F := Ideal) ks mk q) (ix2 r l) = prob (msk mk (k0_pay26 (F := Ideal) ks q) r 256 (by decide)) σ l := by
  unfold prob top msk
  unfold k0_pay28
  generalize k0_pay26 (F := Ideal) ks q = y
  pointwise [k0_pay29]

/-- Query group 0, key head 0. -/
theorem pay20_at : k0_pay20 (F := Ideal) (k0_pay17 (F := Ideal) v0 v4 k0_pay4 k0_pay5 k0_pay6 k0_pay7 q σ) (k0_pay18 (F := Ideal) v0 v4 k0_pay4 k0_pay5 k0_pay6 k0_pay7 q σ) (k0_pay19 (F := Ideal) v0 v4 k0_pay4 k0_pay5 k0_pay6 k0_pay7 q σ) (ix2 r l) = prob (msk (k0_pay13 v0) (k0_pay14 (F := Ideal) v4 k0_pay4 k0_pay5 k0_pay6 k0_pay7 q) r 0 (by decide)) σ l := by
  have e : ∀ (s : Fin 256), (⟨0 + s.val, by omega⟩ : Fin 1024) = ⟨s.val, by omega⟩ := fun s => Fin.ext (by simp)
  unfold prob top msk
  simp only [e]
  unfold k0_pay18 k0_pay19 k0_pay17 k0_pay16 k0_pay15
  generalize k0_pay14 (F := Ideal) v4 k0_pay4 k0_pay5 k0_pay6 k0_pay7 q = y
  generalize k0_pay13 v0 = mk
  pointwise [k0_pay20]

/-- Query group 0: the product of the probabilities and the stacked values. -/
theorem pay25_at : k0_pay25 (F := Ideal) vs p0 p1 p2 σ (k0_pay23 (F := Ideal) mk sc) (k0_pay24 (F := Ideal) mk sc) (ix2 r l)
    = ∑ x : Fin 1024, lad (fun s => p0 (ix2 r s)) (fun s => p1 (ix2 r s)) (fun s => p2 (ix2 r s)) (prob (msk mk sc r 768 (by decide)) σ) x * vs (ix2 x l) := by
  unfold lad prob top msk
  pointwise [k0_pay25, k0_pay24, k0_pay23]

/-- Query group 1: the product. -/
theorem pay36_at : k0_pay36 (F := Ideal) vs p0 p1 p2 (k0_pay33 (F := Ideal) mk sc σ) (k0_pay34 (F := Ideal) mk sc σ) (k0_pay35 (F := Ideal) mk sc σ) (ix2 r l)
    = ∑ x : Fin 1024, lad (fun s => p0 (ix2 r s)) (fun s => p1 (ix2 r s)) (fun s => p2 (ix2 r s)) (prob (msk mk sc r 768 (by decide)) σ) x * vs (ix2 x l) := by
  unfold lad prob top msk
  pointwise [k0_pay36, k0_pay35, k0_pay34, k0_pay33, k0_pay32, k0_pay31]

variable (σ2 σ3 : EReal)
/-- Query group 2: the product. -/
theorem pay44_at : k0_pay44 (F := Ideal) vs mk (k0_pay37 (F := Ideal) ks q) p0 (k0_pay40 (F := Ideal) ks mk q σ) (k0_pay41 (F := Ideal) ks mk q σ) (k0_pay42 (F := Ideal) ks mk q σ) (k0_pay43 (F := Ideal) σ) σ2 σ3 (ix2 r l)
    = ∑ x : Fin 1024, lad (fun s => p0 (ix2 r s)) (prob (msk mk (k0_pay37 (F := Ideal) ks q) r 256 (by decide)) σ) (prob (msk mk (k0_pay37 (F := Ideal) ks q) r 512 (by decide)) σ2) (prob (msk mk (k0_pay37 (F := Ideal) ks q) r 768 (by decide)) σ3) x * vs (ix2 x l) := by
  unfold k0_pay42 k0_pay41 k0_pay40 k0_pay39
  generalize k0_pay37 (F := Ideal) ks q = y
  unfold lad prob top msk
  pointwise [k0_pay44, k0_pay43]

/-- Query group 3: the product. -/
theorem pay50_at : k0_pay50 (F := Ideal) vs mk (k0_pay45 (F := Ideal) ks q) p0 p1 σ2 (k0_pay48 (F := Ideal) ks q) (k0_pay49 (F := Ideal)) σ3 (ix2 r l)
    = ∑ x : Fin 1024, lad (fun s => p0 (ix2 r s)) (fun s => p1 (ix2 r s)) (prob (msk mk (k0_pay45 (F := Ideal) ks q) r 512 (by decide)) σ2) (prob (msk mk (k0_pay45 (F := Ideal) ks q) r 768 (by decide)) σ3) x * vs (ix2 x l) := by
  unfold k0_pay48
  generalize k0_pay45 (F := Ideal) ks q = y
  unfold lad prob top msk
  pointwise [k0_pay50, k0_pay49]

/-- The lane's key head. -/
theorem pay4_eq (r l : Fin 256) : k0_pay4 (ix2 r l) = BitVec.ofNat 32 (l.val / 64) := by
  have e : ∀ l : Fin 256, k0_pay4 (ix2 0 l) = BitVec.ofNat 32 (l.val / 64) := by decide +kernel
  have e0 : ∀ r l : Fin 256, k0_pay4 (ix2 r l) = k0_pay4 (ix2 0 l) := fun r l => by pointwise [k0_pay4]
  exact (e0 _ l).trans (e l)

/-- A choice by the key head. -/
theorem sel_eq : ∀ (l : Fin 256) (j : Fin 4) (x y : EReal), Scalar.select (IntOp.cmpi CmpIPredicate.eq (BitVec.ofNat 32 (l.val / 64)) (BitVec.ofNat 32 j.val)) x y = if l.val / 64 = j.val then x else y := by
  have e : ∀ (l : Fin 256) (j : Fin 4), IntOp.cmpi CmpIPredicate.eq (BitVec.ofNat 32 (l.val / 64)) (BitVec.ofNat 32 j.val) = if l.val / 64 = j.val then 1#1 else 0#1 := by decide +kernel
  intro l j x y
  rw [e]
  split_ifs <;> rfl
/-- The stacked keys: head `a / 256`'s lanes kept, the others zero. -/
theorem pay11_at (a : Fin 1024) : k0_pay11 (F := Ideal) v4 k0_pay4 k0_pay5 k0_pay6 k0_pay7 (ix2 a l)
    = if l.val / 64 = a.val / 256 then v4 (ix2 ⟨a.val % 256, Nat.mod_lt _ (by decide)⟩ l) else 0 := by
  have e : k0_pay11 (F := Ideal) v4 k0_pay4 k0_pay5 k0_pay6 k0_pay7 (ix2 a l)
      = (if h : a.val < 256 then Scalar.select (IntOp.cmpi CmpIPredicate.eq (k0_pay4 (ix2 ⟨a.val, h⟩ l)) 0#32) (v4 (ix2 ⟨a.val, h⟩ l)) (Ideal.ofBits FTy.bf16 0#16)
        else if h1 : a.val - 256 < 256 then Scalar.select (IntOp.cmpi CmpIPredicate.eq (k0_pay4 (ix2 ⟨a.val - 256, h1⟩ l)) 1#32) (v4 (ix2 ⟨a.val - 256, h1⟩ l)) (Ideal.ofBits FTy.bf16 0#16)
        else if h2 : a.val - 256 - 256 < 256 then Scalar.select (IntOp.cmpi CmpIPredicate.eq (k0_pay4 (ix2 ⟨a.val - 256 - 256, h2⟩ l)) 2#32) (v4 (ix2 ⟨a.val - 256 - 256, h2⟩ l)) (Ideal.ofBits FTy.bf16 0#16)
        else Scalar.select (IntOp.cmpi CmpIPredicate.eq (k0_pay4 (ix2 ⟨a.val - 256 - 256 - 256, by omega⟩ l)) 3#32) (v4 (ix2 ⟨a.val - 256 - 256 - 256, by omega⟩ l)) (Ideal.ofBits FTy.bf16 0#16) : EReal) := by
    pointwise [k0_pay11, k0_pay10, k0_pay9, k0_pay8, k0_pay7, k0_pay6, k0_pay5]
  rw [e]
  have hz : Ideal.ofBits FTy.bf16 0#16 = 0 := by simp
  simp only [pay4_eq, hz]
  by_cases h : a.val < 256
  · rw [dif_pos h]
    have e1 : a.val / 256 = 0 := by omega
    have e2 : (⟨a.val % 256, Nat.mod_lt _ (by decide)⟩ : Fin 256) = ⟨a.val, by omega⟩ := Fin.ext (by show a.val % 256 = a.val; omega)
    rw [e1, e2]
    exact sel_eq l 0 _ _
  rw [dif_neg h]
  by_cases h1 : a.val - 256 < 256
  · rw [dif_pos h1]
    have e1 : a.val / 256 = 1 := by omega
    have e2 : (⟨a.val % 256, Nat.mod_lt _ (by decide)⟩ : Fin 256) = ⟨a.val - 256, by omega⟩ := Fin.ext (by show a.val % 256 = a.val - 256; omega)
    rw [e1, e2]
    exact sel_eq l 1 _ _
  rw [dif_neg h1]
  by_cases h2 : a.val - 256 - 256 < 256
  · rw [dif_pos h2]
    have e1 : a.val / 256 = 2 := by omega
    have e2 : (⟨a.val % 256, Nat.mod_lt _ (by decide)⟩ : Fin 256) = ⟨a.val - 256 - 256, by omega⟩ := Fin.ext (by show a.val % 256 = a.val - 256 - 256; omega)
    rw [e1, e2]
    exact sel_eq l 2 _ _
  rw [dif_neg h2]
  have e1 : a.val / 256 = 3 := by omega
  have e2 : (⟨a.val % 256, Nat.mod_lt _ (by decide)⟩ : Fin 256) = ⟨a.val - 256 - 256 - 256, by omega⟩ := Fin.ext (by show a.val % 256 = a.val - 256 - 256 - 256; omega)
  rw [e1, e2]
  exact sel_eq l 3 _ _

/-- The stacked values: head `a / 256`'s lanes kept, the others zero. -/
theorem pay12_at (a : Fin 1024) : k0_pay12 (F := Ideal) v4 k0_pay4 k0_pay5 k0_pay6 k0_pay7 (ix2 a l)
    = if l.val / 64 = a.val / 256 then v4 (ix2 ⟨a.val % 256, Nat.mod_lt _ (by decide)⟩ l) else 0 := by
  have e : k0_pay12 (F := Ideal) v4 k0_pay4 k0_pay5 k0_pay6 k0_pay7 (ix2 a l)
      = (if h : a.val < 256 then Scalar.select (IntOp.cmpi CmpIPredicate.eq (k0_pay4 (ix2 ⟨a.val, h⟩ l)) 0#32) (v4 (ix2 ⟨a.val, h⟩ l)) (Ideal.ofBits FTy.bf16 0#16)
        else if h1 : a.val - 256 < 256 then Scalar.select (IntOp.cmpi CmpIPredicate.eq (k0_pay4 (ix2 ⟨a.val - 256, h1⟩ l)) 1#32) (v4 (ix2 ⟨a.val - 256, h1⟩ l)) (Ideal.ofBits FTy.bf16 0#16)
        else if h2 : a.val - 256 - 256 < 256 then Scalar.select (IntOp.cmpi CmpIPredicate.eq (k0_pay4 (ix2 ⟨a.val - 256 - 256, h2⟩ l)) 2#32) (v4 (ix2 ⟨a.val - 256 - 256, h2⟩ l)) (Ideal.ofBits FTy.bf16 0#16)
        else Scalar.select (IntOp.cmpi CmpIPredicate.eq (k0_pay4 (ix2 ⟨a.val - 256 - 256 - 256, by omega⟩ l)) 3#32) (v4 (ix2 ⟨a.val - 256 - 256 - 256, by omega⟩ l)) (Ideal.ofBits FTy.bf16 0#16) : EReal) := by
    pointwise [k0_pay12, k0_pay10, k0_pay9, k0_pay8, k0_pay7, k0_pay6, k0_pay5]
  rw [e]
  have hz : Ideal.ofBits FTy.bf16 0#16 = 0 := by simp
  simp only [pay4_eq, hz]
  by_cases h : a.val < 256
  · rw [dif_pos h]
    have e1 : a.val / 256 = 0 := by omega
    have e2 : (⟨a.val % 256, Nat.mod_lt _ (by decide)⟩ : Fin 256) = ⟨a.val, by omega⟩ := Fin.ext (by show a.val % 256 = a.val; omega)
    rw [e1, e2]
    exact sel_eq l 0 _ _
  rw [dif_neg h]
  by_cases h1 : a.val - 256 < 256
  · rw [dif_pos h1]
    have e1 : a.val / 256 = 1 := by omega
    have e2 : (⟨a.val % 256, Nat.mod_lt _ (by decide)⟩ : Fin 256) = ⟨a.val - 256, by omega⟩ := Fin.ext (by show a.val % 256 = a.val - 256; omega)
    rw [e1, e2]
    exact sel_eq l 1 _ _
  rw [dif_neg h1]
  by_cases h2 : a.val - 256 - 256 < 256
  · rw [dif_pos h2]
    have e1 : a.val / 256 = 2 := by omega
    have e2 : (⟨a.val % 256, Nat.mod_lt _ (by decide)⟩ : Fin 256) = ⟨a.val - 256 - 256, by omega⟩ := Fin.ext (by show a.val % 256 = a.val - 256 - 256; omega)
    rw [e1, e2]
    exact sel_eq l 2 _ _
  rw [dif_neg h2]
  have e1 : a.val / 256 = 3 := by omega
  have e2 : (⟨a.val % 256, Nat.mod_lt _ (by decide)⟩ : Fin 256) = ⟨a.val - 256 - 256 - 256, by omega⟩ := Fin.ext (by show a.val % 256 = a.val - 256 - 256 - 256; omega)
  rw [e1, e2]
  exact sel_eq l 3 _ _

/-- The products with the stacked keys. -/
theorem pay14_at (a : Fin 1024) : k0_pay14 (F := Ideal) v4 k0_pay4 k0_pay5 k0_pay6 k0_pay7 q (ix2 r a)
    = ∑ x : Fin 256, q (ix2 r x) * k0_pay11 (F := Ideal) v4 k0_pay4 k0_pay5 k0_pay6 k0_pay7 (ix2 a x) := by
  unfold k0_pay14
  generalize k0_pay11 (F := Ideal) v4 k0_pay4 k0_pay5 k0_pay6 k0_pay7 = y
  pointwise
/-- The products with the stacked keys. -/
theorem pay26_at (a : Fin 1024) : k0_pay26 (F := Ideal) ks q (ix2 r a) = ∑ x : Fin 256, q (ix2 r x) * ks (ix2 a x) := by
  pointwise [k0_pay26]
/-- The products with the stacked keys. -/
theorem pay37_at (a : Fin 1024) : k0_pay37 (F := Ideal) ks q (ix2 r a) = ∑ x : Fin 256, q (ix2 r x) * ks (ix2 a x) := by
  pointwise [k0_pay37]
/-- The products with the stacked keys. -/
theorem pay45_at (a : Fin 1024) : k0_pay45 (F := Ideal) ks q (ix2 r a) = ∑ x : Fin 256, q (ix2 r x) * ks (ix2 a x) := by
  pointwise [k0_pay45]
/-- The mask. -/
theorem pay13_at (b : ℕ) (s : Fin 256) : k0_pay13 (Scalar.cmpi CmpIPredicate.sgt (BitVec.ofNat 32 b) 0#32) (ix2 r s) = vis b r.val s.val := by
  unfold vis
  pointwise [k0_pay13]
  rfl
/-- The previous block's rows and the own block's: keys. -/
theorem pay2_at (a b : FVec Ideal S128x256 .f32) (s c : Fin 256) : k0_pay2 (F := Ideal) a b (ix2 s c)
    = if h : s.val < 128 then a (ix2 ⟨s.val, h⟩ c) else b (ix2 ⟨s.val - 128, by omega⟩ c) := by
  pointwise [k0_pay2]
/-- The previous block's rows and the own block's: values. -/
theorem pay3_at (a b : FVec Ideal S128x256 .f32) (s c : Fin 256) : k0_pay3 (F := Ideal) a b (ix2 s c)
    = if h : s.val < 128 then a (ix2 ⟨s.val, h⟩ c) else b (ix2 ⟨s.val - 128, by omega⟩ c) := by
  pointwise [k0_pay3]

/-- The masked scores of key head `g` are the attention's scores. -/
theorem msk_eq (g : ℕ) (hg : g < 4) (o : ℕ) (ho : o + 256 ≤ 1024) (e : o = 256 * g) (b r' : ℕ) (Q : Fin 256 → EReal) (K : Fin 256 → Fin 256 → EReal)
    (hm : ∀ s : Fin 256, mk (ix2 r s) = vis b r' s.val)
    (hs : ∀ a : Fin 1024, sc (ix2 r a) = ∑ x : Fin 256, Q x * (if x.val / 64 = a.val / 256 then K ⟨a.val % 256, Nat.mod_lt _ (by decide)⟩ x else 0)) :
    msk mk sc r o ho = score b r' (fun x => Q ⟨g * 64 + x.val, by omega⟩) (fun s x => K s ⟨g * 64 + x.val, by omega⟩) := by
  subst e
  funext s
  unfold msk score
  rw [hm, hs]
  refine congrArg (fun f => Scalar.select _ f _) (sum_part (g * 64) (by omega) _ _ (fun x => ?_) fun x hx => ?_)
  · have e1 : (⟨(256 * g + s.val) % 256, Nat.mod_lt _ (by decide)⟩ : Fin 256) = s := Fin.ext (by show (256 * g + s.val) % 256 = s.val; omega)
    show Q _ * (if (g * 64 + x.val) / 64 = (256 * g + s.val) / 256 then K ⟨(256 * g + s.val) % 256, _⟩ _ else 0) = _
    rw [if_pos (by omega), e1]
  · show Q _ * (if x.val / 64 = (256 * g + s.val) / 256 then _ else 0) = 0
    rw [if_neg (by omega), mul_zero]

/-- The products with the stacked values keep the lane's own key head. -/
theorem lad_eq (P : Fin 4 → Fin 256 → EReal) (V : Fin 256 → EReal) (f : Fin 1024 → EReal)
    (hf : ∀ a : Fin 1024, f a = if l.val / 64 = a.val / 256 then V ⟨a.val % 256, Nat.mod_lt _ (by decide)⟩ else 0) :
    ∑ x : Fin 1024, lad (P 0) (P 1) (P 2) (P 3) x * f x = ∑ s : Fin 256, P ⟨l.val / 64, by omega⟩ s * V s := by
  have hl : ∀ x : Fin 1024, lad (P 0) (P 1) (P 2) (P 3) x = P ⟨x.val / 256, by omega⟩ ⟨x.val % 256, Nat.mod_lt _ (by decide)⟩ := fun x => by
    unfold lad
    split_ifs with h h1 h2
    · exact congrArg₂ P (Fin.ext (by show 0 = x.val / 256; omega)) (Fin.ext (by show x.val = x.val % 256; omega))
    · exact congrArg₂ P (Fin.ext (by show 1 = x.val / 256; omega)) (Fin.ext (by show x.val - 256 = x.val % 256; omega))
    · exact congrArg₂ P (Fin.ext (by show 2 = x.val / 256; omega)) (Fin.ext (by show x.val - 256 - 256 = x.val % 256; omega))
    · exact congrArg₂ P (Fin.ext (by show 3 = x.val / 256; omega)) (Fin.ext (by show x.val - 256 - 256 - 256 = x.val % 256; omega))
  refine sum_part (256 * (l.val / 64)) (by omega) _ _ (fun s => ?_) fun x hx => ?_
  · have e1 : (256 * (l.val / 64) + s.val) / 256 = l.val / 64 := by omega
    have e2 : (256 * (l.val / 64) + s.val) % 256 = s.val := by omega
    rw [hl, hf, if_pos (by show l.val / 64 = (256 * (l.val / 64) + s.val) / 256; omega)]
    exact congrArg₂ (fun a b => a * b) (congrArg₂ P (Fin.ext e1) (Fin.ext e2)) (congrArg V (Fin.ext e2))
  · rw [hf, if_neg (by omega), mul_zero]

end Cert.MixIdeal.Row
end
-- ==== Proof.Mix.Blocks.lean ====
/-
  The attention launch, its reads: what each input block of a grid point holds, in terms of the arguments.
-/
module

public import proofs.«01_k».proof.Proof.Gen.MixIdeal.Frame
public import proofs.«01_k».proof.Proof.Attn
public import Idealize.ShloMosaic.Lib.Pointwise
public import Idealize.ShloMosaic.Lib.StableHlo.RunRead
public import Idealize.ShloMosaic.Lib.Pipeline.ValueKit
public import Idealize.ShloMosaic.Lib.Claim
public import proofs.«01_k».proof.Proof.Mix.Pay

@[expose] public section

set_option maxRecDepth 16384

noncomputable section

namespace Cert.MixIdeal.Row

open Cert.MixIdeal Cert.MixIdeal.Gen Cert.Attn Idealize.ShloMosaic Idealize.ShloMosaic.TcCoe Idealize.SL.Sem

variable (m : (ℓ : Loc nD τ sig) → Buf (Elt Ideal) ℓ)

/-- The block of each window at point `t`. -/
theorem idx : ∀ t : Fin cfg0.N, win0_0.index t = ![t.val, 0] ∧ win0_1.index t = ![t.val, 0] ∧ win0_2.index t = ![t.val / 16 * 16 + (t.val % 16 - 1), 0]
    ∧ win0_3.index t = ![t.val, 0] ∧ win0_4.index t = ![t.val / 16 * 16 + (t.val % 16 - 1), 0] ∧ win0_5.index t = ![t.val, 0] ∧ win0_6.index t = ![t.val * 4 - 1, 0]
    ∧ win0_7.index t = ![0] ∧ win0_8.index t = ![0, 0] ∧ win0_9.index t = ![0, 0] ∧ win0_10.index t = ![0, 0] ∧ win0_11.index t = ![0, 0]
    ∧ win0_12.index t = ![t.val, 0] ∧ win0_13.index t = ![t.val, 0] ∧ t.val < 256 ∧ (grid0.coords t 1).val = t.val % 16 :=
  (by decide +kernel : ∀ t : Fin grid0.N, _)

theorem lt256 (t : Fin cfg0.N) : t.val < 256 := (idx t).2.2.2.2.2.2.2.2.2.2.2.2.2.2.1
theorem coord1 (t : Fin cfg0.N) : (grid0.coords t 1).val = t.val % 16 := (idx t).2.2.2.2.2.2.2.2.2.2.2.2.2.2.2

/-- The array row that row `r` of point `t`'s block is. -/
def rowAt (t : Fin cfg0.N) (r : Fin 128) : Fin 32768 := ⟨128 * t.val + r.val, by have := lt256 t; omega⟩
/-- The queries. -/
def qA (c : Dev nD) (a : Fin 32768) (l : Fin 1024) : EReal := (m ((c : Thread nD τ).loc main_arg0) : FVec Ideal S32768x1024 .bf16) (ix2 a l)
/-- The keys. -/
def kA (c : Dev nD) (a : Fin 32768) (l : Fin 256) : EReal := (m ((c : Thread nD τ).loc main_arg1) : FVec Ideal S32768x256 .f32) (ix2 a l)
/-- The values. -/
def vA (c : Dev nD) (a : Fin 32768) (l : Fin 256) : EReal := (m ((c : Thread nD τ).loc main_arg2) : FVec Ideal S32768x256 .f32) (ix2 a l)
/-- The convolution's channels. -/
def uA (c : Dev nD) (a : Fin 32768) (l : Fin 1024) : EReal := (m ((c : Thread nD τ).loc main_arg3) : FVec Ideal S32768x1024 .f32) (ix2 a l)
/-- The sinks. -/
def sA (c : Dev nD) (a : Fin 16) : EReal := (m ((c : Thread nD τ).loc main_arg4) : FVec Ideal S16 .f32) (ix1 a)
/-- The convolution's taps. -/
def wA (c : Dev nD) (a : Fin 31) (l : Fin 1024) : EReal := (m ((c : Thread nD τ).loc main_arg5) : FVec Ideal S31x1024 .f32) (ix2 a l)
/-- The convolution's bias. -/
def cbA (c : Dev nD) (l : Fin 1024) : EReal := (m ((c : Thread nD τ).loc main_arg6) : FVec Ideal S1x1024 .f32) (ix2 0 l)
/-- The norm's scale. -/
def lgA (c : Dev nD) (l : Fin 1024) : EReal := (m ((c : Thread nD τ).loc main_arg7) : FVec Ideal S1x1024 .f32) (ix2 0 l)
/-- The norm's shift. -/
def lbA (c : Dev nD) (l : Fin 1024) : EReal := (m ((c : Thread nD τ).loc main_arg8) : FVec Ideal S1x1024 .f32) (ix2 0 l)

theorem blk0 (c : Dev nD) (t : Fin cfg0.N) (r : Fin 128) (l : Fin 1024) :
    (iblk m c 0 t : FVec Ideal S128x1024 .bf16) (ix2 r l) = qA m c (rowAt t r) l := by
  unfold qA rowAt
  blk_ext! [iblk, V, idx t]

theorem blk1 (c : Dev nD) (t : Fin cfg0.N) (r : Fin 128) (l : Fin 256) :
    (iblk m c 1 t : FVec Ideal S128x256 .f32) (ix2 r l) = kA m c (rowAt t r) l := by
  unfold kA rowAt
  blk_ext! [iblk, V, idx t]

theorem blk2 (c : Dev nD) (t : Fin cfg0.N) (r : Fin 128) (l : Fin 256) :
    (iblk m c 2 t : FVec Ideal S128x256 .f32) (ix2 r l) = kA m c ⟨128 * (t.val / 16 * 16 + (t.val % 16 - 1)) + r.val, by have := lt256 t; omega⟩ l := by
  unfold kA
  blk_ext! [iblk, V, idx t]

theorem blk3 (c : Dev nD) (t : Fin cfg0.N) (r : Fin 128) (l : Fin 256) :
    (iblk m c 3 t : FVec Ideal S128x256 .f32) (ix2 r l) = vA m c (rowAt t r) l := by
  unfold vA rowAt
  blk_ext! [iblk, V, idx t]

theorem blk4 (c : Dev nD) (t : Fin cfg0.N) (r : Fin 128) (l : Fin 256) :
    (iblk m c 4 t : FVec Ideal S128x256 .f32) (ix2 r l) = vA m c ⟨128 * (t.val / 16 * 16 + (t.val % 16 - 1)) + r.val, by have := lt256 t; omega⟩ l := by
  unfold vA
  blk_ext! [iblk, V, idx t]

theorem blk5 (c : Dev nD) (t : Fin cfg0.N) (r : Fin 128) (l : Fin 1024) :
    (iblk m c 5 t : FVec Ideal S128x1024 .f32) (ix2 r l) = uA m c (rowAt t r) l := by
  unfold uA rowAt
  blk_ext! [iblk, V, idx t]

theorem blk6 (c : Dev nD) (t : Fin cfg0.N) (r : Fin 32) (l : Fin 1024) :
    (iblk m c 6 t : FVec Ideal S32x1024 .f32) (ix2 r l) = uA m c ⟨32 * (t.val * 4 - 1) + r.val, by have := lt256 t; omega⟩ l := by
  unfold uA
  blk_ext! [iblk, V, idx t]

theorem blk7 (c : Dev nD) (t : Fin cfg0.N) (a : Fin 16) :
    (iblk m c 7 t : FVec Ideal S16 .f32) (ix1 a) = sA m c a := by
  unfold sA
  blk_ext! [iblk, V, idx t]

theorem blk8 (c : Dev nD) (t : Fin cfg0.N) (a : Fin 31) (l : Fin 1024) :
    (iblk m c 8 t : FVec Ideal S31x1024 .f32) (ix2 a l) = wA m c a l := by
  unfold wA
  blk_ext! [iblk, V, idx t]

theorem blk9 (c : Dev nD) (t : Fin cfg0.N) (l : Fin 1024) :
    (iblk m c 9 t : FVec Ideal S1x1024 .f32) (ix2 0 l) = cbA m c l := by
  unfold cbA
  blk_ext! [iblk, V, idx t]

theorem blk10 (c : Dev nD) (t : Fin cfg0.N) (l : Fin 1024) :
    (iblk m c 10 t : FVec Ideal S1x1024 .f32) (ix2 0 l) = lgA m c l := by
  unfold lgA
  blk_ext! [iblk, V, idx t]

theorem blk11 (c : Dev nD) (t : Fin cfg0.N) (l : Fin 1024) :
    (iblk m c 11 t : FVec Ideal S1x1024 .f32) (ix2 0 l) = lbA m c l := by
  unfold lbA
  blk_ext! [iblk, V, idx t]

end Cert.MixIdeal.Row
end
-- ==== Proof.Mix.ValueA.lean ====
/-
  The attention launch: what a grid point leaves in the attention's block.
-/
module

public import proofs.«01_k».proof.Proof.Gen.MixIdeal.Frame
public import proofs.«01_k».proof.Proof.Attn
public import Idealize.ShloMosaic.Lib.Pointwise
public import Idealize.ShloMosaic.Lib.StableHlo.RunRead
public import Idealize.ShloMosaic.Lib.Pipeline.ValueKit
public import Idealize.ShloMosaic.Lib.Claim
public import proofs.«01_k».proof.Proof.Mix.Pay
public import proofs.«01_k».proof.Proof.Mix.Blocks

@[expose] public section

set_option maxRecDepth 16384

noncomputable section

namespace Cert.MixIdeal.Row

open Cert.MixIdeal Cert.MixIdeal.Gen Cert.Attn Idealize.ShloMosaic Idealize.ShloMosaic.TcCoe Idealize.SL.Sem

variable (m : (ℓ : Loc nD τ sig) → Buf (Elt Ideal) ℓ)

/-- A group of the queries' lanes. -/
theorem ldQ (c : Dev nD) (t : Fin cfg0.N) (o : ℕ) (ho : o + 256 ≤ 1024) (h : ∀ a, ![0, o] a + ![128, 256] a ≤ S128x1024.size a) (r : Fin 128) (l : Fin 256) :
    View.ld (iblk m c 0 t : FVec Ideal S128x1024 .bf16) (Rect.unit (s := S128x1024) ![0, o] ![128, 256] h) (ix2 r l) = qA m c (rowAt t r) ⟨o + l.val, by omega⟩ := by
  rw [View.ld_apply, ← blk0 m c t r _]
  refine congrArg _ (funext fun a => Fin.ext ?_)
  rw [Rect.idx_unit_val]
  match a with
  | ⟨0, _⟩ => exact Nat.zero_add _
  | ⟨1, _⟩ => rfl

/-- One sink. -/
theorem ldS (c : Dev nD) (t : Fin cfg0.N) (n : ℕ) (hn : n < 16) (h : ∀ a, ![n] a + ![1] a ≤ S16.size a) (p : 0 < (Rect.unit (s := S16) ![n] ![1] h).shape.numel) :
    View.ld (iblk m c 7 t : FVec Ideal S16 .f32) (Rect.unit (s := S16) ![n] ![1] h) (Shape.Idx.first p) = sA m c ⟨n, hn⟩ := by
  rw [View.ld_apply, ← blk7 m c t _]
  refine congrArg _ (funext fun a => Fin.ext ?_)
  rw [Rect.idx_unit_val]
  match a with
  | ⟨0, _⟩ => rfl

/-- The keys of the previous block and the own block. -/
theorem keys (c : Dev nD) (t : Fin cfg0.N) (r : Fin 128) (s x : Fin 256) :
    k0_pay2 (F := Ideal) (iblk m c 2 t) (iblk m c 1 t) (ix2 s x) = ownPrev (kA m c) (rowAt t r) s x := by
  have ht := lt256 t
  rw [pay2_at]
  unfold ownPrev
  by_cases h : s.val < 128
  · rw [dif_pos h, if_pos h]
    refine (blk2 m c t _ x).trans (congrArg (fun a => kA m c a x) (Fin.ext ?_))
    show 128 * (t.val / 16 * 16 + (t.val % 16 - 1)) + s.val = (128 * t.val + r.val) / 2048 * 2048 + ((128 * t.val + r.val) / 128 % 16 - 1) * 128 + s.val
    omega
  · rw [dif_neg h, if_neg h]
    refine (blk1 m c t _ x).trans (congrArg (fun a => kA m c a x) (Fin.ext ?_))
    show 128 * t.val + (s.val - 128) = (128 * t.val + r.val) / 2048 * 2048 + (128 * t.val + r.val) / 128 % 16 * 128 + (s.val - 128)
    omega

/-- The values of the previous block and the own block. -/
theorem vals (c : Dev nD) (t : Fin cfg0.N) (r : Fin 128) (s x : Fin 256) :
    k0_pay3 (F := Ideal) (iblk m c 4 t) (iblk m c 3 t) (ix2 s x) = ownPrev (vA m c) (rowAt t r) s x := by
  have ht := lt256 t
  rw [pay3_at]
  unfold ownPrev
  by_cases h : s.val < 128
  · rw [dif_pos h, if_pos h]
    refine (blk4 m c t _ x).trans (congrArg (fun a => vA m c a x) (Fin.ext ?_))
    show 128 * (t.val / 16 * 16 + (t.val % 16 - 1)) + s.val = (128 * t.val + r.val) / 2048 * 2048 + ((128 * t.val + r.val) / 128 % 16 - 1) * 128 + s.val
    omega
  · rw [dif_neg h, if_neg h]
    refine (blk3 m c t _ x).trans (congrArg (fun a => vA m c a x) (Fin.ext ?_))
    show 128 * t.val + (s.val - 128) = (128 * t.val + r.val) / 2048 * 2048 + (128 * t.val + r.val) / 128 % 16 * 128 + (s.val - 128)
    omega

/-- The scores of query group `i` and key head `g`, at row `r` of the block. -/
def SC (c : Dev nD) (t : Fin cfg0.N) (r : Fin 128) (i g : Fin 4) : Fin 256 → EReal :=
  score ((rowAt t r).val / 128 % 16) ((rowAt t r).val % 128) (fun y => qA m c (rowAt t r) ⟨256 * i.val + (g.val * 64 + y.val), by omega⟩)
    (fun s y => ownPrev (kA m c) (rowAt t r) s ⟨g.val * 64 + y.val, by omega⟩)
/-- The mask of a point. -/
abbrev mkT (t : Fin cfg0.N) : IVec S128x256 1 := k0_pay13 (Scalar.cmpi CmpIPredicate.sgt (BitVec.ofNat 32 (grid0.coords t 1).val) 0#32)
/-- The stacked keys of a point. -/
abbrev ksT (c : Dev nD) (t : Fin cfg0.N) : FVec Ideal S1024x256 .bf16 := k0_pay11 (F := Ideal) (k0_pay2 (F := Ideal) (iblk m c 2 t) (iblk m c 1 t)) k0_pay4 k0_pay5 k0_pay6 k0_pay7
/-- The stacked values of a point. -/
abbrev vsT (c : Dev nD) (t : Fin cfg0.N) : FVec Ideal S1024x256 .bf16 := k0_pay12 (F := Ideal) (k0_pay3 (F := Ideal) (iblk m c 4 t) (iblk m c 3 t)) k0_pay4 k0_pay5 k0_pay6 k0_pay7

/-- The queries of a point and a group. -/
abbrev qT (c : Dev nD) (t : Fin cfg0.N) (i : Fin 4) (h : ∀ a, ![0, 256 * i.val] a + ![128, 256] a ≤ S128x1024.size a) : FVec Ideal S128x256 .bf16 :=
  View.ld (iblk m c 0 t : FVec Ideal S128x1024 .bf16) (Rect.unit (s := S128x1024) ![0, 256 * i.val] ![128, 256] h)

/-- The masked products of query group `i` with key head `g` are its scores. -/
theorem mskEq (c : Dev nD) (t : Fin cfg0.N) (r : Fin 128) (i g : Fin 4) (h : ∀ a, ![0, 256 * i.val] a + ![128, 256] a ≤ S128x1024.size a) (sc : FVec Ideal S128x1024 .f32)
    (hsc : ∀ a : Fin 1024, sc (ix2 r a) = ∑ x : Fin 256, qT m c t i h (ix2 r x) * ksT m c t (ix2 a x))
    (o : ℕ) (ho : o + 256 ≤ 1024) (e : o = 256 * g.val) :
    msk (mkT t) sc r o ho = SC m c t r i g := by
  have ht := lt256 t
  refine msk_eq (mkT t) sc r g.val g.isLt o ho e ((rowAt t r).val / 128 % 16) ((rowAt t r).val % 128) (fun x => qA m c (rowAt t r) ⟨256 * i.val + x.val, by omega⟩)
    (fun s x => ownPrev (kA m c) (rowAt t r) s x) (fun s => ?_) (fun a => ?_)
  · refine (pay13_at r _ s).trans (congrArg₂ (fun a b => vis a b s.val) ?_ ?_)
    · rw [coord1]
      show t.val % 16 = (128 * t.val + r.val) / 128 % 16
      omega
    · show r.val = (128 * t.val + r.val) % 128
      omega
  · rw [hsc]
    refine Finset.sum_congr rfl fun x _ => congrArg₂ (· * ·) (ldQ m c t _ (by omega) h r x) ?_
    refine (pay11_at _ x a).trans ?_
    rw [keys m c t r]

/-- A query group's probabilities times the stacked values: the attention's lanes of that group. -/
theorem grp (c : Dev nD) (t : Fin cfg0.N) (r : Fin 128) (x : Fin 256) (i : Fin 4) (p0 p1 p2 p3 : Fin 256 → EReal)
    (h0 : p0 = prob (SC m c t r i 0) (sA m c ⟨0 * 4 + i.val, by omega⟩)) (h1 : p1 = prob (SC m c t r i 1) (sA m c ⟨1 * 4 + i.val, by omega⟩))
    (h2 : p2 = prob (SC m c t r i 2) (sA m c ⟨2 * 4 + i.val, by omega⟩)) (h3 : p3 = prob (SC m c t r i 3) (sA m c ⟨3 * 4 + i.val, by omega⟩)) :
    ∑ a : Fin 1024, lad p0 p1 p2 p3 a * vsT m c t (ix2 a x)
      = attRow (qA m c) (kA m c) (vA m c) (sA m c) (rowAt t r) ⟨256 * i.val + x.val, by omega⟩ := by
  subst h0 h1 h2 h3
  refine (lad_eq x (fun g => prob (SC m c t r i g) (sA m c ⟨g.val * 4 + i.val, by omega⟩)) (fun s => ownPrev (vA m c) (rowAt t r) s x) (fun a => vsT m c t (ix2 a x)) (fun a => ?_)).trans ?_
  · refine (pay12_at _ x a).trans ?_
    rw [vals m c t r]
  · refine Eq.trans ?_ (attRow_own _ _ _ _ _ _)
    unfold att SC
    have e1 : ∀ y : Fin 64, (⟨256 * i.val + (x.val / 64 * 64 + y.val), by omega⟩ : Fin 1024)
        = ⟨(256 * i.val + x.val) / 256 * 256 + (256 * i.val + x.val) / 64 % 4 * 64 + y.val, by omega⟩ := fun y => Fin.ext (by show _ = _; dsimp only; omega)
    have e2 : ∀ y : Fin 64, (⟨x.val / 64 * 64 + y.val, by omega⟩ : Fin 256) = ⟨(256 * i.val + x.val) / 64 % 4 * 64 + y.val, by omega⟩ := fun y => Fin.ext (by show _ = _; dsimp only; omega)
    have e3 : (⟨x.val / 64 * 4 + i.val, by omega⟩ : Fin 16) = ⟨(256 * i.val + x.val) / 64 % 4 * 4 + (256 * i.val + x.val) / 256, by omega⟩ := Fin.ext (by show _ = _; dsimp only; omega)
    have e4 : (⟨(256 * i.val + x.val) / 64 % 4 * 64 + (256 * i.val + x.val) % 64, by omega⟩ : Fin 256) = x := Fin.ext (by show _ = _; dsimp only; omega)
    simp only [e1, e2, e3, e4]

/-- The attention's block after point `t`. -/
theorem ptao (c : Dev nD) (t : Fin cfg0.N) (r : Fin 128) (l : Fin 1024) : ((dats m 0 c).after 12 t : FVec Ideal S128x1024 .bf16) (ix2 r l)
    = attRow (qA m c) (kA m c) (vA m c) (sA m c) (rowAt t r) l := by
  rw [after0_12]
  unfold outsAt0
  frame_out
  canon_tiles x h
  all_goals idx_vars x
  · have el : l = ⟨256 * ((3 : Fin 4)).val + x1.val, by show 256 * 3 + x1.val < 1024; omega⟩ := Fin.ext (by show l.val = 256 * 3 + x1.val; omega)
    have er : r = x0 := Fin.ext h0
    rw [el, er]
    refine (pay50_at _ _ _ _ _ _ x0 x1 _ _).trans (grp m c t x0 x1 3 _ _ _ _ ?_ ?_ ?_ ?_)
    · exact funext fun s => (pay46_at _ _ _ _ x0 s).trans (congrArg₂ (fun S k => prob S k s) (mskEq m c t x0 3 0 inb_S128x1024_S128x256_0_768 _ (fun a => pay45_at _ _ x0 a) _ (by decide) rfl) (ldS m c t 3 (by decide) _ _))
    · exact funext fun s => (pay47_at _ _ _ _ x0 s).trans (congrArg₂ (fun S k => prob S k s) (mskEq m c t x0 3 1 inb_S128x1024_S128x256_0_768 _ (fun a => pay45_at _ _ x0 a) _ (by decide) rfl) (ldS m c t 7 (by decide) _ _))
    · exact congrArg₂ prob (mskEq m c t x0 3 2 inb_S128x1024_S128x256_0_768 _ (fun a => pay45_at _ _ x0 a) _ (by decide) rfl) (ldS m c t 11 (by decide) _ _)
    · exact congrArg₂ prob (mskEq m c t x0 3 3 inb_S128x1024_S128x256_0_768 _ (fun a => pay45_at _ _ x0 a) _ (by decide) rfl) (ldS m c t 15 (by decide) _ _)
  · have el : l = ⟨256 * ((2 : Fin 4)).val + x1.val, by show 256 * 2 + x1.val < 1024; omega⟩ := Fin.ext (by show l.val = 256 * 2 + x1.val; omega)
    have er : r = x0 := Fin.ext h0
    rw [el, er]
    refine (pay44_at _ _ _ _ _ _ x0 x1 _ _).trans (grp m c t x0 x1 2 _ _ _ _ ?_ ?_ ?_ ?_)
    · exact funext fun s => (pay38_at _ _ _ _ x0 s).trans (congrArg₂ (fun S k => prob S k s) (mskEq m c t x0 2 0 inb_S128x1024_S128x256_0_512 _ (fun a => pay37_at _ _ x0 a) _ (by decide) rfl) (ldS m c t 2 (by decide) _ _))
    · exact congrArg₂ prob (mskEq m c t x0 2 1 inb_S128x1024_S128x256_0_512 _ (fun a => pay37_at _ _ x0 a) _ (by decide) rfl) (ldS m c t 6 (by decide) _ _)
    · exact congrArg₂ prob (mskEq m c t x0 2 2 inb_S128x1024_S128x256_0_512 _ (fun a => pay37_at _ _ x0 a) _ (by decide) rfl) (ldS m c t 10 (by decide) _ _)
    · exact congrArg₂ prob (mskEq m c t x0 2 3 inb_S128x1024_S128x256_0_512 _ (fun a => pay37_at _ _ x0 a) _ (by decide) rfl) (ldS m c t 14 (by decide) _ _)
  · have el : l = ⟨256 * ((1 : Fin 4)).val + x1.val, by show 256 * 1 + x1.val < 1024; omega⟩ := Fin.ext (by show l.val = 256 * 1 + x1.val; omega)
    have er : r = x0 := Fin.ext h0
    rw [el, er]
    refine (pay36_at _ _ _ _ _ _ _ x0 x1).trans (grp m c t x0 x1 1 _ _ _ _ ?_ ?_ ?_ ?_)
    · exact funext fun s => (pay27_at _ _ _ _ x0 s).trans (congrArg₂ (fun S k => prob S k s) (mskEq m c t x0 1 0 inb_S128x1024_S128x256_0_256 _ (fun a => pay26_at _ _ x0 a) _ (by decide) rfl) (ldS m c t 1 (by decide) _ _))
    · exact funext fun s => (pay29_at _ _ _ _ x0 s).trans (congrArg₂ (fun S k => prob S k s) (mskEq m c t x0 1 1 inb_S128x1024_S128x256_0_256 _ (fun a => pay26_at _ _ x0 a) _ (by decide) rfl) (ldS m c t 5 (by decide) _ _))
    · exact funext fun s => (pay30_at _ _ _ x0 s).trans (congrArg₂ (fun S k => prob S k s) (mskEq m c t x0 1 2 inb_S128x1024_S128x256_0_256 _ (fun a => pay26_at _ _ x0 a) _ (by decide) rfl) (ldS m c t 9 (by decide) _ _))
    · exact congrArg₂ prob (mskEq m c t x0 1 3 inb_S128x1024_S128x256_0_256 _ (fun a => pay26_at _ _ x0 a) _ (by decide) rfl) (ldS m c t 13 (by decide) _ _)
  · have el : l = ⟨256 * ((0 : Fin 4)).val + x1.val, by show 256 * 0 + x1.val < 1024; omega⟩ := Fin.ext (by show l.val = 256 * 0 + x1.val; omega)
    have er : r = x0 := Fin.ext h0
    rw [el, er]
    refine (pay25_at _ _ _ _ _ _ _ x0 x1).trans (grp m c t x0 x1 0 _ _ _ _ ?_ ?_ ?_ ?_)
    · exact funext fun s => (pay20_at _ _ _ _ x0 s).trans (congrArg₂ (fun S k => prob S k s) (mskEq m c t x0 0 0 inb_S128x1024_S128x256_0_0 _ (fun a => pay14_at _ _ x0 a) _ (by decide) rfl) (ldS m c t 0 (by decide) _ _))
    · exact funext fun s => (pay21_at _ _ _ x0 s).trans (congrArg₂ (fun S k => prob S k s) (mskEq m c t x0 0 1 inb_S128x1024_S128x256_0_0 _ (fun a => pay14_at _ _ x0 a) _ (by decide) rfl) (ldS m c t 4 (by decide) _ _))
    · exact funext fun s => (pay22_at _ _ _ x0 s).trans (congrArg₂ (fun S k => prob S k s) (mskEq m c t x0 0 2 inb_S128x1024_S128x256_0_0 _ (fun a => pay14_at _ _ x0 a) _ (by decide) rfl) (ldS m c t 8 (by decide) _ _))
    · exact congrArg₂ prob (mskEq m c t x0 0 3 inb_S128x1024_S128x256_0_0 _ (fun a => pay14_at _ _ x0 a) _ (by decide) rfl) (ldS m c t 12 (by decide) _ _)

end Cert.MixIdeal.Row
end
-- ==== Proof.Mix.Conv.lean ====
/-
  The attention launch: the convolution's scratch and what a grid point leaves in the convolution's block.
-/
module

public import proofs.«01_k».proof.Proof.Gen.MixIdeal.Frame
public import proofs.«01_k».proof.Proof.Attn
public import Idealize.ShloMosaic.Lib.Pointwise
public import Idealize.ShloMosaic.Lib.StableHlo.RunRead
public import Idealize.ShloMosaic.Lib.Pipeline.ValueKit
public import Idealize.ShloMosaic.Lib.Claim
public import Idealize.ShloMosaic.Lib.Pipeline.ReadBack
public import Idealize.ShloMosaic.Lib.Pipeline.Covers
public import proofs.«01_k».proof.Proof.Mix.Pay
public import proofs.«01_k».proof.Proof.Mix.Blocks

@[expose] public section

set_option maxRecDepth 16384

noncomputable section

namespace Cert.MixIdeal.Row

open Cert.MixIdeal Cert.MixIdeal.Gen Cert.Attn Idealize.ShloMosaic Idealize.ShloMosaic.TcCoe Idealize.SL.Sem

variable (m : (ℓ : Loc nD τ sig) → Buf (Elt Ideal) ℓ)

/-- The norm and the swish of a block's row. -/
theorem pay1_at (y : FVec Ideal S128x1024 .f32) (g b : FVec Ideal S1x1024 .f32) (r : Fin 128) (l : Fin 1024) : k0_pay1 (F := Ideal) y g b (ix2 r l)
    = lns (fun j => y (ix2 r j)) (fun j => g (ix2 0 j)) (fun j => b (ix2 0 j)) l := by
  unfold lns ln
  pointwise [k0_pay1, Ideal.logistic]

/-- The rows before the block: zero in a sequence's first block. -/
theorem pay52_at (v0 : BitVec 1) (h : FVec Ideal S32x1024 .f32) (r : Fin 32) (l : Fin 1024) : k0_pay52 (F := Ideal) (k0_pay51 (F := Ideal) v0 h) (ix2 r l)
    = Scalar.select v0 (h (ix2 r l)) (0 : EReal) := by
  pointwise [k0_pay52, k0_pay51]
/-- The block's own rows. -/
theorem pay53_at (h : FVec Ideal S128x1024 .f32) (r : Fin 128) (l : Fin 1024) : k0_pay53 (F := Ideal) h (ix2 r l) = h (ix2 r l) := by
  pointwise [k0_pay53]

/-- Whether a block is not its sequence's first. -/
theorem notFirst : ∀ b : Fin 16, Scalar.cmpi CmpIPredicate.sgt (BitVec.ofNat 32 b.val) 0#32 = if b.val = 0 then 0#1 else 1#1 := by decide +kernel

/-- The scratch's stores: the thirty-two rows before the block and the block. -/
abbrev ueL (c : Dev nD) (t : Fin cfg0.N) : List (View.Piece (Elt Ideal) S160x1024 .f32) :=
  [⟨Rect.unit ![32, 0] ![128, 1024] inb_S160x1024_S128x1024_32_0, k0_pay53 (iblk m c 5 t)⟩,
    ⟨Rect.unit ![0, 0] ![32, 1024] inb_S160x1024_S32x1024_0_0, k0_pay52 (k0_pay51 (Scalar.cmpi CmpIPredicate.sgt (BitVec.ofNat 32 (grid0.coords t 1).val) 0#32) (iblk m c 6 t))⟩]

/-- The scratch, read at an entry: the padded sequence. -/
theorem ue_at (c : Dev nD) (t : Fin cfg0.N) (x0 : Fin 128) (n : ℕ) (hn : 2 ≤ n) (y : S160x1024.Idx) (hy : (y 0).val = n + x0.val) :
    View.canon (ueL m c t) y = uExt (uA m c) ⟨(rowAt t x0).val / 2048, by omega⟩ (y 1) (n - 2 + (rowAt t x0).val % 2048) := by
  have ht := lt256 t
  have hR : (rowAt t x0).val = 128 * t.val + x0.val := rfl
  have hx := x0.isLt
  have hy0 : (y 0).val < 160 := (y 0).isLt
  have hy1 : (y 1).val < 1024 := (y 1).isLt
  have hc : ∃ p ∈ ueL m c t, y ∈ p.1.set := by
    by_cases hlt : (y 0).val < 32
    · refine ⟨_, List.mem_cons_of_mem _ List.mem_cons_self, (Rect.mem_set_unit (inb := inb_S160x1024_S32x1024_0_0)).mpr fun a => ?_⟩
      match a with
      | ⟨0, _⟩ => exact ⟨Nat.zero_le _, by show (y 0).val < 0 + 32; omega⟩
      | ⟨1, _⟩ => exact ⟨Nat.zero_le _, by show (y 1).val < 0 + 1024; omega⟩
    · refine ⟨_, List.mem_cons_self, (Rect.mem_set_unit (inb := inb_S160x1024_S128x1024_32_0)).mpr fun a => ?_⟩
      match a with
      | ⟨0, _⟩ => exact ⟨by show 32 ≤ (y 0).val; omega, by show (y 0).val < 32 + 128; omega⟩
      | ⟨1, _⟩ => exact ⟨Nat.zero_le _, by show (y 1).val < 0 + 1024; omega⟩
  canon_tiles x h using hc
  · have hx0 := (x 0).isLt
    have hx1 := (x 1).isLt
    have ex : x = ix2 (x 0) (x 1) := funext fun a => by match a with | ⟨0, _⟩ => rfl | ⟨1, _⟩ => rfl
    rw [ex]
    refine (pay53_at _ _ _).trans ((blk5 m c t _ _).trans ?_)
    unfold uExt
    rw [dif_pos (by omega)]
    refine congrArg₂ (uA m c) (Fin.ext ?_) (Fin.ext ?_)
    · show 128 * t.val + (x 0).val = (rowAt t x0).val / 2048 * 2048 + (n - 2 + (rowAt t x0).val % 2048 - 30)
      omega
    · exact h1.symm
  · have hx0 := (x 0).isLt
    have hx1 := (x 1).isLt
    have ex : x = ix2 (x 0) (x 1) := funext fun a => by match a with | ⟨0, _⟩ => rfl | ⟨1, _⟩ => rfl
    rw [ex]
    refine (pay52_at _ _ _ _).trans ?_
    rw [coord1]
    refine (congrArg (fun v => Scalar.select v _ _) (notFirst ⟨t.val % 16, by omega⟩)).trans ?_
    unfold uExt
    by_cases hb : t.val % 16 = 0
    · rw [if_pos hb, dif_neg (by omega)]
      rfl
    · rw [if_neg hb, dif_pos (by omega)]
      refine (blk6 m c t _ _).trans (congrArg₂ (uA m c) (Fin.ext ?_) (Fin.ext ?_))
      · show 32 * (t.val * 4 - 1) + (x 0).val = (rowAt t x0).val / 2048 * 2048 + (n - 2 + (rowAt t x0).val % 2048 - 30)
        omega
      · exact h1.symm

/-- A load from the scratch: the padded sequence, from its row `n`. -/
theorem e_at (c : Dev nD) (t : Fin cfg0.N) (n o : ℕ) (hn : 2 ≤ n) (ho : o + 128 ≤ 1024) (h : ∀ a, ![n, o] a + ![128, 128] a ≤ S160x1024.size a) (x0 x1 : Fin 128) :
    (View.whole cc0_scratch0).readCov (ueL m c t) (Rect.unit (s := S160x1024) ![n, o] ![128, 128] h).toLoadRect (ix2 x0 x1)
      = uExt (uA m c) ⟨(rowAt t x0).val / 2048, by omega⟩ ⟨o + x1.val, by omega⟩ (n - 2 + (rowAt t x0).val % 2048) := by
  rw [View.readCov_eq_canon']
  refine (ue_at m c t x0 n hn _ ?_).trans ?_
  · exact Rect.idx_unit_val _ _ _ _ _
  · exact congrArg (fun l => uExt (uA m c) _ l _) (Fin.ext (Rect.idx_unit_val _ _ _ _ _))

/-- A load of one tap's weights. -/
theorem ldW (c : Dev nD) (t : Fin cfg0.N) (n o : ℕ) (hn : n < 31) (ho : o + 128 ≤ 1024) (h : ∀ a, ![n, o] a + ![1, 128] a ≤ S31x1024.size a) (x1 : Fin 128) :
    View.ld (iblk m c 8 t : FVec Ideal S31x1024 .f32) (Rect.unit (s := S31x1024) ![n, o] ![1, 128] h) (ix2 0 x1) = wA m c ⟨n, hn⟩ ⟨o + x1.val, by omega⟩ := by
  rw [View.ld_apply, ← blk8 m c t _ _]
  refine congrArg _ (funext fun a => Fin.ext ?_)
  rw [Rect.idx_unit_val]
  match a with
  | ⟨0, _⟩ => rfl
  | ⟨1, _⟩ => rfl

/-- A load of the bias. -/
theorem ldCB (c : Dev nD) (t : Fin cfg0.N) (o : ℕ) (ho : o + 128 ≤ 1024) (h : ∀ a, ![0, o] a + ![1, 128] a ≤ S1x1024.size a) (x1 : Fin 128) :
    View.ld (iblk m c 9 t : FVec Ideal S1x1024 .f32) (Rect.unit (s := S1x1024) ![0, o] ![1, 128] h) (ix2 0 x1) = cbA m c ⟨o + x1.val, by omega⟩ := by
  rw [View.ld_apply, ← blk9 m c t _]
  refine congrArg _ (funext fun a => Fin.ext ?_)
  rw [Rect.idx_unit_val]
  match a with
  | ⟨0, _⟩ => rfl
  | ⟨1, _⟩ => rfl

end Cert.MixIdeal.Row
end
-- ==== Proof.Mix.ValueC.lean ====
/-
  The mix launch of the prompt: the convolution's block after a point, assembled from its eight stores of 128 columns.
-/
module

public import proofs.«01_k».proof.Proof.Gen.MixIdeal.Frame
public import proofs.«01_k».proof.Proof.Attn
public import Idealize.ShloMosaic.Lib.Pointwise
public import Idealize.ShloMosaic.Lib.StableHlo.RunRead
public import Idealize.ShloMosaic.Lib.Pipeline.ValueKit
public import Idealize.ShloMosaic.Lib.Claim
public import Idealize.ShloMosaic.Lib.Pipeline.ReadBack
public import Idealize.ShloMosaic.Lib.Pipeline.Covers
public import proofs.«01_k».proof.Proof.Mix.Conv

@[expose] public section

set_option maxRecDepth 16384

noncomputable section

namespace Cert.MixIdeal.Row

open Cert.MixIdeal Cert.MixIdeal.Gen Cert.Attn Idealize.ShloMosaic Idealize.ShloMosaic.TcCoe Idealize.SL.Sem

variable (m : (ℓ : Loc nD τ sig) → Buf (Elt Ideal) ℓ)

/-- A newer store over older ones: at an entry of it its payload, elsewhere what the older ones left. -/
theorem canon_cons (G : S160x1024.Idx → EReal) (p : View.Piece (Elt Ideal) S160x1024 .f32) (L : List (View.Piece (Elt Ideal) S160x1024 .f32)) (y : S160x1024.Idx)
    (h : ∀ x : p.1.shape.Idx, p.2 x = G (p.1.emb x)) (h' : y ∉ p.1.set → View.canon L y = G y) : View.canon (p :: L) y = G y := by
  by_cases hm : y ∈ p.1.set
  · obtain ⟨x, rfl⟩ := p.1.exists_idx_of_mem hm
    rw [show p.1.idx x = p.1.emb x from rfl, View.canon_cons_emb]
    exact h x
  · rw [View.canon_cons_of_not_mem p L hm]
    exact h' hm

/-- The same for a store of 128 columns of the block's rows. -/
theorem canon_step (G : S160x1024.Idx → EReal) (o : ℕ) (h : ∀ a, ![32, o] a + ![128, 128] a ≤ S160x1024.size a) (v : FVec Ideal S128x128 .f32)
    (L : List (View.Piece (Elt Ideal) S160x1024 .f32)) (y : S160x1024.Idx)
    (hv : ∀ x0 x1 : Fin 128, v (ix2 x0 x1) = G ((Rect.unit (s := S160x1024) ![32, o] ![128, 128] h).emb (ix2 x0 x1)))
    (h' : y ∉ (Rect.unit (s := S160x1024) ![32, o] ![128, 128] h).set → View.canon L y = G y) :
    View.canon ((⟨Rect.unit (s := S160x1024) ![32, o] ![128, 128] h, v⟩ : View.Piece (Elt Ideal) S160x1024 .f32) :: L) y = G y :=
  canon_cons G ⟨Rect.unit (s := S160x1024) ![32, o] ![128, 128] h, v⟩ L y (fun x => by
    have ex : x = ix2 (x 0) (x 1) := funext fun a => by match a with | ⟨0, _⟩ => rfl | ⟨1, _⟩ => rfl
    rw [ex]
    exact hv (x 0) (x 1)) h'

/-- An entry of the block's rows that a store of 128 columns leaves out lies in other columns. -/
theorem not_cols (o : ℕ) (h : ∀ a, ![32, o] a + ![128, 128] a ≤ S160x1024.size a) (y : S160x1024.Idx) (h0 : 32 ≤ (y 0).val)
    (hn : y ∉ (Rect.unit (s := S160x1024) ![32, o] ![128, 128] h).set) : ¬ (o ≤ (y 1).val ∧ (y 1).val < o + 128) := fun hh =>
  hn ((Rect.mem_set_unit (inb := h)).mpr fun a => by
    match a with
    | ⟨0, _⟩ =>
      have h160 : (y 0).val < 160 := (y 0).isLt
      exact ⟨h0, h160⟩
    | ⟨1, _⟩ => exact hh)

/-- The convolution's values on the scratch: row `y 0 - 32` of the block. -/
def cv (c : Dev nD) (t : Fin cfg0.N) (y : S160x1024.Idx) : EReal :=
  convRow (uA m c) (wA m c) (cbA m c) (rowAt t ⟨(y 0).val - 32, by have : (y 0).val < 160 := (y 0).isLt; omega⟩) (y 1)

/-- The same sum with every product's factors exchanged. -/
theorem conv_comm (e : ℕ → EReal) (w : Fin 31 → EReal) : conv e w = w 0 * e 0 + w 1 * e 1 + w 2 * e 2 + w 3 * e 3 + w 4 * e 4 + w 5 * e 5 + w 6 * e 6 + w 7 * e 7 + w 8 * e 8 + w 9 * e 9 + w 10 * e 10 + w 11 * e 11 + w 12 * e 12 + w 13 * e 13 + w 14 * e 14 + w 15 * e 15 + w 16 * e 16 + w 17 * e 17 + w 18 * e 18 + w 19 * e 19 + w 20 * e 20 + w 21 * e 21 + w 22 * e 22 + w 23 * e 23 + w 24 * e 24 + w 25 * e 25 + w 26 * e 26 + w 27 * e 27 + w 28 * e 28 + w 29 * e 29 + w 30 * e 30 := by
  unfold conv
  rw [mul_comm (e 0), mul_comm (e 1), mul_comm (e 2), mul_comm (e 3), mul_comm (e 4), mul_comm (e 5), mul_comm (e 6), mul_comm (e 7), mul_comm (e 8), mul_comm (e 9), mul_comm (e 10), mul_comm (e 11), mul_comm (e 12), mul_comm (e 13), mul_comm (e 14), mul_comm (e 15), mul_comm (e 16), mul_comm (e 17), mul_comm (e 18), mul_comm (e 19), mul_comm (e 20), mul_comm (e 21), mul_comm (e 22), mul_comm (e 23), mul_comm (e 24), mul_comm (e 25), mul_comm (e 26), mul_comm (e 27), mul_comm (e 28), mul_comm (e 29), mul_comm (e 30)]

/-- The convolution's value at an entry of the store of columns from `o` on. -/
theorem cv_at (c : Dev nD) (t : Fin cfg0.N) (o : ℕ) (ho : o + 128 ≤ 1024) (h : ∀ a, ![32, o] a + ![128, 128] a ≤ S160x1024.size a) (x0 x1 : Fin 128) :
    cv m c t ((Rect.unit (s := S160x1024) ![32, o] ![128, 128] h).emb (ix2 x0 x1))
      = convRow (uA m c) (wA m c) (cbA m c) (rowAt t x0) ⟨o + x1.val, by omega⟩ := by
  unfold cv
  have h0 : (((Rect.unit (s := S160x1024) ![32, o] ![128, 128] h).emb (ix2 x0 x1)) 0).val = 32 + x0.val := Rect.idx_unit_val _ _ _ _ _
  have h1 : (((Rect.unit (s := S160x1024) ![32, o] ![128, 128] h).emb (ix2 x0 x1)) 1).val = o + x1.val := Rect.idx_unit_val _ _ _ _ _
  exact congrArg₂ (convRow _ _ _) (congrArg (rowAt t) (Fin.ext (by show _ - 32 = x0.val; omega))) (Fin.ext h1)

set_option maxHeartbeats 2000000 in
/-- The convolution's block after point `t`. -/
theorem ptco (c : Dev nD) (t : Fin cfg0.N) (r : Fin 128) (l : Fin 1024) : ((dats m 0 c).after 13 t : FVec Ideal S128x1024 .bf16) (ix2 r l)
    = mixRow (uA m c) (wA m c) (cbA m c) (lgA m c) (lbA m c) (rowAt t r) l := by
  rw [after0_13]
  unfold outsAt0
  frame_open
  simp (disch := decide) only [↓ View.readCov_skip, ↓ View.readCov_cons_toLoadRect, ↓ View.readCov_fill]
  simp (disch := decide) only [View.read_writes_junk_eq_canon, View.canon_cons_unit_lit', View.ld_unit_lit', View.readCov_unit_lit', View.readCov_cons_unit_lit', View.readAt_eq_ld, Memref.IsWhole.read_unread]
  generalize hL : ([⟨Rect.unit ![32, 0] ![128, 1024] inb_S160x1024_S128x1024_32_0, k0_pay53 (iblk m c 5 t)⟩,
    ⟨Rect.unit ![0, 0] ![32, 1024] inb_S160x1024_S32x1024_0_0, k0_pay52 (k0_pay51 (Scalar.cmpi CmpIPredicate.sgt (BitVec.ofNat 32 (grid0.coords t 1).val) 0#32) (iblk m c 6 t))⟩] : List (View.Piece (Elt Ideal) S160x1024 .f32)) = L
  have he : ∀ (n o : ℕ) (hn : 2 ≤ n) (ho : o + 128 ≤ 1024) (h : ∀ a, ![n, o] a + ![128, 128] a ≤ S160x1024.size a) (x0 x1 : Fin 128),
      (View.whole cc0_scratch0).readCov L (Rect.unit (s := S160x1024) ![n, o] ![128, 128] h).toLoadRect (ix2 x0 x1)
        = uExt (uA m c) ⟨(rowAt t x0).val / 2048, by omega⟩ ⟨o + x1.val, by omega⟩ (n - 2 + (rowAt t x0).val % 2048) := fun n o hn ho h x0 x1 => by
    rw [← hL]
    exact e_at m c t n o hn ho h x0 x1
  clear hL
  refine (pay1_at _ _ _ r l).trans ?_
  unfold mixRow
  have hy : ∀ (Y Y' g g' b b' : Fin 1024 → EReal), Y = Y' → g = g' → b = b' → lns Y g b l = lns Y' g' b' l := fun _ _ _ _ _ _ a b c => by rw [a, b, c]
  refine hy _ _ _ _ _ _ (funext fun j => ?_) (funext fun j => blk10 m c t j) (funext fun j => blk11 m c t j)
  rw [View.readCov_eq_canon']
  beta_reduce
  generalize hyy : (Rect.unit (s := S160x1024) ![32, 0] ![128, 1024] inb_S160x1024_S128x1024_32_0).toLoadRect.idx (ix2 r j) = y
  have hy0 : (y 0).val = 32 + r.val := by rw [← hyy]; exact Rect.idx_unit_val _ _ _ _ _
  have hy1 : (y 1).val = 0 + j.val := by rw [← hyy]; exact Rect.idx_unit_val _ _ _ _ _
  have hG : cv m c t y = convRow (uA m c) (wA m c) (cbA m c) (rowAt t r) j := by
    unfold cv
    exact congrArg₂ (convRow _ _ _) (congrArg (rowAt t) (Fin.ext (by show (y 0).val - 32 = r.val; omega))) (Fin.ext (by rw [hy1]; omega))
  rw [← hG]
  clear hyy hG
  refine canon_step _ _ _ _ _ y (fun x0 x1 => ?_) fun n7 => ?_
  · generalize hz : cv m c t _ = z
    pointwise [k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109]
    simp (disch := decide) only [he, blk8, blk9]
    rw [← hz]
    refine Eq.trans ?_ (cv_at m c t 896 (by decide) _ x0 x1).symm
    unfold convRow
    rw [conv_comm]
  refine canon_step _ _ _ _ _ y (fun x0 x1 => ?_) fun n6 => ?_
  · generalize hz : cv m c t _ = z
    pointwise [k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109]
    simp (disch := decide) only [he, blk8, blk9]
    rw [← hz]
    refine Eq.trans ?_ (cv_at m c t 768 (by decide) _ x0 x1).symm
    unfold convRow
    rw [conv_comm]
  refine canon_step _ _ _ _ _ y (fun x0 x1 => ?_) fun n5 => ?_
  · generalize hz : cv m c t _ = z
    pointwise [k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109]
    simp (disch := decide) only [he, blk8, blk9]
    rw [← hz]
    refine Eq.trans ?_ (cv_at m c t 640 (by decide) _ x0 x1).symm
    unfold convRow
    rw [conv_comm]
  refine canon_step _ _ _ _ _ y (fun x0 x1 => ?_) fun n4 => ?_
  · generalize hz : cv m c t _ = z
    pointwise [k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109]
    simp (disch := decide) only [he, blk8, blk9]
    rw [← hz]
    refine Eq.trans ?_ (cv_at m c t 512 (by decide) _ x0 x1).symm
    unfold convRow
    rw [conv_comm]
  refine canon_step _ _ _ _ _ y (fun x0 x1 => ?_) fun n3 => ?_
  · generalize hz : cv m c t _ = z
    pointwise [k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109]
    simp (disch := decide) only [he, blk8, blk9]
    rw [← hz]
    refine Eq.trans ?_ (cv_at m c t 384 (by decide) _ x0 x1).symm
    unfold convRow
    rw [conv_comm]
  refine canon_step _ _ _ _ _ y (fun x0 x1 => ?_) fun n2 => ?_
  · generalize hz : cv m c t _ = z
    pointwise [k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109]
    simp (disch := decide) only [he, blk8, blk9]
    rw [← hz]
    refine Eq.trans ?_ (cv_at m c t 256 (by decide) _ x0 x1).symm
    unfold convRow
    rw [conv_comm]
  refine canon_step _ _ _ _ _ y (fun x0 x1 => ?_) fun n1 => ?_
  · generalize hz : cv m c t _ = z
    pointwise [k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109]
    simp (disch := decide) only [he, blk8, blk9]
    rw [← hz]
    refine Eq.trans ?_ (cv_at m c t 128 (by decide) _ x0 x1).symm
    unfold convRow
    rw [conv_comm]
  refine canon_step _ _ _ _ _ y (fun x0 x1 => ?_) fun n0 => ?_
  · generalize hz : cv m c t _ = z
    pointwise [k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109]
    simp (disch := decide) only [he, blk8, blk9]
    rw [← hz]
    refine Eq.trans ?_ (cv_at m c t 0 (by decide) _ x0 x1).symm
    unfold convRow
    rw [conv_comm]
    simp only [Nat.zero_add, Nat.reduceSub]
  exfalso
  have h32 : 32 ≤ (y 0).val := by omega
  have a0 := not_cols 0 _ y h32 n0
  have a1 := not_cols 128 _ y h32 n1
  have a2 := not_cols 256 _ y h32 n2
  have a3 := not_cols 384 _ y h32 n3
  have a4 := not_cols 512 _ y h32 n4
  have a5 := not_cols 640 _ y h32 n5
  have a6 := not_cols 768 _ y h32 n6
  have a7 := not_cols 896 _ y h32 n7
  have hj := j.isLt
  omega

end Cert.MixIdeal.Row
end
-- ==== Proof.Mix.Value.lean ====
/-
  The mix launch of the prompt as a whole: the attention's and the convolution's arrays after the run.
-/
module

public import proofs.«01_k».proof.Proof.Gen.MixIdeal.Frame
public import proofs.«01_k».proof.Proof.Attn
public import proofs.«01_k».proof.Proof.Mix.ValueA
public import proofs.«01_k».proof.Proof.Mix.ValueC
public import Idealize.ShloMosaic.Lib.Pointwise
public import Idealize.ShloMosaic.Lib.StableHlo.RunRead
public import Idealize.ShloMosaic.Lib.Pipeline.ValueKit
public import Idealize.ShloMosaic.Lib.Claim

@[expose] public section

set_option maxRecDepth 16384

noncomputable section

namespace Cert.MixIdeal.Row

open Cert.MixIdeal Cert.MixIdeal.Gen Cert.Attn Idealize.ShloMosaic Idealize.ShloMosaic.TcCoe Idealize.SL.Sem

variable (m : (ℓ : Loc nD τ sig) → Buf (Elt Ideal) ℓ)
/-- The attention's array: row `i 0`, entry `i 1`. -/
def Gao (c : Dev nD) : FVec Ideal S32768x1024 .bf16 := fun i => attRow (qA m c) (kA m c) (vA m c) (sA m c) (i 0) (i 1)

/-- The attention's array after the run. -/
theorem finalao (c : Dev nD) : (dats m 0 c).arrAt 12 (cfgs 0).N = Gao m c := by
  refine (dats m 0 c).arrAt_eq_of_covers 12 _ (by decide +kernel) fun t hf y => ?_
  blk_simp
  idx_vars y
  have e : ((View.whole main_v0_0).slice (win0_12.rect t)).emb (ix2 y0 y1) = (ix2 (rowAt t y0) y1 : S32768x1024.Idx) := by
    unfold rowAt
    blk_ext [idx t]
  rw [e]
  exact ptao m c t y0 y1

/-- The convolution's array: row `i 0`, entry `i 1`. -/
def Gco (c : Dev nD) : FVec Ideal S32768x1024 .bf16 := fun i => mixRow (uA m c) (wA m c) (cbA m c) (lgA m c) (lbA m c) (i 0) (i 1)

/-- The convolution's array after the run. -/
theorem finalco (c : Dev nD) : (dats m 0 c).arrAt 13 (cfgs 0).N = Gco m c := by
  refine (dats m 0 c).arrAt_eq_of_covers 13 _ (by decide +kernel) fun t hf y => ?_
  blk_simp
  idx_vars y
  have e : ((View.whole main_v0_1).slice (win0_13.rect t)).emb (ix2 y0 y1) = (ix2 (rowAt t y0) y1 : S32768x1024.Idx) := by
    unfold rowAt
    blk_ext [idx t]
  rw [e]
  exact ptco m c t y0 y1

end Cert.MixIdeal.Row
end
-- ==== Proof.Mix.Ref.lean ====
/-
  The mix launch's reference, its first result read at an entry.
-/
module

public import proofs.«01_k».proof.Proof.Gen.MixRefIdeal.Read
public import proofs.«01_k».proof.Proof.Attn
public import Idealize.ShloMosaic.Lib.Pointwise

@[expose] public section

set_option maxRecDepth 16384

noncomputable section

namespace Cert.MixRefIdeal.Row

open Cert.MixRefIdeal Cert.MixRefIdeal.Gen Cert.MixRefIdeal.Read Cert.Attn Idealize.ShloMosaic Idealize.ShloMosaic.TcCoe Idealize.SL.Sem

variable (x0 : FVec Ideal S32768x1024 .bf16) (x1 x2 : FVec Ideal S32768x256 .f32) (x3 : FVec Ideal S32768x1024 .f32) (x4 : FVec Ideal S16 .f32) (x5 : FVec Ideal S31x1024 .f32) (x6 x7 x8 : FVec Ideal S1x1024 .f32)

/-- The reduced shape. -/
theorem red5 : S16x16x4x4x128x256.Reduces [5] S16x16x4x4x128 := by decide

/-- The greatest score over the keys. -/
theorem v47_at (n b : Fin 16) (h g : Fin 4) (r : Fin 128) : val_main_v47 (F := Ideal) x0 x1 (ix5 n b h g r)
    = Finset.fold max (Ideal.ofBits FTy.f32 4286578688#32) (fun s => val_main_v46 (F := Ideal) x0 x1 (ix6 n b h g r s)) Finset.univ := by
  unfold val_main_v47
  generalize val_main_v46 (F := Ideal) x0 x1 = y
  refine (Host.reduce_eq_fold_single (a := 5) max y _ reducesTo_S16x16x4x4x128x256_S16x16x4x4x128_d5 red5 h_S_ _).trans ?_
  have e : val_main_cst_6 (F := Ideal) (Shape.Idx.first h_S_) = Ideal.ofBits FTy.f32 4286578688#32 := rfl
  rw [e]
  refine congrArg (fun f => Finset.fold max _ f _) (funext fun k => congrArg y (funext fun a => Fin.ext ?_))
  match a with | ⟨0, _⟩ => rfl | ⟨1, _⟩ => rfl | ⟨2, _⟩ => rfl | ⟨3, _⟩ => rfl | ⟨4, _⟩ => rfl | ⟨5, _⟩ => rfl

/-- The greatest score, at least the sink. -/
theorem v50_at (n b : Fin 16) (h g : Fin 4) (r : Fin 128) : val_main_v50 (F := Ideal) x0 x1 x4 (ix6 n b h g r 0)
   = max (val_main_v47 (F := Ideal) x0 x1 (ix5 n b h g r)) (x4 (ix1 ⟨h.val * 4 + g.val, by omega⟩)) := by
  have e1 : idx_main_v48 (ix6 n b h g r 0) = ix5 n b h g r := by
    funext a
    match a with
    | ⟨0, _⟩ => rfl
    | ⟨1, _⟩ => rfl
    | ⟨2, _⟩ => rfl
    | ⟨3, _⟩ => rfl
    | ⟨4, _⟩ => rfl
  have e2 : idx_main_v49 (ix6 n b h g r 0) = ix6 0 0 h g 0 0 := by
    funext a
    match a with
    | ⟨0, _⟩ => rfl
    | ⟨1, _⟩ => rfl
    | ⟨2, _⟩ => rfl
    | ⟨3, _⟩ => rfl
    | ⟨4, _⟩ => rfl
    | ⟨5, _⟩ => rfl
  have e3 : val_main_v45 (F := Ideal) x4 (ix6 0 0 h g 0 0) = x4 (ix1 ⟨h.val * 4 + g.val, by omega⟩) := by
    pointwise [val_main_v45]
  rw [val_main_v50_apply, val_main_v48_apply, val_main_v49_apply, e1, e2, e3]
  generalize val_main_v47 (F := Ideal) x0 x1 (ix5 n b h g r) = a
  rfl

/-- The exponential. -/
theorem v53_at (n b : Fin 16) (h g : Fin 4) (r : Fin 128) (s : Fin 256) : val_main_v53 (F := Ideal) x0 x1 x4 (ix6 n b h g r s)
   = Ideal.exp (val_main_v46 (F := Ideal) x0 x1 (ix6 n b h g r s) - val_main_v50 (F := Ideal) x0 x1 x4 (ix6 n b h g r 0)) := by
  unfold val_main_v53 val_main_v52 val_main_v51
  generalize val_main_v50 (F := Ideal) x0 x1 x4 = y
  generalize val_main_v46 (F := Ideal) x0 x1 = w
  pointwise

/-- Their sum. -/
theorem v54_at (n b : Fin 16) (h g : Fin 4) (r : Fin 128) : val_main_v54 (F := Ideal) x0 x1 x4 (ix5 n b h g r)
   = ∑ s, val_main_v53 (F := Ideal) x0 x1 x4 (ix6 n b h g r s) := by
  rw [val_main_v54_apply]
  have e : val_main_cst_7 (F := Ideal) (Shape.Idx.first h_S_) = 0 := by
    unfold val_main_cst_7
    exact Ideal.ofBits_zero_f32
  rw [e, zero_add]
  generalize val_main_v53 (F := Ideal) x0 x1 x4 = y
  refine Finset.sum_congr rfl fun k _ => congrArg y (funext fun a => Fin.ext ?_)
  match a with | ⟨0, _⟩ => rfl | ⟨1, _⟩ => rfl | ⟨2, _⟩ => rfl | ⟨3, _⟩ => rfl | ⟨4, _⟩ => rfl | ⟨5, _⟩ => rfl

/-- The probability. -/
theorem v61_at (n b : Fin 16) (h g : Fin 4) (r : Fin 128) (s : Fin 256) : val_main_v61 (F := Ideal) x0 x1 x4 (ix6 n b h g r s)
   = Ideal.div (val_main_v53 (F := Ideal) x0 x1 x4 (ix6 n b h g r s)) (val_main_v54 (F := Ideal) x0 x1 x4 (ix5 n b h g r) + Ideal.exp (x4 (ix1 ⟨h.val * 4 + g.val, by omega⟩) - val_main_v50 (F := Ideal) x0 x1 x4 (ix6 n b h g r 0))) := by
  unfold val_main_v61 val_main_v60 val_main_v59 val_main_v58 val_main_v57 val_main_v55
  generalize val_main_v50 (F := Ideal) x0 x1 x4 = y
  generalize val_main_v53 (F := Ideal) x0 x1 x4 = w
  generalize val_main_v54 (F := Ideal) x0 x1 x4 = u
  pointwise [val_main_v56, val_main_v45]

/-- Probability, in one piece. -/
theorem prob_at (n b : Fin 16) (h g : Fin 4) (r : Fin 128) (s : Fin 256) : val_main_v61 (F := Ideal) x0 x1 x4 (ix6 n b h g r s)
    = prob (fun s => val_main_v46 (F := Ideal) x0 x1 (ix6 n b h g r s)) (x4 (ix1 ⟨h.val * 4 + g.val, by omega⟩)) s := by
  unfold prob top
  rw [v61_at, v54_at]
  simp only [v53_at, v50_at, v47_at]

/-- The keys with the previous block's before them. -/
theorem v8_at (R : Fin 32768) (s : Fin 256) (h : Fin 4) (d : Fin 64) :
    val_main_v8 (F := Ideal) x1 (ix5 ⟨R.val / 2048, by omega⟩ ⟨R.val / 128 % 16, by omega⟩ s h d) = withPrev (fun a c => x1 (ix2 a c)) R s ⟨h.val * 64 + d.val, by omega⟩ := by
  unfold withPrev
  pointwise [val_main_v8, val_main_v7, val_main_v6, val_main_v5, val_main_v4, val_main_v3, val_main_v2, val_main_cst]
  split_ifs <;> rfl

/-- The values with the previous block's before them. -/
theorem v13_at (R : Fin 32768) (s : Fin 256) (h : Fin 4) (d : Fin 64) :
    val_main_v13 (F := Ideal) x2 (ix5 ⟨R.val / 2048, by omega⟩ ⟨R.val / 128 % 16, by omega⟩ s h d) = withPrev (fun a c => x2 (ix2 a c)) R s ⟨h.val * 64 + d.val, by omega⟩ := by
  unfold withPrev
  pointwise [val_main_v13, val_main_v12, val_main_v11, val_main_v10, val_main_v9, val_main_v3, val_main_cst_0]
  split_ifs <;> rfl

/-- The product of a query and a key. -/
theorem v15_at (n b : Fin 16) (h g : Fin 4) (r : Fin 128) (s : Fin 256) : val_main_v15 (F := Ideal) x0 x1 (ix6 n b h g r s)
    = ∑ x : Fin 64, val_main_v8 (F := Ideal) x1 (ix5 n b s h x) * x0 (ix2 ⟨n.val * 2048 + b.val * 128 + r.val, by omega⟩ ⟨g.val * 256 + h.val * 64 + x.val, by omega⟩) := by
  pointwise [val_main_v15, val_main_v14, val_main_v1, val_main_v0]

/-- The masked score. -/
theorem v46_at (n b : Fin 16) (h g : Fin 4) (r : Fin 128) (s : Fin 256) : val_main_v46 (F := Ideal) x0 x1 (ix6 n b h g r s)
    = Scalar.select (vis b.val r.val s.val) (val_main_v15 (F := Ideal) x0 x1 (ix6 n b h g r s)) (Ideal.ofBits FTy.f32 0xFF800000#32) := by
  unfold vis
  have e : id (constant (F := Ideal) S_ FTy.f32 0xFF800000#32) ix0 = Ideal.ofBits FTy.f32 0xFF800000#32 := rfl
  rw [← e]
  pointwise [val_main_v46, val_main_call0_v0, val_main_call0_v1, val_main_call0_v2, val_main_cst_5, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_c, val_main_c_1, val_main_c_2, val_main_c_3, val_main_c_4]

/-- The attention's result, in the rows of the array. -/
theorem v318_at (R : Fin 32768) (l : Fin 1024) : val_main_v318 (F := Ideal) x0 x1 x2 x4 (ix2 R l)
    = ∑ s : Fin 256, val_main_v13 (F := Ideal) x2 (ix5 ⟨R.val / 2048, by omega⟩ ⟨R.val / 128 % 16, by omega⟩ s ⟨l.val / 64 % 4, by omega⟩ ⟨l.val % 64, by omega⟩)
        * val_main_v61 (F := Ideal) x0 x1 x4 (ix6 ⟨R.val / 2048, by omega⟩ ⟨R.val / 128 % 16, by omega⟩ ⟨l.val / 64 % 4, by omega⟩ ⟨l.val / 256, by omega⟩ ⟨R.val % 128, by omega⟩ s) := by
  pointwise [val_main_v318, val_main_v64, val_main_v63, val_main_v62]

/-- The reference's first result: the attention of every row. -/
theorem ao_at (R : Fin 32768) (l : Fin 1024) : val_main_v318 (F := Ideal) x0 x1 x2 x4 (ix2 R l)
    = attRow (fun a c => x0 (ix2 a c)) (fun a c => x1 (ix2 a c)) (fun a c => x2 (ix2 a c)) (fun a => x4 (ix1 a)) R l := by
  rw [v318_at]
  unfold attRow att
  refine Finset.sum_congr rfl fun s _ => ?_
  rw [mul_comm, v13_at, prob_at]
  refine congrArg (fun f => prob f _ s * _) (funext fun s' => ?_)
  rw [v46_at, v15_at]
  unfold score
  refine congrArg (fun f => Scalar.select _ f _) (Finset.sum_congr rfl fun x _ => ?_)
  rw [mul_comm, v8_at]
  refine congrArg (fun a => x0 (ix2 a _) * _) (Fin.ext ?_)
  show R.val / 2048 * 2048 + R.val / 128 % 16 * 128 + R.val % 128 = R.val
  omega

end Cert.MixRefIdeal.Row
end
-- ==== Proof.Mix.RefConv.lean ====
/-
  The mix launch's reference, its second result read at an entry.
-/
module

public import proofs.«01_k».proof.Proof.Gen.MixRefIdeal.Read
public import proofs.«01_k».proof.Proof.Attn
public import Idealize.ShloMosaic.Lib.Pointwise

@[expose] public section

set_option maxRecDepth 16384

noncomputable section

namespace Cert.MixRefIdeal.Row

open Cert.MixRefIdeal Cert.MixRefIdeal.Gen Cert.MixRefIdeal.Read Cert.Attn Idealize.ShloMosaic Idealize.ShloMosaic.TcCoe Idealize.SL.Sem

variable (x0 : FVec Ideal S32768x1024 .bf16) (x1 x2 : FVec Ideal S32768x256 .f32) (x3 : FVec Ideal S32768x1024 .f32) (x4 : FVec Ideal S16 .f32) (x5 : FVec Ideal S31x1024 .f32) (x6 x7 x8 : FVec Ideal S1x1024 .f32)

/-- The channels with thirty zeros before each sequence. -/
theorem v66_at (n : Fin 16) (P : Fin 2078) (l : Fin 1024) : val_main_v66 (F := Ideal) x3 (ix3 n P l) = uExt (fun a c => x3 (ix2 a c)) n l P.val := by
  unfold uExt
  have e : FloatOps.sitofp (F := Ideal) FTy.f32 0#32 = 0 := by
    show (((0#32 : BitVec 32).toInt : ℝ) : EReal) = 0
    simp
  rw [← e]
  pointwise [val_main_v66, val_main_v65, val_main_call1_v0, val_main_c_8]

/-- The first tap. -/
theorem tap0 (n : Fin 16) (p : Fin 2048) (l : Fin 1024) : val_main_v74 (F := Ideal) x3 x5 (ix3 n p l) = val_main_v66 (F := Ideal) x3 (ix3 n ⟨0 + p.val, by omega⟩ l) * x5 (ix2 0 l) := by
  have e : (⟨0 + p.val, by omega⟩ : Fin 2078) = ⟨p.val, by omega⟩ := Fin.ext (by simp)
  rw [e]
  pointwise [val_main_v74, val_main_v73, val_main_v72, val_main_v71, val_main_v70, val_main_v69, val_main_v68, val_main_v67, val_main_cst_9]
/-- Tap 1. -/
theorem tap1 (n : Fin 16) (p : Fin 2048) (l : Fin 1024) : val_main_v81 (F := Ideal) x3 x5 (ix3 n p l) = val_main_v74 (F := Ideal) x3 x5 (ix3 n p l) + val_main_v66 (F := Ideal) x3 (ix3 n ⟨1 + p.val, by omega⟩ l) * x5 (ix2 1 l) := by
  pointwise [val_main_v81, val_main_v80, val_main_v79, val_main_v78, val_main_v77, val_main_v76, val_main_v75]
/-- Tap 2. -/
theorem tap2 (n : Fin 16) (p : Fin 2048) (l : Fin 1024) : val_main_v88 (F := Ideal) x3 x5 (ix3 n p l) = val_main_v81 (F := Ideal) x3 x5 (ix3 n p l) + val_main_v66 (F := Ideal) x3 (ix3 n ⟨2 + p.val, by omega⟩ l) * x5 (ix2 2 l) := by
  pointwise [val_main_v88, val_main_v87, val_main_v86, val_main_v85, val_main_v84, val_main_v83, val_main_v82]
/-- Tap 3. -/
theorem tap3 (n : Fin 16) (p : Fin 2048) (l : Fin 1024) : val_main_v95 (F := Ideal) x3 x5 (ix3 n p l) = val_main_v88 (F := Ideal) x3 x5 (ix3 n p l) + val_main_v66 (F := Ideal) x3 (ix3 n ⟨3 + p.val, by omega⟩ l) * x5 (ix2 3 l) := by
  pointwise [val_main_v95, val_main_v94, val_main_v93, val_main_v92, val_main_v91, val_main_v90, val_main_v89]
/-- Tap 4. -/
theorem tap4 (n : Fin 16) (p : Fin 2048) (l : Fin 1024) : val_main_v102 (F := Ideal) x3 x5 (ix3 n p l) = val_main_v95 (F := Ideal) x3 x5 (ix3 n p l) + val_main_v66 (F := Ideal) x3 (ix3 n ⟨4 + p.val, by omega⟩ l) * x5 (ix2 4 l) := by
  pointwise [val_main_v102, val_main_v101, val_main_v100, val_main_v99, val_main_v98, val_main_v97, val_main_v96]
/-- Tap 5. -/
theorem tap5 (n : Fin 16) (p : Fin 2048) (l : Fin 1024) : val_main_v109 (F := Ideal) x3 x5 (ix3 n p l) = val_main_v102 (F := Ideal) x3 x5 (ix3 n p l) + val_main_v66 (F := Ideal) x3 (ix3 n ⟨5 + p.val, by omega⟩ l) * x5 (ix2 5 l) := by
  pointwise [val_main_v109, val_main_v108, val_main_v107, val_main_v106, val_main_v105, val_main_v104, val_main_v103]
/-- Tap 6. -/
theorem tap6 (n : Fin 16) (p : Fin 2048) (l : Fin 1024) : val_main_v116 (F := Ideal) x3 x5 (ix3 n p l) = val_main_v109 (F := Ideal) x3 x5 (ix3 n p l) + val_main_v66 (F := Ideal) x3 (ix3 n ⟨6 + p.val, by omega⟩ l) * x5 (ix2 6 l) := by
  pointwise [val_main_v116, val_main_v115, val_main_v114, val_main_v113, val_main_v112, val_main_v111, val_main_v110]
/-- Tap 7. -/
theorem tap7 (n : Fin 16) (p : Fin 2048) (l : Fin 1024) : val_main_v123 (F := Ideal) x3 x5 (ix3 n p l) = val_main_v116 (F := Ideal) x3 x5 (ix3 n p l) + val_main_v66 (F := Ideal) x3 (ix3 n ⟨7 + p.val, by omega⟩ l) * x5 (ix2 7 l) := by
  pointwise [val_main_v123, val_main_v122, val_main_v121, val_main_v120, val_main_v119, val_main_v118, val_main_v117]
/-- Tap 8. -/
theorem tap8 (n : Fin 16) (p : Fin 2048) (l : Fin 1024) : val_main_v130 (F := Ideal) x3 x5 (ix3 n p l) = val_main_v123 (F := Ideal) x3 x5 (ix3 n p l) + val_main_v66 (F := Ideal) x3 (ix3 n ⟨8 + p.val, by omega⟩ l) * x5 (ix2 8 l) := by
  pointwise [val_main_v130, val_main_v129, val_main_v128, val_main_v127, val_main_v126, val_main_v125, val_main_v124]
/-- Tap 9. -/
theorem tap9 (n : Fin 16) (p : Fin 2048) (l : Fin 1024) : val_main_v137 (F := Ideal) x3 x5 (ix3 n p l) = val_main_v130 (F := Ideal) x3 x5 (ix3 n p l) + val_main_v66 (F := Ideal) x3 (ix3 n ⟨9 + p.val, by omega⟩ l) * x5 (ix2 9 l) := by
  pointwise [val_main_v137, val_main_v136, val_main_v135, val_main_v134, val_main_v133, val_main_v132, val_main_v131]
/-- Tap 10. -/
theorem tap10 (n : Fin 16) (p : Fin 2048) (l : Fin 1024) : val_main_v144 (F := Ideal) x3 x5 (ix3 n p l) = val_main_v137 (F := Ideal) x3 x5 (ix3 n p l) + val_main_v66 (F := Ideal) x3 (ix3 n ⟨10 + p.val, by omega⟩ l) * x5 (ix2 10 l) := by
  pointwise [val_main_v144, val_main_v143, val_main_v142, val_main_v141, val_main_v140, val_main_v139, val_main_v138]
/-- Tap 11. -/
theorem tap11 (n : Fin 16) (p : Fin 2048) (l : Fin 1024) : val_main_v151 (F := Ideal) x3 x5 (ix3 n p l) = val_main_v144 (F := Ideal) x3 x5 (ix3 n p l) + val_main_v66 (F := Ideal) x3 (ix3 n ⟨11 + p.val, by omega⟩ l) * x5 (ix2 11 l) := by
  pointwise [val_main_v151, val_main_v150, val_main_v149, val_main_v148, val_main_v147, val_main_v146, val_main_v145]
/-- Tap 12. -/
theorem tap12 (n : Fin 16) (p : Fin 2048) (l : Fin 1024) : val_main_v158 (F := Ideal) x3 x5 (ix3 n p l) = val_main_v151 (F := Ideal) x3 x5 (ix3 n p l) + val_main_v66 (F := Ideal) x3 (ix3 n ⟨12 + p.val, by omega⟩ l) * x5 (ix2 12 l) := by
  pointwise [val_main_v158, val_main_v157, val_main_v156, val_main_v155, val_main_v154, val_main_v153, val_main_v152]
/-- Tap 13. -/
theorem tap13 (n : Fin 16) (p : Fin 2048) (l : Fin 1024) : val_main_v165 (F := Ideal) x3 x5 (ix3 n p l) = val_main_v158 (F := Ideal) x3 x5 (ix3 n p l) + val_main_v66 (F := Ideal) x3 (ix3 n ⟨13 + p.val, by omega⟩ l) * x5 (ix2 13 l) := by
  pointwise [val_main_v165, val_main_v164, val_main_v163, val_main_v162, val_main_v161, val_main_v160, val_main_v159]
/-- Tap 14. -/
theorem tap14 (n : Fin 16) (p : Fin 2048) (l : Fin 1024) : val_main_v172 (F := Ideal) x3 x5 (ix3 n p l) = val_main_v165 (F := Ideal) x3 x5 (ix3 n p l) + val_main_v66 (F := Ideal) x3 (ix3 n ⟨14 + p.val, by omega⟩ l) * x5 (ix2 14 l) := by
  pointwise [val_main_v172, val_main_v171, val_main_v170, val_main_v169, val_main_v168, val_main_v167, val_main_v166]
/-- Tap 15. -/
theorem tap15 (n : Fin 16) (p : Fin 2048) (l : Fin 1024) : val_main_v179 (F := Ideal) x3 x5 (ix3 n p l) = val_main_v172 (F := Ideal) x3 x5 (ix3 n p l) + val_main_v66 (F := Ideal) x3 (ix3 n ⟨15 + p.val, by omega⟩ l) * x5 (ix2 15 l) := by
  pointwise [val_main_v179, val_main_v178, val_main_v177, val_main_v176, val_main_v175, val_main_v174, val_main_v173]
/-- Tap 16. -/
theorem tap16 (n : Fin 16) (p : Fin 2048) (l : Fin 1024) : val_main_v186 (F := Ideal) x3 x5 (ix3 n p l) = val_main_v179 (F := Ideal) x3 x5 (ix3 n p l) + val_main_v66 (F := Ideal) x3 (ix3 n ⟨16 + p.val, by omega⟩ l) * x5 (ix2 16 l) := by
  pointwise [val_main_v186, val_main_v185, val_main_v184, val_main_v183, val_main_v182, val_main_v181, val_main_v180]
/-- Tap 17. -/
theorem tap17 (n : Fin 16) (p : Fin 2048) (l : Fin 1024) : val_main_v193 (F := Ideal) x3 x5 (ix3 n p l) = val_main_v186 (F := Ideal) x3 x5 (ix3 n p l) + val_main_v66 (F := Ideal) x3 (ix3 n ⟨17 + p.val, by omega⟩ l) * x5 (ix2 17 l) := by
  pointwise [val_main_v193, val_main_v192, val_main_v191, val_main_v190, val_main_v189, val_main_v188, val_main_v187]
/-- Tap 18. -/
theorem tap18 (n : Fin 16) (p : Fin 2048) (l : Fin 1024) : val_main_v200 (F := Ideal) x3 x5 (ix3 n p l) = val_main_v193 (F := Ideal) x3 x5 (ix3 n p l) + val_main_v66 (F := Ideal) x3 (ix3 n ⟨18 + p.val, by omega⟩ l) * x5 (ix2 18 l) := by
  pointwise [val_main_v200, val_main_v199, val_main_v198, val_main_v197, val_main_v196, val_main_v195, val_main_v194]
/-- Tap 19. -/
theorem tap19 (n : Fin 16) (p : Fin 2048) (l : Fin 1024) : val_main_v207 (F := Ideal) x3 x5 (ix3 n p l) = val_main_v200 (F := Ideal) x3 x5 (ix3 n p l) + val_main_v66 (F := Ideal) x3 (ix3 n ⟨19 + p.val, by omega⟩ l) * x5 (ix2 19 l) := by
  pointwise [val_main_v207, val_main_v206, val_main_v205, val_main_v204, val_main_v203, val_main_v202, val_main_v201]
/-- Tap 20. -/
theorem tap20 (n : Fin 16) (p : Fin 2048) (l : Fin 1024) : val_main_v214 (F := Ideal) x3 x5 (ix3 n p l) = val_main_v207 (F := Ideal) x3 x5 (ix3 n p l) + val_main_v66 (F := Ideal) x3 (ix3 n ⟨20 + p.val, by omega⟩ l) * x5 (ix2 20 l) := by
  pointwise [val_main_v214, val_main_v213, val_main_v212, val_main_v211, val_main_v210, val_main_v209, val_main_v208]
/-- Tap 21. -/
theorem tap21 (n : Fin 16) (p : Fin 2048) (l : Fin 1024) : val_main_v221 (F := Ideal) x3 x5 (ix3 n p l) = val_main_v214 (F := Ideal) x3 x5 (ix3 n p l) + val_main_v66 (F := Ideal) x3 (ix3 n ⟨21 + p.val, by omega⟩ l) * x5 (ix2 21 l) := by
  pointwise [val_main_v221, val_main_v220, val_main_v219, val_main_v218, val_main_v217, val_main_v216, val_main_v215]
/-- Tap 22. -/
theorem tap22 (n : Fin 16) (p : Fin 2048) (l : Fin 1024) : val_main_v228 (F := Ideal) x3 x5 (ix3 n p l) = val_main_v221 (F := Ideal) x3 x5 (ix3 n p l) + val_main_v66 (F := Ideal) x3 (ix3 n ⟨22 + p.val, by omega⟩ l) * x5 (ix2 22 l) := by
  pointwise [val_main_v228, val_main_v227, val_main_v226, val_main_v225, val_main_v224, val_main_v223, val_main_v222]
/-- Tap 23. -/
theorem tap23 (n : Fin 16) (p : Fin 2048) (l : Fin 1024) : val_main_v235 (F := Ideal) x3 x5 (ix3 n p l) = val_main_v228 (F := Ideal) x3 x5 (ix3 n p l) + val_main_v66 (F := Ideal) x3 (ix3 n ⟨23 + p.val, by omega⟩ l) * x5 (ix2 23 l) := by
  pointwise [val_main_v235, val_main_v234, val_main_v233, val_main_v232, val_main_v231, val_main_v230, val_main_v229]
/-- Tap 24. -/
theorem tap24 (n : Fin 16) (p : Fin 2048) (l : Fin 1024) : val_main_v242 (F := Ideal) x3 x5 (ix3 n p l) = val_main_v235 (F := Ideal) x3 x5 (ix3 n p l) + val_main_v66 (F := Ideal) x3 (ix3 n ⟨24 + p.val, by omega⟩ l) * x5 (ix2 24 l) := by
  pointwise [val_main_v242, val_main_v241, val_main_v240, val_main_v239, val_main_v238, val_main_v237, val_main_v236]
/-- Tap 25. -/
theorem tap25 (n : Fin 16) (p : Fin 2048) (l : Fin 1024) : val_main_v249 (F := Ideal) x3 x5 (ix3 n p l) = val_main_v242 (F := Ideal) x3 x5 (ix3 n p l) + val_main_v66 (F := Ideal) x3 (ix3 n ⟨25 + p.val, by omega⟩ l) * x5 (ix2 25 l) := by
  pointwise [val_main_v249, val_main_v248, val_main_v247, val_main_v246, val_main_v245, val_main_v244, val_main_v243]
/-- Tap 26. -/
theorem tap26 (n : Fin 16) (p : Fin 2048) (l : Fin 1024) : val_main_v256 (F := Ideal) x3 x5 (ix3 n p l) = val_main_v249 (F := Ideal) x3 x5 (ix3 n p l) + val_main_v66 (F := Ideal) x3 (ix3 n ⟨26 + p.val, by omega⟩ l) * x5 (ix2 26 l) := by
  pointwise [val_main_v256, val_main_v255, val_main_v254, val_main_v253, val_main_v252, val_main_v251, val_main_v250]
/-- Tap 27. -/
theorem tap27 (n : Fin 16) (p : Fin 2048) (l : Fin 1024) : val_main_v263 (F := Ideal) x3 x5 (ix3 n p l) = val_main_v256 (F := Ideal) x3 x5 (ix3 n p l) + val_main_v66 (F := Ideal) x3 (ix3 n ⟨27 + p.val, by omega⟩ l) * x5 (ix2 27 l) := by
  pointwise [val_main_v263, val_main_v262, val_main_v261, val_main_v260, val_main_v259, val_main_v258, val_main_v257]
/-- Tap 28. -/
theorem tap28 (n : Fin 16) (p : Fin 2048) (l : Fin 1024) : val_main_v270 (F := Ideal) x3 x5 (ix3 n p l) = val_main_v263 (F := Ideal) x3 x5 (ix3 n p l) + val_main_v66 (F := Ideal) x3 (ix3 n ⟨28 + p.val, by omega⟩ l) * x5 (ix2 28 l) := by
  pointwise [val_main_v270, val_main_v269, val_main_v268, val_main_v267, val_main_v266, val_main_v265, val_main_v264]
/-- Tap 29. -/
theorem tap29 (n : Fin 16) (p : Fin 2048) (l : Fin 1024) : val_main_v277 (F := Ideal) x3 x5 (ix3 n p l) = val_main_v270 (F := Ideal) x3 x5 (ix3 n p l) + val_main_v66 (F := Ideal) x3 (ix3 n ⟨29 + p.val, by omega⟩ l) * x5 (ix2 29 l) := by
  pointwise [val_main_v277, val_main_v276, val_main_v275, val_main_v274, val_main_v273, val_main_v272, val_main_v271]
/-- Tap 30. -/
theorem tap30 (n : Fin 16) (p : Fin 2048) (l : Fin 1024) : val_main_v284 (F := Ideal) x3 x5 (ix3 n p l) = val_main_v277 (F := Ideal) x3 x5 (ix3 n p l) + val_main_v66 (F := Ideal) x3 (ix3 n ⟨30 + p.val, by omega⟩ l) * x5 (ix2 30 l) := by
  pointwise [val_main_v284, val_main_v283, val_main_v282, val_main_v281, val_main_v280, val_main_v279, val_main_v278]

/-- The convolution and its bias. -/
theorem v287_at (n : Fin 16) (p : Fin 2048) (l : Fin 1024) : val_main_v287 (F := Ideal) x3 x5 x6 (ix3 n p l)
    = conv (fun t => uExt (fun a c => x3 (ix2 a c)) n l (t + p.val)) (fun t => x5 (ix2 t l)) + x6 (ix2 0 l) := by
  have e : val_main_v287 (F := Ideal) x3 x5 x6 (ix3 n p l) = val_main_v284 (F := Ideal) x3 x5 (ix3 n p l) + x6 (ix2 0 l) := by
    pointwise [val_main_v287, val_main_v286, val_main_v285]
  rw [e, tap30, tap29, tap28, tap27, tap26, tap25, tap24, tap23, tap22, tap21, tap20, tap19, tap18, tap17, tap16, tap15, tap14, tap13, tap12, tap11, tap10, tap9, tap8, tap7, tap6, tap5, tap4, tap3, tap2, tap1, tap0]
  simp only [v66_at]
  rfl

/-- The layer norm. -/
theorem v309_at (n : Fin 16) (p : Fin 2048) (l : Fin 1024) : val_main_v309 (F := Ideal) x3 x5 x6 x7 x8 (ix3 n p l)
    = ln (fun j => val_main_v287 (F := Ideal) x3 x5 x6 (ix3 n p j)) (fun j => x7 (ix2 0 j)) (fun j => x8 (ix2 0 j)) l := by
  unfold ln
  pointwise [val_main_v309,val_main_v308,val_main_v307,val_main_v306,val_main_v305,val_main_v304,val_main_v303,val_main_v302,val_main_v301,val_main_v300,val_main_v299,val_main_v298,val_main_v297,val_main_v296,val_main_v295,val_main_v294,val_main_v293,val_main_v292,val_main_v291,val_main_v290,val_main_v289,val_main_v288, val_main_cst_10, val_main_cst_11, val_main_cst_12, val_main_cst_13, val_main_cst_14]

/-- The swish, in the rows of the array. -/
theorem v319_at (R : Fin 32768) (l : Fin 1024) : val_main_v319 (F := Ideal) x3 x5 x6 x7 x8 (ix2 R l)
    = val_main_v309 (F := Ideal) x3 x5 x6 x7 x8 (ix3 ⟨R.val / 2048, by omega⟩ ⟨R.val % 2048, by omega⟩ l)
      * Ideal.div 1 (1 + Ideal.exp (-val_main_v309 (F := Ideal) x3 x5 x6 x7 x8 (ix3 ⟨R.val / 2048, by omega⟩ ⟨R.val % 2048, by omega⟩ l))) := by
  pointwise [val_main_v319, val_main_v317,val_main_v316,val_main_v315,val_main_v314,val_main_v313,val_main_v312,val_main_v311,val_main_v310, val_main_cst_15, val_main_cst_16]

/-- The reference's second result: the convolution's branch of every row. -/
theorem co_at (R : Fin 32768) (l : Fin 1024) : val_main_v319 (F := Ideal) x3 x5 x6 x7 x8 (ix2 R l)
    = mixRow (fun a c => x3 (ix2 a c)) (fun t c => x5 (ix2 t c)) (fun j => x6 (ix2 0 j)) (fun j => x7 (ix2 0 j)) (fun j => x8 (ix2 0 j)) R l := by
  rw [v319_at, v309_at]
  unfold mixRow lns
  have e : (fun j => val_main_v287 (F := Ideal) x3 x5 x6 (ix3 ⟨R.val / 2048, by omega⟩ ⟨R.val % 2048, by omega⟩ j))
      = convRow (fun a c => x3 (ix2 a c)) (fun t c => x5 (ix2 t c)) (fun j => x6 (ix2 0 j)) R := funext fun j => v287_at x3 x5 x6 _ _ j
  rw [e]

end Cert.MixRefIdeal.Row
end
-- ==== Proof.Mix.Claim.lean ====
/-
  The claims about the mix launch of the prompt: the frames of the program, its idealization and its reference.
-/
module

public import proofs.«01_k».proof.Defs
public import proofs.«01_k».proof.Proof.Gen.Mix.Frame
public import proofs.«01_k».proof.Proof.Gen.MixIdeal.Value
public import proofs.«01_k».proof.Proof.Mix.Value
public import proofs.«01_k».proof.Proof.Mix.Ref
public import proofs.«01_k».proof.Proof.Mix.RefConv

@[expose] public section

set_option maxRecDepth 16384

noncomputable section

namespace Cert.Proof.MixClaims

open Idealize.ShloMosaic Idealize.ShloMosaic.TcCoe Idealize.SL.Sem

/-- The program runs, leaves its arguments and ends quiescent. -/
theorem frame_P : Cert.quiescent_Mix := fun m ρ _ => Cert.Mix.Gen.frame m ρ
/-- So does its idealization. -/
theorem frame_PI : Cert.quiescent_MixIdeal := fun m ρ _ => Cert.MixIdeal.Gen.frame m ρ
/-- So does the idealized reference. -/
theorem frame_RI : Cert.quiescent_MixRefIdeal := fun m ρ _ =>
  (θ_run Cert.MixRefIdeal.defs _ _).mono (fun r h => ⟨fun c => (h c).2.2,
      Idealize.ShloMosaic.sem_eq_zero_of_no_sems (by decide) r.2⟩)
    (Cert.MixRefIdeal.Value.run (F := Ideal) m ρ)

/-- The idealization rewrote nothing. -/
theorem preserves : Cert.preserves_Mix_MixIdeal := trivial

/-- From arguments that agree, the idealized kernel and the idealized reference leave the same attention rows and the same
    convolution rows. -/
theorem algebraic : Cert.algebraic_MixIdeal_MixRefIdeal := by
  intro m ρ m' ρ' _ hagree
  refine ⟨fun c => Cert.MixIdeal.Row.Gao m c, fun c => Cert.MixIdeal.Row.Gco m c, ?_, ?_⟩
  · exact (θ_run Cert.MixIdeal.defs _ _).mono (fun _ h c => ⟨(h c).1.trans (Cert.MixIdeal.Row.finalao m c), (h c).2.1.trans (Cert.MixIdeal.Row.finalco m c),
        (h c).2.2⟩)
      (Cert.MixIdeal.Value.run_blocks (F := Ideal) m ρ)
  · refine (θ_run Cert.MixRefIdeal.defs _ _).mono (fun _ h c => ?_) (Cert.MixRefIdeal.Value.run (F := Ideal) m' ρ')
    obtain ⟨ha, hc, hargs⟩ := h c
    obtain ⟨h0, h1, h2, h3, h4, h5, h6, h7, h8⟩ := hagree c
    refine ⟨ha.trans ?_, hc.trans ?_, hargs⟩
    · rw [Cert.MixRefIdeal.Read.val_main_v318_eq]
      change Cert.MixRefIdeal.Read.val_main_v318 (F := Ideal) (m' ((c.tc : Thread Cert.MixRefIdeal.nD Cert.MixRefIdeal.τ).loc Cert.MixRefIdeal.main_arg0)) (m' ((c.tc : Thread Cert.MixRefIdeal.nD Cert.MixRefIdeal.τ).loc Cert.MixRefIdeal.main_arg1)) (m' ((c.tc : Thread Cert.MixRefIdeal.nD Cert.MixRefIdeal.τ).loc Cert.MixRefIdeal.main_arg2)) (m' ((c.tc : Thread Cert.MixRefIdeal.nD Cert.MixRefIdeal.τ).loc Cert.MixRefIdeal.main_arg4)) = _
      rw [h0, h1, h2, h4]
      funext i
      idx_vars i
      exact Cert.MixRefIdeal.Row.ao_at _ _ _ _ i0 i1
    · rw [Cert.MixRefIdeal.Read.val_main_v319_eq]
      change Cert.MixRefIdeal.Read.val_main_v319 (F := Ideal) (m' ((c.tc : Thread Cert.MixRefIdeal.nD Cert.MixRefIdeal.τ).loc Cert.MixRefIdeal.main_arg3)) (m' ((c.tc : Thread Cert.MixRefIdeal.nD Cert.MixRefIdeal.τ).loc Cert.MixRefIdeal.main_arg5)) (m' ((c.tc : Thread Cert.MixRefIdeal.nD Cert.MixRefIdeal.τ).loc Cert.MixRefIdeal.main_arg6)) (m' ((c.tc : Thread Cert.MixRefIdeal.nD Cert.MixRefIdeal.τ).loc Cert.MixRefIdeal.main_arg7)) (m' ((c.tc : Thread Cert.MixRefIdeal.nD Cert.MixRefIdeal.τ).loc Cert.MixRefIdeal.main_arg8)) = _
      rw [h3, h5, h6, h7, h8]
      funext i
      idx_vars i
      exact Cert.MixRefIdeal.Row.co_at _ _ _ _ _ i0 i1

end Cert.Proof.MixClaims
end
-- ==== Proof.Proj.lean ====
/-
  The mathematics of the input projection's row, on plain functions of extended reals: the projected row, the rotary
  rotation of the first 16 lanes of each head of 64, and the gated convolution input. Nothing here mentions a program.
-/
module

public import proofs.«01_k».proof.Proof.Rows
public import Idealize.ShloMosaic.Lib.Pointwise
public import Idealize.ShloMosaic.Lib.Routing.Ops

@[expose] public section

set_option maxRecDepth 16384

noncomputable section

namespace Cert.Proj

open Cert.Rows Idealize.ShloMosaic

/-- Where column `l` of the projection in the kernel's order stands in the layer's order: the queries' columns (query of
    the group, key head, lane) come from (key head, query of the group, lane); the rest stay. -/
def colOf (l : Fin 3584) : Fin 3584 :=
  ⟨if l.val < 1024 then l.val / 64 % 4 * 256 + l.val / 256 * 64 + l.val % 64 else l.val, by split <;> omega⟩

/-- Entry `l` of the projected row: the RMS norm of `x`, times column `l` of `w`, plus the bias. -/
def z (x g : Fin 2048 → EReal) (w : Fin 2048 → Fin 3584 → EReal) (b : Fin 3584 → EReal) (l : Fin 3584) : EReal :=
  (∑ k, rms x g k * w k l) + b l

/-- Column `o + k` of the projection. -/
def at' (o : ℕ) {n : ℕ} (k : Fin n) : Fin 3584 := ⟨(o + k.val) % 3584, Nat.mod_lt _ (by decide)⟩

/-- The angle of lane `i` at the position `p`: `p · θ ^ (-2 i / 16)`. -/
def ang (p : EReal) (i : Fin 8) : EReal :=
  p * Ideal.pow (Ideal.ofBits FTy.f32 0x48F42400#32)
    (Ideal.div (-(FloatOps.sitofp (F := Ideal) FTy.f32 (BitVec.ofNat 32 i.val) : EReal) * Ideal.ofBits FTy.f32 0x40000000#32) (Ideal.ofBits FTy.f32 0x41800000#32))

/-- The rotation of entry `l` of a projected row: the first 8 lanes of a head with the next 8, by the cosines `co` and
    the sines `si`; the other 48 lanes as they are. -/
def rope (co si : Fin 8 → EReal) (y : Fin 3584 → EReal) (l : Fin 3584) : EReal :=
  if h : l.val % 64 < 8 then y l * co ⟨l.val % 64, h⟩ - y (at' 8 l) * si ⟨l.val % 64, h⟩
  else if h' : l.val % 64 < 16 then y l * co ⟨l.val % 64 - 8, by omega⟩ + y ⟨l.val - 8, by omega⟩ * si ⟨l.val % 64 - 8, by omega⟩
  else y l

/-- Lane `d` of a head in the cosine table. -/
def tc (co : Fin 8 → EReal) (d : ℕ) : EReal :=
  if h : d < 8 then co ⟨d, h⟩ else if h' : d < 16 then co ⟨d - 8, by omega⟩ else 1
/-- Lane `d` of a head in the table of the sines that go up 8 lanes. -/
def tu (si : Fin 8 → EReal) (d : ℕ) : EReal :=
  if _h : d < 8 then 0 else if h' : d < 16 then si ⟨d - 8, by omega⟩ else 0
/-- Lane `d` of a head in the table of the negated sines that go down 8 lanes. -/
def td (si : Fin 8 → EReal) (d : ℕ) : EReal :=
  if h : d < 8 then -si ⟨d, h⟩ else if _h' : d < 16 then 0 else 0

/-- Lane `l` of a chunk of 128 lanes, rotated by the three tables, is the rotated entry. -/
theorem rope_lanes (co si : Fin 8 → EReal) (y : Fin 3584 → EReal) (o : ℕ) (ho : o % 128 = 0) (l : Fin 128) (h : o + 128 ≤ 3584) :
    y ⟨o + l.val, by omega⟩ * tc co (l.val % 64) + y ⟨o + (l.val + 128 - 8) % 128, by omega⟩ * tu si (l.val % 64)
        + y ⟨o + (l.val + 128 - 120) % 128, by omega⟩ * td si (l.val % 64)
      = rope co si y ⟨o + l.val, by omega⟩ := by
  have e : (o + l.val) % 64 = l.val % 64 := by omega
  unfold rope tc tu td
  simp only [e]
  by_cases h1 : l.val % 64 < 8
  · simp only [dif_pos h1]
    rw [mul_zero, add_zero, mul_neg, ← sub_eq_add_neg]
    exact congrArg (fun a => _ - y a * _) (Fin.ext (by show o + (l.val + 128 - 120) % 128 = (8 + (o + l.val)) % 3584; omega))
  · simp only [dif_neg h1]
    by_cases h2 : l.val % 64 < 16
    · simp only [dif_pos h2]
      rw [mul_zero, add_zero]
      exact congrArg (fun a => _ + y a * _) (Fin.ext (by show o + (l.val + 128 - 8) % 128 = o + l.val - 8; omega))
    · simp only [dif_neg h2]
      rw [mul_zero, mul_zero, add_zero, add_zero, mul_one]

/-- The rotation moves lanes within a head only, so it commutes with the kernel's order of the columns. -/
theorem rope_colOf (co si : Fin 8 → EReal) (y : Fin 3584 → EReal) (l : Fin 3584) :
    rope co si (fun k => y (colOf k)) l = rope co si y (colOf l) := by
  have e : (colOf l).val % 64 = l.val % 64 := by
    unfold colOf
    dsimp only
    split <;> omega
  unfold rope
  simp only [e]
  by_cases h1 : l.val % 64 < 8
  · simp only [dif_pos h1]
    refine congrArg (fun a => _ - y a * _) (Fin.ext ?_)
    have h8 : (8 + l.val) % 3584 = 8 + l.val := by omega
    by_cases hl : l.val < 1024
    · have a1 : 8 + l.val < 1024 := by omega
      have e1 : (8 + l.val) / 64 = l.val / 64 := by omega
      have e2 : (8 + l.val) / 256 = l.val / 256 := by omega
      simp only [colOf, at', h8, if_pos hl, if_pos a1, e1, e2]
      omega
    · have a1 : ¬ 8 + l.val < 1024 := by omega
      simp only [colOf, at', h8, if_neg hl, if_neg a1]
  · simp only [dif_neg h1]
    by_cases h2 : l.val % 64 < 16
    · simp only [dif_pos h2]
      refine congrArg (fun a => _ + y a * _) (Fin.ext ?_)
      by_cases hl : l.val < 1024
      · have a1 : l.val - 8 < 1024 := by omega
        have e1 : (l.val - 8) / 64 = l.val / 64 := by omega
        have e2 : (l.val - 8) / 256 = l.val / 256 := by omega
        simp only [colOf, if_pos hl, if_pos a1, e1, e2]
        omega
      · have a1 : ¬ l.val - 8 < 1024 := by omega
        simp only [colOf, if_neg hl, if_neg a1]
    · simp only [dif_neg h2]

/-- Column `o + l` from 1024 on stays where it is. -/
theorem colOf_ge (l : Fin 3584) (h : 1024 ≤ l.val) : colOf l = l :=
  Fin.ext (by unfold colOf; dsimp only; rw [if_neg (by omega)])

/-- A chunk of 128 lanes `y` rotated by three tables. -/
def lanes (y C U D : Fin 128 → EReal) (l : Fin 128) : EReal :=
  y l * C l + y ⟨(l.val + 128 - 8) % 128, by omega⟩ * U l + y ⟨(l.val + 128 - 120) % 128, by omega⟩ * D l

/-- A chunk of lanes of a projected row `y`, rotated by the three tables' rows, is the rotated row's chunk. -/
theorem lanes_rope (co si : Fin 8 → EReal) (y : Fin 3584 → EReal) (o : ℕ) (ho : o % 128 = 0) (h : o + 128 ≤ 3584) (Y C U D : Fin 128 → EReal)
    (hY : ∀ k : Fin 128, Y k = y ⟨o + k.val, by omega⟩) (hC : ∀ k, C k = tc co (k.val % 64)) (hU : ∀ k, U k = tu si (k.val % 64))
    (hD : ∀ k, D k = td si (k.val % 64)) (l : Fin 128) : lanes Y C U D l = rope co si y ⟨o + l.val, by omega⟩ := by
  unfold lanes
  rw [hY, hY, hY, hC, hU, hD]
  exact rope_lanes co si y o ho l h

/-- Entry `l` of a query row, in the kernel's order: the rotated entry, scaled by 1/8. -/
def qRow (co si : Fin 8 → EReal) (y : Fin 3584 → EReal) (l : Fin 1024) : EReal :=
  rope co si y (colOf ⟨l.val, by omega⟩) * Ideal.ofBits FTy.f32 0x3E000000#32
/-- Entry `l` of a key row. -/
def kRow (co si : Fin 8 → EReal) (y : Fin 3584 → EReal) (l : Fin 256) : EReal := rope co si y ⟨1024 + l.val, by omega⟩
/-- Entry `l` of a value row. -/
def vRow (y : Fin 3584 → EReal) (l : Fin 256) : EReal := y ⟨1280 + l.val, by omega⟩
/-- Entry `l` of the gated row that the convolution reads. -/
def uRow (y : Fin 3584 → EReal) (l : Fin 1024) : EReal := y ⟨1536 + l.val, by omega⟩ * Ideal.logistic (y ⟨2560 + l.val, by omega⟩)

/-- Column `y` of a gathered table of columns: where `idx` holds at `(y, 0)` a column number `b`, the result's column `y`
    is the operand's column `b`. -/
theorem gather_col {α : Type} {R C n : Nat} (d : GatherDims (⟨2, ![R, C]⟩ : Shape) (⟨2, ![n, 1]⟩ : Shape) (⟨2, ![R, n]⟩ : Shape))
    (hoff : d.offsetDims = [0]) (hcoll : d.collapsedSliceDims = [1]) (hob : d.operandBatchingDims = [])
    (hsim : d.startIndexMap = [1]) (hivd : d.indexVectorDim = 1) (x : (⟨2, ![R, C]⟩ : Shape).Idx → α) (idx : IVec (⟨2, ![n, 1]⟩ : Shape) 32)
    (r : Fin R) (y : Fin n) (b : Fin C) (hb : idx (ix2 y (0 : Fin 1)) = BitVec.ofNat 32 b.val) (hC : C < 2 ^ 31) :
    Host.gather d x idx (ix2 r y) = x (ix2 r b) := by
  have d01 : (0 : Fin 2) ∉ [(1 : Fin 2)] := by decide
  have m11 : (1 : Fin 2) ∈ [(1 : Fin 2)] := by decide
  have m00 : (0 : Fin 2) ∈ [(0 : Fin 2)] := by decide
  have noBatch : ∀ a, a ∉ d.operandBatchingDims := by simp [hob]
  have batchAxis : ∀ k ∈ d.batchDims, k = (1 : Fin 2) := by
    intro k hk
    have out : k ∉ d.offsetDims := of_decide_eq_true (List.mem_filter.1 hk).2
    rw [hoff] at out
    fin_cases k
    · exact absurd m00 out
    · rfl
  have offAxis : ∀ k ∈ d.offsetDims, k = (0 : Fin 2) := by
    intro k hk
    rw [hoff] at hk
    exact List.mem_singleton.1 hk
  have readR : ∀ X : Fin 2, X = 0 → (ix2 r y X).val = r.val := by rintro _ rfl; rfl
  have readY : ∀ X : Fin 2, X = 1 → (ix2 r y X).val = y.val := by rintro _ rfl; rfl
  have bound := b.isLt
  unfold Host.gather
  refine congrArg x (funext fun a => Fin.ext ?_)
  fin_cases a
  · have keep : (0 : Fin 2) ∈ d.sKept := (d.mem_sKept 0).2 ⟨by rw [hcoll]; exact d01, noBatch 0⟩
    have unmapped : (0 : Fin 2) ∉ d.startIndexMap := by rw [hsim]; exact d01
    show d.start (ix2 r y) idx 0 + d.batchCoord (ix2 r y) 0 + d.offCoord (ix2 r y) 0 = r.val
    rw [d.batchCoord_eq_zero _ _ (noBatch 0)]
    unfold GatherDims.start GatherDims.offCoord
    rw [dif_neg unmapped, dif_pos keep]
    simp only [Nat.zero_add, Nat.add_zero]
    exact readR _ (offAxis _ (List.getElem_mem _))
  · have drop : (1 : Fin 2) ∉ d.sKept := fun h => ((d.mem_sKept 1).1 h).1 (by rw [hcoll]; exact m11)
    have mapped : (1 : Fin 2) ∈ d.startIndexMap := by rw [hsim]; exact m11
    have one : d.sliceSizes 1 = 1 := d.slice_collapsed 1 (by rw [hcoll]; exact m11)
    show d.start (ix2 r y) idx 1 + d.batchCoord (ix2 r y) 1 + d.offCoord (ix2 r y) 1 = b.val
    rw [d.batchCoord_eq_zero _ _ (noBatch 1), d.offCoord_eq_zero _ _ drop]
    simp only [Nat.add_zero]
    unfold GatherDims.start
    rw [dif_pos mapped]
    have word : d.siIdx (ix2 r y) ⟨d.startIndexMap.idxOf 1, List.idxOf_lt_length_iff.2 mapped⟩ = ix2 y (0 : Fin 1) := by
      refine funext fun k => Fin.ext ?_
      unfold GatherDims.siIdx
      fin_cases k
      · rw [dif_neg (by rw [hivd]; exact Nat.zero_ne_one)]
        unfold GatherDims.siCoord
        exact readY _ (batchAxis _ (List.getElem_mem _))
      · rw [dif_pos (by rw [hivd])]
        show List.idxOf (1 : Fin 2) d.startIndexMap = 0
        rw [hsim]
        simp
    rw [word, hb, one, StableHlo.Predicate.toInt_ofNat_small _ (by omega)]
    show min ((b.val : Int)).toNat (C - 1) = b.val
    omega

end Cert.Proj
end
-- ==== Proof.InProj.Tables.lean ====
/-
  The rope tables the host lays out for the input projection's launch: 128 lanes, the 64 lanes of a head twice, of which
  the first 8 and the next 8 hold the cosines and the sines and the other 48 hold ones and zeros.
-/
module

public import proofs.«01_k».proof.Proof.Gen.InProjIdeal.Frame
public import proofs.«01_k».proof.Proof.Proj
public import Idealize.ShloMosaic.Lib.Pointwise
public import Idealize.ShloMosaic.Lib.StableHlo.RunRead
public import Idealize.ShloMosaic.Lib.Pipeline.ValueKit
public import Idealize.ShloMosaic.Lib.Claim

@[expose] public section

set_option maxRecDepth 16384

noncomputable section

namespace Cert.InProjIdeal.Row

open Cert.InProjIdeal Cert.InProjIdeal.Gen Cert.Rows Cert.Proj Idealize.ShloMosaic Idealize.ShloMosaic.TcCoe Idealize.SL.Sem

variable (m : (ℓ : Loc nD τ sig) → Buf (Elt Ideal) ℓ)

/-- Equal pieces concatenate to equal arrays. -/
theorem cat3 {α : Type} {t a b d : Shape} (k : Fin t.rank) (x x' : a.Idx → α) (y y' : b.Idx → α) (z z' : d.Idx → α)
    (h : Shape.Concatenates [a, b, d] t k) (hx : x = x') (hy : y = y') (hz : z = z') :
    concatenate t k [⟨a, x⟩, ⟨b, y⟩, ⟨d, z⟩] h = concatenate t k [⟨a, x'⟩, ⟨b, y'⟩, ⟨d, z'⟩] h := by
  subst hx hy hz; rfl

/-- A head's 64 lanes laid out twice. -/
def twice (y : FVec Ideal S2048x64 .f32) : FVec Ideal S2048x128 .f32 :=
  shapeCast S2048x128 (broadcastInDim S1x2048x2x64 ![0, 1, 2, 3] bcast_S1x2048x1x64_S1x2048x2x64_0_1_2_3 (shapeCast S1x2048x1x64 y shapeCasts_S2048x64_S1x2048x1x64)) shapeCasts_S1x2048x2x64_S2048x128

theorem twice_at (y : FVec Ideal S2048x64 .f32) (p : Fin 2048) (l : Fin 128) : twice y (ix2 p l) = y (ix2 p ⟨l.val % 64, by omega⟩) := by
  unfold twice
  pointwise

/-- Which piece of a head's 64 lanes lane `d` reads. -/
theorem cat_at (x y : FVec Ideal S2048x8 .f32) (z : FVec Ideal S2048x48 .f32) (p : Fin 2048) (d : Fin 64) :
    concatenate S2048x64 1 [⟨S2048x8, x⟩, ⟨S2048x8, y⟩, ⟨S2048x48, z⟩] concatenates_S2048x8_S2048x8_S2048x48_S2048x64_d1 (ix2 p d)
      = if h : d.val < 8 then x (ix2 p ⟨d.val, h⟩) else if h' : d.val < 16 then y (ix2 p ⟨d.val - 8, by omega⟩) else z (ix2 p ⟨d.val - 16, by omega⟩) := by
  pointwise
  by_cases h : d.val < 8
  · rw [dif_pos h, dif_pos h]
  · rw [dif_neg h, dif_neg h]
    by_cases h' : d.val < 16
    · rw [dif_pos (by omega : d.val - 8 < 8), dif_pos h']
    · rw [dif_neg (by omega : ¬ d.val - 8 < 8), dif_neg h']
      exact congrArg (fun k => z (ix2 p k)) (Fin.ext (by show d.val - 8 - 8 = d.val - 16; omega))

theorem v21 (c : Dev nD) : (V m c main_v21 : FVec Ideal S2048x64 .f32)
    = concatenate S2048x64 1 [⟨S2048x8, (V m c main_v15 : FVec Ideal S2048x8 .f32)⟩, ⟨S2048x8, (V m c main_v15 : FVec Ideal S2048x8 .f32)⟩, ⟨S2048x48, (V m c main_v20 : FVec Ideal S2048x48 .f32)⟩]
        concatenates_S2048x8_S2048x8_S2048x48_S2048x64_d1 := by
  unfold V
  after_reads_simp
  refine cat3 _ _ _ _ _ _ _ _ ?_ ?_ ?_
  · show StableHlo.upto hostOps0 (fun b => m (c, b)) _ (Proc.tc.devRef main_v15) = _
    after_reads_simp
  · show StableHlo.upto hostOps0 (fun b => m (c, b)) _ (Proc.tc.devRef main_v15) = _
    after_reads_simp
  · show StableHlo.upto hostOps0 (fun b => m (c, b)) _ (Proc.tc.devRef main_v20) = _
    after_reads_simp

theorem v27 (c : Dev nD) : (V m c main_v27 : FVec Ideal S2048x64 .f32)
    = concatenate S2048x64 1 [⟨S2048x8, (V m c main_v18 : FVec Ideal S2048x8 .f32)⟩, ⟨S2048x8, (V m c main_v16 : FVec Ideal S2048x8 .f32)⟩, ⟨S2048x48, (V m c main_v26 : FVec Ideal S2048x48 .f32)⟩]
        concatenates_S2048x8_S2048x8_S2048x48_S2048x64_d1 := by
  unfold V
  after_reads_simp
  refine cat3 _ _ _ _ _ _ _ _ ?_ ?_ ?_
  · show StableHlo.upto hostOps0 (fun b => m (c, b)) _ (Proc.tc.devRef main_v18) = _
    after_reads_simp
  · show StableHlo.upto hostOps0 (fun b => m (c, b)) _ (Proc.tc.devRef main_v16) = _
    after_reads_simp
  · show StableHlo.upto hostOps0 (fun b => m (c, b)) _ (Proc.tc.devRef main_v26) = _
    after_reads_simp

theorem v34 (c : Dev nD) : (V m c main_v34 : FVec Ideal S2048x64 .f32)
    = concatenate S2048x64 1 [⟨S2048x8, (V m c main_v31 : FVec Ideal S2048x8 .f32)⟩, ⟨S2048x8, (V m c main_v18 : FVec Ideal S2048x8 .f32)⟩, ⟨S2048x48, (V m c main_v33 : FVec Ideal S2048x48 .f32)⟩]
        concatenates_S2048x8_S2048x8_S2048x48_S2048x64_d1 := by
  unfold V
  after_reads_simp
  refine cat3 _ _ _ _ _ _ _ _ ?_ ?_ ?_
  · show StableHlo.upto hostOps0 (fun b => m (c, b)) _ (Proc.tc.devRef main_v31) = _
    after_reads_simp
  · show StableHlo.upto hostOps0 (fun b => m (c, b)) _ (Proc.tc.devRef main_v18) = _
    after_reads_simp
  · show StableHlo.upto hostOps0 (fun b => m (c, b)) _ (Proc.tc.devRef main_v33) = _
    after_reads_simp

theorem v24 (c : Dev nD) : (V m c main_v24 : FVec Ideal S2048x128 .f32) = twice (V m c main_v21 : FVec Ideal S2048x64 .f32) := by
  unfold V twice
  after_reads_simp
  generalize concatenate S2048x64 1 _ _ = y
  rfl

theorem v30 (c : Dev nD) : (V m c main_v30 : FVec Ideal S2048x128 .f32) = twice (V m c main_v27 : FVec Ideal S2048x64 .f32) := by
  unfold V twice
  after_reads_simp
  generalize concatenate S2048x64 1 _ _ = y
  rfl

theorem v37 (c : Dev nD) : (V m c main_v37 : FVec Ideal S2048x128 .f32) = twice (V m c main_v34 : FVec Ideal S2048x64 .f32) := by
  unfold V twice
  after_reads_simp
  generalize concatenate S2048x64 1 _ _ = y
  rfl

/-- The angle of lane `i` at row `p` of the tables. -/
def angR (p : Fin 2048) (i : Fin 8) : EReal := ang (FloatOps.sitofp (F := Ideal) FTy.f32 (BitVec.ofNat 32 p.val)) i

theorem v15 (c : Dev nD) (p : Fin 2048) (l : Fin 8) : (V m c main_v15 : FVec Ideal S2048x8 .f32) (ix2 p l) = Ideal.cos (angR p l) := by
  unfold V
  after_reads_simp
  pointwise
  rfl

theorem v16 (c : Dev nD) (p : Fin 2048) (l : Fin 8) : (V m c main_v16 : FVec Ideal S2048x8 .f32) (ix2 p l) = Ideal.sin (angR p l) := by
  unfold V
  after_reads_simp
  pointwise
  rfl

theorem v31 (c : Dev nD) (p : Fin 2048) (l : Fin 8) : (V m c main_v31 : FVec Ideal S2048x8 .f32) (ix2 p l) = -Ideal.sin (angR p l) := by
  unfold V
  after_reads_simp
  pointwise
  rfl

theorem v18 (c : Dev nD) (p : Fin 2048) (l : Fin 8) : (V m c main_v18 : FVec Ideal S2048x8 .f32) (ix2 p l) = (0 : EReal) := by
  unfold V
  after_reads_simp
  pointwise

theorem v20 (c : Dev nD) (p : Fin 2048) (l : Fin 48) : (V m c main_v20 : FVec Ideal S2048x48 .f32) (ix2 p l) = (1 : EReal) := by
  unfold V
  after_reads_simp
  pointwise

theorem v26 (c : Dev nD) (p : Fin 2048) (l : Fin 48) : (V m c main_v26 : FVec Ideal S2048x48 .f32) (ix2 p l) = (0 : EReal) := by
  unfold V
  after_reads_simp
  pointwise

theorem v33 (c : Dev nD) (p : Fin 2048) (l : Fin 48) : (V m c main_v33 : FVec Ideal S2048x48 .f32) (ix2 p l) = (0 : EReal) := by
  unfold V
  after_reads_simp
  pointwise

/-- The cosine table. -/
theorem tabC (c : Dev nD) (p : Fin 2048) (l : Fin 128) : (V m c main_v24 : FVec Ideal S2048x128 .f32) (ix2 p l) = tc (fun i => Ideal.cos (angR p i)) (l.val % 64) := by
  rw [v24, twice_at, v21, cat_at]
  unfold tc
  by_cases h : l.val % 64 < 8
  · rw [dif_pos h, dif_pos h]; exact v15 m c p _
  · rw [dif_neg h, dif_neg h]
    by_cases h' : l.val % 64 < 16
    · rw [dif_pos h', dif_pos h']; exact v15 m c p _
    · rw [dif_neg h', dif_neg h']; exact v20 m c p _

/-- The table of the sines that go up 8 lanes. -/
theorem tabU (c : Dev nD) (p : Fin 2048) (l : Fin 128) : (V m c main_v30 : FVec Ideal S2048x128 .f32) (ix2 p l) = tu (fun i => Ideal.sin (angR p i)) (l.val % 64) := by
  rw [v30, twice_at, v27, cat_at]
  unfold tu
  by_cases h : l.val % 64 < 8
  · rw [dif_pos h, dif_pos h]; exact v18 m c p _
  · rw [dif_neg h, dif_neg h]
    by_cases h' : l.val % 64 < 16
    · rw [dif_pos h', dif_pos h']; exact v16 m c p _
    · rw [dif_neg h', dif_neg h']; exact v26 m c p _

/-- The table of the negated sines that go down 8 lanes. -/
theorem tabD (c : Dev nD) (p : Fin 2048) (l : Fin 128) : (V m c main_v37 : FVec Ideal S2048x128 .f32) (ix2 p l) = td (fun i => Ideal.sin (angR p i)) (l.val % 64) := by
  rw [v37, twice_at, v34, cat_at]
  unfold td
  by_cases h : l.val % 64 < 8
  · rw [dif_pos h, dif_pos h]; exact v31 m c p _
  · rw [dif_neg h, dif_neg h]
    by_cases h' : l.val % 64 < 16
    · rw [dif_pos h', dif_pos h']; exact v18 m c p _
    · rw [dif_neg h', dif_neg h']; exact v33 m c p _

end Cert.InProjIdeal.Row
end
-- ==== Proof.InProj.Blocks.lean ====
/-
  The input projection's launch, its reads: what each input block of a grid point holds, in terms of the arguments.
-/
module

public import proofs.«01_k».proof.Proof.Gen.InProjIdeal.Frame
public import proofs.«01_k».proof.Proof.Proj
public import Idealize.ShloMosaic.Lib.Pointwise
public import Idealize.ShloMosaic.Lib.StableHlo.RunRead
public import Idealize.ShloMosaic.Lib.Pipeline.ValueKit
public import Idealize.ShloMosaic.Lib.Claim
public import Idealize.ShloMosaic.Lib.Routing.OpsSet
public import proofs.«01_k».proof.Proof.InProj.Tables

@[expose] public section

set_option maxRecDepth 16384

noncomputable section

namespace Cert.InProjIdeal.Row

open Cert.InProjIdeal Cert.InProjIdeal.Gen Cert.Rows Cert.Proj Idealize.ShloMosaic Idealize.ShloMosaic.TcCoe Idealize.SL.Sem

variable (m : (ℓ : Loc nD τ sig) → Buf (Elt Ideal) ℓ)

/-- The block of each window at point `t`: row blocks by `t`, the tables' by `t % 4`. -/
theorem idx : ∀ t : Fin cfg0.N, win0_0.index t = ![t.val, 0] ∧ win0_1.index t = ![0, 0] ∧ win0_2.index t = ![0, 0]
    ∧ win0_3.index t = ![0, 0] ∧ win0_4.index t = ![t.val % 4, 0] ∧ win0_5.index t = ![t.val % 4, 0] ∧ win0_6.index t = ![t.val % 4, 0]
    ∧ win0_7.index t = ![t.val, 0] ∧ win0_8.index t = ![t.val, 0] ∧ win0_9.index t = ![t.val, 0] ∧ win0_10.index t = ![t.val, 0] ∧ t.val < 64 :=
  (by decide +kernel : ∀ t : Fin grid0.N, _)

/-- The array row that row `r` of point `t`'s block is. -/
def rowAt (t : Fin cfg0.N) (r : Fin 512) : Fin 32768 :=
  ⟨512 * t.val + r.val, by have := (idx t).2.2.2.2.2.2.2.2.2.2.2; omega⟩

/-- The position in its sequence of array row `R`. -/
def posOf (R : Fin 32768) : Fin 2048 := ⟨R.val % 2048, Nat.mod_lt _ (by decide)⟩

/-- The layer input, row `R`. -/
def xR (c : Dev nD) (R : Fin 32768) (j : Fin 2048) : EReal :=
  (m ((c : Thread nD τ).loc main_arg0) : FVec Ideal S16x2048x2048 .f32) (ix3 ⟨R.val / 2048, by omega⟩ (posOf R) j)
/-- The norm's scale. -/
def gN (c : Dev nD) (j : Fin 2048) : EReal := (m ((c : Thread nD τ).loc main_arg1) : FVec Ideal S1x2048 .f32) (ix2 0 j)
/-- The input projection's weight. -/
def wI (c : Dev nD) (k : Fin 2048) (l : Fin 3584) : EReal := (m ((c : Thread nD τ).loc main_arg2) : FVec Ideal S1x2048x3584 .f32) (ix3 0 k l)
/-- The input projection's bias. -/
def bI (c : Dev nD) (l : Fin 3584) : EReal := (m ((c : Thread nD τ).loc main_arg3) : FVec Ideal S1x3584 .f32) (ix2 0 l)

/-- The rows' array, read: the layer input with its batch and position dimensions joined. -/
theorem v38 (c : Dev nD) (R : Fin 32768) (l : Fin 2048) :
    (V m c main_v38 : FVec Ideal S32768x2048 .f32) (ix2 R l) = xR m c R l := by
  unfold xR posOf V
  after_reads_simp
  pointwise

theorem blk0 (c : Dev nD) (t : Fin cfg0.N) (r : Fin 512) (l : Fin 2048) :
    (iblk m c 0 t : FVec Ideal S512x2048 .f32) (ix2 r l) = xR m c (rowAt t r) l := by
  have hb : (iblk m c 0 t : FVec Ideal S512x2048 .f32) (ix2 r l) = (V m c main_v38 : FVec Ideal S32768x2048 .f32) (ix2 (rowAt t r) l) := by
    unfold rowAt
    blk_ext [iblk, idx t]
  exact hb.trans (v38 m c _ l)

theorem blk1 (c : Dev nD) (t : Fin cfg0.N) (l : Fin 2048) :
    (iblk m c 1 t : FVec Ideal S1x2048 .f32) (ix2 0 l) = gN m c l := by
  unfold gN
  blk_ext! [iblk, V, idx t]

theorem blk4 (c : Dev nD) (t : Fin cfg0.N) (r : Fin 512) (l : Fin 128) :
    (iblk m c 4 t : FVec Ideal S512x128 .f32) (ix2 r l) = tc (fun i => Ideal.cos (angR (posOf (rowAt t r)) i)) (l.val % 64) := by
  have hb : (iblk m c 4 t : FVec Ideal S512x128 .f32) (ix2 r l) = (V m c main_v24 : FVec Ideal S2048x128 .f32) (ix2 (posOf (rowAt t r)) l) := by
    unfold posOf rowAt
    blk_ext [iblk, idx t]
  exact hb.trans (tabC m c _ l)

theorem blk5 (c : Dev nD) (t : Fin cfg0.N) (r : Fin 512) (l : Fin 128) :
    (iblk m c 5 t : FVec Ideal S512x128 .f32) (ix2 r l) = tu (fun i => Ideal.sin (angR (posOf (rowAt t r)) i)) (l.val % 64) := by
  have hb : (iblk m c 5 t : FVec Ideal S512x128 .f32) (ix2 r l) = (V m c main_v30 : FVec Ideal S2048x128 .f32) (ix2 (posOf (rowAt t r)) l) := by
    unfold posOf rowAt
    blk_ext [iblk, idx t]
  exact hb.trans (tabU m c _ l)

theorem blk6 (c : Dev nD) (t : Fin cfg0.N) (r : Fin 512) (l : Fin 128) :
    (iblk m c 6 t : FVec Ideal S512x128 .f32) (ix2 r l) = td (fun i => Ideal.sin (angR (posOf (rowAt t r)) i)) (l.val % 64) := by
  have hb : (iblk m c 6 t : FVec Ideal S512x128 .f32) (ix2 r l) = (V m c main_v37 : FVec Ideal S2048x128 .f32) (ix2 (posOf (rowAt t r)) l) := by
    unfold posOf rowAt
    blk_ext [iblk, idx t]
  exact hb.trans (tabD m c _ l)

/-- The host's table of columns: the queries' columns in the kernel's order, then the rest. -/
theorem table : ∀ k : Fin 3584, lit0 k = BitVec.ofNat 32 (colOf k).val := by
  decide +kernel

theorem blk2 (c : Dev nD) (t : Fin cfg0.N) (k : Fin 2048) (l : Fin 3584) :
    (iblk m c 2 t : FVec Ideal S2048x3584 .bf16) (ix2 k l) = wI m c k (colOf l) := by
  have hb : (iblk m c 2 t : FVec Ideal S2048x3584 .bf16) (ix2 k l) = (V m c main_v45 : FVec Ideal S2048x3584 .bf16) (ix2 k l) := by
    blk_ext [iblk, idx t]
  rw [hb]
  unfold V
  after_reads_simp
  pointwise
  refine (gather_col _ rfl rfl rfl rfl rfl _ _ k l (colOf l) ?_ (by decide)).trans ?_
  · pointwise
    exact (congrArg lit0 (Fin.ext ((Shape.rowMajor_val_one _).trans rfl))).trans (table l)
  · unfold wI
    pointwise

theorem blk3 (c : Dev nD) (t : Fin cfg0.N) (l : Fin 3584) :
    (iblk m c 3 t : FVec Ideal S1x3584 .f32) (ix2 0 l) = bI m c (colOf l) := by
  have hb : (iblk m c 3 t : FVec Ideal S1x3584 .f32) (ix2 0 l) = (V m c main_v52 : FVec Ideal S1x3584 .f32) (ix2 0 l) := by
    blk_ext [iblk, idx t]
  rw [hb]
  unfold V
  after_reads_simp
  pointwise
  refine (Idealize.ShloMosaic.Routing.gather_take1 _ rfl rfl rfl rfl _ _ l (colOf l) ?_ (by decide)).trans ?_
  · pointwise
    exact (congrArg lit0 (Fin.ext ((Shape.rowMajor_val_one _).trans rfl))).trans (table l)
  · unfold bI
    pointwise

end Cert.InProjIdeal.Row
end
-- ==== Proof.InProj.Pay.lean ====
/-
  The input projection's kernel body, its four stores read at an entry.
-/
module

public import proofs.«01_k».proof.Proof.Gen.InProjIdeal.Frame
public import proofs.«01_k».proof.Proof.Proj
public import Idealize.ShloMosaic.Lib.Pointwise
public import Idealize.ShloMosaic.Lib.StableHlo.RunRead
public import Idealize.ShloMosaic.Lib.Pipeline.ValueKit
public import Idealize.ShloMosaic.Lib.Claim
public import proofs.«01_k».proof.Proof.InProj.Blocks

@[expose] public section

set_option maxRecDepth 16384

noncomputable section

namespace Cert.InProjIdeal.Row

open Cert.InProjIdeal Cert.InProjIdeal.Gen Cert.Rows Cert.Proj Idealize.ShloMosaic Idealize.ShloMosaic.TcCoe Idealize.SL.Sem

variable (m : (ℓ : Loc nD τ sig) → Buf (Elt Ideal) ℓ)

/-- The normed row. -/
theorem pay3 (x : Vec Ideal S512x2048 .f32) (g : Vec Ideal S1x2048 .f32) (r : Fin 512) (l : Fin 2048) :
    k0_pay3 x g (ix2 r l) = rms (fun j => x (ix2 r j)) (fun j => g (ix2 0 j)) l := by
  unfold rms
  pointwise [k0_pay3]

/-- The queries' projection. -/
theorem pay7 (x : Vec Ideal S512x2048 .f32) (g : Vec Ideal S1x2048 .f32) (w : Vec Ideal S2048x1024 .bf16) (b : Vec Ideal S1x1024 .f32) (r : Fin 512) (l : Fin 1024) :
    k0_pay7 x g w b (ix2 r l) = (∑ k, k0_pay3 x g (ix2 r k) * w (ix2 k l)) + b (ix2 0 l) := by
  pointwise [k0_pay7]

/-- The gated row. -/
theorem pay2 (n : FVec Ideal S512x2048 .bf16) (w : Vec Ideal S2048x1024 .bf16) (b : Vec Ideal S1x1024 .f32) (w' : Vec Ideal S2048x1024 .bf16) (b' : Vec Ideal S1x1024 .f32) (r : Fin 512) (l : Fin 1024) :
    k0_pay2 n w b w' b' (ix2 r l)
      = ((∑ k, n (ix2 r k) * w (ix2 k l)) + b (ix2 0 l)) * Ideal.logistic ((∑ k, n (ix2 r k) * w' (ix2 k l)) + b' (ix2 0 l)) := by
  pointwise [k0_pay2]

/-- The values' projection. -/
theorem pay1 (n : FVec Ideal S512x2048 .bf16) (w : Vec Ideal S2048x256 .bf16) (b : Vec Ideal S1x256 .f32) (r : Fin 512) (l : Fin 256) :
    k0_pay1 n (k0_pay19 w) (constant S512x256 .f32 0x00000000#32) b (ix2 r l) = (∑ k, n (ix2 r k) * w (ix2 k l)) + b (ix2 0 l) := by
  pointwise [k0_pay1, k0_pay19]

/-- The first chunk of 128 query lanes, rotated. -/
theorem pay8 (x : Vec Ideal S512x2048 .f32) (g : Vec Ideal S1x2048 .f32) (C U D : Vec Ideal S512x128 .f32) (w : Vec Ideal S2048x1024 .bf16) (b : Vec Ideal S1x1024 .f32) (r : Fin 512) (l : Fin 128) :
    k0_pay8 x g C U D w b (ix2 r l) = lanes (fun k => k0_pay7 x g w b (ix2 r ⟨0 + k.val, by omega⟩)) (fun k => C (ix2 r k)) (fun k => U (ix2 r k)) (fun k => D (ix2 r k)) l := by
  unfold lanes
  pointwise [k0_pay8, k0_pay4, k0_pay5, k0_pay6]

/-- The second chunk. -/
theorem pay10 (x : Vec Ideal S512x2048 .f32) (g : Vec Ideal S1x2048 .f32) (C U D : FVec Ideal S512x128 .f32) (w : Vec Ideal S2048x1024 .bf16) (b : Vec Ideal S1x1024 .f32) (r : Fin 512) (l : Fin 128) :
    k0_pay10 C U D (k0_pay9 x g w b) (ix2 r l) = lanes (fun k => k0_pay7 x g w b (ix2 r ⟨128 + k.val, by omega⟩)) (fun k => C (ix2 r k)) (fun k => U (ix2 r k)) (fun k => D (ix2 r k)) l := by
  unfold lanes
  pointwise [k0_pay10, k0_pay9]

/-- Chunk 2 of the queries, rotated. -/
theorem pay11 (C U D : FVec Ideal S512x128 .f32) (y : FVec Ideal S512x1024 .f32) (r : Fin 512) (l : Fin 128) :
    k0_pay11 C U D y (ix2 r l) = lanes (fun k => y (ix2 r ⟨256 + k.val, by omega⟩)) (fun k => C (ix2 r k)) (fun k => U (ix2 r k)) (fun k => D (ix2 r k)) l := by
  unfold lanes
  pointwise [k0_pay11]

/-- Chunk 3 of the queries, rotated. -/
theorem pay12 (C U D : FVec Ideal S512x128 .f32) (y : FVec Ideal S512x1024 .f32) (r : Fin 512) (l : Fin 128) :
    k0_pay12 C U D y (ix2 r l) = lanes (fun k => y (ix2 r ⟨384 + k.val, by omega⟩)) (fun k => C (ix2 r k)) (fun k => U (ix2 r k)) (fun k => D (ix2 r k)) l := by
  unfold lanes
  pointwise [k0_pay12]

/-- Chunk 4 of the queries, rotated. -/
theorem pay13 (C U D : FVec Ideal S512x128 .f32) (y : FVec Ideal S512x1024 .f32) (r : Fin 512) (l : Fin 128) :
    k0_pay13 C U D y (ix2 r l) = lanes (fun k => y (ix2 r ⟨512 + k.val, by omega⟩)) (fun k => C (ix2 r k)) (fun k => U (ix2 r k)) (fun k => D (ix2 r k)) l := by
  unfold lanes
  pointwise [k0_pay13]

/-- Chunk 5 of the queries, rotated. -/
theorem pay14 (C U D : FVec Ideal S512x128 .f32) (y : FVec Ideal S512x1024 .f32) (r : Fin 512) (l : Fin 128) :
    k0_pay14 C U D y (ix2 r l) = lanes (fun k => y (ix2 r ⟨640 + k.val, by omega⟩)) (fun k => C (ix2 r k)) (fun k => U (ix2 r k)) (fun k => D (ix2 r k)) l := by
  unfold lanes
  pointwise [k0_pay14]

/-- Chunk 6 of the queries, rotated. -/
theorem pay15 (C U D : FVec Ideal S512x128 .f32) (y : FVec Ideal S512x1024 .f32) (r : Fin 512) (l : Fin 128) :
    k0_pay15 C U D y (ix2 r l) = lanes (fun k => y (ix2 r ⟨768 + k.val, by omega⟩)) (fun k => C (ix2 r k)) (fun k => U (ix2 r k)) (fun k => D (ix2 r k)) l := by
  unfold lanes
  pointwise [k0_pay15]

/-- The queries' store: the eight chunks side by side, the last one rotated here, scaled by 1/8. -/
theorem pay17 (C U D y0 y1 y2 y3 y4 y5 y6 : FVec Ideal S512x128 .f32) (y : FVec Ideal S512x1024 .f32) (r : Fin 512) (G : Fin 1024 → EReal)
    (h0 : ∀ l, y0 (ix2 r l) = G ⟨0 + l.val, by omega⟩) (h1 : ∀ l, y1 (ix2 r l) = G ⟨128 + l.val, by omega⟩) (h2 : ∀ l, y2 (ix2 r l) = G ⟨256 + l.val, by omega⟩) (h3 : ∀ l, y3 (ix2 r l) = G ⟨384 + l.val, by omega⟩) (h4 : ∀ l, y4 (ix2 r l) = G ⟨512 + l.val, by omega⟩) (h5 : ∀ l, y5 (ix2 r l) = G ⟨640 + l.val, by omega⟩) (h6 : ∀ l, y6 (ix2 r l) = G ⟨768 + l.val, by omega⟩)
    (h7 : ∀ l, lanes (fun k => y (ix2 r ⟨896 + k.val, by omega⟩)) (fun k => C (ix2 r k)) (fun k => U (ix2 r k)) (fun k => D (ix2 r k)) l = G ⟨896 + l.val, by omega⟩) (l : Fin 1024) :
    k0_pay17 C U D y0 y1 y2 y3 y4 y5 y6 (k0_pay16 y) (ix2 r l) = G l * Ideal.ofBits FTy.f32 0x3E000000#32 := by
  unfold lanes at h7
  pointwise [k0_pay17, k0_pay16]
  refine congrArg (· * _) ?_
  by_cases c0 : l.val < 128
  · rw [dif_pos c0]
    exact (h0 _).trans (congrArg G (Fin.ext (by show 0 + (l.val) = l.val; omega)))
  rw [dif_neg c0]
  by_cases c1 : l.val - 128 < 128
  · rw [dif_pos c1]
    exact (h1 _).trans (congrArg G (Fin.ext (by show 128 + (l.val - 128) = l.val; omega)))
  rw [dif_neg c1]
  by_cases c2 : l.val - 128 - 128 < 128
  · rw [dif_pos c2]
    exact (h2 _).trans (congrArg G (Fin.ext (by show 256 + (l.val - 128 - 128) = l.val; omega)))
  rw [dif_neg c2]
  by_cases c3 : l.val - 128 - 128 - 128 < 128
  · rw [dif_pos c3]
    exact (h3 _).trans (congrArg G (Fin.ext (by show 384 + (l.val - 128 - 128 - 128) = l.val; omega)))
  rw [dif_neg c3]
  by_cases c4 : l.val - 128 - 128 - 128 - 128 < 128
  · rw [dif_pos c4]
    exact (h4 _).trans (congrArg G (Fin.ext (by show 512 + (l.val - 128 - 128 - 128 - 128) = l.val; omega)))
  rw [dif_neg c4]
  by_cases c5 : l.val - 128 - 128 - 128 - 128 - 128 < 128
  · rw [dif_pos c5]
    exact (h5 _).trans (congrArg G (Fin.ext (by show 640 + (l.val - 128 - 128 - 128 - 128 - 128) = l.val; omega)))
  rw [dif_neg c5]
  by_cases c6 : l.val - 128 - 128 - 128 - 128 - 128 - 128 < 128
  · rw [dif_pos c6]
    exact (h6 _).trans (congrArg G (Fin.ext (by show 768 + (l.val - 128 - 128 - 128 - 128 - 128 - 128) = l.val; omega)))
  rw [dif_neg c6]
  exact (h7 ⟨l.val - 128 - 128 - 128 - 128 - 128 - 128 - 128, by omega⟩).trans (congrArg G (Fin.ext (by show 896 + (l.val - 128 - 128 - 128 - 128 - 128 - 128 - 128) = l.val; omega)))

/-- The keys' store: two chunks, each rotated. -/
theorem pay18 (n : FVec Ideal S512x2048 .bf16) (C U D : FVec Ideal S512x128 .f32) (w : Vec Ideal S2048x256 .bf16) (b : Vec Ideal S1x256 .f32) (r : Fin 512) (G y : Fin 256 → EReal)
    (hy : ∀ l, (∑ k, n (ix2 r k) * w (ix2 k l)) + b (ix2 0 l) = y l)
    (h0 : ∀ l, lanes (fun k => y ⟨0 + k.val, by omega⟩) (fun k => C (ix2 r k)) (fun k => U (ix2 r k)) (fun k => D (ix2 r k)) l = G ⟨0 + l.val, by omega⟩)
    (h1 : ∀ l, lanes (fun k => y ⟨128 + k.val, by omega⟩) (fun k => C (ix2 r k)) (fun k => U (ix2 r k)) (fun k => D (ix2 r k)) l = G ⟨128 + l.val, by omega⟩) (l : Fin 256) :
    k0_pay18 n C U D w b (ix2 r l) = G l := by
  unfold lanes at h0 h1
  pointwise [k0_pay18]
  by_cases c0 : l.val < 128
  · rw [dif_pos c0]
    refine Eq.trans ?_ ((h0 ⟨l.val, c0⟩).trans (congrArg G (Fin.ext (Nat.zero_add _))))
    simp only [Nat.zero_add]
    exact congrArg₂ (· + ·) (congrArg₂ (· + ·) (congrArg (· * _) (hy _)) (congrArg (· * _) (hy _))) (congrArg (· * _) (hy _))
  rw [dif_neg c0]
  refine Eq.trans ?_ ((h1 ⟨l.val - 128, by omega⟩).trans (congrArg G (Fin.ext (by show 128 + (l.val - 128) = l.val; omega))))
  exact congrArg₂ (· + ·) (congrArg₂ (· + ·) (congrArg (· * _) (hy _)) (congrArg (· * _) (hy _))) (congrArg (· * _) (hy _))

end Cert.InProjIdeal.Row
end
-- ==== Proof.InProj.Value.lean ====
/-
  The input projection's launch: what a grid point leaves in its four output blocks, and the four result arrays after the run.
-/
module

public import proofs.«01_k».proof.Proof.Gen.InProjIdeal.Frame
public import proofs.«01_k».proof.Proof.Proj
public import Idealize.ShloMosaic.Lib.Pointwise
public import Idealize.ShloMosaic.Lib.StableHlo.RunRead
public import Idealize.ShloMosaic.Lib.Pipeline.ValueKit
public import Idealize.ShloMosaic.Lib.Claim
public import proofs.«01_k».proof.Proof.InProj.Pay

@[expose] public section

set_option maxRecDepth 16384

noncomputable section

namespace Cert.InProjIdeal.Row

open Cert.InProjIdeal Cert.InProjIdeal.Gen Cert.Rows Cert.Proj Idealize.ShloMosaic Idealize.ShloMosaic.TcCoe Idealize.SL.Sem

variable (m : (ℓ : Loc nD τ sig) → Buf (Elt Ideal) ℓ)

/-- A range of columns of the weight block. -/
theorem ldW (c : Dev nD) (t : Fin cfg0.N) (o n : ℕ) (hn : o + n ≤ 3584) (h : ∀ a, ![0, o] a + ![2048, n] a ≤ S2048x3584.size a) (k : Fin 2048) (l : Fin n) :
    View.ld (iblk m c 2 t : FVec Ideal S2048x3584 .bf16) (Rect.unit (s := S2048x3584) ![0, o] ![2048, n] h) (ix2 k l) = wI m c k (colOf ⟨o + l.val, by omega⟩) := by
  rw [View.ld_apply, ← blk2 m c t k _]
  refine congrArg _ (funext fun a => Fin.ext ?_)
  rw [Rect.idx_unit_val]
  match a with
  | ⟨0, _⟩ => exact Nat.zero_add _
  | ⟨1, _⟩ => rfl

/-- A range of columns of the bias block. -/
theorem ldB (c : Dev nD) (t : Fin cfg0.N) (o n : ℕ) (hn : o + n ≤ 3584) (h : ∀ a, ![0, o] a + ![1, n] a ≤ S1x3584.size a) (l : Fin n) :
    View.ld (iblk m c 3 t : FVec Ideal S1x3584 .f32) (Rect.unit (s := S1x3584) ![0, o] ![1, n] h) (ix2 0 l) = bI m c (colOf ⟨o + l.val, by omega⟩) := by
  rw [View.ld_apply, ← blk3 m c t _]
  refine congrArg _ (funext fun a => Fin.ext ?_)
  rw [Rect.idx_unit_val]
  match a with
  | ⟨0, _⟩ => rfl
  | ⟨1, _⟩ => rfl

/-- The projected row `R` of the arguments. -/
def yR (c : Dev nD) (R : Fin 32768) : Fin 3584 → EReal := z (xR m c R) (gN m c) (wI m c) (bI m c)
/-- The cosines at row `R`. -/
def coR (R : Fin 32768) (i : Fin 8) : EReal := Ideal.cos (angR (posOf R) i)
/-- The sines at row `R`. -/
def siR (R : Fin 32768) (i : Fin 8) : EReal := Ideal.sin (angR (posOf R) i)

/-- The normed row of a point's block. -/
theorem normed (c : Dev nD) (t : Fin cfg0.N) (r : Fin 512) (k : Fin 2048) :
    k0_pay3 (F := Ideal) (iblk m c 0 t) (iblk m c 1 t) (ix2 r k) = rms (xR m c (rowAt t r)) (gN m c) k := by
  refine (pay3 _ _ r k).trans (congrArg₂ (fun x g => rms x g k) (funext fun j => ?_) (funext fun j => ?_))
  · exact blk0 m c t r j
  · exact blk1 m c t j

/-- A range of columns of the projection, from a point's blocks. -/
theorem proj (c : Dev nD) (t : Fin cfg0.N) (r : Fin 512) (o n : ℕ) (hn : o + n ≤ 3584) (h : ∀ a, ![0, o] a + ![2048, n] a ≤ S2048x3584.size a) (h' : ∀ a, ![0, o] a + ![1, n] a ≤ S1x3584.size a) (l : Fin n) :
    (∑ k, k0_pay3 (F := Ideal) (iblk m c 0 t) (iblk m c 1 t) (ix2 r k) * View.ld (iblk m c 2 t : FVec Ideal S2048x3584 .bf16) (Rect.unit (s := S2048x3584) ![0, o] ![2048, n] h) (ix2 k l))
        + View.ld (iblk m c 3 t : FVec Ideal S1x3584 .f32) (Rect.unit (s := S1x3584) ![0, o] ![1, n] h') (ix2 0 l)
      = yR m c (rowAt t r) (colOf ⟨o + l.val, by omega⟩) :=
  congrArg₂ (· + ·) (Finset.sum_congr rfl fun k _ => congrArg₂ (· * ·) (normed m c t r k) (ldW m c t o n hn h k l)) (ldB m c t o n hn h' l)

/-- A chunk of the queries' lanes, rotated. -/
theorem chunk (c : Dev nD) (t : Fin cfg0.N) (r : Fin 512) (o : ℕ) (ho : o % 128 = 0) (h : o + 128 ≤ 1024) (l : Fin 128) :
    lanes (fun k => k0_pay7 (F := Ideal) (iblk m c 0 t) (iblk m c 1 t) (View.ld (iblk m c 2 t) r0_3) (View.ld (iblk m c 3 t) r0_4) (ix2 r ⟨o + k.val, by omega⟩))
        (fun k => (iblk m c 4 t : FVec Ideal S512x128 .f32) (ix2 r k)) (fun k => (iblk m c 5 t : FVec Ideal S512x128 .f32) (ix2 r k)) (fun k => (iblk m c 6 t : FVec Ideal S512x128 .f32) (ix2 r k)) l
      = rope (coR (rowAt t r)) (siR (rowAt t r)) (fun k => yR m c (rowAt t r) (colOf k)) ⟨o + l.val, by omega⟩ := by
  refine lanes_rope _ _ _ o ho (by omega) _ _ _ _ (fun k => ?_) (blk4 m c t r) (blk5 m c t r) (blk6 m c t r) l
  refine (pay7 _ _ _ _ r _).trans ((proj m c t r 0 1024 (by decide) inb_S2048x3584_S2048x1024_0_0 inb_S1x3584_S1x1024_0_0 ⟨o + k.val, by omega⟩).trans ?_)
  exact congrArg (fun a => yR m c (rowAt t r) (colOf a)) (Fin.ext (Nat.zero_add _))

theorem pay21 (x0 : Vec Ideal S512x2048 .f32) (x1 : Vec Ideal S1x2048 .f32) (x2 : Vec Ideal S2048x3584 .bf16) (x3 : Vec Ideal S1x3584 .f32) (x4 x5 x6 : Vec Ideal S512x128 .f32) :
    k0_pay21 x0 x1 x2 x3 x4 x5 x6 = x4 ∧ k0_pay22 x0 x1 x2 x3 x4 x5 x6 = x5 ∧ k0_pay23 x0 x1 x2 x3 x4 x5 x6 = x6
      ∧ k0_pay20 x0 x1 x2 x3 x4 x5 x6 = k0_pay3 x0 x1 ∧ k0_pay24 x0 x1 x2 x3 x4 x5 x6 = k0_pay7 x0 x1 (View.ld x2 r0_3) (View.ld x3 r0_4) := by
  refine ⟨?_, ?_, ?_, ?_, ?_⟩
  · funext i; idx_vars i; pointwise [k0_pay21, k0_pay4]
  · funext i; idx_vars i; pointwise [k0_pay22, k0_pay5]
  · funext i; idx_vars i; pointwise [k0_pay23, k0_pay6]
  · unfold k0_pay20
    rw [View.ld_unit_lit, View.ld_unit_lit] <;> decide
  · unfold k0_pay24
    rw [View.ld_unit_lit, View.ld_unit_lit] <;> decide

/-- The queries' block after point `t`. -/
theorem ptq (c : Dev nD) (t : Fin cfg0.N) (r : Fin 512) (l : Fin 1024) :
    ((dats m 0 c).after 7 t : FVec Ideal S512x1024 .bf16) (ix2 r l) = qRow (coR (rowAt t r)) (siR (rowAt t r)) (yR m c (rowAt t r)) l := by
  rw [after0_7]
  frame_out
  obtain ⟨e1, e2, e3, e4, e5⟩ := pay21 (iblk m c 0 t) (iblk m c 1 t) (iblk m c 2 t) (iblk m c 3 t) (iblk m c 4 t) (iblk m c 5 t) (iblk m c 6 t)
  rw [e1, e2, e3, e5]
  refine (pay17 _ _ _ _ _ _ _ _ _ _ _ r (fun l => rope (coR (rowAt t r)) (siR (rowAt t r)) (fun k => yR m c (rowAt t r) (colOf k)) ⟨l.val, by omega⟩)
    (fun l => (pay8 _ _ _ _ _ _ _ r l).trans (chunk m c t r 0 rfl (by decide) l))
    (fun l => (pay10 _ _ _ _ _ _ _ r l).trans (chunk m c t r 128 rfl (by decide) l))
    (fun l => (pay11 _ _ _ _ r l).trans (chunk m c t r 256 rfl (by decide) l))
    (fun l => (pay12 _ _ _ _ r l).trans (chunk m c t r 384 rfl (by decide) l))
    (fun l => (pay13 _ _ _ _ r l).trans (chunk m c t r 512 rfl (by decide) l))
    (fun l => (pay14 _ _ _ _ r l).trans (chunk m c t r 640 rfl (by decide) l))
    (fun l => (pay15 _ _ _ _ r l).trans (chunk m c t r 768 rfl (by decide) l))
    (chunk m c t r 896 rfl (by decide)) l).trans ?_
  exact congrArg (· * _) (rope_colOf _ _ _ _)

/-- The keys' block after point `t`. -/
theorem ptk (c : Dev nD) (t : Fin cfg0.N) (r : Fin 512) (l : Fin 256) :
    ((dats m 0 c).after 8 t : FVec Ideal S512x256 .f32) (ix2 r l) = kRow (coR (rowAt t r)) (siR (rowAt t r)) (yR m c (rowAt t r)) l := by
  rw [after0_8]
  frame_out
  obtain ⟨e1, e2, e3, e4, e5⟩ := pay21 (iblk m c 0 t) (iblk m c 1 t) (iblk m c 2 t) (iblk m c 3 t) (iblk m c 4 t) (iblk m c 5 t) (iblk m c 6 t)
  rw [e1, e2, e3, e4]
  refine (pay18 _ _ _ _ _ _ r (fun l => rope (coR (rowAt t r)) (siR (rowAt t r)) (fun k => yR m c (rowAt t r) (colOf k)) ⟨1024 + l.val, by omega⟩)
    (fun l => yR m c (rowAt t r) (colOf ⟨1024 + l.val, by omega⟩))
    (proj m c t r 1024 256 (by decide) inb_S2048x3584_S2048x256_0_1024 inb_S1x3584_S1x256_0_1024)
    (fun l => (lanes_rope _ _ (fun k => yR m c (rowAt t r) (colOf k)) 1024 rfl (by decide) _ _ _ _ (fun k => ?_) (blk4 m c t r) (blk5 m c t r) (blk6 m c t r) l).trans ?_)
    (fun l => (lanes_rope _ _ (fun k => yR m c (rowAt t r) (colOf k)) 1152 rfl (by decide) _ _ _ _ (fun k => ?_) (blk4 m c t r) (blk5 m c t r) (blk6 m c t r) l).trans ?_) l).trans ?_
  · exact congrArg (fun a => yR m c (rowAt t r) (colOf a)) (Fin.ext (by show 1024 + (0 + k.val) = 1024 + k.val; omega))
  · exact congrArg (rope _ _ _) (Fin.ext (by show 1024 + l.val = 1024 + (0 + l.val); omega))
  · exact congrArg (fun a => yR m c (rowAt t r) (colOf a)) (Fin.ext (by show 1024 + (128 + k.val) = 1152 + k.val; omega))
  · exact congrArg (rope _ _ _) (Fin.ext (by show 1152 + l.val = 1024 + (128 + l.val); omega))
  · exact (rope_colOf _ _ _ _).trans (congrArg (rope _ _ _) (colOf_ge _ (by show 1024 ≤ 1024 + l.val; omega)))

/-- The values' block after point `t`. -/
theorem ptv (c : Dev nD) (t : Fin cfg0.N) (r : Fin 512) (l : Fin 256) :
    ((dats m 0 c).after 9 t : FVec Ideal S512x256 .f32) (ix2 r l) = vRow (yR m c (rowAt t r)) l := by
  rw [after0_9]
  frame_out
  obtain ⟨e1, e2, e3, e4, e5⟩ := pay21 (iblk m c 0 t) (iblk m c 1 t) (iblk m c 2 t) (iblk m c 3 t) (iblk m c 4 t) (iblk m c 5 t) (iblk m c 6 t)
  rw [e4]
  refine (pay1 _ _ _ r l).trans ((proj m c t r 1280 256 (by decide) inb_S2048x3584_S2048x256_0_1280 inb_S1x3584_S1x256_0_1280 l).trans ?_)
  exact congrArg (yR m c (rowAt t r)) (colOf_ge _ (by show 1024 ≤ 1280 + l.val; omega))

/-- The gated block after point `t`. -/
theorem ptu (c : Dev nD) (t : Fin cfg0.N) (r : Fin 512) (l : Fin 1024) :
    ((dats m 0 c).after 10 t : FVec Ideal S512x1024 .f32) (ix2 r l) = uRow (yR m c (rowAt t r)) l := by
  rw [after0_10]
  frame_out
  obtain ⟨e1, e2, e3, e4, e5⟩ := pay21 (iblk m c 0 t) (iblk m c 1 t) (iblk m c 2 t) (iblk m c 3 t) (iblk m c 4 t) (iblk m c 5 t) (iblk m c 6 t)
  rw [e4]
  refine (pay2 _ _ _ _ _ r l).trans ?_
  unfold uRow
  refine congrArg₂ (fun a b => a * Ideal.logistic b) ?_ ?_
  · refine (proj m c t r 1536 1024 (by decide) inb_S2048x3584_S2048x1024_0_1536 inb_S1x3584_S1x1024_0_1536 l).trans ?_
    exact congrArg (yR m c (rowAt t r)) (colOf_ge _ (by show 1024 ≤ 1536 + l.val; omega))
  · refine (proj m c t r 2560 1024 (by decide) inb_S2048x3584_S2048x1024_0_2560 inb_S1x3584_S1x1024_0_2560 l).trans ?_
    exact congrArg (yR m c (rowAt t r)) (colOf_ge _ (by show 1024 ≤ 2560 + l.val; omega))

/-- The queries: row `i 0`, entry `i 1`. -/
def Gq (c : Dev nD) : FVec Ideal S32768x1024 .bf16 := fun i => qRow (coR (i 0)) (siR (i 0)) (yR m c (i 0)) (i 1)

/-- The queries' array after the run. -/
theorem finalq (c : Dev nD) : (dats m 0 c).arrAt 7 (cfgs 0).N = Gq m c := by
  refine (dats m 0 c).arrAt_eq_of_covers 7 _ (by decide +kernel) fun t hf y => ?_
  blk_simp
  idx_vars y
  have e : ((View.whole main_v55_0).slice (win0_7.rect t)).emb (ix2 y0 y1) = (ix2 (rowAt t y0) y1 : S32768x1024.Idx) := by
    unfold rowAt
    blk_ext [idx t]
  rw [e]
  exact ptq m c t y0 y1

/-- The keys: row `i 0`, entry `i 1`. -/
def Gk (c : Dev nD) : FVec Ideal S32768x256 .f32 := fun i => kRow (coR (i 0)) (siR (i 0)) (yR m c (i 0)) (i 1)

/-- The keys' array after the run. -/
theorem finalk (c : Dev nD) : (dats m 0 c).arrAt 8 (cfgs 0).N = Gk m c := by
  refine (dats m 0 c).arrAt_eq_of_covers 8 _ (by decide +kernel) fun t hf y => ?_
  blk_simp
  idx_vars y
  have e : ((View.whole main_v55_1).slice (win0_8.rect t)).emb (ix2 y0 y1) = (ix2 (rowAt t y0) y1 : S32768x256.Idx) := by
    unfold rowAt
    blk_ext [idx t]
  rw [e]
  exact ptk m c t y0 y1

/-- The values: row `i 0`, entry `i 1`. -/
def Gv (c : Dev nD) : FVec Ideal S32768x256 .f32 := fun i => vRow (yR m c (i 0)) (i 1)

/-- The values' array after the run. -/
theorem finalv (c : Dev nD) : (dats m 0 c).arrAt 9 (cfgs 0).N = Gv m c := by
  refine (dats m 0 c).arrAt_eq_of_covers 9 _ (by decide +kernel) fun t hf y => ?_
  blk_simp
  idx_vars y
  have e : ((View.whole main_v55_2).slice (win0_9.rect t)).emb (ix2 y0 y1) = (ix2 (rowAt t y0) y1 : S32768x256.Idx) := by
    unfold rowAt
    blk_ext [idx t]
  rw [e]
  exact ptv m c t y0 y1

/-- The gated rows: row `i 0`, entry `i 1`. -/
def Gu (c : Dev nD) : FVec Ideal S32768x1024 .f32 := fun i => uRow (yR m c (i 0)) (i 1)

/-- The gated rows' array after the run. -/
theorem finalu (c : Dev nD) : (dats m 0 c).arrAt 10 (cfgs 0).N = Gu m c := by
  refine (dats m 0 c).arrAt_eq_of_covers 10 _ (by decide +kernel) fun t hf y => ?_
  blk_simp
  idx_vars y
  have e : ((View.whole main_v55_3).slice (win0_10.rect t)).emb (ix2 y0 y1) = (ix2 (rowAt t y0) y1 : S32768x1024.Idx) := by
    unfold rowAt
    blk_ext [idx t]
  rw [e]
  exact ptu m c t y0 y1

end Cert.InProjIdeal.Row
end
-- ==== Proof.InProj.Ref.lean ====
/-
  The input projection's reference, its four results read at an entry: the layer's rows.
-/
module

public import proofs.«01_k».proof.Proof.Gen.InProjRefIdeal.Read
public import proofs.«01_k».proof.Proof.Proj
public import Idealize.ShloMosaic.Lib.Pointwise

@[expose] public section

set_option maxRecDepth 16384

noncomputable section

namespace Cert.InProjRefIdeal.Row

open Cert.InProjRefIdeal Cert.InProjRefIdeal.Gen Cert.InProjRefIdeal.Read Cert.Rows Cert.Proj Idealize.ShloMosaic Idealize.ShloMosaic.TcCoe Idealize.SL.Sem

variable (x0 : FVec Ideal S16x2048x2048 .f32) (x1 : FVec Ideal S1x2048 .f32) (x2 : FVec Ideal S1x2048x3584 .f32) (x3 : FVec Ideal S1x3584 .f32)

/-- The projected row of sequence `n` at position `p`. -/
def yN (n : Fin 16) (p : Fin 2048) : Fin 3584 → EReal :=
  z (fun j => x0 (ix3 n p j)) (fun j => x1 (ix2 0 j)) (fun k j => x2 (ix3 0 k j)) (fun j => x3 (ix2 0 j))
/-- The angle at position `p`. -/
def angP (p : Fin 2048) (i : Fin 8) : EReal := ang (FloatOps.sitofp (F := Ideal) FTy.f32 (BitVec.ofNat 32 p.val)) i

/-- The projection. -/
theorem v20 (n : Fin 16) (p : Fin 2048) (l : Fin 3584) : val_main_v20 (F := Ideal) x0 x1 x2 x3 (ix3 n p l) = yN x0 x1 x2 x3 n p l := by
  unfold yN z rms
  pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- Head `h`'s lanes of the queries, before the rotation. -/
theorem v22 (n : Fin 16) (p : Fin 2048) (h : Fin 16) (l : Fin 64) : val_main_v22 (F := Ideal) x0 x1 x2 x3 (ix4 n p h l) = yN x0 x1 x2 x3 n p ⟨(h.val * 64 + l.val), by omega⟩ := by
  have e := v20 x0 x1 x2 x3 n p ⟨(h.val * 64 + l.val), by omega⟩
  rw [← e]
  pointwise [val_main_v22, val_main_v21]

/-- The first eight lanes of a head of the queries, rotated. -/
theorem v61 (n : Fin 16) (p : Fin 2048) (h : Fin 16) (i : Fin 8) : val_main_v61 (F := Ideal) x0 x1 x2 x3 (ix4 n p h i)
    = yN x0 x1 x2 x3 n p ⟨(h.val * 64 + i.val), by omega⟩ * Ideal.cos (angP p i) - yN x0 x1 x2 x3 n p ⟨(h.val * 64 + (8 + i.val)), by omega⟩ * Ideal.sin (angP p i) := by
  rw [← v22 x0 x1 x2 x3 n p h ⟨i.val, by omega⟩, ← v22 x0 x1 x2 x3 n p h ⟨8 + i.val, by omega⟩]
  unfold angP ang
  pointwise [val_main_v61, val_main_v60, val_main_v59, val_main_v53, val_main_v52, val_main_v49, val_main_v48, val_main_v46, val_main_v43, val_main_v42, val_main_cst_6, val_main_v41, val_main_v40, val_main_cst_5, val_main_v39, val_main_v38, val_main_cst_4, val_main_v37, val_main_v36, val_main_v47, val_main_v45, val_main_v44, val_main_v0, val_main_v56, val_main_v54, val_main_v58, val_main_v57, val_main_v51, val_main_v50, val_main_v55]

/-- The next eight lanes. -/
theorem v66 (n : Fin 16) (p : Fin 2048) (h : Fin 16) (i : Fin 8) : val_main_v66 (F := Ideal) x0 x1 x2 x3 (ix4 n p h i)
    = yN x0 x1 x2 x3 n p ⟨(h.val * 64 + (8 + i.val)), by omega⟩ * Ideal.cos (angP p i) + yN x0 x1 x2 x3 n p ⟨(h.val * 64 + i.val), by omega⟩ * Ideal.sin (angP p i) := by
  rw [← v22 x0 x1 x2 x3 n p h ⟨i.val, by omega⟩, ← v22 x0 x1 x2 x3 n p h ⟨8 + i.val, by omega⟩]
  unfold angP ang
  pointwise [val_main_v66, val_main_v65, val_main_v64, val_main_v53, val_main_v52, val_main_v49, val_main_v48, val_main_v46, val_main_v43, val_main_v42, val_main_cst_6, val_main_v41, val_main_v40, val_main_cst_5, val_main_v39, val_main_v38, val_main_cst_4, val_main_v37, val_main_v36, val_main_v47, val_main_v45, val_main_v44, val_main_v0, val_main_v55, val_main_v54, val_main_v63, val_main_v62, val_main_v51, val_main_v50, val_main_v56]

/-- Head `h`'s lanes of the keys, before the rotation. -/
theorem v24 (n : Fin 16) (p : Fin 2048) (h : Fin 4) (l : Fin 64) : val_main_v24 (F := Ideal) x0 x1 x2 x3 (ix4 n p h l) = yN x0 x1 x2 x3 n p ⟨1024 + (h.val * 64 + l.val), by omega⟩ := by
  have e := v20 x0 x1 x2 x3 n p ⟨1024 + (h.val * 64 + l.val), by omega⟩
  rw [← e]
  pointwise [val_main_v24, val_main_v23]

/-- The first eight lanes of a head of the keys, rotated. -/
theorem v95 (n : Fin 16) (p : Fin 2048) (h : Fin 4) (i : Fin 8) : val_main_v95 (F := Ideal) x0 x1 x2 x3 (ix4 n p h i)
    = yN x0 x1 x2 x3 n p ⟨1024 + (h.val * 64 + i.val), by omega⟩ * Ideal.cos (angP p i) - yN x0 x1 x2 x3 n p ⟨1024 + (h.val * 64 + (8 + i.val)), by omega⟩ * Ideal.sin (angP p i) := by
  rw [← v24 x0 x1 x2 x3 n p h ⟨i.val, by omega⟩, ← v24 x0 x1 x2 x3 n p h ⟨8 + i.val, by omega⟩]
  unfold angP ang
  pointwise [val_main_v95, val_main_v94, val_main_v93, val_main_v87, val_main_v86, val_main_v83, val_main_v82, val_main_v80, val_main_v77, val_main_v76, val_main_cst_9, val_main_v75, val_main_v74, val_main_cst_8, val_main_v73, val_main_v72, val_main_cst_7, val_main_v71, val_main_v70, val_main_v81, val_main_v79, val_main_v78, val_main_v0, val_main_v90, val_main_v88, val_main_v92, val_main_v91, val_main_v85, val_main_v84, val_main_v89]

/-- The next eight lanes. -/
theorem v100 (n : Fin 16) (p : Fin 2048) (h : Fin 4) (i : Fin 8) : val_main_v100 (F := Ideal) x0 x1 x2 x3 (ix4 n p h i)
    = yN x0 x1 x2 x3 n p ⟨1024 + (h.val * 64 + (8 + i.val)), by omega⟩ * Ideal.cos (angP p i) + yN x0 x1 x2 x3 n p ⟨1024 + (h.val * 64 + i.val), by omega⟩ * Ideal.sin (angP p i) := by
  rw [← v24 x0 x1 x2 x3 n p h ⟨i.val, by omega⟩, ← v24 x0 x1 x2 x3 n p h ⟨8 + i.val, by omega⟩]
  unfold angP ang
  pointwise [val_main_v100, val_main_v99, val_main_v98, val_main_v87, val_main_v86, val_main_v83, val_main_v82, val_main_v80, val_main_v77, val_main_v76, val_main_cst_9, val_main_v75, val_main_v74, val_main_cst_8, val_main_v73, val_main_v72, val_main_cst_7, val_main_v71, val_main_v70, val_main_v81, val_main_v79, val_main_v78, val_main_v0, val_main_v89, val_main_v88, val_main_v97, val_main_v96, val_main_v85, val_main_v84, val_main_v90]

/-- The rotated queries: head `h`, lane `l`. -/
theorem v69 (n : Fin 16) (p : Fin 2048) (h : Fin 16) (l : Fin 64) : val_main_v69 (F := Ideal) x0 x1 x2 x3 (ix4 n p h l)
    = rope (fun i => Ideal.cos (angP p i)) (fun i => Ideal.sin (angP p i)) (yN x0 x1 x2 x3 n p) ⟨(h.val * 64 + l.val), by omega⟩ := by
  have e : ((h.val * 64 + l.val)) % 64 = l.val := by omega
  unfold rope
  simp only [e]
  pointwise [val_main_v69, val_main_v68, val_main_v67]
  by_cases h1 : l.val < 8
  · rw [dif_pos (by omega), dif_pos h1, dif_pos h1]
    refine (v61 x0 x1 x2 x3 n p h _).trans ?_
    refine congrArg (fun a => _ - yN x0 x1 x2 x3 n p a * _) (Fin.ext ?_)
    exact (by show (h.val * 64 + (8 + l.val)) = (8 + ((h.val * 64 + l.val))) % 3584; omega)
  · by_cases h2 : l.val < 16
    · rw [dif_pos h2, dif_neg h1, dif_neg h1, dif_pos h2]
      refine (v66 x0 x1 x2 x3 n p h _).trans ?_
      refine congrArg₂ (fun a b => yN x0 x1 x2 x3 n p a * _ + yN x0 x1 x2 x3 n p b * _) (Fin.ext ?_) (Fin.ext ?_)
      · show (h.val * 64 + (8 + (l.val - 8))) = (h.val * 64 + l.val)
        omega
      · show (h.val * 64 + (l.val - 8)) = (h.val * 64 + l.val) - 8
        omega
    · rw [dif_neg h2, dif_neg h1, dif_neg h2]
      refine (v22 x0 x1 x2 x3 n p h _).trans (congrArg _ (Fin.ext ?_))
      show (h.val * 64 + (16 + (l.val - 16))) = (h.val * 64 + l.val)
      omega

/-- The rotated keys: head `h`, lane `l`. -/
theorem v103 (n : Fin 16) (p : Fin 2048) (h : Fin 4) (l : Fin 64) : val_main_v103 (F := Ideal) x0 x1 x2 x3 (ix4 n p h l)
    = rope (fun i => Ideal.cos (angP p i)) (fun i => Ideal.sin (angP p i)) (yN x0 x1 x2 x3 n p) ⟨1024 + (h.val * 64 + l.val), by omega⟩ := by
  have e : (1024 + (h.val * 64 + l.val)) % 64 = l.val := by omega
  unfold rope
  simp only [e]
  pointwise [val_main_v103, val_main_v102, val_main_v101]
  by_cases h1 : l.val < 8
  · rw [dif_pos (by omega), dif_pos h1, dif_pos h1]
    refine (v95 x0 x1 x2 x3 n p h _).trans ?_
    refine congrArg (fun a => _ - yN x0 x1 x2 x3 n p a * _) (Fin.ext ?_)
    exact (by show 1024 + (h.val * 64 + (8 + l.val)) = (8 + (1024 + (h.val * 64 + l.val))) % 3584; omega)
  · by_cases h2 : l.val < 16
    · rw [dif_pos h2, dif_neg h1, dif_neg h1, dif_pos h2]
      refine (v100 x0 x1 x2 x3 n p h _).trans ?_
      refine congrArg₂ (fun a b => yN x0 x1 x2 x3 n p a * _ + yN x0 x1 x2 x3 n p b * _) (Fin.ext ?_) (Fin.ext ?_)
      · show 1024 + (h.val * 64 + (8 + (l.val - 8))) = 1024 + (h.val * 64 + l.val)
        omega
      · show 1024 + (h.val * 64 + (l.val - 8)) = 1024 + (h.val * 64 + l.val) - 8
        omega
    · rw [dif_neg h2, dif_neg h1, dif_neg h2]
      refine (v24 x0 x1 x2 x3 n p h _).trans (congrArg _ (Fin.ext ?_))
      show 1024 + (h.val * 64 + (16 + (l.val - 16))) = 1024 + (h.val * 64 + l.val)
      omega

/-- The queries' result: row `R`, entry `l`. -/
theorem resq (R : Fin 32768) (l : Fin 1024) : val_main_v112 (F := Ideal) x0 x1 x2 x3 (ix2 R l)
    = qRow (fun i => Ideal.cos (angP ⟨R.val % 2048, by omega⟩ i)) (fun i => Ideal.sin (angP ⟨R.val % 2048, by omega⟩ i)) (yN x0 x1 x2 x3 ⟨R.val / 2048, by omega⟩ ⟨R.val % 2048, by omega⟩) l := by
  unfold qRow
  pointwise [val_main_v112, val_main_v108, val_main_v107, val_main_v106, val_main_v105, val_main_v104, val_main_cst_10]
  refine congrArg (· * _) ((v69 x0 x1 x2 x3 _ _ _ _).trans (congrArg (rope _ _ _) (Fin.ext ?_)))
  unfold colOf
  dsimp only
  rw [if_pos l.isLt]
  omega

/-- The keys' result. -/
theorem resk (R : Fin 32768) (l : Fin 256) : val_main_v109 (F := Ideal) x0 x1 x2 x3 (ix2 R l)
    = kRow (fun i => Ideal.cos (angP ⟨R.val % 2048, by omega⟩ i)) (fun i => Ideal.sin (angP ⟨R.val % 2048, by omega⟩ i)) (yN x0 x1 x2 x3 ⟨R.val / 2048, by omega⟩ ⟨R.val % 2048, by omega⟩) l := by
  unfold kRow
  pointwise [val_main_v109]
  refine (v103 x0 x1 x2 x3 _ _ _ _).trans (congrArg (rope _ _ _) (Fin.ext ?_))
  show 1024 + (l.val / 64 * 64 + l.val % 64) = 1024 + l.val
  omega

/-- The values' result. -/
theorem resv (R : Fin 32768) (l : Fin 256) : val_main_v110 (F := Ideal) x0 x1 x2 x3 (ix2 R l)
    = vRow (yN x0 x1 x2 x3 ⟨R.val / 2048, by omega⟩ ⟨R.val % 2048, by omega⟩) l := by
  unfold vRow
  rw [← v20 x0 x1 x2 x3]
  pointwise [val_main_v110, val_main_v26, val_main_v25]

/-- The gated result. -/
theorem resu (R : Fin 32768) (l : Fin 1024) : val_main_v111 (F := Ideal) x0 x1 x2 x3 (ix2 R l)
    = uRow (yN x0 x1 x2 x3 ⟨R.val / 2048, by omega⟩ ⟨R.val % 2048, by omega⟩) l := by
  unfold uRow Ideal.logistic
  rw [← v20 x0 x1 x2 x3, ← v20 x0 x1 x2 x3]
  pointwise [val_main_v111, val_main_v35, val_main_v34, val_main_v33, val_main_v32, val_main_v31, val_main_v30, val_main_v29, val_main_v28, val_main_v27, val_main_cst_2, val_main_cst_3]

end Cert.InProjRefIdeal.Row
end
-- ==== Proof.InProj.Claim.lean ====
/-
  The claims about the input projection's launch: the frames of the program, its idealization and its reference.
-/
module

public import proofs.«01_k».proof.Defs
public import proofs.«01_k».proof.Proof.Gen.InProj.Frame
public import proofs.«01_k».proof.Proof.Gen.InProjIdeal.Value
public import proofs.«01_k».proof.Proof.InProj.Value
public import proofs.«01_k».proof.Proof.InProj.Ref

@[expose] public section

set_option maxRecDepth 16384

noncomputable section

namespace Cert.Proof.InProjClaims

open Idealize.ShloMosaic Idealize.ShloMosaic.TcCoe Idealize.SL.Sem

/-- The program runs, leaves its arguments and ends quiescent. -/
theorem frame_P : Cert.quiescent_InProj := fun m ρ _ => Cert.InProj.Gen.frame m ρ
/-- So does its idealization. -/
theorem frame_PI : Cert.quiescent_InProjIdeal := fun m ρ _ => Cert.InProjIdeal.Gen.frame m ρ
/-- So does the idealized reference. -/
theorem frame_RI : Cert.quiescent_InProjRefIdeal := fun m ρ _ =>
  (θ_run Cert.InProjRefIdeal.defs _ _).mono (fun r h => ⟨fun c => (h c).2.2.2.2,
      Idealize.ShloMosaic.sem_eq_zero_of_no_sems (by decide) r.2⟩)
    (Cert.InProjRefIdeal.Value.run (F := Ideal) m ρ)

/-- The idealization rewrote nothing. -/
theorem preserves : Cert.preserves_InProj_InProjIdeal := trivial

/-- From arguments that agree, the idealized kernel and the idealized reference leave the same queries, keys, values and
    gated rows. -/
theorem algebraic : Cert.algebraic_InProjIdeal_InProjRefIdeal := by
  intro m ρ m' ρ' _ hagree
  refine ⟨fun c => Cert.InProjIdeal.Row.Gq m c, fun c => Cert.InProjIdeal.Row.Gk m c, fun c => Cert.InProjIdeal.Row.Gv m c, fun c => Cert.InProjIdeal.Row.Gu m c, ?_, ?_⟩
  · exact (θ_run Cert.InProjIdeal.defs _ _).mono (fun _ h c => ⟨(h c).1.trans (Cert.InProjIdeal.Row.finalq m c), (h c).2.1.trans (Cert.InProjIdeal.Row.finalk m c),
        (h c).2.2.1.trans (Cert.InProjIdeal.Row.finalv m c), (h c).2.2.2.1.trans (Cert.InProjIdeal.Row.finalu m c), (h c).2.2.2.2⟩)
      (Cert.InProjIdeal.Value.run_blocks (F := Ideal) m ρ)
  · refine (θ_run Cert.InProjRefIdeal.defs _ _).mono (fun _ h c => ?_) (Cert.InProjRefIdeal.Value.run (F := Ideal) m' ρ')
    obtain ⟨hq, hk, hv, hu, hargs⟩ := h c
    obtain ⟨h0, h1, h2, h3⟩ := hagree c
    refine ⟨hq.trans ?_, hk.trans ?_, hv.trans ?_, hu.trans ?_, hargs⟩
    · rw [Cert.InProjRefIdeal.Read.val_main_v112_eq, h0, h1, h2, h3]
      funext i
      idx_vars i
      exact Cert.InProjRefIdeal.Row.resq _ _ _ _ i0 i1
    · rw [Cert.InProjRefIdeal.Read.val_main_v109_eq, h0, h1, h2, h3]
      funext i
      idx_vars i
      exact Cert.InProjRefIdeal.Row.resk _ _ _ _ i0 i1
    · rw [Cert.InProjRefIdeal.Read.val_main_v110_eq, h0, h1, h2, h3]
      funext i
      idx_vars i
      exact Cert.InProjRefIdeal.Row.resv _ _ _ _ i0 i1
    · rw [Cert.InProjRefIdeal.Read.val_main_v111_eq, h0, h1, h2, h3]
      funext i
      idx_vars i
      exact Cert.InProjRefIdeal.Row.resu _ _ _ _ i0 i1

end Cert.Proof.InProjClaims
end
-- ==== Proof.OutMlp.Blocks.lean ====
/-
  The output projection's launch, its reads: what each input block of a grid point holds, in terms of the arguments.
-/
module

public import proofs.«01_k».proof.Proof.Gen.OutMlpIdeal.Frame
public import proofs.«01_k».proof.Proof.Rows
public import Idealize.ShloMosaic.Lib.Pointwise
public import Idealize.ShloMosaic.Lib.Pipeline.ValueKit
public import Idealize.ShloMosaic.Lib.Claim

@[expose] public section

set_option maxRecDepth 16384

noncomputable section

namespace Cert.OutMlpIdeal.Row

open Cert.OutMlpIdeal Cert.OutMlpIdeal.Gen Cert.Rows Idealize.ShloMosaic Idealize.ShloMosaic.TcCoe Idealize.SL.Sem

variable (m : (ℓ : Loc nD τ sig) → Buf (Elt Ideal) ℓ)

/-- The block of each window at point `t`: row blocks by `t / 16`, hidden blocks by `t % 16`. -/
theorem idx : ∀ t : Fin cfg0.N, win0_0.index t = ![t.val / 16, 0] ∧ win0_1.index t = ![t.val / 16, 0] ∧ win0_2.index t = ![t.val / 16, 0]
    ∧ win0_3.index t = ![0, 0] ∧ win0_4.index t = ![0, 0] ∧ win0_5.index t = ![0, 0] ∧ win0_6.index t = ![0, t.val % 16]
    ∧ win0_7.index t = ![t.val % 16, 0] ∧ win0_8.index t = ![0, 0] ∧ win0_9.index t = ![t.val / 16, 0] ∧ t.val / 16 < 64 :=
  (by decide +kernel : ∀ t : Fin grid0.N, _)

/-- The array row that row `r` of point `t`'s block is. -/
def rowAt (t : Fin cfg0.N) (r : Fin 512) : Fin 32768 :=
  ⟨512 * (t.val / 16) + r.val, by have := (idx t).2.2.2.2.2.2.2.2.2.2; omega⟩

/-- The layer input, row `R`. -/
def xR (c : Dev nD) (R : Fin 32768) (j : Fin 2048) : EReal := (m ((c : Thread nD τ).loc main_arg0) : FVec Ideal S32768x2048 .f32) (ix2 R j)
/-- The attention's output, row `R`. -/
def aR (c : Dev nD) (R : Fin 32768) (j : Fin 1024) : EReal := (m ((c : Thread nD τ).loc main_arg1) : FVec Ideal S32768x1024 .bf16) (ix2 R j)
/-- The convolution's output, row `R`. -/
def cR (c : Dev nD) (R : Fin 32768) (j : Fin 1024) : EReal := (m ((c : Thread nD τ).loc main_arg2) : FVec Ideal S32768x1024 .bf16) (ix2 R j)
/-- The output projection's weight. -/
def wO (c : Dev nD) (k j : Fin 2048) : EReal := (m ((c : Thread nD τ).loc main_arg3) : FVec Ideal S1x2048x2048 .f32) (ix3 0 k j)
/-- The output projection's bias. -/
def bO (c : Dev nD) (j : Fin 2048) : EReal := (m ((c : Thread nD τ).loc main_arg4) : FVec Ideal S1x2048 .f32) (ix2 0 j)
/-- The MLP norm's scale. -/
def g2 (c : Dev nD) (j : Fin 2048) : EReal := (m ((c : Thread nD τ).loc main_arg5) : FVec Ideal S1x2048 .f32) (ix2 0 j)
/-- The MLP's first weight. -/
def wU (c : Dev nD) (k : Fin 2048) (j : Fin 8192) : EReal := (m ((c : Thread nD τ).loc main_arg6) : FVec Ideal S1x2048x8192 .f32) (ix3 0 k j)
/-- The MLP's second weight. -/
def wD (c : Dev nD) (k : Fin 8192) (j : Fin 2048) : EReal := (m ((c : Thread nD τ).loc main_arg7) : FVec Ideal S1x8192x2048 .f32) (ix3 0 k j)
/-- The final norm's scale. -/
def gF (c : Dev nD) (j : Fin 2048) : EReal := (m ((c : Thread nD τ).loc main_arg8) : FVec Ideal S2048 .f32) (ix1 j)

theorem blk0 (c : Dev nD) (t : Fin cfg0.N) (r : Fin 512) (l : Fin 2048) :
    (iblk m c 0 t : FVec Ideal S512x2048 .f32) (ix2 r l) = xR m c (rowAt t r) l := by
  unfold xR rowAt
  blk_ext [iblk, V, idx t]

theorem blk1 (c : Dev nD) (t : Fin cfg0.N) (r : Fin 512) (l : Fin 1024) :
    (iblk m c 1 t : FVec Ideal S512x1024 .bf16) (ix2 r l) = aR m c (rowAt t r) l := by
  unfold aR rowAt
  blk_ext [iblk, V, idx t]

theorem blk2 (c : Dev nD) (t : Fin cfg0.N) (r : Fin 512) (l : Fin 1024) :
    (iblk m c 2 t : FVec Ideal S512x1024 .bf16) (ix2 r l) = cR m c (rowAt t r) l := by
  unfold cR rowAt
  blk_ext [iblk, V, idx t]

theorem blk4 (c : Dev nD) (t : Fin cfg0.N) (l : Fin 2048) :
    (iblk m c 4 t : FVec Ideal S1x2048 .f32) (ix2 0 l) = bO m c l := by
  unfold bO
  blk_ext! [iblk, V, idx t]

theorem blk5 (c : Dev nD) (t : Fin cfg0.N) (l : Fin 2048) :
    (iblk m c 5 t : FVec Ideal S1x2048 .f32) (ix2 0 l) = g2 m c l := by
  unfold g2
  blk_ext! [iblk, V, idx t]

theorem blk6 (c : Dev nD) (t : Fin cfg0.N) (r : Fin 2048) (l : Fin 512) :
    (iblk m c 6 t : FVec Ideal S2048x512 .bf16) (ix2 r l) = wU m c r (col (t.val % 16) l) := by
  unfold wU col
  blk_ext! [iblk, V, idx t]

theorem blk7 (c : Dev nD) (t : Fin cfg0.N) (r : Fin 512) (l : Fin 2048) :
    (iblk m c 7 t : FVec Ideal S512x2048 .bf16) (ix2 r l) = wD m c (col (t.val % 16) r) l := by
  unfold wD col
  blk_ext! [iblk, V, idx t]

theorem blk8 (c : Dev nD) (t : Fin cfg0.N) (l : Fin 2048) :
    (iblk m c 8 t : FVec Ideal S1x2048 .f32) (ix2 0 l) = gF m c l := by
  unfold gF
  blk_ext! [iblk, V, idx t]

end Cert.OutMlpIdeal.Row
end
-- ==== Proof.OutMlp.Rows.lean ====
/-
  The output projection's launch, its weight block: the host's permutation of the rows of the output projection.
-/
module

public import proofs.«01_k».proof.Proof.OutMlp.Blocks
public import Idealize.ShloMosaic.Lib.Pointwise
public import Idealize.ShloMosaic.Lib.Pipeline.ValueKit
public import Idealize.ShloMosaic.Lib.Claim
public import Idealize.ShloMosaic.Lib.Routing.Ops

@[expose] public section

set_option maxRecDepth 16384

noncomputable section

namespace Cert.OutMlpIdeal.Row

open Cert.OutMlpIdeal Cert.OutMlpIdeal.Gen Cert.Rows Idealize.ShloMosaic Idealize.ShloMosaic.TcCoe Idealize.SL.Sem

variable (m : (ℓ : Loc nD τ sig) → Buf (Elt Ideal) ℓ)

/-- The host's table of rows: the attention's rows in the kernel's order, then the convolution's. -/
theorem table : ∀ k : Fin 2048, lit0 k = BitVec.ofNat 32 (if k.val < 1024 then k.val / 64 % 4 * 256 + k.val / 256 * 64 + k.val % 64 else k.val) := by
  decide +kernel

theorem blk3 (c : Dev nD) (t : Fin cfg0.N) (r r' : Fin 2048) (l : Fin 2048)
    (h : r'.val = if r.val < 1024 then r.val / 64 % 4 * 256 + r.val / 256 * 64 + r.val % 64 else r.val) :
    (iblk m c 3 t : FVec Ideal S2048x2048 .bf16) (ix2 r l) = wO m c r' l := by
  have hb : (iblk m c 3 t : FVec Ideal S2048x2048 .bf16) (ix2 r l) = (V m c main_v6 : FVec Ideal S2048x2048 .bf16) (ix2 r l) := by
    blk_ext [iblk, idx t]
  rw [hb]
  entry_read
  pointwise
  refine (Idealize.ShloMosaic.Routing.gather_row _ rfl rfl rfl rfl rfl _ _ r l r' ?_ (by decide)).trans ?_
  · pointwise
    rw [h]
    exact (congrArg lit0 (Fin.ext ((Shape.rowMajor_val_one _).trans rfl))).trans (table r)
  · rfl

end Cert.OutMlpIdeal.Row
end
-- ==== Proof.OutMlp.Pay.lean ====
/-
  The output projection's kernel body, its four stores read at an entry.
-/
module

public import proofs.«01_k».proof.Proof.OutMlp.Rows

@[expose] public section

set_option maxRecDepth 16384

noncomputable section

namespace Cert.OutMlpIdeal.Row

open Cert.OutMlpIdeal Cert.OutMlpIdeal.Gen Cert.Rows Idealize.ShloMosaic Idealize.ShloMosaic.TcCoe Idealize.SL.Sem

variable (m : (ℓ : Loc nD τ sig) → Buf (Elt Ideal) ℓ)

/-- The first half of the output projection's weight block. -/
theorem ldLo (c : Dev nD) (t : Fin cfg0.N) (k : Fin 1024) (l : Fin 2048) :
    View.ld (iblk m c 3 t : FVec Ideal S2048x2048 .bf16) (Rect.unit ![0, 0] ![1024, 2048] inb_S2048x2048_S1024x2048_0_0) (ix2 k l)
      = wO m c (rowOf k) l := by
  rw [View.ld_apply]
  rw [← blk3 m c t ⟨k.val, by omega⟩ (rowOf k) l (by rw [if_pos k.isLt]; rfl)]
  refine congrArg _ (funext fun a => Fin.ext ?_)
  rw [Rect.idx_unit_val]
  match a with
  | ⟨0, _⟩ => exact Nat.zero_add _
  | ⟨1, _⟩ => exact Nat.zero_add _

/-- The second half of the output projection's weight block. -/
theorem ldHi (c : Dev nD) (t : Fin cfg0.N) (k : Fin 1024) (l : Fin 2048) :
    View.ld (iblk m c 3 t : FVec Ideal S2048x2048 .bf16) (Rect.unit ![1024, 0] ![1024, 2048] inb_S2048x2048_S1024x2048_1024_0) (ix2 k l)
      = wO m c (rowUp k) l := by
  rw [View.ld_apply]
  rw [← blk3 m c t (rowUp k) (rowUp k) l (by rw [if_neg (by show ¬ (1024 + k.val < 1024); omega)])]
  refine congrArg _ (funext fun a => Fin.ext ?_)
  rw [Rect.idx_unit_val]
  match a with
  | ⟨0, _⟩ => rfl
  | ⟨1, _⟩ => exact Nat.zero_add _

/-- The residual row the first point of a row block stores. -/
theorem pay1 (a c : Vec Ideal S512x1024 .bf16) (w1 w2 : Vec Ideal S1024x2048 .bf16) (x : Vec Ideal S512x2048 .f32) (b : Vec Ideal S1x2048 .f32) (r : Fin 512) (l : Fin 2048) :
    k0_pay1 a w1 c w2 x b (ix2 r l)
      = x (ix2 r l) + (∑ k, a (ix2 r k) * w1 (ix2 k l) + ∑ k, c (ix2 r k) * w2 (ix2 k l)) + b (ix2 0 l) := by
  pointwise [k0_pay1]

/-- The normalized row the first point of a row block keeps for the others. -/
theorem pay2 (a c : Vec Ideal S512x1024 .bf16) (w1 w2 : Vec Ideal S1024x2048 .bf16) (x : Vec Ideal S512x2048 .f32) (b g : Vec Ideal S1x2048 .f32) (r : Fin 512) (l : Fin 2048) :
    k0_pay2 a w1 c w2 x b g (ix2 r l) = rms (fun j => k0_pay1 a w1 c w2 x b (ix2 r j)) (fun j => g (ix2 0 j)) l := by
  unfold rms
  pointwise [k0_pay2]

/-- The MLP's partial sum: the hidden entries of one block of 512, added to what was there. -/
theorem pay3 (v3 : Vec Ideal S512x2048 .bf16) (v4 : Vec Ideal S2048x512 .bf16) (v11 : Vec Ideal S512x2048 .f32) (v13 : Vec Ideal S512x2048 .bf16) (r : Fin 512) (l : Fin 2048) :
    k0_pay3 v3 v4 v11 v13 (ix2 r l)
      = v11 (ix2 r l) + ∑ f : Fin 512, max (∑ k, v3 (ix2 r k) * v4 (ix2 k f)) 0 * max (∑ k, v3 (ix2 r k) * v4 (ix2 k f)) 0 * v13 (ix2 f l) := by
  pointwise [k0_pay3]

/-- The final norm the last point of a row block applies. -/
theorem pay4 (x : Vec Ideal S512x2048 .f32) (g : Vec Ideal S1x2048 .f32) (r : Fin 512) (l : Fin 2048) :
    k0_pay4 x g (ix2 r l) = rms (fun j => x (ix2 r j)) (fun j => g (ix2 0 j)) l := by
  unfold rms
  pointwise [k0_pay4]

/-- The residual row `R` of the arguments. -/
def hR (c : Dev nD) (R : Fin 32768) : Fin 2048 → EReal := hid (xR m c R) (aR m c R) (cR m c R) (wO m c) (bO m c)
/-- Its norm. -/
def hnR (c : Dev nD) (R : Fin 32768) : Fin 2048 → EReal := rms (hR m c R) (g2 m c)
/-- What hidden block `s` adds to entry `l` of row `R`. -/
def part (c : Dev nD) (R : Fin 32768) (s : ℕ) (l : Fin 2048) : EReal := ∑ f : Fin 512, act (hnR m c R) (wU m c) (col s f) * wD m c (col s f) l
/-- The residual row with the first `n` hidden blocks added. -/
def accR (c : Dev nD) (R : Fin 32768) (n : ℕ) (l : Fin 2048) : EReal := hR m c R l + ∑ s ∈ Finset.range n, part m c R s l

/-- The residual payload over a point's blocks is the residual row. -/
theorem pay1_blk (c : Dev nD) (t : Fin cfg0.N) (r : Fin 512) (l : Fin 2048) :
    k0_pay1 (iblk m c 1 t) (View.ld (iblk m c 3 t) (Rect.unit ![0, 0] ![1024, 2048] inb_S2048x2048_S1024x2048_0_0))
        (iblk m c 2 t) (View.ld (iblk m c 3 t) (Rect.unit ![1024, 0] ![1024, 2048] inb_S2048x2048_S1024x2048_1024_0))
        (iblk m c 0 t) (iblk m c 4 t) (ix2 r l) = hR m c (rowAt t r) l := by
  refine (pay1 _ _ _ _ _ _ r l).trans ?_
  unfold hR hid
  refine congrArg₂ (· + ·) (congrArg₂ (· + ·) (blk0 m c t r l) (congrArg₂ (· + ·) ?_ ?_)) (blk4 m c t l)
  · exact Finset.sum_congr rfl fun k _ => congrArg₂ (· * ·) (blk1 m c t r k) (ldLo m c t k l)
  · exact Finset.sum_congr rfl fun k _ => congrArg₂ (· * ·) (blk2 m c t r k) (ldHi m c t k l)

/-- The norm payload over a point's blocks is the normalized row. -/
theorem pay2_blk (c : Dev nD) (t : Fin cfg0.N) (r : Fin 512) (l : Fin 2048) :
    k0_pay2 (iblk m c 1 t) (View.ld (iblk m c 3 t) (Rect.unit ![0, 0] ![1024, 2048] inb_S2048x2048_S1024x2048_0_0))
        (iblk m c 2 t) (View.ld (iblk m c 3 t) (Rect.unit ![1024, 0] ![1024, 2048] inb_S2048x2048_S1024x2048_1024_0))
        (iblk m c 0 t) (iblk m c 4 t) (iblk m c 5 t) (ix2 r l) = hnR m c (rowAt t r) l := by
  refine (pay2 _ _ _ _ _ _ _ r l).trans ?_
  unfold hnR
  refine congrArg₂ (fun f g => rms f g l) (funext fun j => ?_) (funext fun j => ?_)
  · exact pay1_blk m c t r j
  · exact blk5 m c t j

/-- The partial-sum payload over a point's weight blocks: block `t % 16` of the hidden entries is added. -/
theorem pay3_blk (c : Dev nD) (t : Fin cfg0.N) (hn : Vec Ideal S512x2048 .bf16) (acc : Vec Ideal S512x2048 .f32) (r : Fin 512) (l : Fin 2048)
    (h : ∀ j, hn (ix2 r j) = hnR m c (rowAt t r) j) :
    k0_pay3 hn (iblk m c 6 t) acc (iblk m c 7 t) (ix2 r l) = acc (ix2 r l) + part m c (rowAt t r) (t.val % 16) l := by
  refine (pay3 _ _ _ _ r l).trans (congrArg _ ?_)
  unfold part act
  refine Finset.sum_congr rfl fun f _ => ?_
  have hs : (∑ k, hn (ix2 r k) * (iblk m c 6 t : FVec Ideal S2048x512 .bf16) (ix2 k f) : EReal) = ∑ k, hnR m c (rowAt t r) k * wU m c k (col (t.val % 16) f) :=
    Finset.sum_congr rfl fun k _ => congrArg₂ (· * ·) (h k) (blk6 m c t k f)
  refine congrArg₂ (· * ·) ?_ (blk7 m c t f l)
  exact congrArg (fun z : EReal => max z 0 * max z 0) hs

end Cert.OutMlpIdeal.Row
end
-- ==== Proof.OutMlp.Value.lean ====
/-
  The output projection's launch, point by point: what its output block and the carried normalized rows hold after each
  grid point, and the result array after the run.
-/
module

public import proofs.«01_k».proof.Proof.OutMlp.Pay
public import Idealize.ShloMosaic.Lib.Pipeline.ReadBack
public import Idealize.ShloMosaic.Lib.Pipeline.Covers

@[expose] public section

set_option maxRecDepth 16384

noncomputable section

namespace Cert.OutMlpIdeal.Row

open Cert.OutMlpIdeal Cert.OutMlpIdeal.Gen Cert.Rows Idealize.ShloMosaic Idealize.ShloMosaic.TcCoe Idealize.SL.Sem

variable (m : (ℓ : Loc nD τ sig) → Buf (Elt Ideal) ℓ)

/-- A row block's first point: the residual rows with hidden block 0 added, and the normalized rows. -/
theorem ptA (c : Dev nD) (t : Fin cfg0.N) (h0 : t.val % 16 = 0) (h1 : ¬t.val % 16 = 15) (r : Fin 512) (l : Fin 2048) :
    (outsAt0 m c t.val t.isLt).1 (ix2 r l) = hR m c (rowAt t r) l + part m c (rowAt t r) 0 l
      ∧ (outsAt0 m c t.val t.isLt).2 (ix2 r l) = hnR m c (rowAt t r) l := by
  constructor
  · rw [outsAt0_A m c t h0 h1]
    frame_out
    refine (pay3_blk m c t _ _ r l fun j => pay2_blk m c t r j).trans ?_
    rw [h0]
    exact congrArg (· + part m c (rowAt t r) 0 l) (pay1_blk m c t r l)
  · rw [outsAt0_A m c t h0 h1]
    frame_out
    exact pay2_blk m c t r l

/-- A middle point of a row block: its hidden block is added, the normalized rows stay. -/
theorem ptB (c : Dev nD) (t : Fin cfg0.N) (h0 : ¬t.val % 16 = 0) (h1 : ¬t.val % 16 = 15) (r : Fin 512) (l : Fin 2048)
    (hn : ∀ j, (outsAt0 m c (t.val - 1) (Nat.lt_of_le_of_lt (Nat.sub_le _ _) t.isLt)).2 (ix2 r j) = hnR m c (rowAt t r) j) :
    (outsAt0 m c t.val t.isLt).1 (ix2 r l) = (outsAt0 m c (t.val - 1) (Nat.lt_of_le_of_lt (Nat.sub_le _ _) t.isLt)).1 (ix2 r l) + part m c (rowAt t r) (t.val % 16) l
      ∧ (outsAt0 m c t.val t.isLt).2 (ix2 r l) = hnR m c (rowAt t r) l := by
  constructor
  · rw [outsAt0_B m c t h0 h1]
    frame_out
    simp only [read_unread_whole]
    exact pay3_blk m c t _ _ r l hn
  · rw [outsAt0_B m c t h0 h1]
    exact hn l

/-- A row block's last point: its hidden block is added and the final norm taken. -/
theorem ptC (c : Dev nD) (t : Fin cfg0.N) (h0 : ¬t.val % 16 = 0) (h1 : t.val % 16 = 15) (r : Fin 512) (l : Fin 2048)
    (hn : ∀ j, (outsAt0 m c (t.val - 1) (Nat.lt_of_le_of_lt (Nat.sub_le _ _) t.isLt)).2 (ix2 r j) = hnR m c (rowAt t r) j) :
    (outsAt0 m c t.val t.isLt).1 (ix2 r l)
      = rms (fun j => (outsAt0 m c (t.val - 1) (Nat.lt_of_le_of_lt (Nat.sub_le _ _) t.isLt)).1 (ix2 r j) + part m c (rowAt t r) 15 j) (gF m c) l := by
  rw [outsAt0_C m c t h0 h1]
  frame_out
  simp only [read_unread_whole]
  refine (pay4 _ _ r l).trans ?_
  refine congrArg₂ (fun f g => rms f g l) (funext fun j => ?_) (funext fun j => ?_)
  · rw [← h1]
    exact pay3_blk m c t _ _ r j hn
  · exact blk8 m c t j

/-- After any point but a row block's last: the residual rows with the hidden blocks so far added, and the normalized rows. -/
theorem inv (c : Dev nD) (n : ℕ) (h : n < cfg0.N) (hc : ¬ n % 16 = 15) (r : Fin 512) (l : Fin 2048) :
    (outsAt0 m c n h).1 (ix2 r l) = accR m c (rowAt ⟨n, h⟩ r) (n % 16 + 1) l
      ∧ (outsAt0 m c n h).2 (ix2 r l) = hnR m c (rowAt ⟨n, h⟩ r) l := by
  induction n generalizing l with
  | zero =>
    have := ptA m c ⟨0, h⟩ rfl hc r l
    refine ⟨this.1.trans ?_, this.2⟩
    unfold accR
    rw [Finset.sum_range_succ, Finset.sum_range_zero, zero_add]
  | succ n ih =>
    by_cases h0 : (n + 1) % 16 = 0
    · have := ptA m c ⟨n + 1, h⟩ h0 hc r l
      refine ⟨this.1.trans ?_, this.2⟩
      unfold accR
      rw [h0, Finset.sum_range_succ, Finset.sum_range_zero, zero_add]
    · have hn : n < cfg0.N := by omega
      have hr : rowAt ⟨n + 1, h⟩ r = rowAt ⟨n, hn⟩ r := Fin.ext (by simp only [rowAt]; omega)
      have := ptB m c ⟨n + 1, h⟩ h0 hc r l fun j => by rw [hr]; exact (ih hn (by omega) j).2
      refine ⟨this.1.trans ?_, this.2⟩
      rw [hr]
      refine (congrArg (· + _) (ih hn (by omega) l).1).trans ?_
      unfold accR
      rw [show (n + 1) % 16 = n % 16 + 1 by omega, Finset.sum_range_succ _ (n % 16 + 1), add_assoc]

/-- After a row block's last point: the rows the layer returns. -/
theorem last (c : Dev nD) (t : Fin cfg0.N) (ht : t.val % 16 = 15) (r : Fin 512) (l : Fin 2048) :
    (outsAt0 m c t.val t.isLt).1 (ix2 r l)
      = out (xR m c (rowAt t r)) (aR m c (rowAt t r)) (cR m c (rowAt t r)) (wO m c) (bO m c) (g2 m c) (wU m c) (wD m c) (gF m c) l := by
  have hN : t.val < 1024 := Nat.lt_of_lt_of_eq t.isLt N_0
  have hn : t.val - 1 < cfg0.N := Nat.lt_of_le_of_lt (Nat.sub_le _ _) t.isLt
  have hr : rowAt ⟨t.val - 1, hn⟩ r = rowAt t r := Fin.ext (by simp only [rowAt]; omega)
  refine (ptC m c t (by omega) ht r l fun j => by rw [← hr]; exact (inv m c _ hn (by omega) r j).2).trans ?_
  unfold out
  refine congrArg (fun f => rms f (gF m c) l) (funext fun j => ?_)
  rw [(inv m c _ hn (by omega) r j).1, hr, show (t.val - 1) % 16 + 1 = 15 by omega]
  unfold accR hR
  rw [add_assoc, ← Finset.sum_range_succ, ← sum_col]
  rfl

/-- The result array: row `R` of it is the layer's row. -/
def G (c : Dev nD) : FVec Ideal S32768x2048 .f32 := fun i =>
  out (xR m c (i 0)) (aR m c (i 0)) (cR m c (i 0)) (wO m c) (bO m c) (g2 m c) (wU m c) (wD m c) (gF m c) (i 1)

/-- The result array after the run. -/
theorem final (c : Dev nD) : (dats m 0 c).arrAt 9 (cfgs 0).N = G m c := by
  refine (dats m 0 c).arrAt_eq_of_covers 9 _ (by decide +kernel) fun t hf y => ?_
  blk_simp
  rw [after0_9]
  idx_vars y
  have e : ((View.whole main_v16).slice (win0_9.rect t)).emb (ix2 y0 y1) = (ix2 (rowAt t y0) y1 : S32768x2048.Idx) := by
    unfold rowAt
    blk_ext [idx t]
  rw [e]
  exact last m c t ((flush0_9 t).mp hf) y0 y1

end Cert.OutMlpIdeal.Row
end
-- ==== Proof.OutMlp.Ref.lean ====
/-
  The output projection's reference, its result read at an entry: the layer's row.
-/
module

public import proofs.«01_k».proof.Proof.Gen.OutMlpRefIdeal.Read
public import proofs.«01_k».proof.Proof.Rows
public import Idealize.ShloMosaic.Lib.Pointwise

@[expose] public section

set_option maxRecDepth 16384

noncomputable section

namespace Cert.OutMlpRefIdeal.Row

open Cert.OutMlpRefIdeal Cert.OutMlpRefIdeal.Gen Cert.OutMlpRefIdeal.Read Cert.Rows Idealize.ShloMosaic Idealize.ShloMosaic.TcCoe Idealize.SL.Sem

variable (x0 : FVec Ideal S32768x2048 .f32) (x1 x2 : FVec Ideal S32768x1024 .bf16) (x3 : FVec Ideal S1x2048x2048 .f32)
variable (x4 x5 : FVec Ideal S1x2048 .f32) (x6 : FVec Ideal S1x2048x8192 .f32) (x7 : FVec Ideal S1x8192x2048 .f32) (x8 : FVec Ideal S2048 .f32)

/-- An attention entry of the concatenated row: the kernel's order brought to the layer's. -/
theorem cat_lo (R : Fin 32768) (k : Fin 1024) : val_main_v5 (F := Ideal) x1 x2 (ix2 R ⟨k.val, by omega⟩) = x1 (ix2 R (rowPerm k)) := by
  pointwise [val_main_v5, val_main_v4, val_main_v3, val_main_v2, val_main_v1, val_main_v0]
  rfl

/-- A convolution entry of the concatenated row. -/
theorem cat_hi (R : Fin 32768) (k : Fin 1024) : val_main_v5 (F := Ideal) x1 x2 (ix2 R (rowUp k)) = x2 (ix2 R k) := by
  unfold rowUp
  pointwise [val_main_v5, val_main_v4, val_main_v3, val_main_v2, val_main_v1, val_main_v0]

/-- The residual row. -/
theorem hid_eq (R : Fin 32768) (l : Fin 2048) : val_main_v12 (F := Ideal) x0 x1 x2 x3 x4 (ix2 R l)
    = hid (fun j => x0 (ix2 R j)) (fun j => x1 (ix2 R j)) (fun j => x2 (ix2 R j)) (fun k j => x3 (ix3 0 k j)) (fun j => x4 (ix2 0 j)) l := by
  unfold hid
  rw [← sum_rows (fun j => x1 (ix2 R j)) (fun j => x2 (ix2 R j)) (fun k => val_main_v5 (F := Ideal) x1 x2 (ix2 R k)) (fun k => x3 (ix3 0 k l))
    (cat_lo x1 x2 R) (cat_hi x1 x2 R)]
  pointwise [val_main_v12, val_main_v8, val_main_v7, val_main_v6, val_main_v11, val_main_v10, val_main_v9]

/-- The normalized row. -/
theorem hn_eq (R : Fin 32768) (l : Fin 2048) : val_main_v26 (F := Ideal) x0 x1 x2 x3 x4 x5 (ix2 R l)
    = rms (fun j => val_main_v12 (F := Ideal) x0 x1 x2 x3 x4 (ix2 R j)) (fun j => x5 (ix2 0 j)) l := by
  unfold rms
  pointwise [val_main_v26, val_main_v25, val_main_v24, val_main_v23, val_main_v22, val_main_v21, val_main_v20, val_main_v19, val_main_v18,
    val_main_v17, val_main_v16, val_main_v15, val_main_v14, val_main_v13, val_main_cst, val_main_cst_0, val_main_cst_1]

/-- The residual row plus the MLP. -/
theorem mlp_eq (R : Fin 32768) (l : Fin 2048) : val_main_v33 (F := Ideal) x0 x1 x2 x3 x4 x5 x6 x7 (ix2 R l)
    = val_main_v12 (F := Ideal) x0 x1 x2 x3 x4 (ix2 R l)
      + ∑ f, act (fun k => val_main_v26 (F := Ideal) x0 x1 x2 x3 x4 x5 (ix2 R k)) (fun k f => x6 (ix3 0 k f)) f * x7 (ix3 0 f l) := by
  unfold act
  pointwise [val_main_v33, val_main_v32, val_main_v31, val_main_v30, val_main_v29, val_main_v28, val_main_v27, val_main_call0_v0, val_main_call0_cst]

/-- The final norm. -/
theorem out_eq (R : Fin 32768) (l : Fin 2048) : val_main_v46 (F := Ideal) x0 x1 x2 x3 x4 x5 x6 x7 x8 (ix2 R l)
    = rms (fun j => val_main_v33 (F := Ideal) x0 x1 x2 x3 x4 x5 x6 x7 (ix2 R j)) (fun j => x8 (ix1 j)) l := by
  unfold rms
  pointwise [val_main_v46, val_main_v45, val_main_v44, val_main_v43, val_main_v42, val_main_v41, val_main_v40, val_main_v39, val_main_v38,
    val_main_v37, val_main_v36, val_main_v35, val_main_v34, val_main_cst_2, val_main_cst_3, val_main_cst_4]

/-- The reference's result: row `R` of it is the layer's row. -/
theorem val_eq (R : Fin 32768) (l : Fin 2048) : val_main_v46 (F := Ideal) x0 x1 x2 x3 x4 x5 x6 x7 x8 (ix2 R l)
    = out (fun j => x0 (ix2 R j)) (fun j => x1 (ix2 R j)) (fun j => x2 (ix2 R j)) (fun k j => x3 (ix3 0 k j)) (fun j => x4 (ix2 0 j))
        (fun j => x5 (ix2 0 j)) (fun k j => x6 (ix3 0 k j)) (fun k j => x7 (ix3 0 k j)) (fun j => x8 (ix1 j)) l := by
  rw [out_eq]
  unfold out
  refine congrArg (fun f => rms f (fun j => x8 (ix1 j)) l) (funext fun j => ?_)
  rw [mlp_eq, hid_eq]
  have e : (fun k => val_main_v26 (F := Ideal) x0 x1 x2 x3 x4 x5 (ix2 R k)) = rms (hid (fun j => x0 (ix2 R j)) (fun j => x1 (ix2 R j)) (fun j => x2 (ix2 R j)) (fun k j => x3 (ix3 0 k j)) (fun j => x4 (ix2 0 j))) (fun j => x5 (ix2 0 j)) :=
    funext fun k => (hn_eq x0 x1 x2 x3 x4 x5 R k).trans (congrArg (fun f => rms f (fun j => x5 (ix2 0 j)) k) (funext fun j => hid_eq x0 x1 x2 x3 x4 R j))
  rw [e]

end Cert.OutMlpRefIdeal.Row
end
-- ==== Proof.OutMlp.Claim.lean ====
/-
  The claims about the output projection's launch: the frames of the program, its idealization and its reference, and
  that the idealized kernel and the reference leave the same result.
-/
module

public import proofs.«01_k».proof.Defs
public import proofs.«01_k».proof.Proof.Gen.OutMlp.Frame
public import proofs.«01_k».proof.Proof.Gen.OutMlpIdeal.Value
public import proofs.«01_k».proof.Proof.OutMlp.Value
public import proofs.«01_k».proof.Proof.OutMlp.Ref

@[expose] public section

set_option maxRecDepth 16384

noncomputable section

namespace Cert.Proof.OutMlpClaims

open Cert.Rows Idealize.ShloMosaic Idealize.ShloMosaic.TcCoe Idealize.SL.Sem

/-- The program runs, leaves its arguments and ends quiescent. -/
theorem frame_P : Cert.quiescent_OutMlp := fun m ρ _ => Cert.OutMlp.Gen.frame m ρ
/-- So does its idealization. -/
theorem frame_PI : Cert.quiescent_OutMlpIdeal := fun m ρ _ => Cert.OutMlpIdeal.Gen.frame m ρ
/-- So does the idealized reference. -/
theorem frame_RI : Cert.quiescent_OutMlpRefIdeal := fun m ρ _ =>
  (θ_run Cert.OutMlpRefIdeal.defs _ _).mono (fun r h => ⟨fun c => (h c).2,
      Idealize.ShloMosaic.sem_eq_zero_of_no_sems (by decide) r.2⟩)
    (Cert.OutMlpRefIdeal.Value.run (F := Ideal) m ρ)

/-- The idealization rewrote nothing. -/
theorem preserves : Cert.preserves_OutMlp_OutMlpIdeal := trivial

/-- From arguments that agree, the idealized kernel and the idealized reference leave the same result array. -/
theorem algebraic : Cert.algebraic_OutMlpIdeal_OutMlpRefIdeal := by
  intro m ρ m' ρ' _ hagree
  refine ⟨fun c => Cert.OutMlpIdeal.Row.G m c, ?_, ?_⟩
  · exact (θ_run Cert.OutMlpIdeal.defs _ _).mono (fun _ h c => ⟨(h c).1.trans (Cert.OutMlpIdeal.Row.final m c), (h c).2⟩)
      (Cert.OutMlpIdeal.Value.run_blocks (F := Ideal) m ρ)
  · refine (θ_run Cert.OutMlpRefIdeal.defs _ _).mono (fun _ h c => ⟨(h c).1.trans ?_, (h c).2⟩)
      (Cert.OutMlpRefIdeal.Value.run (F := Ideal) m' ρ')
    rw [Cert.OutMlpRefIdeal.Read.val_main_v46_eq]
    obtain ⟨h0, h1, h2, h3, h4, h5, h6, h7, h8⟩ := hagree c
    rw [h0, h1, h2, h3, h4, h5, h6, h7, h8]
    funext i
    idx_vars i
    exact Cert.OutMlpRefIdeal.Row.val_eq _ _ _ _ _ _ _ _ _ i0 i1

end Cert.Proof.OutMlpClaims
end
-- ==== Proof.InProjS.Claim.lean ====
/-
  The claims about the input projection's launch on the sample rows: the frames of the program, its idealization and its reference.
-/
module

public import proofs.«01_k».proof.Defs
public import proofs.«01_k».proof.Proof.Gen.InProjS.Frame
public import proofs.«01_k».proof.Proof.Gen.InProjSIdeal.Value
public import proofs.«01_k».proof.Proof.Gen.InProjSRefIdeal.Read

@[expose] public section

set_option maxRecDepth 16384

noncomputable section

namespace Cert.Proof.InProjSClaims

open Idealize.ShloMosaic Idealize.ShloMosaic.TcCoe Idealize.SL.Sem

/-- The program runs, leaves its arguments and ends quiescent. -/
theorem frame_P : Cert.quiescent_InProjS := fun m ρ _ => Cert.InProjS.Gen.frame m ρ
/-- So does its idealization. -/
theorem frame_PI : Cert.quiescent_InProjSIdeal := fun m ρ _ => Cert.InProjSIdeal.Gen.frame m ρ
/-- So does the idealized reference. -/
theorem frame_RI : Cert.quiescent_InProjSRefIdeal := fun m ρ _ =>
  (θ_run Cert.InProjSRefIdeal.defs _ _).mono (fun r h => ⟨fun c => (h c).2.2.2.2,
      Idealize.ShloMosaic.sem_eq_zero_of_no_sems (by decide) r.2⟩)
    (Cert.InProjSRefIdeal.Value.run (F := Ideal) m ρ)

/-- The idealization rewrote nothing. -/
theorem preserves : Cert.preserves_InProjS_InProjSIdeal := trivial

end Cert.Proof.InProjSClaims
end
-- ==== Proof.MixS.Claim.lean ====
/-
  The claims about the mix launch of the sample: the frames of the program, its idealization and its reference.
-/
module

public import proofs.«01_k».proof.Defs
public import proofs.«01_k».proof.Proof.Gen.MixS.Frame
public import proofs.«01_k».proof.Proof.Gen.MixSIdeal.Value
public import proofs.«01_k».proof.Proof.Gen.MixSRefIdeal.Read

@[expose] public section

set_option maxRecDepth 16384

noncomputable section

namespace Cert.Proof.MixSClaims

open Idealize.ShloMosaic Idealize.ShloMosaic.TcCoe Idealize.SL.Sem

/-- The program runs, leaves its arguments and ends quiescent. -/
theorem frame_P : Cert.quiescent_MixS := fun m ρ _ => Cert.MixS.Gen.frame m ρ
/-- So does its idealization. -/
theorem frame_PI : Cert.quiescent_MixSIdeal := fun m ρ _ => Cert.MixSIdeal.Gen.frame m ρ
/-- So does the idealized reference. -/
theorem frame_RI : Cert.quiescent_MixSRefIdeal := fun m ρ _ =>
  (θ_run Cert.MixSRefIdeal.defs _ _).mono (fun r h => ⟨fun c => (h c).2.2.2.2.2,
      Idealize.ShloMosaic.sem_eq_zero_of_no_sems (by decide) r.2⟩)
    (Cert.MixSRefIdeal.Value.run (F := Ideal) m ρ)

/-- The idealization rewrote nothing. -/
theorem preserves : Cert.preserves_MixS_MixSIdeal := trivial

end Cert.Proof.MixSClaims
end
-- ==== Proof.Window.lean ====
/-
  A window of past rows, moved on by one.
-/
module

public import Idealize.ShloMosaic.Lib.Pointwise

@[expose] public section

noncomputable section

namespace Cert.Window

/-- A window's entries after a new one came in: each place has the next place's entry, the last one the new. -/
def moved (K : ℕ) (old : Fin K → EReal) (new : EReal) (s : Fin K) : EReal := if h : s.val + 1 < K then old ⟨s.val + 1, h⟩ else new

/-- The head of a key's or value's entry. -/
def hd (l : Fin 256) : Fin 4 := ⟨l.val / 64, by omega⟩
/-- The entry within its head. -/
def lo (l : Fin 256) : Fin 64 := ⟨l.val % 64, by omega⟩

end Cert.Window
end
-- ==== Proof.MixW.Pay.lean ====
/-
  The windows of the sample, the kernel's stores: what is stored for one sequence.
-/
module

public import proofs.«01_k».proof.Proof.Gen.MixWIdeal.Frame
public import proofs.«01_k».proof.Proof.Window
public import Idealize.ShloMosaic.Lib.Pointwise
public import Idealize.ShloMosaic.Lib.StableHlo.RunRead
public import Idealize.ShloMosaic.Lib.Pipeline.ValueKit
public import Idealize.ShloMosaic.Lib.Claim

@[expose] public section

set_option maxRecDepth 16384

noncomputable section

namespace Cert.MixWIdeal.Row

open Cert.MixWIdeal Cert.MixWIdeal.Gen Cert.Window Idealize.ShloMosaic Idealize.ShloMosaic.TcCoe Idealize.SL.Sem

variable (m : (ℓ : Loc nD τ sig) → Buf (Elt Ideal) ℓ)

/-- Only the last row of the mask is set. -/
theorem isLast : ∀ s : Fin 128, IntOp.cmpi CmpIPredicate.eq (BitVec.ofNat 32 s.val) 127#32 = if s.val + 1 < 128 then 0#1 else 1#1 := by
  decide +kernel

/-- The window stored for a sequence: its past rows moved on by one, with the new row last. -/
theorem roll_at (a : Vec Ideal S1x256 .f32) (b : Vec Ideal S1x128x256 .f32) (s : Fin 128) (l : Fin 256) :
    (shapeCast S1x128x256 (select k0_pay6 (broadcastTo S128x256 (shapeCast S1x256 a shapeCasts_S1x256_S1x256) broadcasts_S1x256_S128x256)
      (dynamicRotate 0 127#32 none (shapeCast S128x256 b shapeCasts_S1x128x256_S128x256) rotates_S128x256_d0)) shapeCasts_S128x256_S1x128x256 : FVec Ideal S1x128x256 .f32) (ix3 0 s l)
      = moved 128 (fun s => b (ix3 0 s l)) (a (ix2 0 l)) s := by
  pointwise [k0_pay6]
  unfold moved
  rw [isLast s]
  by_cases h : s.val + 1 < 128
  · rw [if_pos h, dif_pos h]
    have e : (⟨(s.val + 128 - 127) % 128, by omega⟩ : Fin 128) = ⟨s.val + 1, h⟩ := Fin.ext (by show (s.val + 128 - 127) % 128 = s.val + 1; omega)
    rw [e]
    rfl
  · rw [if_neg h, dif_neg h]
    rfl

/-- The past gated rows are stored as they are read. -/
theorem old_at (b : Vec Ideal S1x29x1024 .f32) (s : Fin 29) (l : Fin 1024) :
    (shapeCast S1x29x1024 (shapeCast S29x1024 b shapeCasts_S1x29x1024_S29x1024) shapeCasts_S29x1024_S1x29x1024 : FVec Ideal S1x29x1024 .f32) (ix3 0 s l) = b (ix3 0 s l) := by
  pointwise

/-- So is the new one. -/
theorem new_at (b : Vec Ideal S1x1024 .f32) (l : Fin 1024) :
    (shapeCast S1x1x1024 b shapeCasts_S1x1024_S1x1x1024 : FVec Ideal S1x1x1024 .f32) (ix3 0 0 l) = b (ix2 0 l) := by
  pointwise

end Cert.MixWIdeal.Row
end
-- ==== Proof.MixW.Blocks.lean ====
/-
  The windows of the sample, the reads: what each input block of a grid point holds, in terms of the arguments.
-/
module

public import proofs.«01_k».proof.Proof.Gen.MixWIdeal.Frame
public import proofs.«01_k».proof.Proof.Window
public import Idealize.ShloMosaic.Lib.Pointwise
public import Idealize.ShloMosaic.Lib.StableHlo.RunRead
public import Idealize.ShloMosaic.Lib.Pipeline.ValueKit
public import Idealize.ShloMosaic.Lib.Claim

@[expose] public section

set_option maxRecDepth 16384

noncomputable section

namespace Cert.MixWIdeal.Row

open Cert.MixWIdeal Cert.MixWIdeal.Gen Cert.Window Idealize.ShloMosaic Idealize.ShloMosaic.TcCoe Idealize.SL.Sem

variable (m : (ℓ : Loc nD τ sig) → Buf (Elt Ideal) ℓ)

/-- The block of each window at point `t`. -/
theorem idx : ∀ t : Fin cfg0.N, win0_1.index t = ![t.val, 0] ∧ win0_2.index t = ![t.val, 0] ∧ win0_3.index t = ![t.val, 0]
    ∧ win0_4.index t = ![t.val, 0, 0] ∧ win0_5.index t = ![t.val, 0, 0] ∧ win0_6.index t = ![t.val, 0, 0]
    ∧ win0_14.index t = ![t.val, 0, 0] ∧ win0_15.index t = ![t.val, 0, 0] ∧ win0_16.index t = ![t.val, 0, 0] ∧ t.val < 16 :=
  (by decide +kernel : ∀ t : Fin grid0.N, _)

theorem lt16 (t : Fin cfg0.N) : t.val < 16 := (idx t).2.2.2.2.2.2.2.2.2

/-- The sequence that row `n` of point `t`'s block is. -/
def seqAt (t : Fin cfg0.N) (n : Fin 8) : Fin 128 := ⟨8 * t.val + n.val, by have := lt16 t; omega⟩
/-- The new keys. -/
def kN (c : Dev nD) (a : Fin 128) (l : Fin 256) : EReal := (m ((c : Thread nD τ).loc main_arg1) : FVec Ideal S128x256 .f32) (ix2 a l)
/-- The new values. -/
def vN (c : Dev nD) (a : Fin 128) (l : Fin 256) : EReal := (m ((c : Thread nD τ).loc main_arg2) : FVec Ideal S128x256 .f32) (ix2 a l)
/-- The new gated rows. -/
def uN (c : Dev nD) (a : Fin 128) (l : Fin 1024) : EReal := (m ((c : Thread nD τ).loc main_arg3) : FVec Ideal S128x1024 .f32) (ix2 a l)
/-- The past keys. -/
def kO (c : Dev nD) (a s : Fin 128) (l : Fin 256) : EReal := (m ((c : Thread nD τ).loc main_arg4) : FVec Ideal S1x128x128x4x64 .f32) (ix5 0 a s (hd l) (lo l))
/-- The past values. -/
def vO (c : Dev nD) (a s : Fin 128) (l : Fin 256) : EReal := (m ((c : Thread nD τ).loc main_arg5) : FVec Ideal S1x128x128x4x64 .f32) (ix5 0 a s (hd l) (lo l))
/-- The past gated rows. -/
def uO (c : Dev nD) (a : Fin 128) (s : Fin 30) (l : Fin 1024) : EReal := (m ((c : Thread nD τ).loc main_arg6) : FVec Ideal S1x128x30x1024 .f32) (ix4 0 a s l)

theorem blk1 (c : Dev nD) (t : Fin cfg0.N) (n : Fin 8) (l : Fin 256) : (iblk m c 1 t : FVec Ideal S8x256 .f32) (ix2 n l) = kN m c (seqAt t n) l := by
  unfold kN seqAt
  blk_ext! [iblk, V, idx t]

theorem blk2 (c : Dev nD) (t : Fin cfg0.N) (n : Fin 8) (l : Fin 256) : (iblk m c 2 t : FVec Ideal S8x256 .f32) (ix2 n l) = vN m c (seqAt t n) l := by
  unfold vN seqAt
  blk_ext! [iblk, V, idx t]

theorem blk3 (c : Dev nD) (t : Fin cfg0.N) (n : Fin 8) (l : Fin 1024) : (iblk m c 3 t : FVec Ideal S8x1024 .f32) (ix2 n l) = uN m c (seqAt t n) l := by
  unfold uN seqAt
  blk_ext! [iblk, V, idx t]

theorem blk4 (c : Dev nD) (t : Fin cfg0.N) (n : Fin 8) (s : Fin 128) (l : Fin 256) : (iblk m c 4 t : FVec Ideal S8x128x256 .f32) (ix3 n s l) = kO m c (seqAt t n) s l := by
  have hb : (iblk m c 4 t : FVec Ideal S8x128x256 .f32) (ix3 n s l) = (V m c main_v14 : FVec Ideal S128x128x256 .f32) (ix3 (seqAt t n) s l) := by
    unfold seqAt
    blk_ext [iblk, idx t]
  rw [hb]
  unfold V
  after_reads_simp
  pointwise
  unfold kO hd lo
  pointwise

theorem blk5 (c : Dev nD) (t : Fin cfg0.N) (n : Fin 8) (s : Fin 128) (l : Fin 256) : (iblk m c 5 t : FVec Ideal S8x128x256 .f32) (ix3 n s l) = vO m c (seqAt t n) s l := by
  have hb : (iblk m c 5 t : FVec Ideal S8x128x256 .f32) (ix3 n s l) = (V m c main_v16 : FVec Ideal S128x128x256 .f32) (ix3 (seqAt t n) s l) := by
    unfold seqAt
    blk_ext [iblk, idx t]
  rw [hb]
  unfold V
  after_reads_simp
  pointwise
  unfold vO hd lo
  pointwise

theorem blk6 (c : Dev nD) (t : Fin cfg0.N) (n : Fin 8) (s : Fin 30) (l : Fin 1024) : (iblk m c 6 t : FVec Ideal S8x30x1024 .f32) (ix3 n s l) = uO m c (seqAt t n) s l := by
  have hb : (iblk m c 6 t : FVec Ideal S8x30x1024 .f32) (ix3 n s l) = (V m c main_v17 : FVec Ideal S128x30x1024 .f32) (ix3 (seqAt t n) s l) := by
    unfold seqAt
    blk_ext [iblk, idx t]
  rw [hb]
  unfold V
  after_reads_simp
  pointwise
  unfold uO
  pointwise

end Cert.MixWIdeal.Row
end
-- ==== Proof.MixW.Value.lean ====
/-
  The windows of the sample as a whole: the three arrays of windows after the run.
-/
module

public import proofs.«01_k».proof.Proof.Gen.MixWIdeal.Frame
public import proofs.«01_k».proof.Proof.Window
public import proofs.«01_k».proof.Proof.MixW.Pay
public import proofs.«01_k».proof.Proof.MixW.Blocks
public import Idealize.ShloMosaic.Lib.Pointwise
public import Idealize.ShloMosaic.Lib.Pipeline.ReadBack
public import Idealize.ShloMosaic.Lib.Pipeline.Covers
public import Idealize.ShloMosaic.Lib.StableHlo.RunRead
public import Idealize.ShloMosaic.Lib.Pipeline.ValueKit
public import Idealize.ShloMosaic.Lib.Claim

@[expose] public section

set_option maxRecDepth 16384

noncomputable section

namespace Cert.MixWIdeal.Row

open Cert.MixWIdeal Cert.MixWIdeal.Gen Cert.Window Idealize.ShloMosaic Idealize.ShloMosaic.TcCoe Idealize.SL.Sem

variable (m : (ℓ : Loc nD τ sig) → Buf (Elt Ideal) ℓ)

/-- The keys' window of a sequence. -/
def kW (c : Dev nD) (a s : Fin 128) (l : Fin 256) : EReal := moved 128 (fun s => kO m c a s l) (kN m c a l) s
/-- The values' window of a sequence. -/
def vW (c : Dev nD) (a s : Fin 128) (l : Fin 256) : EReal := moved 128 (fun s => vO m c a s l) (vN m c a l) s
/-- The gated rows' window of a sequence. -/
def uW (c : Dev nD) (a : Fin 128) (s : Fin 30) (l : Fin 1024) : EReal := moved 30 (fun s => uO m c a s l) (uN m c a l) s

/-- A newer store over older ones: at an entry of it its payload, elsewhere what the older ones left. -/
theorem canon_cons {S : Shape} (G : S.Idx → EReal) (p : View.Piece (Elt Ideal) S .f32) (L : List (View.Piece (Elt Ideal) S .f32)) (y : S.Idx)
    (h : ∀ x : p.1.shape.Idx, p.2 x = G (p.1.emb x)) (h' : y ∉ p.1.set → View.canon L y = G y) : View.canon (p :: L) y = G y := by
  by_cases hm : y ∈ p.1.set
  · obtain ⟨x, rfl⟩ := p.1.exists_idx_of_mem hm
    rw [show p.1.idx x = p.1.emb x from rfl, View.canon_cons_emb]
    exact h x
  · rw [View.canon_cons_of_not_mem p L hm]
    exact h' hm

/-- A store of one sequence's window of keys or values. -/
theorem stepW (G : Fin 8 → Fin 128 → Fin 256 → EReal) (n : ℕ) (hn : n < 8) (h : ∀ a, ![n, 0, 0] a + ![1, 128, 256] a ≤ S8x128x256.size a) (v : FVec Ideal S1x128x256 .f32)
    (M : List (View.Piece (Elt Ideal) S8x128x256 .f32)) (y0 : Fin 8) (y1 : Fin 128) (y2 : Fin 256)
    (hv : ∀ (s : Fin 128) (l : Fin 256), v (ix3 0 s l) = G ⟨n, hn⟩ ⟨0 + s.val, by omega⟩ l)
    (h' : ¬ (y0.val = n) → View.canon M (ix3 y0 y1 y2) = G y0 y1 y2) :
    View.canon ((⟨Rect.unit (s := S8x128x256) ![n, 0, 0] ![1, 128, 256] h, v⟩ : View.Piece (Elt Ideal) S8x128x256 .f32) :: M) (ix3 y0 y1 y2) = G y0 y1 y2 := by
  refine canon_cons (fun y : S8x128x256.Idx => G (y 0) (y 1) (y 2)) ⟨Rect.unit (s := S8x128x256) ![n, 0, 0] ![1, 128, 256] h, v⟩ M (ix3 y0 y1 y2) (fun x => ?_) (fun hm => h' fun hh => hm ?_)
  · have ex : x = ix3 0 (x 1) (x 2) := funext fun a => by
      match a with
      | ⟨0, _⟩ =>
        have h1 : (x 0).val < 1 := (x 0).isLt
        exact Fin.ext (by show (x 0).val = 0; omega)
      | ⟨1, _⟩ => rfl
      | ⟨2, _⟩ => rfl
    rw [ex]
    refine (hv (x 1) (x 2)).trans ?_
    have v0 : (((Rect.unit (s := S8x128x256) ![n, 0, 0] ![1, 128, 256] h).emb (ix3 0 (x 1) (x 2))) 0).val = n + 0 := Rect.idx_unit_val _ _ _ _ _
    have v2 : (((Rect.unit (s := S8x128x256) ![n, 0, 0] ![1, 128, 256] h).emb (ix3 0 (x 1) (x 2))) 2).val = 0 + (x 2).val := Rect.idx_unit_val _ _ _ _ _
    have v1 : (((Rect.unit (s := S8x128x256) ![n, 0, 0] ![1, 128, 256] h).emb (ix3 0 (x 1) (x 2))) 1).val = 0 + (x 1).val := Rect.idx_unit_val _ _ _ _ _
    have e0 : (⟨n, hn⟩ : Fin 8) = ((Rect.unit (s := S8x128x256) ![n, 0, 0] ![1, 128, 256] h).emb (ix3 0 (x 1) (x 2))) 0 := Fin.ext v0.symm
    have e1 : (⟨0 + (x 1).val, by have : (x 1).val < 128 := (x 1).isLt; omega⟩ : Fin 128) = ((Rect.unit (s := S8x128x256) ![n, 0, 0] ![1, 128, 256] h).emb (ix3 0 (x 1) (x 2))) 1 := Fin.ext v1.symm
    have e2 : (x 2 : Fin 256) = ((Rect.unit (s := S8x128x256) ![n, 0, 0] ![1, 128, 256] h).emb (ix3 0 (x 1) (x 2))) 2 := Fin.ext ((Nat.zero_add _).symm.trans v2.symm)
    exact congr (congr (congrArg G e0) e1) e2
  · refine (Rect.mem_set_unit (inb := h)).mpr fun a => ?_
    match a with
    | ⟨0, _⟩ => exact ⟨by show n ≤ y0.val; omega, by show y0.val < n + 1; omega⟩
    | ⟨1, _⟩ => exact ⟨by show 0 ≤ y1.val; omega, by show y1.val < 0 + 128; omega⟩
    | ⟨2, _⟩ => exact ⟨Nat.zero_le _, by show y2.val < 0 + 256; omega⟩

/-- A store of the past rows of one sequence's window of gated rows. -/
theorem stepO (G : Fin 8 → Fin 30 → Fin 1024 → EReal) (n : ℕ) (hn : n < 8) (h : ∀ a, ![n, 0, 0] a + ![1, 29, 1024] a ≤ S8x30x1024.size a) (v : FVec Ideal S1x29x1024 .f32)
    (M : List (View.Piece (Elt Ideal) S8x30x1024 .f32)) (y0 : Fin 8) (y1 : Fin 30) (y2 : Fin 1024)
    (hv : ∀ (s : Fin 29) (l : Fin 1024), v (ix3 0 s l) = G ⟨n, hn⟩ ⟨0 + s.val, by omega⟩ l)
    (h' : ¬ (y0.val = n ∧ y1.val < 29) → View.canon M (ix3 y0 y1 y2) = G y0 y1 y2) :
    View.canon ((⟨Rect.unit (s := S8x30x1024) ![n, 0, 0] ![1, 29, 1024] h, v⟩ : View.Piece (Elt Ideal) S8x30x1024 .f32) :: M) (ix3 y0 y1 y2) = G y0 y1 y2 := by
  refine canon_cons (fun y : S8x30x1024.Idx => G (y 0) (y 1) (y 2)) ⟨Rect.unit (s := S8x30x1024) ![n, 0, 0] ![1, 29, 1024] h, v⟩ M (ix3 y0 y1 y2) (fun x => ?_) (fun hm => h' fun hh => hm ?_)
  · have ex : x = ix3 0 (x 1) (x 2) := funext fun a => by
      match a with
      | ⟨0, _⟩ =>
        have h1 : (x 0).val < 1 := (x 0).isLt
        exact Fin.ext (by show (x 0).val = 0; omega)
      | ⟨1, _⟩ => rfl
      | ⟨2, _⟩ => rfl
    rw [ex]
    refine (hv (x 1) (x 2)).trans ?_
    have v0 : (((Rect.unit (s := S8x30x1024) ![n, 0, 0] ![1, 29, 1024] h).emb (ix3 0 (x 1) (x 2))) 0).val = n + 0 := Rect.idx_unit_val _ _ _ _ _
    have v2 : (((Rect.unit (s := S8x30x1024) ![n, 0, 0] ![1, 29, 1024] h).emb (ix3 0 (x 1) (x 2))) 2).val = 0 + (x 2).val := Rect.idx_unit_val _ _ _ _ _
    have v1 : (((Rect.unit (s := S8x30x1024) ![n, 0, 0] ![1, 29, 1024] h).emb (ix3 0 (x 1) (x 2))) 1).val = 0 + (x 1).val := Rect.idx_unit_val _ _ _ _ _
    have e0 : (⟨n, hn⟩ : Fin 8) = ((Rect.unit (s := S8x30x1024) ![n, 0, 0] ![1, 29, 1024] h).emb (ix3 0 (x 1) (x 2))) 0 := Fin.ext v0.symm
    have e1 : (⟨0 + (x 1).val, by have : (x 1).val < 29 := (x 1).isLt; omega⟩ : Fin 30) = ((Rect.unit (s := S8x30x1024) ![n, 0, 0] ![1, 29, 1024] h).emb (ix3 0 (x 1) (x 2))) 1 := Fin.ext v1.symm
    have e2 : (x 2 : Fin 1024) = ((Rect.unit (s := S8x30x1024) ![n, 0, 0] ![1, 29, 1024] h).emb (ix3 0 (x 1) (x 2))) 2 := Fin.ext ((Nat.zero_add _).symm.trans v2.symm)
    exact congr (congr (congrArg G e0) e1) e2
  · refine (Rect.mem_set_unit (inb := h)).mpr fun a => ?_
    match a with
    | ⟨0, _⟩ => exact ⟨by show n ≤ y0.val; omega, by show y0.val < n + 1; omega⟩
    | ⟨1, _⟩ => exact ⟨by show 0 ≤ y1.val; omega, by show y1.val < 0 + 29; omega⟩
    | ⟨2, _⟩ => exact ⟨Nat.zero_le _, by show y2.val < 0 + 1024; omega⟩

/-- A store of the new row of one sequence's window of gated rows. -/
theorem stepN (G : Fin 8 → Fin 30 → Fin 1024 → EReal) (n : ℕ) (hn : n < 8) (h : ∀ a, ![n, 29, 0] a + ![1, 1, 1024] a ≤ S8x30x1024.size a) (v : FVec Ideal S1x1x1024 .f32)
    (M : List (View.Piece (Elt Ideal) S8x30x1024 .f32)) (y0 : Fin 8) (y1 : Fin 30) (y2 : Fin 1024)
    (hv : ∀ (s : Fin 1) (l : Fin 1024), v (ix3 0 s l) = G ⟨n, hn⟩ ⟨29 + s.val, by omega⟩ l)
    (h' : ¬ (y0.val = n ∧ 29 ≤ y1.val) → View.canon M (ix3 y0 y1 y2) = G y0 y1 y2) :
    View.canon ((⟨Rect.unit (s := S8x30x1024) ![n, 29, 0] ![1, 1, 1024] h, v⟩ : View.Piece (Elt Ideal) S8x30x1024 .f32) :: M) (ix3 y0 y1 y2) = G y0 y1 y2 := by
  refine canon_cons (fun y : S8x30x1024.Idx => G (y 0) (y 1) (y 2)) ⟨Rect.unit (s := S8x30x1024) ![n, 29, 0] ![1, 1, 1024] h, v⟩ M (ix3 y0 y1 y2) (fun x => ?_) (fun hm => h' fun hh => hm ?_)
  · have ex : x = ix3 0 (x 1) (x 2) := funext fun a => by
      match a with
      | ⟨0, _⟩ =>
        have h1 : (x 0).val < 1 := (x 0).isLt
        exact Fin.ext (by show (x 0).val = 0; omega)
      | ⟨1, _⟩ => rfl
      | ⟨2, _⟩ => rfl
    rw [ex]
    refine (hv (x 1) (x 2)).trans ?_
    have v0 : (((Rect.unit (s := S8x30x1024) ![n, 29, 0] ![1, 1, 1024] h).emb (ix3 0 (x 1) (x 2))) 0).val = n + 0 := Rect.idx_unit_val _ _ _ _ _
    have v2 : (((Rect.unit (s := S8x30x1024) ![n, 29, 0] ![1, 1, 1024] h).emb (ix3 0 (x 1) (x 2))) 2).val = 0 + (x 2).val := Rect.idx_unit_val _ _ _ _ _
    have v1 : (((Rect.unit (s := S8x30x1024) ![n, 29, 0] ![1, 1, 1024] h).emb (ix3 0 (x 1) (x 2))) 1).val = 29 + (x 1).val := Rect.idx_unit_val _ _ _ _ _
    have e0 : (⟨n, hn⟩ : Fin 8) = ((Rect.unit (s := S8x30x1024) ![n, 29, 0] ![1, 1, 1024] h).emb (ix3 0 (x 1) (x 2))) 0 := Fin.ext v0.symm
    have e1 : (⟨29 + (x 1).val, by have : (x 1).val < 1 := (x 1).isLt; omega⟩ : Fin 30) = ((Rect.unit (s := S8x30x1024) ![n, 29, 0] ![1, 1, 1024] h).emb (ix3 0 (x 1) (x 2))) 1 := Fin.ext v1.symm
    have e2 : (x 2 : Fin 1024) = ((Rect.unit (s := S8x30x1024) ![n, 29, 0] ![1, 1, 1024] h).emb (ix3 0 (x 1) (x 2))) 2 := Fin.ext ((Nat.zero_add _).symm.trans v2.symm)
    exact congr (congr (congrArg G e0) e1) e2
  · refine (Rect.mem_set_unit (inb := h)).mpr fun a => ?_
    match a with
    | ⟨0, _⟩ => exact ⟨by show n ≤ y0.val; omega, by show y0.val < n + 1; omega⟩
    | ⟨1, _⟩ => exact ⟨by show 29 ≤ y1.val; omega, by show y1.val < 29 + 1; omega⟩
    | ⟨2, _⟩ => exact ⟨Nat.zero_le _, by show y2.val < 0 + 1024; omega⟩

/-- What is stored for sequence `n` as its window of keys. -/
theorem kPiece (c : Dev nD) (t : Fin cfg0.N) (n : ℕ) (hn : n < 8) (h1 : ∀ a, ![n, 0] a + ![1, 256] a ≤ S8x256.size a) (h2 : ∀ a, ![n, 0, 0] a + ![1, 128, 256] a ≤ S8x128x256.size a) (s : Fin 128) (l : Fin 256) :
    (shapeCast S1x128x256 (select k0_pay6 (broadcastTo S128x256 (shapeCast S1x256 (View.ld (iblk m c 1 t : FVec Ideal S8x256 .f32) (Rect.unit (s := S8x256) ![n, 0] ![1, 256] h1)) shapeCasts_S1x256_S1x256) broadcasts_S1x256_S128x256)
      (dynamicRotate 0 127#32 none (shapeCast S128x256 (View.ld (iblk m c 4 t : FVec Ideal S8x128x256 .f32) (Rect.unit (s := S8x128x256) ![n, 0, 0] ![1, 128, 256] h2)) shapeCasts_S1x128x256_S128x256) rotates_S128x256_d0)) shapeCasts_S128x256_S1x128x256 : FVec Ideal S1x128x256 .f32) (ix3 0 s l)
      = kW m c (seqAt t ⟨n, hn⟩) ⟨0 + s.val, by omega⟩ l := by
  have es : (⟨0 + s.val, by omega⟩ : Fin 128) = s := Fin.ext (Nat.zero_add _)
  rw [es]
  refine (roll_at _ _ s l).trans ?_
  unfold kW
  have hb : (fun s => View.ld (iblk m c 4 t : FVec Ideal S8x128x256 .f32) (Rect.unit (s := S8x128x256) ![n, 0, 0] ![1, 128, 256] h2) (ix3 0 s l)) = fun s => kO m c (seqAt t ⟨n, hn⟩) s l := funext fun s => by
    rw [View.ld_apply, ← blk4 m c t _ _ _]
    refine congrArg _ (funext fun a => Fin.ext ?_)
    rw [Rect.idx_unit_val]
    match a with
    | ⟨0, _⟩ => rfl
    | ⟨1, _⟩ => exact Nat.zero_add _
    | ⟨2, _⟩ => exact Nat.zero_add _
  have ha : View.ld (iblk m c 1 t : FVec Ideal S8x256 .f32) (Rect.unit (s := S8x256) ![n, 0] ![1, 256] h1) (ix2 0 l) = kN m c (seqAt t ⟨n, hn⟩) l := by
    rw [View.ld_apply, ← blk1 m c t _ _]
    refine congrArg _ (funext fun a => Fin.ext ?_)
    rw [Rect.idx_unit_val]
    match a with
    | ⟨0, _⟩ => rfl
    | ⟨1, _⟩ => exact Nat.zero_add _
  exact congrArg₂ (fun f z => moved 128 f z s) hb ha

set_option maxHeartbeats 1000000 in
/-- The keys' windows after point `t`. -/
theorem ptk (c : Dev nD) (t : Fin cfg0.N) (n : Fin 8) (s : Fin 128) (l : Fin 256) : ((dats m 0 c).after 14 t : FVec Ideal S8x128x256 .f32) (ix3 n s l)
    = kW m c (seqAt t n) s l := by
  rw [after0_14]
  frame_out
  refine stepW (fun n s l => kW m c (seqAt t n) s l) 7 (by decide) _ _ _ n s l (fun s l => kPiece m c t 7 (by decide) inb_S8x256_S1x256_7_0 inb_S8x128x256_S1x128x256_7_0_0 s l) fun n7 => ?_
  refine stepW (fun n s l => kW m c (seqAt t n) s l) 6 (by decide) _ _ _ n s l (fun s l => kPiece m c t 6 (by decide) inb_S8x256_S1x256_6_0 inb_S8x128x256_S1x128x256_6_0_0 s l) fun n6 => ?_
  refine stepW (fun n s l => kW m c (seqAt t n) s l) 5 (by decide) _ _ _ n s l (fun s l => kPiece m c t 5 (by decide) inb_S8x256_S1x256_5_0 inb_S8x128x256_S1x128x256_5_0_0 s l) fun n5 => ?_
  refine stepW (fun n s l => kW m c (seqAt t n) s l) 4 (by decide) _ _ _ n s l (fun s l => kPiece m c t 4 (by decide) inb_S8x256_S1x256_4_0 inb_S8x128x256_S1x128x256_4_0_0 s l) fun n4 => ?_
  refine stepW (fun n s l => kW m c (seqAt t n) s l) 3 (by decide) _ _ _ n s l (fun s l => kPiece m c t 3 (by decide) inb_S8x256_S1x256_3_0 inb_S8x128x256_S1x128x256_3_0_0 s l) fun n3 => ?_
  refine stepW (fun n s l => kW m c (seqAt t n) s l) 2 (by decide) _ _ _ n s l (fun s l => kPiece m c t 2 (by decide) inb_S8x256_S1x256_2_0 inb_S8x128x256_S1x128x256_2_0_0 s l) fun n2 => ?_
  refine stepW (fun n s l => kW m c (seqAt t n) s l) 1 (by decide) _ _ _ n s l (fun s l => kPiece m c t 1 (by decide) inb_S8x256_S1x256_1_0 inb_S8x128x256_S1x128x256_1_0_0 s l) fun n1 => ?_
  refine stepW (fun n s l => kW m c (seqAt t n) s l) 0 (by decide) _ _ _ n s l (fun s l => kPiece m c t 0 (by decide) inb_S8x256_S1x256_0_0 inb_S8x128x256_S1x128x256_0_0_0 s l) fun n0 => ?_
  exfalso
  have hn := n.isLt
  omega

/-- What is stored for sequence `n` as its window of values. -/
theorem vPiece (c : Dev nD) (t : Fin cfg0.N) (n : ℕ) (hn : n < 8) (h1 : ∀ a, ![n, 0] a + ![1, 256] a ≤ S8x256.size a) (h2 : ∀ a, ![n, 0, 0] a + ![1, 128, 256] a ≤ S8x128x256.size a) (s : Fin 128) (l : Fin 256) :
    (shapeCast S1x128x256 (select k0_pay6 (broadcastTo S128x256 (shapeCast S1x256 (View.ld (iblk m c 2 t : FVec Ideal S8x256 .f32) (Rect.unit (s := S8x256) ![n, 0] ![1, 256] h1)) shapeCasts_S1x256_S1x256) broadcasts_S1x256_S128x256)
      (dynamicRotate 0 127#32 none (shapeCast S128x256 (View.ld (iblk m c 5 t : FVec Ideal S8x128x256 .f32) (Rect.unit (s := S8x128x256) ![n, 0, 0] ![1, 128, 256] h2)) shapeCasts_S1x128x256_S128x256) rotates_S128x256_d0)) shapeCasts_S128x256_S1x128x256 : FVec Ideal S1x128x256 .f32) (ix3 0 s l)
      = vW m c (seqAt t ⟨n, hn⟩) ⟨0 + s.val, by omega⟩ l := by
  have es : (⟨0 + s.val, by omega⟩ : Fin 128) = s := Fin.ext (Nat.zero_add _)
  rw [es]
  refine (roll_at _ _ s l).trans ?_
  unfold vW
  have hb : (fun s => View.ld (iblk m c 5 t : FVec Ideal S8x128x256 .f32) (Rect.unit (s := S8x128x256) ![n, 0, 0] ![1, 128, 256] h2) (ix3 0 s l)) = fun s => vO m c (seqAt t ⟨n, hn⟩) s l := funext fun s => by
    rw [View.ld_apply, ← blk5 m c t _ _ _]
    refine congrArg _ (funext fun a => Fin.ext ?_)
    rw [Rect.idx_unit_val]
    match a with
    | ⟨0, _⟩ => rfl
    | ⟨1, _⟩ => exact Nat.zero_add _
    | ⟨2, _⟩ => exact Nat.zero_add _
  have ha : View.ld (iblk m c 2 t : FVec Ideal S8x256 .f32) (Rect.unit (s := S8x256) ![n, 0] ![1, 256] h1) (ix2 0 l) = vN m c (seqAt t ⟨n, hn⟩) l := by
    rw [View.ld_apply, ← blk2 m c t _ _]
    refine congrArg _ (funext fun a => Fin.ext ?_)
    rw [Rect.idx_unit_val]
    match a with
    | ⟨0, _⟩ => rfl
    | ⟨1, _⟩ => exact Nat.zero_add _
  exact congrArg₂ (fun f z => moved 128 f z s) hb ha

set_option maxHeartbeats 1000000 in
/-- The values' windows after point `t`. -/
theorem ptv (c : Dev nD) (t : Fin cfg0.N) (n : Fin 8) (s : Fin 128) (l : Fin 256) : ((dats m 0 c).after 15 t : FVec Ideal S8x128x256 .f32) (ix3 n s l)
    = vW m c (seqAt t n) s l := by
  rw [after0_15]
  frame_out
  refine stepW (fun n s l => vW m c (seqAt t n) s l) 7 (by decide) _ _ _ n s l (fun s l => vPiece m c t 7 (by decide) inb_S8x256_S1x256_7_0 inb_S8x128x256_S1x128x256_7_0_0 s l) fun n7 => ?_
  refine stepW (fun n s l => vW m c (seqAt t n) s l) 6 (by decide) _ _ _ n s l (fun s l => vPiece m c t 6 (by decide) inb_S8x256_S1x256_6_0 inb_S8x128x256_S1x128x256_6_0_0 s l) fun n6 => ?_
  refine stepW (fun n s l => vW m c (seqAt t n) s l) 5 (by decide) _ _ _ n s l (fun s l => vPiece m c t 5 (by decide) inb_S8x256_S1x256_5_0 inb_S8x128x256_S1x128x256_5_0_0 s l) fun n5 => ?_
  refine stepW (fun n s l => vW m c (seqAt t n) s l) 4 (by decide) _ _ _ n s l (fun s l => vPiece m c t 4 (by decide) inb_S8x256_S1x256_4_0 inb_S8x128x256_S1x128x256_4_0_0 s l) fun n4 => ?_
  refine stepW (fun n s l => vW m c (seqAt t n) s l) 3 (by decide) _ _ _ n s l (fun s l => vPiece m c t 3 (by decide) inb_S8x256_S1x256_3_0 inb_S8x128x256_S1x128x256_3_0_0 s l) fun n3 => ?_
  refine stepW (fun n s l => vW m c (seqAt t n) s l) 2 (by decide) _ _ _ n s l (fun s l => vPiece m c t 2 (by decide) inb_S8x256_S1x256_2_0 inb_S8x128x256_S1x128x256_2_0_0 s l) fun n2 => ?_
  refine stepW (fun n s l => vW m c (seqAt t n) s l) 1 (by decide) _ _ _ n s l (fun s l => vPiece m c t 1 (by decide) inb_S8x256_S1x256_1_0 inb_S8x128x256_S1x128x256_1_0_0 s l) fun n1 => ?_
  refine stepW (fun n s l => vW m c (seqAt t n) s l) 0 (by decide) _ _ _ n s l (fun s l => vPiece m c t 0 (by decide) inb_S8x256_S1x256_0_0 inb_S8x128x256_S1x128x256_0_0_0 s l) fun n0 => ?_
  exfalso
  have hn := n.isLt
  omega

/-- What is stored for sequence `n` as the past rows of its window of gated rows. -/
theorem oPiece (c : Dev nD) (t : Fin cfg0.N) (n : ℕ) (hn : n < 8) (h : ∀ a, ![n, 1, 0] a + ![1, 29, 1024] a ≤ S8x30x1024.size a) (s : Fin 29) (l : Fin 1024) :
    (shapeCast S1x29x1024 (shapeCast S29x1024 (View.ld (iblk m c 6 t : FVec Ideal S8x30x1024 .f32) (Rect.unit (s := S8x30x1024) ![n, 1, 0] ![1, 29, 1024] h)) shapeCasts_S1x29x1024_S29x1024) shapeCasts_S29x1024_S1x29x1024 : FVec Ideal S1x29x1024 .f32) (ix3 0 s l)
      = uW m c (seqAt t ⟨n, hn⟩) ⟨0 + s.val, by omega⟩ l := by
  refine (old_at _ s l).trans ?_
  have hs : 0 + s.val + 1 < 30 := by omega
  unfold uW moved
  rw [dif_pos hs]
  show _ = uO m c (seqAt t ⟨n, hn⟩) ⟨0 + s.val + 1, hs⟩ l
  rw [View.ld_apply, ← blk6 m c t _ _ _]
  refine congrArg _ (funext fun a => Fin.ext ?_)
  rw [Rect.idx_unit_val]
  match a with
  | ⟨0, _⟩ => rfl
  | ⟨1, _⟩ => show 1 + s.val = 0 + s.val + 1; omega
  | ⟨2, _⟩ => exact Nat.zero_add _

/-- What is stored for sequence `n` as the new row of its window of gated rows. -/
theorem nPiece (c : Dev nD) (t : Fin cfg0.N) (n : ℕ) (hn : n < 8) (h : ∀ a, ![n, 0] a + ![1, 1024] a ≤ S8x1024.size a) (s : Fin 1) (l : Fin 1024) :
    (shapeCast S1x1x1024 (View.ld (iblk m c 3 t : FVec Ideal S8x1024 .f32) (Rect.unit (s := S8x1024) ![n, 0] ![1, 1024] h)) shapeCasts_S1x1024_S1x1x1024 : FVec Ideal S1x1x1024 .f32) (ix3 0 s l)
      = uW m c (seqAt t ⟨n, hn⟩) ⟨29 + s.val, by omega⟩ l := by
  have e0 : s = 0 := Subsingleton.elim _ _
  subst e0
  refine (new_at _ l).trans ?_
  unfold uW moved
  rw [dif_neg (show ¬ (29 + (0 : Fin 1).val + 1 < 30) by decide), View.ld_apply, ← blk3 m c t _ _]
  refine congrArg _ (funext fun a => Fin.ext ?_)
  rw [Rect.idx_unit_val]
  match a with
  | ⟨0, _⟩ => rfl
  | ⟨1, _⟩ => exact Nat.zero_add _

set_option maxHeartbeats 1000000 in
/-- The gated rows' windows after point `t`. -/
theorem ptu (c : Dev nD) (t : Fin cfg0.N) (n : Fin 8) (s : Fin 30) (l : Fin 1024) : ((dats m 0 c).after 16 t : FVec Ideal S8x30x1024 .f32) (ix3 n s l)
    = uW m c (seqAt t n) s l := by
  rw [after0_16]
  frame_out
  refine stepN (fun n s l => uW m c (seqAt t n) s l) 7 (by decide) _ _ _ n s l (fun s l => nPiece m c t 7 (by decide) inb_S8x1024_S1x1024_7_0 s l) fun b7 => ?_
  refine stepO (fun n s l => uW m c (seqAt t n) s l) 7 (by decide) _ _ _ n s l (fun s l => oPiece m c t 7 (by decide) inb_S8x30x1024_S1x29x1024_7_1_0 s l) fun a7 => ?_
  refine stepN (fun n s l => uW m c (seqAt t n) s l) 6 (by decide) _ _ _ n s l (fun s l => nPiece m c t 6 (by decide) inb_S8x1024_S1x1024_6_0 s l) fun b6 => ?_
  refine stepO (fun n s l => uW m c (seqAt t n) s l) 6 (by decide) _ _ _ n s l (fun s l => oPiece m c t 6 (by decide) inb_S8x30x1024_S1x29x1024_6_1_0 s l) fun a6 => ?_
  refine stepN (fun n s l => uW m c (seqAt t n) s l) 5 (by decide) _ _ _ n s l (fun s l => nPiece m c t 5 (by decide) inb_S8x1024_S1x1024_5_0 s l) fun b5 => ?_
  refine stepO (fun n s l => uW m c (seqAt t n) s l) 5 (by decide) _ _ _ n s l (fun s l => oPiece m c t 5 (by decide) inb_S8x30x1024_S1x29x1024_5_1_0 s l) fun a5 => ?_
  refine stepN (fun n s l => uW m c (seqAt t n) s l) 4 (by decide) _ _ _ n s l (fun s l => nPiece m c t 4 (by decide) inb_S8x1024_S1x1024_4_0 s l) fun b4 => ?_
  refine stepO (fun n s l => uW m c (seqAt t n) s l) 4 (by decide) _ _ _ n s l (fun s l => oPiece m c t 4 (by decide) inb_S8x30x1024_S1x29x1024_4_1_0 s l) fun a4 => ?_
  refine stepN (fun n s l => uW m c (seqAt t n) s l) 3 (by decide) _ _ _ n s l (fun s l => nPiece m c t 3 (by decide) inb_S8x1024_S1x1024_3_0 s l) fun b3 => ?_
  refine stepO (fun n s l => uW m c (seqAt t n) s l) 3 (by decide) _ _ _ n s l (fun s l => oPiece m c t 3 (by decide) inb_S8x30x1024_S1x29x1024_3_1_0 s l) fun a3 => ?_
  refine stepN (fun n s l => uW m c (seqAt t n) s l) 2 (by decide) _ _ _ n s l (fun s l => nPiece m c t 2 (by decide) inb_S8x1024_S1x1024_2_0 s l) fun b2 => ?_
  refine stepO (fun n s l => uW m c (seqAt t n) s l) 2 (by decide) _ _ _ n s l (fun s l => oPiece m c t 2 (by decide) inb_S8x30x1024_S1x29x1024_2_1_0 s l) fun a2 => ?_
  refine stepN (fun n s l => uW m c (seqAt t n) s l) 1 (by decide) _ _ _ n s l (fun s l => nPiece m c t 1 (by decide) inb_S8x1024_S1x1024_1_0 s l) fun b1 => ?_
  refine stepO (fun n s l => uW m c (seqAt t n) s l) 1 (by decide) _ _ _ n s l (fun s l => oPiece m c t 1 (by decide) inb_S8x30x1024_S1x29x1024_1_1_0 s l) fun a1 => ?_
  refine stepN (fun n s l => uW m c (seqAt t n) s l) 0 (by decide) _ _ _ n s l (fun s l => nPiece m c t 0 (by decide) inb_S8x1024_S1x1024_0_0 s l) fun b0 => ?_
  refine stepO (fun n s l => uW m c (seqAt t n) s l) 0 (by decide) _ _ _ n s l (fun s l => oPiece m c t 0 (by decide) inb_S8x30x1024_S1x29x1024_0_1_0 s l) fun a0 => ?_
  exfalso
  have hn := n.isLt
  omega

/-- The keys' windows: sequence `i 0`, place `i 1`, entry `i 2`. -/
def Gk (c : Dev nD) : FVec Ideal S128x128x256 .f32 := fun i => kW m c (i 0) (i 1) (i 2)

/-- The keys' windows after the run. -/
theorem finalk (c : Dev nD) : (dats m 0 c).arrAt 14 (cfgs 0).N = Gk m c := by
  refine (dats m 0 c).arrAt_eq_of_covers 14 _ (by decide +kernel) fun t hf y => ?_
  blk_simp
  idx_vars y
  have e : ((View.whole main_v19_2).slice (win0_14.rect t)).emb (ix3 y0 y1 y2) = (ix3 (seqAt t y0) y1 y2 : S128x128x256.Idx) := by
    unfold seqAt
    blk_ext [idx t]
  rw [e]
  exact ptk m c t y0 y1 y2

/-- The values' windows: sequence `i 0`, place `i 1`, entry `i 2`. -/
def Gv (c : Dev nD) : FVec Ideal S128x128x256 .f32 := fun i => vW m c (i 0) (i 1) (i 2)

/-- The values' windows after the run. -/
theorem finalv (c : Dev nD) : (dats m 0 c).arrAt 15 (cfgs 0).N = Gv m c := by
  refine (dats m 0 c).arrAt_eq_of_covers 15 _ (by decide +kernel) fun t hf y => ?_
  blk_simp
  idx_vars y
  have e : ((View.whole main_v19_3).slice (win0_15.rect t)).emb (ix3 y0 y1 y2) = (ix3 (seqAt t y0) y1 y2 : S128x128x256.Idx) := by
    unfold seqAt
    blk_ext [idx t]
  rw [e]
  exact ptv m c t y0 y1 y2

/-- The gated rows' windows: sequence `i 0`, place `i 1`, entry `i 2`. -/
def Gu (c : Dev nD) : FVec Ideal S128x30x1024 .f32 := fun i => uW m c (i 0) (i 1) (i 2)

/-- The gated rows' windows after the run. -/
theorem finalu (c : Dev nD) : (dats m 0 c).arrAt 16 (cfgs 0).N = Gu m c := by
  refine (dats m 0 c).arrAt_eq_of_covers 16 _ (by decide +kernel) fun t hf y => ?_
  blk_simp
  idx_vars y
  have e : ((View.whole main_v19_4).slice (win0_16.rect t)).emb (ix3 y0 y1 y2) = (ix3 (seqAt t y0) y1 y2 : S128x30x1024.Idx) := by
    unfold seqAt
    blk_ext [idx t]
  rw [e]
  exact ptu m c t y0 y1 y2

end Cert.MixWIdeal.Row
end
-- ==== Proof.MixW.Ref.lean ====
/-
  The windows of the sample, the reference: what its three results hold.
-/
module

public import proofs.«01_k».proof.Proof.Gen.MixWRefIdeal.Read
public import proofs.«01_k».proof.Proof.Window
public import Idealize.ShloMosaic.Lib.Pointwise

@[expose] public section

set_option maxRecDepth 16384

noncomputable section

namespace Cert.MixWRefIdeal.Row

open Cert.MixWRefIdeal Cert.MixWRefIdeal.Gen Cert.MixWRefIdeal.Read Cert.Window Idealize.ShloMosaic Idealize.ShloMosaic.TcCoe Idealize.SL.Sem

/-- The keys' window. -/
theorem wk_at (x1 : FVec Ideal S128x256 .f32) (x4 : FVec Ideal S1x128x128x4x64 .f32) (n s : Fin 128) (l : Fin 256) :
    val_main_v10 (F := Ideal) x1 x4 (ix3 n s l) = moved 128 (fun s => x4 (ix5 0 n s (hd l) (lo l))) (x1 (ix2 n l)) s := by
  rw [val_main_v10_apply, val_main_v9_apply]
  unfold val_main_v2 val_main_v0 val_main_v1 moved hd lo
  pointwise [idx_main_v10, idx_main_v9]
  by_cases h : s.val + 1 < 128
  · rw [dif_pos (by omega), dif_pos h]
    refine congrArg x4 ?_
    congr 1 <;> exact Fin.ext (by first | rfl | (dsimp only; omega))
  · rw [dif_neg (by omega), dif_neg h]
    exact congrArg x1 (congrArg (ix2 · l) (Fin.ext (by dsimp only; omega)))

/-- The values' window. -/
theorem wv_at (x2 : FVec Ideal S128x256 .f32) (x5 : FVec Ideal S1x128x128x4x64 .f32) (n s : Fin 128) (l : Fin 256) :
    val_main_v12 (F := Ideal) x2 x5 (ix3 n s l) = moved 128 (fun s => x5 (ix5 0 n s (hd l) (lo l))) (x2 (ix2 n l)) s := by
  rw [val_main_v12_apply, val_main_v11_apply]
  unfold val_main_v5 val_main_v3 val_main_v4 moved hd lo
  pointwise [idx_main_v12, idx_main_v11]
  by_cases h : s.val + 1 < 128
  · rw [dif_pos (by omega), dif_pos h]
    refine congrArg x5 ?_
    congr 1 <;> exact Fin.ext (by first | rfl | (dsimp only; omega))
  · rw [dif_neg (by omega), dif_neg h]
    exact congrArg x2 (congrArg (ix2 · l) (Fin.ext (by dsimp only; omega)))

/-- The gated rows' window. -/
theorem wu_at (x3 : FVec Ideal S128x1024 .f32) (x6 : FVec Ideal S1x128x30x1024 .f32) (n : Fin 128) (s : Fin 30) (l : Fin 1024) :
    val_main_v13 (F := Ideal) x3 x6 (ix3 n s l) = moved 30 (fun s => x6 (ix4 0 n s l)) (x3 (ix2 n l)) s := by
  rw [val_main_v13_apply]
  unfold val_main_v8 val_main_v6 val_main_v7 moved
  pointwise [idx_main_v13]
  by_cases h : s.val + 1 < 30
  · rw [dif_pos (by omega), dif_pos h]
    exact congrArg x6 (congrArg (ix4 0 n · l) (Fin.ext (by dsimp only; omega)))
  · rw [dif_neg (by omega), dif_neg h]
end Cert.MixWRefIdeal.Row
end
-- ==== Proof.MixW.Claim.lean ====
/-
  The claims about the mix launch of the sample as far as its three window arrays go: the frames of the program, its idealization and its reference.
-/
module

public import proofs.«01_k».proof.Defs
public import proofs.«01_k».proof.Proof.Gen.MixW.Frame
public import proofs.«01_k».proof.Proof.Gen.MixWIdeal.Value
public import proofs.«01_k».proof.Proof.MixW.Value
public import proofs.«01_k».proof.Proof.MixW.Ref

@[expose] public section

set_option maxRecDepth 16384

noncomputable section

namespace Cert.Proof.MixWClaims

open Idealize.ShloMosaic Idealize.ShloMosaic.TcCoe Idealize.SL.Sem

/-- The program runs, leaves its arguments and ends quiescent. -/
theorem frame_P : Cert.quiescent_MixW := fun m ρ _ => Cert.MixW.Gen.frame m ρ
/-- So does its idealization. -/
theorem frame_PI : Cert.quiescent_MixWIdeal := fun m ρ _ => Cert.MixWIdeal.Gen.frame m ρ
/-- So does the idealized reference. -/
theorem frame_RI : Cert.quiescent_MixWRefIdeal := fun m ρ _ =>
  (θ_run Cert.MixWRefIdeal.defs _ _).mono (fun r h => ⟨fun c => (h c).2.2.2,
      Idealize.ShloMosaic.sem_eq_zero_of_no_sems (by decide) r.2⟩)
    (Cert.MixWRefIdeal.Value.run (F := Ideal) m ρ)

/-- The idealization rewrote nothing. -/
theorem preserves : Cert.preserves_MixW_MixWIdeal := trivial

/-- From arguments that agree, the idealized kernel and the idealized reference leave the same windows of keys, values and
    gated rows. -/
theorem algebraic : Cert.algebraic_MixWIdeal_MixWRefIdeal := by
  intro m ρ m' ρ' _ hagree
  refine ⟨fun c => Cert.MixWIdeal.Row.Gk m c, fun c => Cert.MixWIdeal.Row.Gv m c, fun c => Cert.MixWIdeal.Row.Gu m c, ?_, ?_⟩
  · exact (θ_run Cert.MixWIdeal.defs _ _).mono (fun _ h c => ⟨(h c).2.2.1.trans (Cert.MixWIdeal.Row.finalk m c), (h c).2.2.2.1.trans (Cert.MixWIdeal.Row.finalv m c),
        (h c).2.2.2.2.1.trans (Cert.MixWIdeal.Row.finalu m c), (h c).2.2.2.2.2⟩)
      (Cert.MixWIdeal.Value.run_blocks (F := Ideal) m ρ)
  · refine (θ_run Cert.MixWRefIdeal.defs _ _).mono (fun _ h c => ?_) (Cert.MixWRefIdeal.Value.run (F := Ideal) m' ρ')
    obtain ⟨hk, hv, hu, hargs⟩ := h c
    obtain ⟨h0, h1, h2, h3, h4, h5, h6, h7, h8, h9, h10, h11⟩ := hagree c
    refine ⟨hk.trans ?_, hv.trans ?_, hu.trans ?_, hargs⟩
    · rw [Cert.MixWRefIdeal.Read.val_main_v10_eq]
      change Cert.MixWRefIdeal.Read.val_main_v10 (F := Ideal) (m' ((c.tc : Thread Cert.MixWRefIdeal.nD Cert.MixWRefIdeal.τ).loc Cert.MixWRefIdeal.main_arg1)) (m' ((c.tc : Thread Cert.MixWRefIdeal.nD Cert.MixWRefIdeal.τ).loc Cert.MixWRefIdeal.main_arg4)) = _
      rw [h1, h4]
      funext i
      idx_vars i
      exact Cert.MixWRefIdeal.Row.wk_at _ _ i0 i1 i2
    · rw [Cert.MixWRefIdeal.Read.val_main_v12_eq]
      change Cert.MixWRefIdeal.Read.val_main_v12 (F := Ideal) (m' ((c.tc : Thread Cert.MixWRefIdeal.nD Cert.MixWRefIdeal.τ).loc Cert.MixWRefIdeal.main_arg2)) (m' ((c.tc : Thread Cert.MixWRefIdeal.nD Cert.MixWRefIdeal.τ).loc Cert.MixWRefIdeal.main_arg5)) = _
      rw [h2, h5]
      funext i
      idx_vars i
      exact Cert.MixWRefIdeal.Row.wv_at _ _ i0 i1 i2
    · rw [Cert.MixWRefIdeal.Read.val_main_v13_eq]
      change Cert.MixWRefIdeal.Read.val_main_v13 (F := Ideal) (m' ((c.tc : Thread Cert.MixWRefIdeal.nD Cert.MixWRefIdeal.τ).loc Cert.MixWRefIdeal.main_arg3)) (m' ((c.tc : Thread Cert.MixWRefIdeal.nD Cert.MixWRefIdeal.τ).loc Cert.MixWRefIdeal.main_arg6)) = _
      rw [h3, h6]
      funext i
      idx_vars i
      exact Cert.MixWRefIdeal.Row.wu_at _ _ i0 i1 i2

end Cert.Proof.MixWClaims
end
-- ==== Proof.OutMlpS.Blocks.lean ====
/-
  The output projection's launch on the sample rows, its reads: what each input block of a grid point holds, in terms of the arguments.
-/
module

public import proofs.«01_k».proof.Proof.Gen.OutMlpSIdeal.Frame
public import proofs.«01_k».proof.Proof.Rows
public import Idealize.ShloMosaic.Lib.Pointwise
public import Idealize.ShloMosaic.Lib.Pipeline.ValueKit
public import Idealize.ShloMosaic.Lib.Claim

@[expose] public section

set_option maxRecDepth 16384

noncomputable section

namespace Cert.OutMlpSIdeal.Row

open Cert.OutMlpSIdeal Cert.OutMlpSIdeal.Gen Cert.Rows Idealize.ShloMosaic Idealize.ShloMosaic.TcCoe Idealize.SL.Sem

variable (m : (ℓ : Loc nD τ sig) → Buf (Elt Ideal) ℓ)

/-- The block of each window at point `t`: row blocks by `t / 16`, hidden blocks by `t % 16`. -/
theorem idx : ∀ t : Fin cfg0.N, win0_0.index t = ![t.val / 16, 0] ∧ win0_1.index t = ![t.val / 16, 0] ∧ win0_2.index t = ![t.val / 16, 0]
    ∧ win0_3.index t = ![0, 0] ∧ win0_4.index t = ![0, 0] ∧ win0_5.index t = ![0, 0] ∧ win0_6.index t = ![0, t.val % 16]
    ∧ win0_7.index t = ![t.val % 16, 0] ∧ win0_8.index t = ![0, 0] ∧ win0_9.index t = ![t.val / 16, 0] ∧ t.val / 16 < 1 :=
  (by decide +kernel : ∀ t : Fin grid0.N, _)

/-- The array row that row `r` of point `t`'s block is. -/
def rowAt (t : Fin cfg0.N) (r : Fin 128) : Fin 128 :=
  ⟨128 * (t.val / 16) + r.val, by have := (idx t).2.2.2.2.2.2.2.2.2.2; omega⟩

/-- The layer input, row `R`. -/
def xR (c : Dev nD) (R : Fin 128) (j : Fin 2048) : EReal := (m ((c : Thread nD τ).loc main_arg0) : FVec Ideal S128x2048 .f32) (ix2 R j)
/-- The attention's output, row `R`. -/
def aR (c : Dev nD) (R : Fin 128) (j : Fin 1024) : EReal := (m ((c : Thread nD τ).loc main_arg1) : FVec Ideal S128x1024 .bf16) (ix2 R j)
/-- The convolution's output, row `R`. -/
def cR (c : Dev nD) (R : Fin 128) (j : Fin 1024) : EReal := (m ((c : Thread nD τ).loc main_arg2) : FVec Ideal S128x1024 .bf16) (ix2 R j)
/-- The output projection's weight. -/
def wO (c : Dev nD) (k j : Fin 2048) : EReal := (m ((c : Thread nD τ).loc main_arg3) : FVec Ideal S1x2048x2048 .f32) (ix3 0 k j)
/-- The output projection's bias. -/
def bO (c : Dev nD) (j : Fin 2048) : EReal := (m ((c : Thread nD τ).loc main_arg4) : FVec Ideal S1x2048 .f32) (ix2 0 j)
/-- The MLP norm's scale. -/
def g2 (c : Dev nD) (j : Fin 2048) : EReal := (m ((c : Thread nD τ).loc main_arg5) : FVec Ideal S1x2048 .f32) (ix2 0 j)
/-- The MLP's first weight. -/
def wU (c : Dev nD) (k : Fin 2048) (j : Fin 8192) : EReal := (m ((c : Thread nD τ).loc main_arg6) : FVec Ideal S1x2048x8192 .f32) (ix3 0 k j)
/-- The MLP's second weight. -/
def wD (c : Dev nD) (k : Fin 8192) (j : Fin 2048) : EReal := (m ((c : Thread nD τ).loc main_arg7) : FVec Ideal S1x8192x2048 .f32) (ix3 0 k j)
/-- The final norm's scale. -/
def gF (c : Dev nD) (j : Fin 2048) : EReal := (m ((c : Thread nD τ).loc main_arg8) : FVec Ideal S2048 .f32) (ix1 j)

theorem blk0 (c : Dev nD) (t : Fin cfg0.N) (r : Fin 128) (l : Fin 2048) :
    (iblk m c 0 t : FVec Ideal S128x2048 .f32) (ix2 r l) = xR m c (rowAt t r) l := by
  unfold xR rowAt
  blk_ext [iblk, V, idx t]

theorem blk1 (c : Dev nD) (t : Fin cfg0.N) (r : Fin 128) (l : Fin 1024) :
    (iblk m c 1 t : FVec Ideal S128x1024 .bf16) (ix2 r l) = aR m c (rowAt t r) l := by
  unfold aR rowAt
  blk_ext [iblk, V, idx t]

theorem blk2 (c : Dev nD) (t : Fin cfg0.N) (r : Fin 128) (l : Fin 1024) :
    (iblk m c 2 t : FVec Ideal S128x1024 .bf16) (ix2 r l) = cR m c (rowAt t r) l := by
  unfold cR rowAt
  blk_ext [iblk, V, idx t]

theorem blk4 (c : Dev nD) (t : Fin cfg0.N) (l : Fin 2048) :
    (iblk m c 4 t : FVec Ideal S1x2048 .f32) (ix2 0 l) = bO m c l := by
  unfold bO
  blk_ext! [iblk, V, idx t]

theorem blk5 (c : Dev nD) (t : Fin cfg0.N) (l : Fin 2048) :
    (iblk m c 5 t : FVec Ideal S1x2048 .f32) (ix2 0 l) = g2 m c l := by
  unfold g2
  blk_ext! [iblk, V, idx t]

theorem blk6 (c : Dev nD) (t : Fin cfg0.N) (r : Fin 2048) (l : Fin 512) :
    (iblk m c 6 t : FVec Ideal S2048x512 .bf16) (ix2 r l) = wU m c r (col (t.val % 16) l) := by
  unfold wU col
  blk_ext! [iblk, V, idx t]

theorem blk7 (c : Dev nD) (t : Fin cfg0.N) (r : Fin 512) (l : Fin 2048) :
    (iblk m c 7 t : FVec Ideal S512x2048 .bf16) (ix2 r l) = wD m c (col (t.val % 16) r) l := by
  unfold wD col
  blk_ext! [iblk, V, idx t]

theorem blk8 (c : Dev nD) (t : Fin cfg0.N) (l : Fin 2048) :
    (iblk m c 8 t : FVec Ideal S1x2048 .f32) (ix2 0 l) = gF m c l := by
  unfold gF
  blk_ext! [iblk, V, idx t]

end Cert.OutMlpSIdeal.Row
end
-- ==== Proof.OutMlpS.Rows.lean ====
/-
  The output projection's launch, its weight block: the host's permutation of the rows of the output projection.
-/
module

public import proofs.«01_k».proof.Proof.OutMlpS.Blocks
public import Idealize.ShloMosaic.Lib.Pointwise
public import Idealize.ShloMosaic.Lib.Pipeline.ValueKit
public import Idealize.ShloMosaic.Lib.Claim
public import Idealize.ShloMosaic.Lib.Routing.Ops

@[expose] public section

set_option maxRecDepth 16384

noncomputable section

namespace Cert.OutMlpSIdeal.Row

open Cert.OutMlpSIdeal Cert.OutMlpSIdeal.Gen Cert.Rows Idealize.ShloMosaic Idealize.ShloMosaic.TcCoe Idealize.SL.Sem

variable (m : (ℓ : Loc nD τ sig) → Buf (Elt Ideal) ℓ)

/-- The host's table of rows: the attention's rows in the kernel's order, then the convolution's. -/
theorem table : ∀ k : Fin 2048, lit0 k = BitVec.ofNat 32 (if k.val < 1024 then k.val / 64 % 4 * 256 + k.val / 256 * 64 + k.val % 64 else k.val) := by
  decide +kernel

theorem blk3 (c : Dev nD) (t : Fin cfg0.N) (r r' : Fin 2048) (l : Fin 2048)
    (h : r'.val = if r.val < 1024 then r.val / 64 % 4 * 256 + r.val / 256 * 64 + r.val % 64 else r.val) :
    (iblk m c 3 t : FVec Ideal S2048x2048 .bf16) (ix2 r l) = wO m c r' l := by
  have hb : (iblk m c 3 t : FVec Ideal S2048x2048 .bf16) (ix2 r l) = (V m c main_v6 : FVec Ideal S2048x2048 .bf16) (ix2 r l) := by
    blk_ext [iblk, idx t]
  rw [hb]
  entry_read
  pointwise
  refine (Idealize.ShloMosaic.Routing.gather_row _ rfl rfl rfl rfl rfl _ _ r l r' ?_ (by decide)).trans ?_
  · pointwise
    rw [h]
    exact (congrArg lit0 (Fin.ext ((Shape.rowMajor_val_one _).trans rfl))).trans (table r)
  · rfl

end Cert.OutMlpSIdeal.Row
end
-- ==== Proof.OutMlpS.Pay.lean ====
/-
  The output projection's kernel body, its four stores read at an entry.
-/
module

public import proofs.«01_k».proof.Proof.OutMlpS.Rows

@[expose] public section

set_option maxRecDepth 16384

noncomputable section

namespace Cert.OutMlpSIdeal.Row

open Cert.OutMlpSIdeal Cert.OutMlpSIdeal.Gen Cert.Rows Idealize.ShloMosaic Idealize.ShloMosaic.TcCoe Idealize.SL.Sem

variable (m : (ℓ : Loc nD τ sig) → Buf (Elt Ideal) ℓ)

/-- The first half of the output projection's weight block. -/
theorem ldLo (c : Dev nD) (t : Fin cfg0.N) (k : Fin 1024) (l : Fin 2048) :
    View.ld (iblk m c 3 t : FVec Ideal S2048x2048 .bf16) (Rect.unit ![0, 0] ![1024, 2048] inb_S2048x2048_S1024x2048_0_0) (ix2 k l)
      = wO m c (rowOf k) l := by
  rw [View.ld_apply]
  rw [← blk3 m c t ⟨k.val, by omega⟩ (rowOf k) l (by rw [if_pos k.isLt]; rfl)]
  refine congrArg _ (funext fun a => Fin.ext ?_)
  rw [Rect.idx_unit_val]
  match a with
  | ⟨0, _⟩ => exact Nat.zero_add _
  | ⟨1, _⟩ => exact Nat.zero_add _

/-- The second half of the output projection's weight block. -/
theorem ldHi (c : Dev nD) (t : Fin cfg0.N) (k : Fin 1024) (l : Fin 2048) :
    View.ld (iblk m c 3 t : FVec Ideal S2048x2048 .bf16) (Rect.unit ![1024, 0] ![1024, 2048] inb_S2048x2048_S1024x2048_1024_0) (ix2 k l)
      = wO m c (rowUp k) l := by
  rw [View.ld_apply]
  rw [← blk3 m c t (rowUp k) (rowUp k) l (by rw [if_neg (by show ¬ (1024 + k.val < 1024); omega)])]
  refine congrArg _ (funext fun a => Fin.ext ?_)
  rw [Rect.idx_unit_val]
  match a with
  | ⟨0, _⟩ => rfl
  | ⟨1, _⟩ => exact Nat.zero_add _

/-- The residual row the first point of a row block stores. -/
theorem pay1 (a c : Vec Ideal S128x1024 .bf16) (w1 w2 : Vec Ideal S1024x2048 .bf16) (x : Vec Ideal S128x2048 .f32) (b : Vec Ideal S1x2048 .f32) (r : Fin 128) (l : Fin 2048) :
    k0_pay1 a w1 c w2 x b (ix2 r l)
      = x (ix2 r l) + (∑ k, a (ix2 r k) * w1 (ix2 k l) + ∑ k, c (ix2 r k) * w2 (ix2 k l)) + b (ix2 0 l) := by
  pointwise [k0_pay1]

/-- The normalized row the first point of a row block keeps for the others. -/
theorem pay2 (a c : Vec Ideal S128x1024 .bf16) (w1 w2 : Vec Ideal S1024x2048 .bf16) (x : Vec Ideal S128x2048 .f32) (b g : Vec Ideal S1x2048 .f32) (r : Fin 128) (l : Fin 2048) :
    k0_pay2 a w1 c w2 x b g (ix2 r l) = rms (fun j => k0_pay1 a w1 c w2 x b (ix2 r j)) (fun j => g (ix2 0 j)) l := by
  unfold rms
  pointwise [k0_pay2]

/-- The MLP's partial sum: the hidden entries of one block of 512, added to what was there. -/
theorem pay3 (v3 : Vec Ideal S128x2048 .bf16) (v4 : Vec Ideal S2048x512 .bf16) (v11 : Vec Ideal S128x2048 .f32) (v13 : Vec Ideal S512x2048 .bf16) (r : Fin 128) (l : Fin 2048) :
    k0_pay3 v3 v4 v11 v13 (ix2 r l)
      = v11 (ix2 r l) + ∑ f : Fin 512, max (∑ k, v3 (ix2 r k) * v4 (ix2 k f)) 0 * max (∑ k, v3 (ix2 r k) * v4 (ix2 k f)) 0 * v13 (ix2 f l) := by
  pointwise [k0_pay3]

/-- The final norm the last point of a row block applies. -/
theorem pay4 (x : Vec Ideal S128x2048 .f32) (g : Vec Ideal S1x2048 .f32) (r : Fin 128) (l : Fin 2048) :
    k0_pay4 x g (ix2 r l) = rms (fun j => x (ix2 r j)) (fun j => g (ix2 0 j)) l := by
  unfold rms
  pointwise [k0_pay4]

/-- The residual row `R` of the arguments. -/
def hR (c : Dev nD) (R : Fin 128) : Fin 2048 → EReal := hid (xR m c R) (aR m c R) (cR m c R) (wO m c) (bO m c)
/-- Its norm. -/
def hnR (c : Dev nD) (R : Fin 128) : Fin 2048 → EReal := rms (hR m c R) (g2 m c)
/-- What hidden block `s` adds to entry `l` of row `R`. -/
def part (c : Dev nD) (R : Fin 128) (s : ℕ) (l : Fin 2048) : EReal := ∑ f : Fin 512, act (hnR m c R) (wU m c) (col s f) * wD m c (col s f) l
/-- The residual row with the first `n` hidden blocks added. -/
def accR (c : Dev nD) (R : Fin 128) (n : ℕ) (l : Fin 2048) : EReal := hR m c R l + ∑ s ∈ Finset.range n, part m c R s l

/-- The residual payload over a point's blocks is the residual row. -/
theorem pay1_blk (c : Dev nD) (t : Fin cfg0.N) (r : Fin 128) (l : Fin 2048) :
    k0_pay1 (iblk m c 1 t) (View.ld (iblk m c 3 t) (Rect.unit ![0, 0] ![1024, 2048] inb_S2048x2048_S1024x2048_0_0))
        (iblk m c 2 t) (View.ld (iblk m c 3 t) (Rect.unit ![1024, 0] ![1024, 2048] inb_S2048x2048_S1024x2048_1024_0))
        (iblk m c 0 t) (iblk m c 4 t) (ix2 r l) = hR m c (rowAt t r) l := by
  refine (pay1 _ _ _ _ _ _ r l).trans ?_
  unfold hR hid
  refine congrArg₂ (· + ·) (congrArg₂ (· + ·) (blk0 m c t r l) (congrArg₂ (· + ·) ?_ ?_)) (blk4 m c t l)
  · exact Finset.sum_congr rfl fun k _ => congrArg₂ (· * ·) (blk1 m c t r k) (ldLo m c t k l)
  · exact Finset.sum_congr rfl fun k _ => congrArg₂ (· * ·) (blk2 m c t r k) (ldHi m c t k l)

/-- The norm payload over a point's blocks is the normalized row. -/
theorem pay2_blk (c : Dev nD) (t : Fin cfg0.N) (r : Fin 128) (l : Fin 2048) :
    k0_pay2 (iblk m c 1 t) (View.ld (iblk m c 3 t) (Rect.unit ![0, 0] ![1024, 2048] inb_S2048x2048_S1024x2048_0_0))
        (iblk m c 2 t) (View.ld (iblk m c 3 t) (Rect.unit ![1024, 0] ![1024, 2048] inb_S2048x2048_S1024x2048_1024_0))
        (iblk m c 0 t) (iblk m c 4 t) (iblk m c 5 t) (ix2 r l) = hnR m c (rowAt t r) l := by
  refine (pay2 _ _ _ _ _ _ _ r l).trans ?_
  unfold hnR
  refine congrArg₂ (fun f g => rms f g l) (funext fun j => ?_) (funext fun j => ?_)
  · exact pay1_blk m c t r j
  · exact blk5 m c t j

/-- The partial-sum payload over a point's weight blocks: block `t % 16` of the hidden entries is added. -/
theorem pay3_blk (c : Dev nD) (t : Fin cfg0.N) (hn : Vec Ideal S128x2048 .bf16) (acc : Vec Ideal S128x2048 .f32) (r : Fin 128) (l : Fin 2048)
    (h : ∀ j, hn (ix2 r j) = hnR m c (rowAt t r) j) :
    k0_pay3 hn (iblk m c 6 t) acc (iblk m c 7 t) (ix2 r l) = acc (ix2 r l) + part m c (rowAt t r) (t.val % 16) l := by
  refine (pay3 _ _ _ _ r l).trans (congrArg _ ?_)
  unfold part act
  refine Finset.sum_congr rfl fun f _ => ?_
  have hs : (∑ k, hn (ix2 r k) * (iblk m c 6 t : FVec Ideal S2048x512 .bf16) (ix2 k f) : EReal) = ∑ k, hnR m c (rowAt t r) k * wU m c k (col (t.val % 16) f) :=
    Finset.sum_congr rfl fun k _ => congrArg₂ (· * ·) (h k) (blk6 m c t k f)
  refine congrArg₂ (· * ·) ?_ (blk7 m c t f l)
  exact congrArg (fun z : EReal => max z 0 * max z 0) hs

end Cert.OutMlpSIdeal.Row
end
-- ==== Proof.OutMlpS.Value.lean ====
/-
  The output projection's launch, point by point: what its output block and the carried normalized rows hold after each
  grid point, and the result array after the run.
-/
module

public import proofs.«01_k».proof.Proof.OutMlpS.Pay
public import Idealize.ShloMosaic.Lib.Pipeline.ReadBack
public import Idealize.ShloMosaic.Lib.Pipeline.Covers

@[expose] public section

set_option maxRecDepth 16384

noncomputable section

namespace Cert.OutMlpSIdeal.Row

open Cert.OutMlpSIdeal Cert.OutMlpSIdeal.Gen Cert.Rows Idealize.ShloMosaic Idealize.ShloMosaic.TcCoe Idealize.SL.Sem

variable (m : (ℓ : Loc nD τ sig) → Buf (Elt Ideal) ℓ)

/-- A row block's first point: the residual rows with hidden block 0 added, and the normalized rows. -/
theorem ptA (c : Dev nD) (t : Fin cfg0.N) (h0 : t.val % 16 = 0) (h1 : ¬t.val % 16 = 15) (r : Fin 128) (l : Fin 2048) :
    (outsAt0 m c t.val t.isLt).1 (ix2 r l) = hR m c (rowAt t r) l + part m c (rowAt t r) 0 l
      ∧ (outsAt0 m c t.val t.isLt).2 (ix2 r l) = hnR m c (rowAt t r) l := by
  constructor
  · rw [outsAt0_A m c t h0 h1]
    frame_out
    refine (pay3_blk m c t _ _ r l fun j => pay2_blk m c t r j).trans ?_
    rw [h0]
    exact congrArg (· + part m c (rowAt t r) 0 l) (pay1_blk m c t r l)
  · rw [outsAt0_A m c t h0 h1]
    frame_out
    exact pay2_blk m c t r l

/-- A middle point of a row block: its hidden block is added, the normalized rows stay. -/
theorem ptB (c : Dev nD) (t : Fin cfg0.N) (h0 : ¬t.val % 16 = 0) (h1 : ¬t.val % 16 = 15) (r : Fin 128) (l : Fin 2048)
    (hn : ∀ j, (outsAt0 m c (t.val - 1) (Nat.lt_of_le_of_lt (Nat.sub_le _ _) t.isLt)).2 (ix2 r j) = hnR m c (rowAt t r) j) :
    (outsAt0 m c t.val t.isLt).1 (ix2 r l) = (outsAt0 m c (t.val - 1) (Nat.lt_of_le_of_lt (Nat.sub_le _ _) t.isLt)).1 (ix2 r l) + part m c (rowAt t r) (t.val % 16) l
      ∧ (outsAt0 m c t.val t.isLt).2 (ix2 r l) = hnR m c (rowAt t r) l := by
  constructor
  · rw [outsAt0_B m c t h0 h1]
    frame_out
    simp only [read_unread_whole]
    exact pay3_blk m c t _ _ r l hn
  · rw [outsAt0_B m c t h0 h1]
    exact hn l

/-- A row block's last point: its hidden block is added and the final norm taken. -/
theorem ptC (c : Dev nD) (t : Fin cfg0.N) (h0 : ¬t.val % 16 = 0) (h1 : t.val % 16 = 15) (r : Fin 128) (l : Fin 2048)
    (hn : ∀ j, (outsAt0 m c (t.val - 1) (Nat.lt_of_le_of_lt (Nat.sub_le _ _) t.isLt)).2 (ix2 r j) = hnR m c (rowAt t r) j) :
    (outsAt0 m c t.val t.isLt).1 (ix2 r l)
      = rms (fun j => (outsAt0 m c (t.val - 1) (Nat.lt_of_le_of_lt (Nat.sub_le _ _) t.isLt)).1 (ix2 r j) + part m c (rowAt t r) 15 j) (gF m c) l := by
  rw [outsAt0_C m c t h0 h1]
  frame_out
  simp only [read_unread_whole]
  refine (pay4 _ _ r l).trans ?_
  refine congrArg₂ (fun f g => rms f g l) (funext fun j => ?_) (funext fun j => ?_)
  · rw [← h1]
    exact pay3_blk m c t _ _ r j hn
  · exact blk8 m c t j

/-- After any point but a row block's last: the residual rows with the hidden blocks so far added, and the normalized rows. -/
theorem inv (c : Dev nD) (n : ℕ) (h : n < cfg0.N) (hc : ¬ n % 16 = 15) (r : Fin 128) (l : Fin 2048) :
    (outsAt0 m c n h).1 (ix2 r l) = accR m c (rowAt ⟨n, h⟩ r) (n % 16 + 1) l
      ∧ (outsAt0 m c n h).2 (ix2 r l) = hnR m c (rowAt ⟨n, h⟩ r) l := by
  induction n generalizing l with
  | zero =>
    have := ptA m c ⟨0, h⟩ rfl hc r l
    refine ⟨this.1.trans ?_, this.2⟩
    unfold accR
    rw [Finset.sum_range_succ, Finset.sum_range_zero, zero_add]
  | succ n ih =>
    by_cases h0 : (n + 1) % 16 = 0
    · have := ptA m c ⟨n + 1, h⟩ h0 hc r l
      refine ⟨this.1.trans ?_, this.2⟩
      unfold accR
      rw [h0, Finset.sum_range_succ, Finset.sum_range_zero, zero_add]
    · have hn : n < cfg0.N := by omega
      have hr : rowAt ⟨n + 1, h⟩ r = rowAt ⟨n, hn⟩ r := Fin.ext (by simp only [rowAt]; omega)
      have := ptB m c ⟨n + 1, h⟩ h0 hc r l fun j => by rw [hr]; exact (ih hn (by omega) j).2
      refine ⟨this.1.trans ?_, this.2⟩
      rw [hr]
      refine (congrArg (· + _) (ih hn (by omega) l).1).trans ?_
      unfold accR
      rw [show (n + 1) % 16 = n % 16 + 1 by omega, Finset.sum_range_succ _ (n % 16 + 1), add_assoc]

/-- After a row block's last point: the rows the layer returns. -/
theorem last (c : Dev nD) (t : Fin cfg0.N) (ht : t.val % 16 = 15) (r : Fin 128) (l : Fin 2048) :
    (outsAt0 m c t.val t.isLt).1 (ix2 r l)
      = out (xR m c (rowAt t r)) (aR m c (rowAt t r)) (cR m c (rowAt t r)) (wO m c) (bO m c) (g2 m c) (wU m c) (wD m c) (gF m c) l := by
  have hN : t.val < 16 := Nat.lt_of_lt_of_eq t.isLt N_0
  have hn : t.val - 1 < cfg0.N := Nat.lt_of_le_of_lt (Nat.sub_le _ _) t.isLt
  have hr : rowAt ⟨t.val - 1, hn⟩ r = rowAt t r := Fin.ext (by simp only [rowAt]; omega)
  refine (ptC m c t (by omega) ht r l fun j => by rw [← hr]; exact (inv m c _ hn (by omega) r j).2).trans ?_
  unfold out
  refine congrArg (fun f => rms f (gF m c) l) (funext fun j => ?_)
  rw [(inv m c _ hn (by omega) r j).1, hr, show (t.val - 1) % 16 + 1 = 15 by omega]
  unfold accR hR
  rw [add_assoc, ← Finset.sum_range_succ, ← sum_col]
  rfl

/-- The result array: row `R` of it is the layer's row. -/
def G (c : Dev nD) : FVec Ideal S128x2048 .f32 := fun i =>
  out (xR m c (i 0)) (aR m c (i 0)) (cR m c (i 0)) (wO m c) (bO m c) (g2 m c) (wU m c) (wD m c) (gF m c) (i 1)

/-- The result array after the run. -/
theorem final (c : Dev nD) : (dats m 0 c).arrAt 9 (cfgs 0).N = G m c := by
  refine (dats m 0 c).arrAt_eq_of_covers 9 _ (by decide +kernel) fun t hf y => ?_
  blk_simp
  rw [after0_9]
  idx_vars y
  have e : ((View.whole main_v16).slice (win0_9.rect t)).emb (ix2 y0 y1) = (ix2 (rowAt t y0) y1 : S128x2048.Idx) := by
    unfold rowAt
    blk_ext [idx t]
  rw [e]
  exact last m c t ((flush0_9 t).mp hf) y0 y1

end Cert.OutMlpSIdeal.Row
end
-- ==== Proof.OutMlpS.Ref.lean ====
/-
  The output projection's reference, its result read at an entry: the layer's row.
-/
module

public import proofs.«01_k».proof.Proof.Gen.OutMlpSRefIdeal.Read
public import proofs.«01_k».proof.Proof.Rows
public import Idealize.ShloMosaic.Lib.Pointwise

@[expose] public section

set_option maxRecDepth 16384

noncomputable section

namespace Cert.OutMlpSRefIdeal.Row

open Cert.OutMlpSRefIdeal Cert.OutMlpSRefIdeal.Gen Cert.OutMlpSRefIdeal.Read Cert.Rows Idealize.ShloMosaic Idealize.ShloMosaic.TcCoe Idealize.SL.Sem

variable (x0 : FVec Ideal S128x2048 .f32) (x1 x2 : FVec Ideal S128x1024 .bf16) (x3 : FVec Ideal S1x2048x2048 .f32)
variable (x4 x5 : FVec Ideal S1x2048 .f32) (x6 : FVec Ideal S1x2048x8192 .f32) (x7 : FVec Ideal S1x8192x2048 .f32) (x8 : FVec Ideal S2048 .f32)

/-- An attention entry of the concatenated row: the kernel's order brought to the layer's. -/
theorem cat_lo (R : Fin 128) (k : Fin 1024) : val_main_v5 (F := Ideal) x1 x2 (ix2 R ⟨k.val, by omega⟩) = x1 (ix2 R (rowPerm k)) := by
  pointwise [val_main_v5, val_main_v4, val_main_v3, val_main_v2, val_main_v1, val_main_v0]
  rfl

/-- A convolution entry of the concatenated row. -/
theorem cat_hi (R : Fin 128) (k : Fin 1024) : val_main_v5 (F := Ideal) x1 x2 (ix2 R (rowUp k)) = x2 (ix2 R k) := by
  unfold rowUp
  pointwise [val_main_v5, val_main_v4, val_main_v3, val_main_v2, val_main_v1, val_main_v0]

/-- The residual row. -/
theorem hid_eq (R : Fin 128) (l : Fin 2048) : val_main_v12 (F := Ideal) x0 x1 x2 x3 x4 (ix2 R l)
    = hid (fun j => x0 (ix2 R j)) (fun j => x1 (ix2 R j)) (fun j => x2 (ix2 R j)) (fun k j => x3 (ix3 0 k j)) (fun j => x4 (ix2 0 j)) l := by
  unfold hid
  rw [← sum_rows (fun j => x1 (ix2 R j)) (fun j => x2 (ix2 R j)) (fun k => val_main_v5 (F := Ideal) x1 x2 (ix2 R k)) (fun k => x3 (ix3 0 k l))
    (cat_lo x1 x2 R) (cat_hi x1 x2 R)]
  pointwise [val_main_v12, val_main_v8, val_main_v7, val_main_v6, val_main_v11, val_main_v10, val_main_v9]

/-- The normalized row. -/
theorem hn_eq (R : Fin 128) (l : Fin 2048) : val_main_v26 (F := Ideal) x0 x1 x2 x3 x4 x5 (ix2 R l)
    = rms (fun j => val_main_v12 (F := Ideal) x0 x1 x2 x3 x4 (ix2 R j)) (fun j => x5 (ix2 0 j)) l := by
  unfold rms
  pointwise [val_main_v26, val_main_v25, val_main_v24, val_main_v23, val_main_v22, val_main_v21, val_main_v20, val_main_v19, val_main_v18,
    val_main_v17, val_main_v16, val_main_v15, val_main_v14, val_main_v13, val_main_cst, val_main_cst_0, val_main_cst_1]

/-- The residual row plus the MLP. -/
theorem mlp_eq (R : Fin 128) (l : Fin 2048) : val_main_v33 (F := Ideal) x0 x1 x2 x3 x4 x5 x6 x7 (ix2 R l)
    = val_main_v12 (F := Ideal) x0 x1 x2 x3 x4 (ix2 R l)
      + ∑ f, act (fun k => val_main_v26 (F := Ideal) x0 x1 x2 x3 x4 x5 (ix2 R k)) (fun k f => x6 (ix3 0 k f)) f * x7 (ix3 0 f l) := by
  unfold act
  pointwise [val_main_v33, val_main_v32, val_main_v31, val_main_v30, val_main_v29, val_main_v28, val_main_v27, val_main_call0_v0, val_main_call0_cst]

/-- The final norm. -/
theorem out_eq (R : Fin 128) (l : Fin 2048) : val_main_v46 (F := Ideal) x0 x1 x2 x3 x4 x5 x6 x7 x8 (ix2 R l)
    = rms (fun j => val_main_v33 (F := Ideal) x0 x1 x2 x3 x4 x5 x6 x7 (ix2 R j)) (fun j => x8 (ix1 j)) l := by
  unfold rms
  pointwise [val_main_v46, val_main_v45, val_main_v44, val_main_v43, val_main_v42, val_main_v41, val_main_v40, val_main_v39, val_main_v38,
    val_main_v37, val_main_v36, val_main_v35, val_main_v34, val_main_cst_2, val_main_cst_3, val_main_cst_4]

/-- The reference's result: row `R` of it is the layer's row. -/
theorem val_eq (R : Fin 128) (l : Fin 2048) : val_main_v46 (F := Ideal) x0 x1 x2 x3 x4 x5 x6 x7 x8 (ix2 R l)
    = out (fun j => x0 (ix2 R j)) (fun j => x1 (ix2 R j)) (fun j => x2 (ix2 R j)) (fun k j => x3 (ix3 0 k j)) (fun j => x4 (ix2 0 j))
        (fun j => x5 (ix2 0 j)) (fun k j => x6 (ix3 0 k j)) (fun k j => x7 (ix3 0 k j)) (fun j => x8 (ix1 j)) l := by
  rw [out_eq]
  unfold out
  refine congrArg (fun f => rms f (fun j => x8 (ix1 j)) l) (funext fun j => ?_)
  rw [mlp_eq, hid_eq]
  have e : (fun k => val_main_v26 (F := Ideal) x0 x1 x2 x3 x4 x5 (ix2 R k)) = rms (hid (fun j => x0 (ix2 R j)) (fun j => x1 (ix2 R j)) (fun j => x2 (ix2 R j)) (fun k j => x3 (ix3 0 k j)) (fun j => x4 (ix2 0 j))) (fun j => x5 (ix2 0 j)) :=
    funext fun k => (hn_eq x0 x1 x2 x3 x4 x5 R k).trans (congrArg (fun f => rms f (fun j => x5 (ix2 0 j)) k) (funext fun j => hid_eq x0 x1 x2 x3 x4 R j))
  rw [e]

end Cert.OutMlpSRefIdeal.Row
end
-- ==== Proof.OutMlpS.Claim.lean ====
/-
  The claims about the output projection's launch: the frames of the program, its idealization and its reference, and
  that the idealized kernel and the reference leave the same result.
-/
module

public import proofs.«01_k».proof.Defs
public import proofs.«01_k».proof.Proof.Gen.OutMlpS.Frame
public import proofs.«01_k».proof.Proof.Gen.OutMlpSIdeal.Value
public import proofs.«01_k».proof.Proof.OutMlpS.Value
public import proofs.«01_k».proof.Proof.OutMlpS.Ref

@[expose] public section

set_option maxRecDepth 16384

noncomputable section

namespace Cert.Proof.OutMlpSClaims

open Cert.Rows Idealize.ShloMosaic Idealize.ShloMosaic.TcCoe Idealize.SL.Sem

/-- The program runs, leaves its arguments and ends quiescent. -/
theorem frame_P : Cert.quiescent_OutMlpS := fun m ρ _ => Cert.OutMlpS.Gen.frame m ρ
/-- So does its idealization. -/
theorem frame_PI : Cert.quiescent_OutMlpSIdeal := fun m ρ _ => Cert.OutMlpSIdeal.Gen.frame m ρ
/-- So does the idealized reference. -/
theorem frame_RI : Cert.quiescent_OutMlpSRefIdeal := fun m ρ _ =>
  (θ_run Cert.OutMlpSRefIdeal.defs _ _).mono (fun r h => ⟨fun c => (h c).2,
      Idealize.ShloMosaic.sem_eq_zero_of_no_sems (by decide) r.2⟩)
    (Cert.OutMlpSRefIdeal.Value.run (F := Ideal) m ρ)

/-- The idealization rewrote nothing. -/
theorem preserves : Cert.preserves_OutMlpS_OutMlpSIdeal := trivial

/-- From arguments that agree, the idealized kernel and the idealized reference leave the same result array. -/
theorem algebraic : Cert.algebraic_OutMlpSIdeal_OutMlpSRefIdeal := by
  intro m ρ m' ρ' _ hagree
  refine ⟨fun c => Cert.OutMlpSIdeal.Row.G m c, ?_, ?_⟩
  · exact (θ_run Cert.OutMlpSIdeal.defs _ _).mono (fun _ h c => ⟨(h c).1.trans (Cert.OutMlpSIdeal.Row.final m c), (h c).2⟩)
      (Cert.OutMlpSIdeal.Value.run_blocks (F := Ideal) m ρ)
  · refine (θ_run Cert.OutMlpSRefIdeal.defs _ _).mono (fun _ h c => ⟨(h c).1.trans ?_, (h c).2⟩)
      (Cert.OutMlpSRefIdeal.Value.run (F := Ideal) m' ρ')
    rw [Cert.OutMlpSRefIdeal.Read.val_main_v46_eq]
    obtain ⟨h0, h1, h2, h3, h4, h5, h6, h7, h8⟩ := hagree c
    rw [h0, h1, h2, h3, h4, h5, h6, h7, h8]
    funext i
    idx_vars i
    exact Cert.OutMlpSRefIdeal.Row.val_eq _ _ _ _ _ _ _ _ _ i0 i1

end Cert.Proof.OutMlpSClaims
end
-- ==== Proof.lean ====
/-
  The whole claim: the facts of every program, the frames of every program, and for every pair that the idealization
  rewrote nothing and that kernel and reference leave the same results.
-/
module

public import proofs.«01_k».proof.Defs
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.OutMlp
public import proofs.«01_k».proof.Proof.Gen.OutMlp.Skeleton
public import proofs.«01_k».proof.Proof.Gen.OutMlp.Launch
public import proofs.«01_k».proof.Proof.Gen.OutMlp.Points
public import proofs.«01_k».proof.Proof.Gen.OutMlp.Frame
public import proofs.«01_k».proof.Proof.Gen.OutMlpIdeal
public import proofs.«01_k».proof.Proof.Gen.OutMlpIdeal.Skeleton
public import proofs.«01_k».proof.Proof.Gen.OutMlpIdeal.Launch
public import proofs.«01_k».proof.Proof.Gen.OutMlpIdeal.Points
public import proofs.«01_k».proof.Proof.Gen.OutMlpIdeal.Frame
public import proofs.«01_k».proof.Proof.Gen.OutMlpRefIdeal
public import proofs.«01_k».proof.Proof.Gen.InProjS
public import proofs.«01_k».proof.Proof.Gen.InProjS.Skeleton
public import proofs.«01_k».proof.Proof.Gen.InProjS.Launch
public import proofs.«01_k».proof.Proof.Gen.InProjS.Points
public import proofs.«01_k».proof.Proof.Gen.InProjS.Frame
public import proofs.«01_k».proof.Proof.Gen.InProjSIdeal
public import proofs.«01_k».proof.Proof.Gen.InProjSIdeal.Skeleton
public import proofs.«01_k».proof.Proof.Gen.InProjSIdeal.Launch
public import proofs.«01_k».proof.Proof.Gen.InProjSIdeal.Points
public import proofs.«01_k».proof.Proof.Gen.InProjSIdeal.Frame
public import proofs.«01_k».proof.Proof.Gen.InProjSRefIdeal
public import proofs.«01_k».proof.Proof.Gen.MixS
public import proofs.«01_k».proof.Proof.Gen.MixS.Skeleton
public import proofs.«01_k».proof.Proof.Gen.MixS.Launch
public import proofs.«01_k».proof.Proof.Gen.MixS.Points
public import proofs.«01_k».proof.Proof.Gen.MixS.Frame
public import proofs.«01_k».proof.Proof.Gen.MixSIdeal
public import proofs.«01_k».proof.Proof.Gen.MixSIdeal.Skeleton
public import proofs.«01_k».proof.Proof.Gen.MixSIdeal.Launch
public import proofs.«01_k».proof.Proof.Gen.MixSIdeal.Points
public import proofs.«01_k».proof.Proof.Gen.MixSIdeal.Frame
public import proofs.«01_k».proof.Proof.Gen.MixSRefIdeal
public import proofs.«01_k».proof.Proof.Gen.OutMlpS
public import proofs.«01_k».proof.Proof.Gen.OutMlpS.Skeleton
public import proofs.«01_k».proof.Proof.Gen.OutMlpS.Launch
public import proofs.«01_k».proof.Proof.Gen.OutMlpS.Points
public import proofs.«01_k».proof.Proof.Gen.OutMlpS.Frame
public import proofs.«01_k».proof.Proof.Gen.OutMlpSIdeal
public import proofs.«01_k».proof.Proof.Gen.OutMlpSIdeal.Skeleton
public import proofs.«01_k».proof.Proof.Gen.OutMlpSIdeal.Launch
public import proofs.«01_k».proof.Proof.Gen.OutMlpSIdeal.Points
public import proofs.«01_k».proof.Proof.Gen.OutMlpSIdeal.Frame
public import proofs.«01_k».proof.Proof.Gen.OutMlpSRefIdeal
public import proofs.«01_k».proof.Proof.Gen.MixIdeal.Value
public import proofs.«01_k».proof.Proof.Gen.MixRefIdeal.Run
public import proofs.«01_k».proof.Proof.Gen.MixRefIdeal.Read
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.OutMlpIdeal.Value
public import proofs.«01_k».proof.Proof.Gen.OutMlpRefIdeal.Run
public import proofs.«01_k».proof.Proof.Gen.OutMlpRefIdeal.Read
public import proofs.«01_k».proof.Proof.Gen.InProjSIdeal.Value
public import proofs.«01_k».proof.Proof.Gen.InProjSRefIdeal.Run
public import proofs.«01_k».proof.Proof.Gen.InProjSRefIdeal.Read
public import proofs.«01_k».proof.Proof.Gen.MixSIdeal.Value
public import proofs.«01_k».proof.Proof.Gen.MixSRefIdeal.Run
public import proofs.«01_k».proof.Proof.Gen.MixSRefIdeal.Read
public import proofs.«01_k».proof.Proof.Gen.OutMlpSIdeal.Value
public import proofs.«01_k».proof.Proof.Gen.OutMlpSRefIdeal.Run
public import proofs.«01_k».proof.Proof.Gen.OutMlpSRefIdeal.Read
public import proofs.«01_k».proof.Proof.Gen.MixW
public import proofs.«01_k».proof.Proof.Gen.MixW.Skeleton
public import proofs.«01_k».proof.Proof.Gen.MixW.Launch
public import proofs.«01_k».proof.Proof.Gen.MixW.Points
public import proofs.«01_k».proof.Proof.Gen.MixW.Frame
public import proofs.«01_k».proof.Proof.Gen.MixWIdeal
public import proofs.«01_k».proof.Proof.Gen.MixWIdeal.Skeleton
public import proofs.«01_k».proof.Proof.Gen.MixWIdeal.Launch
public import proofs.«01_k».proof.Proof.Gen.MixWIdeal.Points
public import proofs.«01_k».proof.Proof.Gen.MixWIdeal.Frame
public import proofs.«01_k».proof.Proof.Gen.MixWRefIdeal
public import proofs.«01_k».proof.Proof.Mix.Claim
public import proofs.«01_k».proof.Proof.InProj.Claim
public import proofs.«01_k».proof.Proof.OutMlp.Claim
public import proofs.«01_k».proof.Proof.InProjS.Claim
public import proofs.«01_k».proof.Proof.MixS.Claim
public import proofs.«01_k».proof.Proof.MixW.Claim
public import proofs.«01_k».proof.Proof.OutMlpS.Claim
public import Idealize.ShloMosaic.Adequacy
public import Idealize.ShloMosaic.Init

@[expose] public section

noncomputable section

namespace Cert.Proof

open Idealize.ShloMosaic Idealize.SL.Sem Cert.Mix

/-- Every claim stated about the programs. -/
theorem claim : Cert.Claim := ⟨Cert.Mix.Gen.facts,
    Cert.MixIdeal.Gen.facts,
    Cert.MixRefIdeal.Gen.facts,
    Cert.InProj.Gen.facts,
    Cert.InProjIdeal.Gen.facts,
    Cert.InProjRefIdeal.Gen.facts,
    Cert.OutMlp.Gen.facts,
    Cert.OutMlpIdeal.Gen.facts,
    Cert.OutMlpRefIdeal.Gen.facts,
    Cert.InProjS.Gen.facts,
    Cert.InProjSIdeal.Gen.facts,
    Cert.InProjSRefIdeal.Gen.facts,
    Cert.MixS.Gen.facts,
    Cert.MixSIdeal.Gen.facts,
    Cert.MixSRefIdeal.Gen.facts,
    Cert.OutMlpS.Gen.facts,
    Cert.OutMlpSIdeal.Gen.facts,
    Cert.OutMlpSRefIdeal.Gen.facts,
    Cert.MixW.Gen.facts,
    Cert.MixWIdeal.Gen.facts,
    Cert.MixWRefIdeal.Gen.facts,
    MixClaims.frame_P,
    MixClaims.frame_PI,
    MixClaims.frame_RI,
    InProjClaims.frame_P,
    InProjClaims.frame_PI,
    InProjClaims.frame_RI,
    OutMlpClaims.frame_P,
    OutMlpClaims.frame_PI,
    OutMlpClaims.frame_RI,
    InProjSClaims.frame_P,
    InProjSClaims.frame_PI,
    InProjSClaims.frame_RI,
    MixSClaims.frame_P,
    MixSClaims.frame_PI,
    MixSClaims.frame_RI,
    OutMlpSClaims.frame_P,
    OutMlpSClaims.frame_PI,
    OutMlpSClaims.frame_RI,
    MixWClaims.frame_P,
    MixWClaims.frame_PI,
    MixWClaims.frame_RI,
    MixClaims.preserves,
    MixClaims.algebraic,
    InProjClaims.preserves,
    InProjClaims.algebraic,
    OutMlpClaims.preserves,
    OutMlpClaims.algebraic,
    InProjSClaims.preserves,
    MixSClaims.preserves,
    OutMlpSClaims.preserves,
    OutMlpSClaims.algebraic,
    MixWClaims.preserves,
    MixWClaims.algebraic⟩

end Cert.Proof

end
